-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Projections (m : (ℓ : Loc Cert.Projections.nD Cert.Projections.τ Cert.Projections.sig) → Buf (Elt Bits) ℓ) : Prop :=
  True

def Pre_ProjectionsIdeal (m : (ℓ : Loc Cert.ProjectionsIdeal.nD Cert.ProjectionsIdeal.τ Cert.ProjectionsIdeal.sig) → Buf (Elt Ideal) ℓ) : Prop :=
  True

def Pre_ProjectionsIdeal_finite_projection [hPre_finite_projection : Cert.Pre_finite_projection.Facts] (m : (ℓ : Loc Cert.ProjectionsIdeal.nD Cert.ProjectionsIdeal.τ Cert.ProjectionsIdeal.sig) → Buf (Elt Ideal) ℓ) : Prop :=
  ∀ c : Dev Cert.ProjectionsIdeal.nD,
    (Cert.Pre_finite_projection.fn (F := Ideal) (m ((c.tc : Thread Cert.ProjectionsIdeal.nD Cert.ProjectionsIdeal.τ).loc Cert.ProjectionsIdeal.main_arg0)) (m ((c.tc : Thread Cert.ProjectionsIdeal.nD Cert.ProjectionsIdeal.τ).loc Cert.ProjectionsIdeal.main_arg1)) (m ((c.tc : Thread Cert.ProjectionsIdeal.nD Cert.ProjectionsIdeal.τ).loc Cert.ProjectionsIdeal.main_arg2)) (m ((c.tc : Thread Cert.ProjectionsIdeal.nD Cert.ProjectionsIdeal.τ).loc Cert.ProjectionsIdeal.main_arg3)) (m ((c.tc : Thread Cert.ProjectionsIdeal.nD Cert.ProjectionsIdeal.τ).loc Cert.ProjectionsIdeal.main_arg4)) (m ((c.tc : Thread Cert.ProjectionsIdeal.nD Cert.ProjectionsIdeal.τ).loc Cert.ProjectionsIdeal.main_arg5)) (m ((c.tc : Thread Cert.ProjectionsIdeal.nD Cert.ProjectionsIdeal.τ).loc Cert.ProjectionsIdeal.main_arg6)) (m ((c.tc : Thread Cert.ProjectionsIdeal.nD Cert.ProjectionsIdeal.τ).loc Cert.ProjectionsIdeal.main_arg7))) = (fun _ => 1#1)

def Pre_ProjectionsReferenceIdeal (m : (ℓ : Loc Cert.ProjectionsReferenceIdeal.nD Cert.ProjectionsReferenceIdeal.τ Cert.ProjectionsReferenceIdeal.sig) → Buf (Elt Ideal) ℓ) : Prop :=
  True

def Pre_ProjectionsReferenceIdeal_finite_projection [hPre_finite_projection : Cert.Pre_finite_projection.Facts] (m : (ℓ : Loc Cert.ProjectionsReferenceIdeal.nD Cert.ProjectionsReferenceIdeal.τ Cert.ProjectionsReferenceIdeal.sig) → Buf (Elt Ideal) ℓ) : Prop :=
  ∀ c : Dev Cert.ProjectionsReferenceIdeal.nD,
    (Cert.Pre_finite_projection.fn (F := Ideal) (m ((c.tc : Thread Cert.ProjectionsReferenceIdeal.nD Cert.ProjectionsReferenceIdeal.τ).loc Cert.ProjectionsReferenceIdeal.main_arg0)) (m ((c.tc : Thread Cert.ProjectionsReferenceIdeal.nD Cert.ProjectionsReferenceIdeal.τ).loc Cert.ProjectionsReferenceIdeal.main_arg1)) (m ((c.tc : Thread Cert.ProjectionsReferenceIdeal.nD Cert.ProjectionsReferenceIdeal.τ).loc Cert.ProjectionsReferenceIdeal.main_arg2)) (m ((c.tc : Thread Cert.ProjectionsReferenceIdeal.nD Cert.ProjectionsReferenceIdeal.τ).loc Cert.ProjectionsReferenceIdeal.main_arg3)) (m ((c.tc : Thread Cert.ProjectionsReferenceIdeal.nD Cert.ProjectionsReferenceIdeal.τ).loc Cert.ProjectionsReferenceIdeal.main_arg4)) (m ((c.tc : Thread Cert.ProjectionsReferenceIdeal.nD Cert.ProjectionsReferenceIdeal.τ).loc Cert.ProjectionsReferenceIdeal.main_arg5)) (m ((c.tc : Thread Cert.ProjectionsReferenceIdeal.nD Cert.ProjectionsReferenceIdeal.τ).loc Cert.ProjectionsReferenceIdeal.main_arg6)) (m ((c.tc : Thread Cert.ProjectionsReferenceIdeal.nD Cert.ProjectionsReferenceIdeal.τ).loc Cert.ProjectionsReferenceIdeal.main_arg7))) = (fun _ => 1#1)

def Pre_Experts [hPre_experts_in_range : Cert.Pre_experts_in_range.Facts] (m : (ℓ : Loc Cert.Experts.nD Cert.Experts.τ Cert.Experts.sig) → Buf (Elt Bits) ℓ) : Prop :=
  ∀ c : Dev Cert.Experts.nD,
    (Cert.Pre_experts_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_experts_in_range : Cert.Pre_experts_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_experts_in_range [hPre_experts_in_range : Cert.Pre_experts_in_range.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_experts_in_range.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Projections [hProjections : Cert.Projections.Facts] : Prop :=
  ∀ (m : (ℓ : Loc Cert.Projections.nD Cert.Projections.τ Cert.Projections.sig) → Buf (Elt Bits) ℓ) (g : Dev Cert.Projections.nD → PrngReg), Pre_Projections m →
    θ_run (Cert.Projections.defs (F := Bits)) (onTc (τ := Cert.Projections.τ) (Cert.Projections.main (F := Bits))) ⟨m, fun _ => 0, g⟩ (fun r => (∀ c : Dev Cert.Projections.nD,
      r.2.mem ((c.tc : Thread Cert.Projections.nD Cert.Projections.τ).loc Cert.Projections.main_arg0) = m ((c.tc : Thread Cert.Projections.nD Cert.Projections.τ).loc Cert.Projections.main_arg0)
      ∧ r.2.mem ((c.tc : Thread Cert.Projections.nD Cert.Projections.τ).loc Cert.Projections.main_arg1) = m ((c.tc : Thread Cert.Projections.nD Cert.Projections.τ).loc Cert.Projections.main_arg1)
      ∧ r.2.mem ((c.tc : Thread Cert.Projections.nD Cert.Projections.τ).loc Cert.Projections.main_arg2) = m ((c.tc : Thread Cert.Projections.nD Cert.Projections.τ).loc Cert.Projections.main_arg2)
      ∧ r.2.mem ((c.tc : Thread Cert.Projections.nD Cert.Projections.τ).loc Cert.Projections.main_arg3) = m ((c.tc : Thread Cert.Projections.nD Cert.Projections.τ).loc Cert.Projections.main_arg3)
      ∧ r.2.mem ((c.tc : Thread Cert.Projections.nD Cert.Projections.τ).loc Cert.Projections.main_arg4) = m ((c.tc : Thread Cert.Projections.nD Cert.Projections.τ).loc Cert.Projections.main_arg4)
      ∧ r.2.mem ((c.tc : Thread Cert.Projections.nD Cert.Projections.τ).loc Cert.Projections.main_arg5) = m ((c.tc : Thread Cert.Projections.nD Cert.Projections.τ).loc Cert.Projections.main_arg5)
      ∧ r.2.mem ((c.tc : Thread Cert.Projections.nD Cert.Projections.τ).loc Cert.Projections.main_arg6) = m ((c.tc : Thread Cert.Projections.nD Cert.Projections.τ).loc Cert.Projections.main_arg6)
      ∧ r.2.mem ((c.tc : Thread Cert.Projections.nD Cert.Projections.τ).loc Cert.Projections.main_arg7) = m ((c.tc : Thread Cert.Projections.nD Cert.Projections.τ).loc Cert.Projections.main_arg7))
      ∧ r.2.sem = fun _ => 0)

def quiescent_ProjectionsIdeal [hProjectionsIdeal : Cert.ProjectionsIdeal.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg), Pre_ProjectionsIdeal m →
    θ_run (Cert.ProjectionsIdeal.defs (F := Ideal)) (onTc (τ := Cert.ProjectionsIdeal.τ) (Cert.ProjectionsIdeal.main (F := Ideal))) ⟨m, fun _ => 0, g⟩ (fun r => (∀ c : Dev Cert.ProjectionsIdeal.nD,
      r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
      ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
      ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
      ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3)
      ∧ r.2.mem ((c.tc : Thread Cert.ProjectionsIdeal.nD Cert.ProjectionsIdeal.τ).loc Cert.ProjectionsIdeal.main_arg4) = m ((c.tc : Thread Cert.ProjectionsIdeal.nD Cert.ProjectionsIdeal.τ).loc Cert.ProjectionsIdeal.main_arg4)
      ∧ r.2.mem ((c.tc : Thread Cert.ProjectionsIdeal.nD Cert.ProjectionsIdeal.τ).loc Cert.ProjectionsIdeal.main_arg5) = m ((c.tc : Thread Cert.ProjectionsIdeal.nD Cert.ProjectionsIdeal.τ).loc Cert.ProjectionsIdeal.main_arg5)
      ∧ r.2.mem ((c.tc : Thread Cert.ProjectionsIdeal.nD Cert.ProjectionsIdeal.τ).loc Cert.ProjectionsIdeal.main_arg6) = m ((c.tc : Thread Cert.ProjectionsIdeal.nD Cert.ProjectionsIdeal.τ).loc Cert.ProjectionsIdeal.main_arg6)
      ∧ r.2.mem ((c.tc : Thread Cert.ProjectionsIdeal.nD Cert.ProjectionsIdeal.τ).loc Cert.ProjectionsIdeal.main_arg7) = m ((c.tc : Thread Cert.ProjectionsIdeal.nD Cert.ProjectionsIdeal.τ).loc Cert.ProjectionsIdeal.main_arg7))
      ∧ r.2.sem = fun _ => 0)

def quiescent_ProjectionsIdeal_pre_finite_projection [hProjectionsIdeal : Cert.ProjectionsIdeal.Facts] [hPre_finite_projection : Cert.Pre_finite_projection.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg), Pre_ProjectionsIdeal_finite_projection m →
    θ_run (Cert.ProjectionsIdeal.defs (F := Ideal)) (onTc (τ := Cert.ProjectionsIdeal.τ) (Cert.ProjectionsIdeal.main (F := Ideal))) ⟨m, fun _ => 0, g⟩ (fun r => (∀ c : Dev Cert.ProjectionsIdeal.nD,
      r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
      ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
      ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
      ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3)
      ∧ r.2.mem ((c.tc : Thread Cert.ProjectionsIdeal.nD Cert.ProjectionsIdeal.τ).loc Cert.ProjectionsIdeal.main_arg4) = m ((c.tc : Thread Cert.ProjectionsIdeal.nD Cert.ProjectionsIdeal.τ).loc Cert.ProjectionsIdeal.main_arg4)
      ∧ r.2.mem ((c.tc : Thread Cert.ProjectionsIdeal.nD Cert.ProjectionsIdeal.τ).loc Cert.ProjectionsIdeal.main_arg5) = m ((c.tc : Thread Cert.ProjectionsIdeal.nD Cert.ProjectionsIdeal.τ).loc Cert.ProjectionsIdeal.main_arg5)
      ∧ r.2.mem ((c.tc : Thread Cert.ProjectionsIdeal.nD Cert.ProjectionsIdeal.τ).loc Cert.ProjectionsIdeal.main_arg6) = m ((c.tc : Thread Cert.ProjectionsIdeal.nD Cert.ProjectionsIdeal.τ).loc Cert.ProjectionsIdeal.main_arg6)
      ∧ r.2.mem ((c.tc : Thread Cert.ProjectionsIdeal.nD Cert.ProjectionsIdeal.τ).loc Cert.ProjectionsIdeal.main_arg7) = m ((c.tc : Thread Cert.ProjectionsIdeal.nD Cert.ProjectionsIdeal.τ).loc Cert.ProjectionsIdeal.main_arg7))
      ∧ r.2.sem = fun _ => 0)

def quiescent_ProjectionsReferenceIdeal [hProjectionsReferenceIdeal : Cert.ProjectionsReferenceIdeal.Facts] : Prop :=
  ∀ (m : (ℓ : Loc Cert.ProjectionsReferenceIdeal.nD Cert.ProjectionsReferenceIdeal.τ Cert.ProjectionsReferenceIdeal.sig) → Buf (Elt Ideal) ℓ) (g : Dev Cert.ProjectionsReferenceIdeal.nD → PrngReg), Pre_ProjectionsReferenceIdeal m →
    θ_run (Cert.ProjectionsReferenceIdeal.defs (F := Ideal)) (onTc (τ := Cert.ProjectionsReferenceIdeal.τ) (Cert.ProjectionsReferenceIdeal.main (F := Ideal))) ⟨m, fun _ => 0, g⟩ (fun r => (∀ c : Dev Cert.ProjectionsReferenceIdeal.nD,
      r.2.mem ((c.tc : Thread Cert.ProjectionsReferenceIdeal.nD Cert.ProjectionsReferenceIdeal.τ).loc Cert.ProjectionsReferenceIdeal.main_arg0) = m ((c.tc : Thread Cert.ProjectionsReferenceIdeal.nD Cert.ProjectionsReferenceIdeal.τ).loc Cert.ProjectionsReferenceIdeal.main_arg0)
      ∧ r.2.mem ((c.tc : Thread Cert.ProjectionsReferenceIdeal.nD Cert.ProjectionsReferenceIdeal.τ).loc Cert.ProjectionsReferenceIdeal.main_arg1) = m ((c.tc : Thread Cert.ProjectionsReferenceIdeal.nD Cert.ProjectionsReferenceIdeal.τ).loc Cert.ProjectionsReferenceIdeal.main_arg1)
      ∧ r.2.mem ((c.tc : Thread Cert.ProjectionsReferenceIdeal.nD Cert.ProjectionsReferenceIdeal.τ).loc Cert.ProjectionsReferenceIdeal.main_arg2) = m ((c.tc : Thread Cert.ProjectionsReferenceIdeal.nD Cert.ProjectionsReferenceIdeal.τ).loc Cert.ProjectionsReferenceIdeal.main_arg2)
      ∧ r.2.mem ((c.tc : Thread Cert.ProjectionsReferenceIdeal.nD Cert.ProjectionsReferenceIdeal.τ).loc Cert.ProjectionsReferenceIdeal.main_arg3) = m ((c.tc : Thread Cert.ProjectionsReferenceIdeal.nD Cert.ProjectionsReferenceIdeal.τ).loc Cert.ProjectionsReferenceIdeal.main_arg3)
      ∧ r.2.mem ((c.tc : Thread Cert.ProjectionsReferenceIdeal.nD Cert.ProjectionsReferenceIdeal.τ).loc Cert.ProjectionsReferenceIdeal.main_arg4) = m ((c.tc : Thread Cert.ProjectionsReferenceIdeal.nD Cert.ProjectionsReferenceIdeal.τ).loc Cert.ProjectionsReferenceIdeal.main_arg4)
      ∧ r.2.mem ((c.tc : Thread Cert.ProjectionsReferenceIdeal.nD Cert.ProjectionsReferenceIdeal.τ).loc Cert.ProjectionsReferenceIdeal.main_arg5) = m ((c.tc : Thread Cert.ProjectionsReferenceIdeal.nD Cert.ProjectionsReferenceIdeal.τ).loc Cert.ProjectionsReferenceIdeal.main_arg5)
      ∧ r.2.mem ((c.tc : Thread Cert.ProjectionsReferenceIdeal.nD Cert.ProjectionsReferenceIdeal.τ).loc Cert.ProjectionsReferenceIdeal.main_arg6) = m ((c.tc : Thread Cert.ProjectionsReferenceIdeal.nD Cert.ProjectionsReferenceIdeal.τ).loc Cert.ProjectionsReferenceIdeal.main_arg6)
      ∧ r.2.mem ((c.tc : Thread Cert.ProjectionsReferenceIdeal.nD Cert.ProjectionsReferenceIdeal.τ).loc Cert.ProjectionsReferenceIdeal.main_arg7) = m ((c.tc : Thread Cert.ProjectionsReferenceIdeal.nD Cert.ProjectionsReferenceIdeal.τ).loc Cert.ProjectionsReferenceIdeal.main_arg7))
      ∧ r.2.sem = fun _ => 0)

def quiescent_ProjectionsReferenceIdeal_pre_finite_projection [hProjectionsReferenceIdeal : Cert.ProjectionsReferenceIdeal.Facts] [hPre_finite_projection : Cert.Pre_finite_projection.Facts] : Prop :=
  ∀ (m : (ℓ : Loc Cert.ProjectionsReferenceIdeal.nD Cert.ProjectionsReferenceIdeal.τ Cert.ProjectionsReferenceIdeal.sig) → Buf (Elt Ideal) ℓ) (g : Dev Cert.ProjectionsReferenceIdeal.nD → PrngReg), Pre_ProjectionsReferenceIdeal_finite_projection m →
    θ_run (Cert.ProjectionsReferenceIdeal.defs (F := Ideal)) (onTc (τ := Cert.ProjectionsReferenceIdeal.τ) (Cert.ProjectionsReferenceIdeal.main (F := Ideal))) ⟨m, fun _ => 0, g⟩ (fun r => (∀ c : Dev Cert.ProjectionsReferenceIdeal.nD,
      r.2.mem ((c.tc : Thread Cert.ProjectionsReferenceIdeal.nD Cert.ProjectionsReferenceIdeal.τ).loc Cert.ProjectionsReferenceIdeal.main_arg0) = m ((c.tc : Thread Cert.ProjectionsReferenceIdeal.nD Cert.ProjectionsReferenceIdeal.τ).loc Cert.ProjectionsReferenceIdeal.main_arg0)
      ∧ r.2.mem ((c.tc : Thread Cert.ProjectionsReferenceIdeal.nD Cert.ProjectionsReferenceIdeal.τ).loc Cert.ProjectionsReferenceIdeal.main_arg1) = m ((c.tc : Thread Cert.ProjectionsReferenceIdeal.nD Cert.ProjectionsReferenceIdeal.τ).loc Cert.ProjectionsReferenceIdeal.main_arg1)
      ∧ r.2.mem ((c.tc : Thread Cert.ProjectionsReferenceIdeal.nD Cert.ProjectionsReferenceIdeal.τ).loc Cert.ProjectionsReferenceIdeal.main_arg2) = m ((c.tc : Thread Cert.ProjectionsReferenceIdeal.nD Cert.ProjectionsReferenceIdeal.τ).loc Cert.ProjectionsReferenceIdeal.main_arg2)
      ∧ r.2.mem ((c.tc : Thread Cert.ProjectionsReferenceIdeal.nD Cert.ProjectionsReferenceIdeal.τ).loc Cert.ProjectionsReferenceIdeal.main_arg3) = m ((c.tc : Thread Cert.ProjectionsReferenceIdeal.nD Cert.ProjectionsReferenceIdeal.τ).loc Cert.ProjectionsReferenceIdeal.main_arg3)
      ∧ r.2.mem ((c.tc : Thread Cert.ProjectionsReferenceIdeal.nD Cert.ProjectionsReferenceIdeal.τ).loc Cert.ProjectionsReferenceIdeal.main_arg4) = m ((c.tc : Thread Cert.ProjectionsReferenceIdeal.nD Cert.ProjectionsReferenceIdeal.τ).loc Cert.ProjectionsReferenceIdeal.main_arg4)
      ∧ r.2.mem ((c.tc : Thread Cert.ProjectionsReferenceIdeal.nD Cert.ProjectionsReferenceIdeal.τ).loc Cert.ProjectionsReferenceIdeal.main_arg5) = m ((c.tc : Thread Cert.ProjectionsReferenceIdeal.nD Cert.ProjectionsReferenceIdeal.τ).loc Cert.ProjectionsReferenceIdeal.main_arg5)
      ∧ r.2.mem ((c.tc : Thread Cert.ProjectionsReferenceIdeal.nD Cert.ProjectionsReferenceIdeal.τ).loc Cert.ProjectionsReferenceIdeal.main_arg6) = m ((c.tc : Thread Cert.ProjectionsReferenceIdeal.nD Cert.ProjectionsReferenceIdeal.τ).loc Cert.ProjectionsReferenceIdeal.main_arg6)
      ∧ r.2.mem ((c.tc : Thread Cert.ProjectionsReferenceIdeal.nD Cert.ProjectionsReferenceIdeal.τ).loc Cert.ProjectionsReferenceIdeal.main_arg7) = m ((c.tc : Thread Cert.ProjectionsReferenceIdeal.nD Cert.ProjectionsReferenceIdeal.τ).loc Cert.ProjectionsReferenceIdeal.main_arg7))
      ∧ r.2.sem = fun _ => 0)

def quiescent_Experts [hExperts : Cert.Experts.Facts] [hPre_experts_in_range : Cert.Pre_experts_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_ExpertsReferenceIdeal_pre_experts_in_range [hExpertsReferenceIdeal : Cert.ExpertsReferenceIdeal.Facts] [hPre_experts_in_range : Cert.Pre_experts_in_range.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_experts_in_range m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Projections_ProjectionsIdeal : Prop :=
  True

def algebraic_ProjectionsIdeal_ProjectionsReferenceIdeal_pre_finite_projection [hProjectionsIdeal : Cert.ProjectionsIdeal.Facts] [hProjectionsReferenceIdeal : Cert.ProjectionsReferenceIdeal.Facts] [hPre_finite_projection : Cert.Pre_finite_projection.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg)
    (m' : (ℓ : Loc Cert.ProjectionsReferenceIdeal.nD Cert.ProjectionsReferenceIdeal.τ Cert.ProjectionsReferenceIdeal.sig) → Buf (Elt Ideal) ℓ) (g' : Dev Cert.ProjectionsReferenceIdeal.nD → PrngReg), Pre_ProjectionsIdeal_finite_projection m →
    (∀ c : Dev Cert.ProjectionsIdeal.nD,
      m' ((c.tc : Thread Cert.ProjectionsReferenceIdeal.nD Cert.ProjectionsReferenceIdeal.τ).loc Cert.ProjectionsReferenceIdeal.main_arg0) = m ((c.tc : Thread Cert.ProjectionsIdeal.nD Cert.ProjectionsIdeal.τ).loc Cert.ProjectionsIdeal.main_arg0)
      ∧ m' ((c.tc : Thread Cert.ProjectionsReferenceIdeal.nD Cert.ProjectionsReferenceIdeal.τ).loc Cert.ProjectionsReferenceIdeal.main_arg1) = m ((c.tc : Thread Cert.ProjectionsIdeal.nD Cert.ProjectionsIdeal.τ).loc Cert.ProjectionsIdeal.main_arg1)
      ∧ m' ((c.tc : Thread Cert.ProjectionsReferenceIdeal.nD Cert.ProjectionsReferenceIdeal.τ).loc Cert.ProjectionsReferenceIdeal.main_arg2) = m ((c.tc : Thread Cert.ProjectionsIdeal.nD Cert.ProjectionsIdeal.τ).loc Cert.ProjectionsIdeal.main_arg2)
      ∧ m' ((c.tc : Thread Cert.ProjectionsReferenceIdeal.nD Cert.ProjectionsReferenceIdeal.τ).loc Cert.ProjectionsReferenceIdeal.main_arg3) = m ((c.tc : Thread Cert.ProjectionsIdeal.nD Cert.ProjectionsIdeal.τ).loc Cert.ProjectionsIdeal.main_arg3)
      ∧ m' ((c.tc : Thread Cert.ProjectionsReferenceIdeal.nD Cert.ProjectionsReferenceIdeal.τ).loc Cert.ProjectionsReferenceIdeal.main_arg4) = m ((c.tc : Thread Cert.ProjectionsIdeal.nD Cert.ProjectionsIdeal.τ).loc Cert.ProjectionsIdeal.main_arg4)
      ∧ m' ((c.tc : Thread Cert.ProjectionsReferenceIdeal.nD Cert.ProjectionsReferenceIdeal.τ).loc Cert.ProjectionsReferenceIdeal.main_arg5) = m ((c.tc : Thread Cert.ProjectionsIdeal.nD Cert.ProjectionsIdeal.τ).loc Cert.ProjectionsIdeal.main_arg5)
      ∧ m' ((c.tc : Thread Cert.ProjectionsReferenceIdeal.nD Cert.ProjectionsReferenceIdeal.τ).loc Cert.ProjectionsReferenceIdeal.main_arg6) = m ((c.tc : Thread Cert.ProjectionsIdeal.nD Cert.ProjectionsIdeal.τ).loc Cert.ProjectionsIdeal.main_arg6)
      ∧ m' ((c.tc : Thread Cert.ProjectionsReferenceIdeal.nD Cert.ProjectionsReferenceIdeal.τ).loc Cert.ProjectionsReferenceIdeal.main_arg7) = m ((c.tc : Thread Cert.ProjectionsIdeal.nD Cert.ProjectionsIdeal.τ).loc Cert.ProjectionsIdeal.main_arg7)) →
    ∃ (v0 : (c : Dev Cert.ProjectionsIdeal.nD) → Buf (Elt Ideal) ((c.tc : Thread Cert.ProjectionsIdeal.nD Cert.ProjectionsIdeal.τ).loc Cert.ProjectionsIdeal.main_v21_0)) (v1 : (c : Dev Cert.ProjectionsIdeal.nD) → Buf (Elt Ideal) ((c.tc : Thread Cert.ProjectionsIdeal.nD Cert.ProjectionsIdeal.τ).loc Cert.ProjectionsIdeal.main_v21_1)) (v2 : (c : Dev Cert.ProjectionsIdeal.nD) → Buf (Elt Ideal) ((c.tc : Thread Cert.ProjectionsIdeal.nD Cert.ProjectionsIdeal.τ).loc Cert.ProjectionsIdeal.main_v21_2)) (v3 : (c : Dev Cert.ProjectionsIdeal.nD) → Buf (Elt Ideal) ((c.tc : Thread Cert.ProjectionsIdeal.nD Cert.ProjectionsIdeal.τ).loc Cert.ProjectionsIdeal.main_v21_3)) (v4 : (c : Dev Cert.ProjectionsIdeal.nD) → Buf (Elt Ideal) ((c.tc : Thread Cert.ProjectionsIdeal.nD Cert.ProjectionsIdeal.τ).loc Cert.ProjectionsIdeal.main_v21_4)),
      θ_run (Cert.ProjectionsIdeal.defs (F := Ideal)) (onTc (τ := Cert.ProjectionsIdeal.τ) (Cert.ProjectionsIdeal.main (F := Ideal))) ⟨m, fun _ => 0, g⟩ (fun r => ∀ c : Dev Cert.ProjectionsIdeal.nD,
          r.2.mem ((c.tc : Thread Cert.ProjectionsIdeal.nD Cert.ProjectionsIdeal.τ).loc Cert.ProjectionsIdeal.main_v21_0) = v0 c
          ∧ r.2.mem ((c.tc : Thread Cert.ProjectionsIdeal.nD Cert.ProjectionsIdeal.τ).loc Cert.ProjectionsIdeal.main_v21_1) = v1 c
          ∧ r.2.mem ((c.tc : Thread Cert.ProjectionsIdeal.nD Cert.ProjectionsIdeal.τ).loc Cert.ProjectionsIdeal.main_v21_2) = v2 c
          ∧ r.2.mem ((c.tc : Thread Cert.ProjectionsIdeal.nD Cert.ProjectionsIdeal.τ).loc Cert.ProjectionsIdeal.main_v21_3) = v3 c
          ∧ r.2.mem ((c.tc : Thread Cert.ProjectionsIdeal.nD Cert.ProjectionsIdeal.τ).loc Cert.ProjectionsIdeal.main_v21_4) = v4 c
          ∧ r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
          ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
          ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
          ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3)
          ∧ r.2.mem ((c.tc : Thread Cert.ProjectionsIdeal.nD Cert.ProjectionsIdeal.τ).loc Cert.ProjectionsIdeal.main_arg4) = m ((c.tc : Thread Cert.ProjectionsIdeal.nD Cert.ProjectionsIdeal.τ).loc Cert.ProjectionsIdeal.main_arg4)
          ∧ r.2.mem ((c.tc : Thread Cert.ProjectionsIdeal.nD Cert.ProjectionsIdeal.τ).loc Cert.ProjectionsIdeal.main_arg5) = m ((c.tc : Thread Cert.ProjectionsIdeal.nD Cert.ProjectionsIdeal.τ).loc Cert.ProjectionsIdeal.main_arg5)
          ∧ r.2.mem ((c.tc : Thread Cert.ProjectionsIdeal.nD Cert.ProjectionsIdeal.τ).loc Cert.ProjectionsIdeal.main_arg6) = m ((c.tc : Thread Cert.ProjectionsIdeal.nD Cert.ProjectionsIdeal.τ).loc Cert.ProjectionsIdeal.main_arg6)
          ∧ r.2.mem ((c.tc : Thread Cert.ProjectionsIdeal.nD Cert.ProjectionsIdeal.τ).loc Cert.ProjectionsIdeal.main_arg7) = m ((c.tc : Thread Cert.ProjectionsIdeal.nD Cert.ProjectionsIdeal.τ).loc Cert.ProjectionsIdeal.main_arg7))
      ∧ θ_run (Cert.ProjectionsReferenceIdeal.defs (F := Ideal)) (onTc (τ := Cert.ProjectionsReferenceIdeal.τ) (Cert.ProjectionsReferenceIdeal.main (F := Ideal))) ⟨m', fun _ => 0, g'⟩ (fun r => ∀ c : Dev Cert.ProjectionsReferenceIdeal.nD,
          r.2.mem ((c.tc : Thread Cert.ProjectionsReferenceIdeal.nD Cert.ProjectionsReferenceIdeal.τ).loc Cert.ProjectionsReferenceIdeal.main_v184) = v0 c
          ∧ r.2.mem ((c.tc : Thread Cert.ProjectionsReferenceIdeal.nD Cert.ProjectionsReferenceIdeal.τ).loc Cert.ProjectionsReferenceIdeal.main_v187) = v1 c
          ∧ r.2.mem ((c.tc : Thread Cert.ProjectionsReferenceIdeal.nD Cert.ProjectionsReferenceIdeal.τ).loc Cert.ProjectionsReferenceIdeal.main_v57) = v2 c
          ∧ r.2.mem ((c.tc : Thread Cert.ProjectionsReferenceIdeal.nD Cert.ProjectionsReferenceIdeal.τ).loc Cert.ProjectionsReferenceIdeal.main_v27) = v3 c
          ∧ r.2.mem ((c.tc : Thread Cert.ProjectionsReferenceIdeal.nD Cert.ProjectionsReferenceIdeal.τ).loc Cert.ProjectionsReferenceIdeal.main_v188) = v4 c
          ∧ r.2.mem ((c.tc : Thread Cert.ProjectionsReferenceIdeal.nD Cert.ProjectionsReferenceIdeal.τ).loc Cert.ProjectionsReferenceIdeal.main_arg0) = m' ((c.tc : Thread Cert.ProjectionsReferenceIdeal.nD Cert.ProjectionsReferenceIdeal.τ).loc Cert.ProjectionsReferenceIdeal.main_arg0)
          ∧ r.2.mem ((c.tc : Thread Cert.ProjectionsReferenceIdeal.nD Cert.ProjectionsReferenceIdeal.τ).loc Cert.ProjectionsReferenceIdeal.main_arg1) = m' ((c.tc : Thread Cert.ProjectionsReferenceIdeal.nD Cert.ProjectionsReferenceIdeal.τ).loc Cert.ProjectionsReferenceIdeal.main_arg1)
          ∧ r.2.mem ((c.tc : Thread Cert.ProjectionsReferenceIdeal.nD Cert.ProjectionsReferenceIdeal.τ).loc Cert.ProjectionsReferenceIdeal.main_arg2) = m' ((c.tc : Thread Cert.ProjectionsReferenceIdeal.nD Cert.ProjectionsReferenceIdeal.τ).loc Cert.ProjectionsReferenceIdeal.main_arg2)
          ∧ r.2.mem ((c.tc : Thread Cert.ProjectionsReferenceIdeal.nD Cert.ProjectionsReferenceIdeal.τ).loc Cert.ProjectionsReferenceIdeal.main_arg3) = m' ((c.tc : Thread Cert.ProjectionsReferenceIdeal.nD Cert.ProjectionsReferenceIdeal.τ).loc Cert.ProjectionsReferenceIdeal.main_arg3)
          ∧ r.2.mem ((c.tc : Thread Cert.ProjectionsReferenceIdeal.nD Cert.ProjectionsReferenceIdeal.τ).loc Cert.ProjectionsReferenceIdeal.main_arg4) = m' ((c.tc : Thread Cert.ProjectionsReferenceIdeal.nD Cert.ProjectionsReferenceIdeal.τ).loc Cert.ProjectionsReferenceIdeal.main_arg4)
          ∧ r.2.mem ((c.tc : Thread Cert.ProjectionsReferenceIdeal.nD Cert.ProjectionsReferenceIdeal.τ).loc Cert.ProjectionsReferenceIdeal.main_arg5) = m' ((c.tc : Thread Cert.ProjectionsReferenceIdeal.nD Cert.ProjectionsReferenceIdeal.τ).loc Cert.ProjectionsReferenceIdeal.main_arg5)
          ∧ r.2.mem ((c.tc : Thread Cert.ProjectionsReferenceIdeal.nD Cert.ProjectionsReferenceIdeal.τ).loc Cert.ProjectionsReferenceIdeal.main_arg6) = m' ((c.tc : Thread Cert.ProjectionsReferenceIdeal.nD Cert.ProjectionsReferenceIdeal.τ).loc Cert.ProjectionsReferenceIdeal.main_arg6)
          ∧ r.2.mem ((c.tc : Thread Cert.ProjectionsReferenceIdeal.nD Cert.ProjectionsReferenceIdeal.τ).loc Cert.ProjectionsReferenceIdeal.main_arg7) = m' ((c.tc : Thread Cert.ProjectionsReferenceIdeal.nD Cert.ProjectionsReferenceIdeal.τ).loc Cert.ProjectionsReferenceIdeal.main_arg7))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v33) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5))

def Claim : Prop :=
  ∃ (hKernel : Cert.Kernel.Facts) (hKernelIdeal : Cert.KernelIdeal.Facts) (hReferenceIdeal : Cert.ReferenceIdeal.Facts) (hProjections : Cert.Projections.Facts) (hProjectionsIdeal : Cert.ProjectionsIdeal.Facts) (hProjectionsReferenceIdeal : Cert.ProjectionsReferenceIdeal.Facts) (hExperts : Cert.Experts.Facts) (hExpertsIdeal : Cert.ExpertsIdeal.Facts) (hExpertsReferenceIdeal : Cert.ExpertsReferenceIdeal.Facts) (hPre_finite_qk : Cert.Pre_finite_qk.Facts) (hPre_finite_projection : Cert.Pre_finite_projection.Facts) (hPre_experts_in_range : Cert.Pre_experts_in_range.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Projections (hProjections := hProjections)
    ∧ quiescent_ProjectionsIdeal (hProjectionsIdeal := hProjectionsIdeal)
    ∧ quiescent_ProjectionsIdeal_pre_finite_projection (hProjectionsIdeal := hProjectionsIdeal) (hPre_finite_projection := hPre_finite_projection)
    ∧ quiescent_ProjectionsReferenceIdeal (hProjectionsReferenceIdeal := hProjectionsReferenceIdeal)
    ∧ quiescent_ProjectionsReferenceIdeal_pre_finite_projection (hProjectionsReferenceIdeal := hProjectionsReferenceIdeal) (hPre_finite_projection := hPre_finite_projection)
    ∧ quiescent_Experts (hExperts := hExperts) (hPre_experts_in_range := hPre_experts_in_range)
    ∧ quiescent_ExpertsIdeal (hExpertsIdeal := hExpertsIdeal) (hPre_experts_in_range := hPre_experts_in_range)
    ∧ quiescent_ExpertsReferenceIdeal (hExpertsReferenceIdeal := hExpertsReferenceIdeal)
    ∧ quiescent_ExpertsReferenceIdeal_pre_experts_in_range (hExpertsReferenceIdeal := hExpertsReferenceIdeal) (hPre_experts_in_range := hPre_experts_in_range)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Projections_ProjectionsIdeal
    ∧ algebraic_ProjectionsIdeal_ProjectionsReferenceIdeal_pre_finite_projection (hProjectionsIdeal := hProjectionsIdeal) (hProjectionsReferenceIdeal := hProjectionsReferenceIdeal) (hPre_finite_projection := hPre_finite_projection)
    ∧ preserves_Experts_ExpertsIdeal
    ∧ algebraic_ExpertsIdeal_ExpertsReferenceIdeal (hExpertsIdeal := hExpertsIdeal) (hExpertsReferenceIdeal := hExpertsReferenceIdeal) (hPre_experts_in_range := hPre_experts_in_range)
-- ==== Pre_experts_in_range.lean ====
abbrev S97 : Shape := ⟨1, ![97]⟩
abbrev S1 : Shape := ⟨1, ![1]⟩
abbrev S49664x1024 : Shape := ⟨2, ![49664, 1024]⟩
abbrev S32x1024x512 : Shape := ⟨3, ![32, 1024, 512]⟩
abbrev S32x512x1024 : Shape := ⟨3, ![32, 512, 1024]⟩
abbrev S_ : Shape := ⟨0, ![]⟩

class Facts : Prop where
  bcast_S_S97 : S_.BroadcastsInDim S97 (![] : Fin 0 → Fin S97.rank)
  reducesTo_S97_S_d0 : S97.ReducesTo [0] S_
  h_S_ : 0 < S_.numel
  shapeCasts_S1_S_ : S1.ShapeCasts S_

variable [Facts]

def fn {F : FTy → Type} [FloatOps F] (main_arg0 : IVec S97 32) (main_arg1 : IVec S1 32) (main_arg2 : FVec F S49664x1024 .f32) (main_arg3 : FVec F S32x1024x512 .f32) (main_arg4 : FVec F S32x1024x512 .f32) (main_arg5 : FVec F S32x512x1024 .f32) : IVec S_ 1 :=
  let main_c : IVec S_ 32 := constantI S_ 32 0#32
  let main_v0 : IVec S97 32 := broadcastInDim S97 ![] bcast_S_S97 main_c
  let main_v1 : IVec S97 1 := cmpi .sge main_arg0 main_v0
  let main_c_0 : IVec S_ 32 := constantI S_ 32 32#32
  let main_v2 : IVec S97 32 := broadcastInDim S97 ![] bcast_S_S97 main_c_0
  let main_v3 : IVec S97 1 := cmpi .slt main_arg0 main_v2
  let main_v4 : IVec S97 1 := andi main_v1 main_v3
  let main_c_1 : IVec S_ 1 := constantI S_ 1 1#1
  let main_v5 : IVec S_ 1 := (fun x v => Host.reduce IntOp.andi x v reducesTo_S97_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  main_v8
-- ==== Pre_finite_projection.lean ====
abbrev S8x2048x1024 : Shape := ⟨3, ![8, 2048, 1024]⟩
abbrev S8x6144 : Shape := ⟨2, ![8, 6144]⟩
abbrev S1024 : Shape := ⟨1, ![1024]⟩
abbrev S1024x2048 : Shape := ⟨2, ![1024, 2048]⟩
abbrev S64 : Shape := ⟨1, ![64]⟩
abbrev S4x128x128 : Shape := ⟨3, ![4, 128, 128]⟩
abbrev S512 : Shape := ⟨1, ![512]⟩
abbrev S8x2048 : Shape := ⟨2, ![8, 2048]⟩
abbrev S1024x1024 : Shape := ⟨2, ![1024, 1024]⟩
abbrev S_ : Shape := ⟨0, ![]⟩

class Facts : Prop where
  slices_S8x6144_S8x2048_0_0 : S8x6144.Slices ![0, 0] S8x2048
  slices_S1024x2048_S1024x1024_0_512 : S1024x2048.Slices ![0, 512] S1024x1024
  bcast_S_S8x2048 : S_.BroadcastsInDim S8x2048 (![] : Fin 0 → Fin S8x2048.rank)
  reducesTo_S8x2048_S_d0_1 : S8x2048.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S8x2048x1024 .f32) (main_arg1 : FVec F S8x6144 .f32) (main_arg2 : FVec F S1024 .f32) (main_arg3 : FVec F S1024x2048 .f32) (main_arg4 : FVec F S64 .f32) (main_arg5 : FVec F S64 .f32) (main_arg6 : FVec F S4x128x128 .f32) (main_arg7 : FVec F S512 .f32) : IVec S_ 1 :=
  let main_v0 : FVec F S8x2048 .f32 := (extractStridedSlice S8x2048 ![0, 0] · slices_S8x6144_S8x2048_0_0) main_arg1
  let main_v1 : FVec F S1024x1024 .f32 := (extractStridedSlice S1024x1024 ![0, 512] · slices_S1024x2048_S1024x1024_0_512) main_arg3
  let main_v2 : FVec F S8x2048 .f32 := Host.absf main_v0
  let main_cst : FVec F S_ .f32 := constant S_ .f32 0x7F800000#32
  let main_v3 : FVec F S8x2048 .f32 := broadcastInDim S8x2048 ![] bcast_S_S8x2048 main_cst
  let main_v4 : IVec S8x2048 1 := cmpf .olt main_v2 main_v3
  let main_c : IVec S_ 1 := constantI S_ 1 1#1
  let main_v5 : IVec S_ 1 := (fun x v => Host.reduce IntOp.andi x v reducesTo_S8x2048_S_d0_1 h_S_) main_v4 main_c
  let main_v6 : FVec F S1024 .f32 := Host.absf main_arg2
  let main_cst_0 : FVec F S_ .f32 := constant S_ .f32 0x7F800000#32
  let main_v7 : FVec F S1024 .f32 := broadcastInDim S1024 ![] bcast_S_S1024 main_cst_0
  let main_v8 : IVec S1024 1 := cmpf .olt main_v6 main_v7
  let main_c_1 : IVec S_ 1 := constantI S_ 1 1#1
  let main_v9 : IVec S_ 1 := (fun x v => Host.reduce IntOp.andi x v reducesTo_S1024_S_d0 h_S_) main_v8 main_c_1
  let main_v10 : IVec S_ 1 := andi main_v5 main_v9
  let main_v11 : FVec F S1024x1024 .f32 := Host.absf main_v1
  let main_cst_2 : FVec F S_ .f32 := constant S_ .f32 0x7F800000#32
  let main_v12 : FVec F S1024x1024 .f32 := broadcastInDim S1024x1024 ![] bcast_S_S1024x1024 main_cst_2
  let main_v13 : IVec S1024x1024 1 := cmpf .olt main_v11 main_v12
  let main_c_3 : IVec S_ 1 := constantI S_ 1 1#1
  let main_v14 : IVec S_ 1 := (fun x v => Host.reduce IntOp.andi x v reducesTo_S1024x1024_S_d0_1 h_S_) main_v13 main_c_3
  let main_v15 : IVec S_ 1 := andi main_v10 main_v14
  main_v15
-- ==== Pre_finite_qk.lean ====
abbrev S8x2048x8x64 : Shape := ⟨4, ![8, 2048, 8, 64]⟩
abbrev S_ : Shape := ⟨0, ![]⟩

class Facts : Prop where
  bcast_S_S8x2048x8x64 : S_.BroadcastsInDim S8x2048x8x64 (![] : Fin 0 → Fin S8x2048x8x64.rank)
  reducesTo_S8x2048x8x64_S_d0_1_2_3 : S8x2048x8x64.ReducesTo [0, 1, 2, 3] S_
  h_S_ : 0 < S_.numel

variable [Facts]

def fn {F : FTy → Type} [FloatOps F] (main_arg0 : FVec F S8x2048x8x64 .f32) (main_arg1 : FVec F S8x2048x8x64 .f32) (main_arg2 : FVec F S8x2048x8x64 .f32) : IVec S_ 1 :=
  let main_v0 : FVec F S8x2048x8x64 .f32 := Host.absf main_arg0
  let main_cst : FVec F S_ .f32 := constant S_ .f32 0x7F800000#32
  let main_v1 : FVec F S8x2048x8x64 .f32 := broadcastInDim S8x2048x8x64 ![] bcast_S_S8x2048x8x64 main_cst
  let main_v2 : IVec S8x2048x8x64 1 := cmpf .olt main_v0 main_v1
  let main_c : IVec S_ 1 := constantI S_ 1 1#1
  let main_v3 : IVec S_ 1 := (fun x v => Host.reduce IntOp.andi x v reducesTo_S8x2048x8x64_S_d0_1_2_3 h_S_) main_v2 main_c
  let main_v4 : FVec F S8x2048x8x64 .f32 := Host.absf main_arg1
  let main_cst_0 : FVec F S_ .f32 := constant S_ .f32 0x7F800000#32
  let main_v5 : FVec F S8x2048x8x64 .f32 := broadcastInDim S8x2048x8x64 ![] bcast_S_S8x2048x8x64 main_cst_0
  let main_v6 : IVec S8x2048x8x64 1 := cmpf .olt main_v4 main_v5
  let main_c_1 : IVec S_ 1 := constantI S_ 1 1#1
  let main_v7 : IVec S_ 1 := (fun x v => Host.reduce IntOp.andi x v reducesTo_S8x2048x8x64_S_d0_1_2_3 h_S_) main_v6 main_c_1
  let main_v8 : IVec S_ 1 := andi main_v3 main_v7
  main_v8
-- ==== Kernel.lean ====
abbrev S8x2048x8x64 : Shape := ⟨4, ![8, 2048, 8, 64]⟩
abbrev S8 : Shape := ⟨1, ![8]⟩
abbrev S_ : Shape := ⟨0, ![]⟩
abbrev S8x2048x512 : Shape := ⟨3, ![8, 2048, 512]⟩
abbrev S1x2048x128 : Shape := ⟨3, ![1, 2048, 128]⟩
abbrev S2x2048x128 : Shape := ⟨3, ![2, 2048, 128]⟩
abbrev S128x128 : Shape := ⟨2, ![128, 128]⟩
abbrev S1x128 : Shape := ⟨2, ![1, 128]⟩
abbrev S2048x128 : Shape := ⟨2, ![2048, 128]⟩
abbrev S256x128 : Shape := ⟨2, ![256, 128]⟩
abbrev S128 : Shape := ⟨1, ![128]⟩
abbrev S2048x1 : Shape := ⟨2, ![2048, 1]⟩
abbrev S1 : Shape := ⟨1, ![1]⟩
abbrev S128x2048 : Shape := ⟨2, ![128, 2048]⟩
abbrev S16x2048 : Shape := ⟨2, ![16, 2048]⟩
abbrev S1x2048 : Shape := ⟨2, ![1, 2048]⟩
abbrev S112x2048 : Shape := ⟨2, ![112, 2048]⟩
abbrev S512x512 : Shape := ⟨2, ![512, 512]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S1x1024x128 : Shape := ⟨3, ![1, 1024, 128]⟩
abbrev S1024x128 : Shape := ⟨2, ![1024, 128]⟩
abbrev S512x1024 : Shape := ⟨2, ![512, 1024]⟩
abbrev S1x1536x128 : Shape := ⟨3, ![1, 1536, 128]⟩
abbrev S1536x128 : Shape := ⟨2, ![1536, 128]⟩
abbrev S512x1536 : Shape := ⟨2, ![512, 1536]⟩
abbrev S512x2048 : Shape := ⟨2, ![512, 2048]⟩

abbrev nBuf : Space → Nat
  | .hbm => 25
  | .vmem => 12
  | .smem => 1
  | _ => 0

abbrev bufTy : (tb : Table) → Fin (tcTables nBuf tb) → BufTy
  | .hbm, ⟨0, _⟩ => ⟨S8x2048x8x64, .f32⟩
  | .hbm, ⟨1, _⟩ => ⟨S8x2048x8x64, .f32⟩
  | .hbm, ⟨2, _⟩ => ⟨S8x2048x8x64, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S8x2048x512, .f32⟩
  | .hbm, ⟨18, _⟩ => ⟨S_, .f32⟩
  | .hbm, ⟨19, _⟩ => ⟨S8x2048x512, .f32⟩
  | .hbm, ⟨20, _⟩ => ⟨S8x2048x512, .f32⟩
  | .hbm, ⟨21, _⟩ => ⟨S8x2048x512, .bf16⟩
  | .hbm, ⟨22, _⟩ => ⟨S8x2048x512, .f32⟩
  | .hbm, ⟨23, _⟩ => ⟨S8x2048x512, .f32⟩
  | .hbm, ⟨24, _⟩ => ⟨S8x2048x512, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .bf16⟩
  | .local _ .vmem, ⟨7, _⟩ => ⟨S1x2048x128, .bf16⟩
  | .local _ .vmem, ⟨8, _⟩ => ⟨S2x2048x128, .bf16⟩
  | .local _ .vmem, ⟨9, _⟩ => ⟨S2x2048x128, .bf16⟩
  | .local _ .vmem, ⟨10, _⟩ => ⟨S2x2048x128, .bf16⟩
  | .local _ .vmem, ⟨11, _⟩ => ⟨S128x128, .f32⟩
  | .local _ .smem, ⟨0, _⟩ => ⟨S8, .f32⟩
  | _, _ => ⟨S8x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def k0_off1 (i : grid0.Coords) (c0_i32_62 : BitVec 32) : Fin 1 → Nat :=
  let c2_i32 : BitVec 32 := 2#32
  let arg1 : BitVec 32 := BitVec.ofNat 32 (i 1).val
  let v160 : BitVec 32 := Scalar.muli c2_i32 arg1
  let v161 : BitVec 32 := Scalar.addi v160 c0_i32_62
  let v162 : Index := Scalar.indexCast v161
  ![v162.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x2048x8x64 : Shape := ⟨4, ![8, 2048, 8, 64]⟩
abbrev S8 : Shape := ⟨1, ![8]⟩
abbrev S_ : Shape := ⟨0, ![]⟩
abbrev S8x8x2048x64 : Shape := ⟨4, ![8, 8, 2048, 64]⟩
abbrev S8x8x8x256x64 : Shape := ⟨5, ![8, 8, 8, 256, 64]⟩
abbrev S8x8x8x64 : Shape := ⟨4, ![8, 8, 8, 64]⟩
abbrev S2048 : Shape := ⟨1, ![2048]⟩
abbrev S8x256 : Shape := ⟨2, ![8, 256]⟩
abbrev S8x8x8x256x256x64 : Shape := ⟨6, ![8, 8, 8, 256, 256, 64]⟩
abbrev S8x8x2048x256x64 : Shape := ⟨5, ![8, 8, 2048, 256, 64]⟩
abbrev S2048x1 : Shape := ⟨2, ![2048, 1]⟩
abbrev S256 : Shape := ⟨1, ![256]⟩
abbrev S1x256 : Shape := ⟨2, ![1, 256]⟩
abbrev S2048x256 : Shape := ⟨2, ![2048, 256]⟩
abbrev S8x8x2048x256 : Shape := ⟨4, ![8, 8, 2048, 256]⟩
abbrev S8x1x1 : Shape := ⟨3, ![8, 1, 1]⟩
abbrev S1x2048x256 : Shape := ⟨3, ![1, 2048, 256]⟩
abbrev S8x2048x256 : Shape := ⟨3, ![8, 2048, 256]⟩
abbrev S1x8x2048x256 : Shape := ⟨4, ![1, 8, 2048, 256]⟩
abbrev S8x8x2048x8 : Shape := ⟨4, ![8, 8, 2048, 8]⟩
abbrev S1x8 : Shape := ⟨2, ![1, 8]⟩
abbrev S2048x8 : Shape := ⟨2, ![2048, 8]⟩
abbrev S8x8x2048x3 : Shape := ⟨4, ![8, 8, 2048, 3]⟩
abbrev S8x1x1x1 : Shape := ⟨4, ![8, 1, 1, 1]⟩
abbrev S1x8x1x1 : Shape := ⟨4, ![1, 8, 1, 1]⟩
abbrev S8x8x2048x3x1 : Shape := ⟨5, ![8, 8, 2048, 3, 1]⟩
abbrev S8x8x2048x3x3 : Shape := ⟨5, ![8, 8, 2048, 3, 3]⟩
abbrev S8x8x2048x3x256x64 : Shape := ⟨6, ![8, 8, 2048, 3, 256, 64]⟩
abbrev S1x1x1x1x256 : Shape := ⟨5, ![1, 1, 1, 1, 256]⟩
abbrev S8x8x2048x3x256 : Shape := ⟨5, ![8, 8, 2048, 3, 256]⟩
abbrev S2048x1x1 : Shape := ⟨3, ![2048, 1, 1]⟩
abbrev S1x1x2048x1x1 : Shape := ⟨5, ![1, 1, 2048, 1, 1]⟩
abbrev S1x8x1x1x1 : Shape := ⟨5, ![1, 8, 1, 1, 1]⟩
abbrev S1x1x2048x1 : Shape := ⟨4, ![1, 1, 2048, 1]⟩
abbrev S8x8x2048x768 : Shape := ⟨4, ![8, 8, 2048, 768]⟩
abbrev S8x8x2048x1024 : Shape := ⟨4, ![8, 8, 2048, 1024]⟩
abbrev S8x8x2048 : Shape := ⟨3, ![8, 8, 2048]⟩
abbrev S8x8x2048x1 : Shape := ⟨4, ![8, 8, 2048, 1]⟩
abbrev S8x2048x512 : Shape := ⟨3, ![8, 2048, 512]⟩

abbrev nBuf : Space → Nat
  | .hbm => 200
  | .vmem => 0
  | .smem => 0
  | _ => 0

abbrev hbmTy0_0 (i : Nat) : BufTy := match i % 128 with
  | 0 => ⟨S8x2048x8x64, .f32⟩
  | 1 => ⟨S8x2048x8x64, .f32⟩
  | 2 => ⟨S8x2048x8x64, .f32⟩
  | 3 => ⟨S8, .f32⟩
  | 4 => ⟨S_, .f32⟩
  | 5 => ⟨S8, .f32⟩
  | 6 => ⟨S8, .f32⟩
  | 7 => ⟨S_, .f32⟩
  | 8 => ⟨S8, .f32⟩
  | 9 => ⟨S8, .f32⟩
  | 10 => ⟨S_, .f32⟩
  | 11 => ⟨S8, .f32⟩
  | 12 => ⟨S8, .f32⟩
  | 13 => ⟨S_, .f32⟩
  | 14 => ⟨S8, .f32⟩
  | 15 => ⟨S8, .f32⟩
  | 16 => ⟨S8, .f32⟩
  | 17 => ⟨S8x8x2048x64, .f32⟩
  | 18 => ⟨S8x8x2048x64, .f32⟩
  | 19 => ⟨S8x8x8x256x64, .f32⟩
  | 20 => ⟨S8x8x2048x64, .f32⟩
  | 21 => ⟨S8x8x8x256x64, .f32⟩
  | 22 => ⟨S_, .f32⟩
  | 23 => ⟨S8x8x8x64, .f32⟩
  | 24 => ⟨S_, .f32⟩
  | 25 => ⟨S8x8x8x64, .f32⟩
  | 26 => ⟨S8x8x8x64, .f32⟩
  | 27 => ⟨S2048, .i32⟩
  | 28 => ⟨S8, .i32⟩
  | 29 => ⟨S8x256, .i32⟩
  | 30 => ⟨S2048, .i32⟩
  | 31 => ⟨S8x8x8x256x256x64, .f32⟩
  | 32 => ⟨S8x8x2048x256x64, .f32⟩
  | 33 => ⟨S8x8x8x256x256x64, .f32⟩
  | 34 => ⟨S8x8x2048x256x64, .f32⟩
  | 35 => ⟨S2048x1, .i32⟩
  | 36 => ⟨S_, .i32⟩
  | 37 => ⟨S2048x1, .i32⟩
  | 38 => ⟨S2048x1, .i32⟩
  | 39 => ⟨S256, .i32⟩
  | 40 => ⟨S1x256, .i32⟩
  | 41 => ⟨S2048x256, .i32⟩
  | 42 => ⟨S2048x256, .i32⟩
  | 43 => ⟨S2048x256, .i32⟩
  | 44 => ⟨S8x8x2048x256, .f32⟩
  | 45 => ⟨S_, .f32⟩
  | 46 => ⟨S8x8x2048x256, .f32⟩
  | 47 => ⟨S8x8x2048x256, .f32⟩
  | 48 => ⟨S8x1x1, .f32⟩
  | 49 => ⟨S2048x1, .i32⟩
  | 50 => ⟨S2048x256, .i32⟩
  | 51 => ⟨S2048x256, .i32⟩
  | 52 => ⟨S2048x256, .f32⟩
  | 53 => ⟨S1x2048x256, .f32⟩
  | 54 => ⟨S8x2048x256, .f32⟩
  | 55 => ⟨S8x2048x256, .f32⟩
  | 56 => ⟨S8x2048x256, .f32⟩
  | 57 => ⟨S1x8x2048x256, .f32⟩
  | 58 => ⟨S8x8x2048x256, .f32⟩
  | 59 => ⟨S8x8x2048x256, .f32⟩
  | 60 => ⟨S2048x1, .i32⟩
  | 61 => ⟨S2048x256, .i32⟩
  | 62 => ⟨S2048x256, .i1⟩
  | 63 => ⟨S_, .f32⟩
  | 64 => ⟨S_, .f32⟩
  | 65 => ⟨S8x8x2048x256, .i1⟩
  | 66 => ⟨S8x8x2048x256, .f32⟩
  | 67 => ⟨S8x8x2048x256, .f32⟩
  | 68 => ⟨S8x8x2048x8, .f32⟩
  | 69 => ⟨S8, .i32⟩
  | 70 => ⟨S2048x1, .i32⟩
  | 71 => ⟨S1x8, .i32⟩
  | 72 => ⟨S2048x8, .i32⟩
  | 73 => ⟨S2048x8, .i32⟩
  | 74 => ⟨S2048x8, .i1⟩
  | 75 => ⟨S_, .f32⟩
  | 76 => ⟨S_, .f32⟩
  | 77 => ⟨S8x8x2048x8, .i1⟩
  | 78 => ⟨S8x8x2048x8, .f32⟩
  | 79 => ⟨S8x8x2048x8, .f32⟩
  | 80 => ⟨S8x8x2048x3, .f32⟩
  | 81 => ⟨S8x8x2048x3, .i32⟩
  | 82 => ⟨S8, .i32⟩
  | 83 => ⟨S8x1x1x1, .i32⟩
  | 84 => ⟨S8, .i32⟩
  | 85 => ⟨S1x8x1x1, .i32⟩
  | 86 => ⟨S_, .i32⟩
  | 87 => ⟨S8x1x1x1, .i32⟩
  | 88 => ⟨S8x1x1x1, .i1⟩
  | 89 => ⟨S_, .i32⟩
  | 90 => ⟨S8x1x1x1, .i32⟩
  | 91 => ⟨S8x1x1x1, .i32⟩
  | 92 => ⟨S8x1x1x1, .i32⟩
  | 93 => ⟨S_, .i32⟩
  | 94 => ⟨S1x8x1x1, .i32⟩
  | 95 => ⟨S1x8x1x1, .i1⟩
  | 96 => ⟨S_, .i32⟩
  | 97 => ⟨S1x8x1x1, .i32⟩
  | 98 => ⟨S1x8x1x1, .i32⟩
  | 99 => ⟨S1x8x1x1, .i32⟩
  | 100 => ⟨S_, .i32⟩
  | 101 => ⟨S8x8x2048x3, .i32⟩
  | 102 => ⟨S8x8x2048x3, .i1⟩
  | 103 => ⟨S_, .i32⟩
  | 104 => ⟨S8x8x2048x3, .i32⟩
  | 105 => ⟨S8x8x2048x3, .i32⟩
  | 106 => ⟨S8x8x2048x3, .i32⟩
  | 107 => ⟨S8x8x2048x3, .i32⟩
  | 108 => ⟨S8x8x2048x3, .i32⟩
  | 109 => ⟨S8x8x2048x3x1, .i32⟩
  | 110 => ⟨S8x8x2048x3x1, .i32⟩
  | 111 => ⟨S8x8x2048x3x1, .i32⟩
  | 112 => ⟨S8x8x2048x3x3, .i32⟩
  | 113 => ⟨S8x8x2048x3x256x64, .f32⟩
  | 114 => ⟨S_, .i32⟩
  | 115 => ⟨S8x1x1x1, .i32⟩
  | 116 => ⟨S8x1x1x1, .i1⟩
  | 117 => ⟨S_, .i32⟩
  | 118 => ⟨S8x1x1x1, .i32⟩
  | 119 => ⟨S8x1x1x1, .i32⟩
  | 120 => ⟨S8x1x1x1, .i32⟩
  | 121 => ⟨S_, .i32⟩
  | 122 => ⟨S1x8x1x1, .i32⟩
  | 123 => ⟨S1x8x1x1, .i1⟩
  | 124 => ⟨S_, .i32⟩
  | 125 => ⟨S1x8x1x1, .i32⟩
  | 126 => ⟨S1x8x1x1, .i32⟩
  | 127 => ⟨S1x8x1x1, .i32⟩
  | _ => ⟨S8x2048x8x64, .f32⟩

abbrev hbmTy0_1 (i : Nat) : BufTy := match i % 128 with
  | 0 => ⟨S_, .i32⟩
  | 1 => ⟨S8x8x2048x3, .i32⟩
  | 2 => ⟨S8x8x2048x3, .i1⟩
  | 3 => ⟨S_, .i32⟩
  | 4 => ⟨S8x8x2048x3, .i32⟩
  | 5 => ⟨S8x8x2048x3, .i32⟩
  | 6 => ⟨S8x8x2048x3, .i32⟩
  | 7 => ⟨S8x8x2048x3, .i32⟩
  | 8 => ⟨S8x8x2048x3, .i32⟩
  | 9 => ⟨S8x8x2048x3x1, .i32⟩
  | 10 => ⟨S8x8x2048x3x1, .i32⟩
  | 11 => ⟨S8x8x2048x3x1, .i32⟩
  | 12 => ⟨S8x8x2048x3x3, .i32⟩
  | 13 => ⟨S8x8x2048x3x256x64, .f32⟩
  | 14 => ⟨S8x8x2048x3x1, .i32⟩
  | 15 => ⟨S_, .i32⟩
  | 16 => ⟨S8x8x2048x3x1, .i32⟩
  | 17 => ⟨S8x8x2048x3x1, .i32⟩
  | 18 => ⟨S256, .i32⟩
  | 19 => ⟨S1x1x1x1x256, .i32⟩
  | 20 => ⟨S8x8x2048x3x256, .i32⟩
  | 21 => ⟨S8x8x2048x3x256, .i32⟩
  | 22 => ⟨S8x8x2048x3x256, .i32⟩
  | 23 => ⟨S8x8x2048x3x256, .f32⟩
  | 24 => ⟨S_, .f32⟩
  | 25 => ⟨S8x8x2048x3x256, .f32⟩
  | 26 => ⟨S8x8x2048x3x256, .f32⟩
  | 27 => ⟨S8x1x1x1, .f32⟩
  | 28 => ⟨S2048x1x1, .i32⟩
  | 29 => ⟨S1x1x2048x1x1, .i32⟩
  | 30 => ⟨S8x8x2048x3x256, .i32⟩
  | 31 => ⟨S8x8x2048x3x256, .i32⟩
  | 32 => ⟨S8x8x2048x3x256, .f32⟩
  | 33 => ⟨S1x8x1x1x1, .f32⟩
  | 34 => ⟨S8x8x2048x3x256, .f32⟩
  | 35 => ⟨S8x8x2048x3x256, .f32⟩
  | 36 => ⟨S8x8x2048x3x256, .f32⟩
  | 37 => ⟨S2048x1, .i32⟩
  | 38 => ⟨S1x1x2048x1, .i32⟩
  | 39 => ⟨S8x8x2048x3, .i32⟩
  | 40 => ⟨S8x8x2048x3, .i1⟩
  | 41 => ⟨S8x8x2048x3x1, .i1⟩
  | 42 => ⟨S_, .f32⟩
  | 43 => ⟨S_, .f32⟩
  | 44 => ⟨S8x8x2048x3x256, .i1⟩
  | 45 => ⟨S8x8x2048x3x256, .f32⟩
  | 46 => ⟨S8x8x2048x3x256, .f32⟩
  | 47 => ⟨S8x8x2048x768, .f32⟩
  | 48 => ⟨S8x8x2048x1024, .f32⟩
  | 49 => ⟨S_, .f32⟩
  | 50 => ⟨S8x8x2048, .f32⟩
  | 51 => ⟨S_, .f32⟩
  | 52 => ⟨S8x8x2048, .f32⟩
  | 53 => ⟨S8x8x2048, .f32⟩
  | 54 => ⟨S8x8x2048x1, .f32⟩
  | 55 => ⟨S8x8x2048x1024, .f32⟩
  | 56 => ⟨S8x8x2048x1024, .f32⟩
  | 57 => ⟨S8x8x2048x1024, .f32⟩
  | 58 => ⟨S_, .f32⟩
  | 59 => ⟨S8x8x2048, .f32⟩
  | 60 => ⟨S8x8x2048x1, .f32⟩
  | 61 => ⟨S8x8x2048x1024, .f32⟩
  | 62 => ⟨S8x8x2048x1024, .f32⟩
  | 63 => ⟨S8x8x2048x768, .f32⟩
  | 64 => ⟨S8x8x2048x3x256, .f32⟩
  | 65 => ⟨S8x8x2048x64, .f32⟩
  | 66 => ⟨S8x8x2048x256, .f32⟩
  | 67 => ⟨S8x8x2048x64, .f32⟩
  | 68 => ⟨S8x8x2048x64, .f32⟩
  | 69 => ⟨S8x2048x8x64, .f32⟩
  | 70 => ⟨S8x2048x512, .f32⟩
  | 71 => ⟨S8x2048x512, .bf16⟩
  | _ => ⟨S8x2048x8x64, .f32⟩

abbrev hbmTy (i : Nat) : BufTy := match i / 128 with
  | 0 => hbmTy0_0 i
  | 1 => hbmTy0_1 i
  | _ => ⟨S8x2048x8x64, .f32⟩

abbrev bufTy : (tb : Table) → Fin (tcTables nBuf tb) → BufTy
  | .hbm, ⟨i, _⟩ => hbmTy i
  | _, _ => ⟨S8x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_6 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_7 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_v60 : Ref sig .tc := ⟨.hbm, 79, rfl⟩
abbrev main_values : Ref sig .tc := ⟨.hbm, 80, rfl⟩
abbrev main_indices : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_c_8 : Ref sig .tc := ⟨.hbm, 86, rfl⟩
abbrev main_v65 : Ref sig .tc := ⟨.hbm, 87, rfl⟩
abbrev main_v66 : Ref sig .tc := ⟨.hbm, 88, rfl⟩
abbrev main_c_9 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_c_10 : Ref sig .tc := ⟨.hbm, 93, rfl⟩
abbrev main_v70 : Ref sig .tc := ⟨.hbm, 94, rfl⟩
abbrev main_v71 : Ref sig .tc := ⟨.hbm, 95, rfl⟩
abbrev main_c_11 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_c_12 : Ref sig .tc := ⟨.hbm, 100, rfl⟩
abbrev main_v75 : Ref sig .tc := ⟨.hbm, 101, rfl⟩
abbrev main_v76 : Ref sig .tc := ⟨.hbm, 102, rfl⟩
abbrev main_c_13 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_c_14 : Ref sig .tc := ⟨.hbm, 114, rfl⟩
abbrev main_v87 : Ref sig .tc := ⟨.hbm, 115, rfl⟩
abbrev main_v88 : Ref sig .tc := ⟨.hbm, 116, rfl⟩
abbrev main_c_15 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_c_16 : Ref sig .tc := ⟨.hbm, 121, rfl⟩
abbrev main_v92 : Ref sig .tc := ⟨.hbm, 122, rfl⟩
abbrev main_v93 : Ref sig .tc := ⟨.hbm, 123, rfl⟩
abbrev main_c_17 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_c_18 : Ref sig .tc := ⟨.hbm, 128, rfl⟩
abbrev main_v97 : Ref sig .tc := ⟨.hbm, 129, rfl⟩
abbrev main_v98 : Ref sig .tc := ⟨.hbm, 130, rfl⟩
abbrev main_c_19 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_c_20 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_cst_21 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_cst_22 : Ref sig .tc := ⟨.hbm, 170, rfl⟩
abbrev main_call2_v0 : Ref sig .tc := ⟨.hbm, 171, rfl⟩
abbrev main_call2_v1 : Ref sig .tc := ⟨.hbm, 172, rfl⟩
abbrev main_call2_v2 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_cst_23 : Ref sig .tc := ⟨.hbm, 177, rfl⟩
abbrev main_v138 : Ref sig .tc := ⟨.hbm, 178, rfl⟩
abbrev main_cst_24 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_cst_25 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩

abbrev nD : Nat := 1
abbrev τ : Topo := Topo.v7x

variable {F : FTy → Type} [FloatOps F]
-- ==== Projections.lean ====
abbrev S8x2048x1024 : Shape := ⟨3, ![8, 2048, 1024]⟩
abbrev S8x6144 : Shape := ⟨2, ![8, 6144]⟩
abbrev S1024 : Shape := ⟨1, ![1024]⟩
abbrev S1024x2048 : Shape := ⟨2, ![1024, 2048]⟩
abbrev S64 : Shape := ⟨1, ![64]⟩
abbrev S4x128x128 : Shape := ⟨3, ![4, 128, 128]⟩
abbrev S512 : Shape := ⟨1, ![512]⟩
abbrev S1x1024 : Shape := ⟨2, ![1, 1024]⟩
abbrev S1x64 : Shape := ⟨2, ![1, 64]⟩
abbrev S8x64 : Shape := ⟨2, ![8, 64]⟩
abbrev S1x512 : Shape := ⟨2, ![1, 512]⟩
abbrev S_ : Shape := ⟨0, ![]⟩
abbrev S512x1 : Shape := ⟨2, ![512, 1]⟩
abbrev S512x512 : Shape := ⟨2, ![512, 512]⟩
abbrev S8x1x6144 : Shape := ⟨3, ![8, 1, 6144]⟩
abbrev S8x2048x512 : Shape := ⟨3, ![8, 2048, 512]⟩
abbrev S8x16x512 : Shape := ⟨3, ![8, 16, 512]⟩
abbrev S1x1024x1024 : Shape := ⟨3, ![1, 1024, 1024]⟩
abbrev S1x1x6144 : Shape := ⟨3, ![1, 1, 6144]⟩
abbrev S1x1024x512 : Shape := ⟨3, ![1, 1024, 512]⟩
abbrev S1x16x512 : Shape := ⟨3, ![1, 16, 512]⟩
abbrev S1040x512 : Shape := ⟨2, ![1040, 512]⟩
abbrev S1024x1024 : Shape := ⟨2, ![1024, 1024]⟩
abbrev S1x1x1024 : Shape := ⟨3, ![1, 1, 1024]⟩
abbrev S1024x1 : Shape := ⟨2, ![1024, 1]⟩
abbrev S1024x512 : Shape := ⟨2, ![1024, 512]⟩
abbrev S16x512 : Shape := ⟨2, ![16, 512]⟩
abbrev S1040x128 : Shape := ⟨2, ![1040, 128]⟩
abbrev S1024x128 : Shape := ⟨2, ![1024, 128]⟩
abbrev S1x128x128 : Shape := ⟨3, ![1, 128, 128]⟩
abbrev S128x128 : Shape := ⟨2, ![128, 128]⟩
abbrev S1x128 : Shape := ⟨2, ![1, 128]⟩
abbrev S1x1024x128 : Shape := ⟨3, ![1, 1024, 128]⟩

abbrev nBuf : Space → Nat
  | .hbm => 51
  | .vmem => 22
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024, .f32⟩
  | .hbm, ⟨3, _⟩ => ⟨S1024x2048, .f32⟩
  | .hbm, ⟨4, _⟩ => ⟨S64, .f32⟩
  | .hbm, ⟨5, _⟩ => ⟨S64, .f32⟩
  | .hbm, ⟨6, _⟩ => ⟨S4x128x128, .f32⟩
  | .hbm, ⟨7, _⟩ => ⟨S512, .f32⟩
  | .hbm, ⟨8, _⟩ => ⟨S1024x2048, .bf16⟩
  | .hbm, ⟨9, _⟩ => ⟨S4x128x128, .bf16⟩
  | .hbm, ⟨10, _⟩ => ⟨S1x1024, .f32⟩
  | .hbm, ⟨11, _⟩ => ⟨S1x64, .f32⟩
  | .hbm, ⟨12, _⟩ => ⟨S8x64, .f32⟩
  | .hbm, ⟨13, _⟩ => ⟨S512, .f32⟩
  | .hbm, ⟨14, _⟩ => ⟨S1x512, .f32⟩
  | .hbm, ⟨15, _⟩ => ⟨S1x64, .f32⟩
  | .hbm, ⟨16, _⟩ => ⟨S8x64, .f32⟩
  | .hbm, ⟨17, _⟩ => ⟨S512, .f32⟩
  | .hbm, ⟨18, _⟩ => ⟨S1x512, .f32⟩
  | .hbm, ⟨19, _⟩ => ⟨S1x512, .f32⟩
  | .hbm, ⟨20, _⟩ => ⟨S512, .i32⟩
  | .hbm, ⟨21, _⟩ => ⟨S_, .i32⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S_, .i32⟩
  | .hbm, ⟨27, _⟩ => ⟨S512, .i32⟩
  | .hbm, ⟨28, _⟩ => ⟨S512, .i1⟩
  | .hbm, ⟨29, _⟩ => ⟨S512, .i32⟩
  | .hbm, ⟨30, _⟩ => ⟨S512, .i32⟩
  | .hbm, ⟨31, _⟩ => ⟨S_, .i32⟩
  | .hbm, ⟨32, _⟩ => ⟨S512, .i32⟩
  | .hbm, ⟨33, _⟩ => ⟨S512, .i1⟩
  | .hbm, ⟨34, _⟩ => ⟨S512, .i1⟩
  | .hbm, ⟨35, _⟩ => ⟨S_, .i32⟩
  | .hbm, ⟨36, _⟩ => ⟨S512, .i32⟩
  | .hbm, ⟨37, _⟩ => ⟨S512, .i32⟩
  | .hbm, ⟨38, _⟩ => ⟨S512, .i32⟩
  | .hbm, ⟨39, _⟩ => ⟨S512x1, .i32⟩
  | .hbm, ⟨40, _⟩ => ⟨S1x512, .i32⟩
  | .hbm, ⟨41, _⟩ => ⟨S512x512, .i32⟩
  | .hbm, ⟨42, _⟩ => ⟨S512x512, .i32⟩
  | .hbm, ⟨43, _⟩ => ⟨S512x512, .i1⟩
  | .hbm, ⟨44, _⟩ => ⟨S512x512, .bf16⟩
  | .hbm, ⟨45, _⟩ => ⟨S8x1x6144, .f32⟩
  | .hbm, ⟨46, _⟩ => ⟨S8x2048x512, .bf16⟩
  | .hbm, ⟨47, _⟩ => ⟨S8x2048x512, .bf16⟩
  | .hbm, ⟨48, _⟩ => ⟨S8x2048x512, .f32⟩
  | .hbm, ⟨49, _⟩ => ⟨S8x2048x512, .f32⟩
  | .hbm, ⟨50, _⟩ => ⟨S8x16x512, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x2048, .bf16⟩
  | .local _ .vmem, ⟨6, _⟩ => ⟨S512x512, .bf16⟩
  | .local _ .vmem, ⟨7, _⟩ => ⟨S1x512, .f32⟩
  | .local _ .vmem, ⟨8, _⟩ => ⟨S1x512, .f32⟩
  | .local _ .vmem, ⟨9, _⟩ => ⟨S4x128x128, .bf16⟩
  | .local _ .vmem, ⟨10, _⟩ => ⟨S1x512, .f32⟩
  | .local _ .vmem, ⟨11, _⟩ => ⟨S1x1024x512, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x1024x512, .bf16⟩
  | .local _ .vmem, ⟨15, _⟩ => ⟨S1x1024x512, .f32⟩
  | .local _ .vmem, ⟨16, _⟩ => ⟨S1x1024x512, .f32⟩
  | .local _ .vmem, ⟨17, _⟩ => ⟨S1x1024x512, .f32⟩
  | .local _ .vmem, ⟨18, _⟩ => ⟨S1x1024x512, .f32⟩
  | .local _ .vmem, ⟨19, _⟩ => ⟨S1x16x512, .f32⟩
  | .local _ .vmem, ⟨20, _⟩ => ⟨S1x16x512, .f32⟩
  | .local _ .vmem, ⟨21, _⟩ => ⟨S1040x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_c : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_0 : Ref sig .tc := ⟨.hbm, 35, rfl⟩
abbrev main_call0_v12 : Ref sig .tc := ⟨.hbm, 36, rfl⟩
abbrev main_call0_v13 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21_0 : Ref sig .tc := ⟨.hbm, 46, rfl⟩
abbrev main_v21_1 : Ref sig .tc := ⟨.hbm, 47, rfl⟩
abbrev main_v21_2 : Ref sig .tc := ⟨.hbm, 48, rfl⟩
abbrev main_v21_3 : Ref sig .tc := ⟨.hbm, 49, rfl⟩
abbrev main_v21_4 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32_98 : BitVec 32 := 1#32
  let v218 : BitVec 1 := Scalar.cmpi .eq arg1 c1_i32_98
  let v219 : BitVec 32 := Scalar.extui v218
  let c0_i32_99 : BitVec 32 := 0#32
  let v220 : BitVec 1 := Scalar.cmpi .ne v219 c0_i32_99
  v220

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x16x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ProjectionsReferenceIdeal.lean ====
abbrev S8x2048x1024 : Shape := ⟨3, ![8, 2048, 1024]⟩
abbrev S8x6144 : Shape := ⟨2, ![8, 6144]⟩
abbrev S1024 : Shape := ⟨1, ![1024]⟩
abbrev S1024x2048 : Shape := ⟨2, ![1024, 2048]⟩
abbrev S64 : Shape := ⟨1, ![64]⟩
abbrev S4x128x128 : Shape := ⟨3, ![4, 128, 128]⟩
abbrev S512 : Shape := ⟨1, ![512]⟩
abbrev S8x1024 : Shape := ⟨2, ![8, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2048 : Shape := ⟨3, ![8, 2048, 2048]⟩
abbrev S8x2048x512 : Shape := ⟨3, ![8, 2048, 512]⟩
abbrev S8x2048x8x64 : Shape := ⟨4, ![8, 2048, 8, 64]⟩
abbrev S8x2048x8 : Shape := ⟨3, ![8, 2048, 8]⟩
abbrev S8x2048x8x1 : Shape := ⟨4, ![8, 2048, 8, 1]⟩
abbrev S1x1x1x64 : Shape := ⟨4, ![1, 1, 1, 64]⟩
abbrev S8x15x512 : Shape := ⟨3, ![8, 15, 512]⟩
abbrev S8x2063x512 : Shape := ⟨3, ![8, 2063, 512]⟩
abbrev S8x2048x128 : Shape := ⟨3, ![8, 2048, 128]⟩
abbrev S2048 : Shape := ⟨1, ![2048]⟩
abbrev S1x2048x1 : Shape := ⟨3, ![1, 2048, 1]⟩
abbrev S1x128x128 : Shape := ⟨3, ![1, 128, 128]⟩
abbrev S128x128 : Shape := ⟨2, ![128, 128]⟩
abbrev S1x1x512 : Shape := ⟨3, ![1, 1, 512]⟩
abbrev S8x16x512 : Shape := ⟨3, ![8, 16, 512]⟩

abbrev nBuf : Space → Nat
  | .hbm => 221
  | .vmem => 0
  | .smem => 0
  | _ => 0

abbrev hbmTy0_0 (i : Nat) : BufTy := match i % 128 with
  | 0 => ⟨S8x2048x1024, .f32⟩
  | 1 => ⟨S8x6144, .f32⟩
  | 2 => ⟨S1024, .f32⟩
  | 3 => ⟨S1024x2048, .f32⟩
  | 4 => ⟨S64, .f32⟩
  | 5 => ⟨S64, .f32⟩
  | 6 => ⟨S4x128x128, .f32⟩
  | 7 => ⟨S512, .f32⟩
  | 8 => ⟨S8x1024, .f32⟩
  | 9 => ⟨S8x1x1024, .f32⟩
  | 10 => ⟨S8x1024, .f32⟩
  | 11 => ⟨S8x1x1024, .f32⟩
  | 12 => ⟨S8x2048x1024, .f32⟩
  | 13 => ⟨S_, .f32⟩
  | 14 => ⟨S8x2048, .f32⟩
  | 15 => ⟨S8x2048x1, .f32⟩
  | 16 => ⟨S_, .f32⟩
  | 17 => ⟨S8x2048x1, .f32⟩
  | 18 => ⟨S8x2048x1, .f32⟩
  | 19 => ⟨S_, .f32⟩
  | 20 => ⟨S8x2048x1, .f32⟩
  | 21 => ⟨S8x2048x1, .f32⟩
  | 22 => ⟨S8x2048x1, .f32⟩
  | 23 => ⟨S8x2048x1024, .f32⟩
  | 24 => ⟨S8x2048x1024, .f32⟩
  | 25 => ⟨S1x1x1024, .f32⟩
  | 26 => ⟨S8x2048x1024, .f32⟩
  | 27 => ⟨S8x2048x1024, .f32⟩
  | 28 => ⟨S_, .f32⟩
  | 29 => ⟨S8x1x1024, .f32⟩
  | 30 => ⟨S8x1x1024, .f32⟩
  | 31 => ⟨S8x2048x1024, .f32⟩
  | 32 => ⟨S8x2048x1024, .f32⟩
  | 33 => ⟨S8x2048x1024, .f32⟩
  | 34 => ⟨S8x2048x1024, .f32⟩
  | 35 => ⟨S8x2048x2048, .f32⟩
  | 36 => ⟨S8x2048x512, .f32⟩
  | 37 => ⟨S8x2048x512, .f32⟩
  | 38 => ⟨S8x2048x512, .f32⟩
  | 39 => ⟨S8x2048x512, .f32⟩
  | 40 => ⟨S8x2048x8x64, .f32⟩
  | 41 => ⟨S8x2048x8x64, .f32⟩
  | 42 => ⟨S_, .f32⟩
  | 43 => ⟨S8x2048x8, .f32⟩
  | 44 => ⟨S8x2048x8x1, .f32⟩
  | 45 => ⟨S_, .f32⟩
  | 46 => ⟨S8x2048x8x1, .f32⟩
  | 47 => ⟨S8x2048x8x1, .f32⟩
  | 48 => ⟨S_, .f32⟩
  | 49 => ⟨S8x2048x8x1, .f32⟩
  | 50 => ⟨S8x2048x8x1, .f32⟩
  | 51 => ⟨S8x2048x8x1, .f32⟩
  | 52 => ⟨S8x2048x8x64, .f32⟩
  | 53 => ⟨S8x2048x8x64, .f32⟩
  | 54 => ⟨S1x1x1x64, .f32⟩
  | 55 => ⟨S8x2048x8x64, .f32⟩
  | 56 => ⟨S8x2048x8x64, .f32⟩
  | 57 => ⟨S8x2048x512, .f32⟩
  | 58 => ⟨S8x2048x8x64, .f32⟩
  | 59 => ⟨S8x2048x8x64, .f32⟩
  | 60 => ⟨S_, .f32⟩
  | 61 => ⟨S8x2048x8, .f32⟩
  | 62 => ⟨S8x2048x8x1, .f32⟩
  | 63 => ⟨S_, .f32⟩
  | 64 => ⟨S8x2048x8x1, .f32⟩
  | 65 => ⟨S8x2048x8x1, .f32⟩
  | 66 => ⟨S_, .f32⟩
  | 67 => ⟨S8x2048x8x1, .f32⟩
  | 68 => ⟨S8x2048x8x1, .f32⟩
  | 69 => ⟨S8x2048x8x1, .f32⟩
  | 70 => ⟨S8x2048x8x64, .f32⟩
  | 71 => ⟨S8x2048x8x64, .f32⟩
  | 72 => ⟨S1x1x1x64, .f32⟩
  | 73 => ⟨S8x2048x8x64, .f32⟩
  | 74 => ⟨S8x2048x8x64, .f32⟩
  | 75 => ⟨S8x2048x512, .f32⟩
  | 76 => ⟨S_, .f32⟩
  | 77 => ⟨S8x15x512, .f32⟩
  | 78 => ⟨S8x2063x512, .f32⟩
  | 79 => ⟨S8x2048x128, .f32⟩
  | 80 => ⟨S_, .f32⟩
  | 81 => ⟨S8x2048x128, .f32⟩
  | 82 => ⟨S8x2048x128, .f32⟩
  | 83 => ⟨S8x2048x128, .f32⟩
  | 84 => ⟨S8x2048x128, .f32⟩
  | 85 => ⟨S2048, .i32⟩
  | 86 => ⟨S_, .i32⟩
  | 87 => ⟨S2048, .i32⟩
  | 88 => ⟨S2048, .i32⟩
  | 89 => ⟨S_, .i32⟩
  | 90 => ⟨S2048, .i32⟩
  | 91 => ⟨S2048, .i32⟩
  | 92 => ⟨S2048, .f32⟩
  | 93 => ⟨S1x2048x1, .f32⟩
  | 94 => ⟨S8x2048x128, .f32⟩
  | 95 => ⟨S8x2048x128, .f32⟩
  | 96 => ⟨S8x2048x128, .f32⟩
  | 97 => ⟨S8x2048x128, .f32⟩
  | 98 => ⟨S1x128x128, .f32⟩
  | 99 => ⟨S128x128, .f32⟩
  | 100 => ⟨S8x2048x128, .f32⟩
  | 101 => ⟨S8x2048x128, .f32⟩
  | 102 => ⟨S_, .f32⟩
  | 103 => ⟨S8x2048x128, .f32⟩
  | 104 => ⟨S8x2048x128, .f32⟩
  | 105 => ⟨S8x2048x128, .f32⟩
  | 106 => ⟨S8x2048x128, .f32⟩
  | 107 => ⟨S8x2048x128, .f32⟩
  | 108 => ⟨S8x2048x128, .f32⟩
  | 109 => ⟨S8x2048x128, .f32⟩
  | 110 => ⟨S8x2048x128, .f32⟩
  | 111 => ⟨S2048, .i32⟩
  | 112 => ⟨S_, .i32⟩
  | 113 => ⟨S2048, .i32⟩
  | 114 => ⟨S2048, .i32⟩
  | 115 => ⟨S_, .i32⟩
  | 116 => ⟨S2048, .i32⟩
  | 117 => ⟨S2048, .i32⟩
  | 118 => ⟨S2048, .f32⟩
  | 119 => ⟨S1x2048x1, .f32⟩
  | 120 => ⟨S8x2048x128, .f32⟩
  | 121 => ⟨S8x2048x128, .f32⟩
  | 122 => ⟨S8x2048x128, .f32⟩
  | 123 => ⟨S8x2048x128, .f32⟩
  | 124 => ⟨S1x128x128, .f32⟩
  | 125 => ⟨S128x128, .f32⟩
  | 126 => ⟨S8x2048x128, .f32⟩
  | 127 => ⟨S8x2048x128, .f32⟩
  | _ => ⟨S8x2048x1024, .f32⟩

abbrev hbmTy0_1 (i : Nat) : BufTy := match i % 128 with
  | 0 => ⟨S_, .f32⟩
  | 1 => ⟨S8x2048x128, .f32⟩
  | 2 => ⟨S8x2048x128, .f32⟩
  | 3 => ⟨S8x2048x128, .f32⟩
  | 4 => ⟨S8x2048x128, .f32⟩
  | 5 => ⟨S8x2048x128, .f32⟩
  | 6 => ⟨S8x2048x128, .f32⟩
  | 7 => ⟨S8x2048x128, .f32⟩
  | 8 => ⟨S8x2048x128, .f32⟩
  | 9 => ⟨S8x2048x128, .f32⟩
  | 10 => ⟨S8x2048x128, .f32⟩
  | 11 => ⟨S8x2048x128, .f32⟩
  | 12 => ⟨S8x2048x128, .f32⟩
  | 13 => ⟨S8x2048x128, .f32⟩
  | 14 => ⟨S8x2048x128, .f32⟩
  | 15 => ⟨S8x2048x128, .f32⟩
  | 16 => ⟨S8x2048x128, .f32⟩
  | 17 => ⟨S2048, .i32⟩
  | 18 => ⟨S_, .i32⟩
  | 19 => ⟨S2048, .i32⟩
  | 20 => ⟨S2048, .i32⟩
  | 21 => ⟨S_, .i32⟩
  | 22 => ⟨S2048, .i32⟩
  | 23 => ⟨S2048, .i32⟩
  | 24 => ⟨S2048, .f32⟩
  | 25 => ⟨S1x2048x1, .f32⟩
  | 26 => ⟨S8x2048x128, .f32⟩
  | 27 => ⟨S8x2048x128, .f32⟩
  | 28 => ⟨S8x2048x128, .f32⟩
  | 29 => ⟨S8x2048x128, .f32⟩
  | 30 => ⟨S1x128x128, .f32⟩
  | 31 => ⟨S128x128, .f32⟩
  | 32 => ⟨S8x2048x128, .f32⟩
  | 33 => ⟨S8x2048x128, .f32⟩
  | 34 => ⟨S_, .f32⟩
  | 35 => ⟨S8x2048x128, .f32⟩
  | 36 => ⟨S8x2048x128, .f32⟩
  | 37 => ⟨S8x2048x128, .f32⟩
  | 38 => ⟨S8x2048x128, .f32⟩
  | 39 => ⟨S8x2048x128, .f32⟩
  | 40 => ⟨S8x2048x128, .f32⟩
  | 41 => ⟨S8x2048x128, .f32⟩
  | 42 => ⟨S8x2048x128, .f32⟩
  | 43 => ⟨S8x2048x128, .f32⟩
  | 44 => ⟨S8x2048x128, .f32⟩
  | 45 => ⟨S8x2048x128, .f32⟩
  | 46 => ⟨S8x2048x128, .f32⟩
  | 47 => ⟨S8x2048x128, .f32⟩
  | 48 => ⟨S8x2048x128, .f32⟩
  | 49 => ⟨S8x2048x128, .f32⟩
  | 50 => ⟨S8x2048x128, .f32⟩
  | 51 => ⟨S8x2048x128, .f32⟩
  | 52 => ⟨S8x2048x128, .f32⟩
  | 53 => ⟨S8x2048x128, .f32⟩
  | 54 => ⟨S8x2048x128, .f32⟩
  | 55 => ⟨S8x2048x128, .f32⟩
  | 56 => ⟨S8x2048x128, .f32⟩
  | 57 => ⟨S8x2048x128, .f32⟩
  | 58 => ⟨S8x2048x128, .f32⟩
  | 59 => ⟨S8x2048x128, .f32⟩
  | 60 => ⟨S8x2048x128, .f32⟩
  | 61 => ⟨S8x2048x128, .f32⟩
  | 62 => ⟨S8x2048x128, .f32⟩
  | 63 => ⟨S8x2048x128, .f32⟩
  | 64 => ⟨S8x2048x128, .f32⟩
  | 65 => ⟨S8x2048x128, .f32⟩
  | 66 => ⟨S8x2048x128, .f32⟩
  | 67 => ⟨S2048, .i32⟩
  | 68 => ⟨S_, .i32⟩
  | 69 => ⟨S2048, .i32⟩
  | 70 => ⟨S2048, .i32⟩
  | 71 => ⟨S_, .i32⟩
  | 72 => ⟨S2048, .i32⟩
  | 73 => ⟨S2048, .i32⟩
  | 74 => ⟨S2048, .f32⟩
  | 75 => ⟨S1x2048x1, .f32⟩
  | 76 => ⟨S8x2048x128, .f32⟩
  | 77 => ⟨S8x2048x128, .f32⟩
  | 78 => ⟨S8x2048x128, .f32⟩
  | 79 => ⟨S8x2048x128, .f32⟩
  | 80 => ⟨S1x128x128, .f32⟩
  | 81 => ⟨S128x128, .f32⟩
  | 82 => ⟨S8x2048x128, .f32⟩
  | 83 => ⟨S8x2048x512, .f32⟩
  | 84 => ⟨S1x1x512, .f32⟩
  | 85 => ⟨S8x2048x512, .f32⟩
  | 86 => ⟨S8x2048x512, .f32⟩
  | 87 => ⟨S8x2048x512, .bf16⟩
  | 88 => ⟨S_, .f32⟩
  | 89 => ⟨S8x2048x512, .f32⟩
  | 90 => ⟨S8x2048x512, .f32⟩
  | 91 => ⟨S8x2048x512, .bf16⟩
  | 92 => ⟨S8x16x512, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_cst_8 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_9 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_10 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_c : Ref sig .tc := ⟨.hbm, 86, rfl⟩
abbrev main_v66 : Ref sig .tc := ⟨.hbm, 87, rfl⟩
abbrev main_v67 : Ref sig .tc := ⟨.hbm, 88, rfl⟩
abbrev main_c_11 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_12 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_c_13 : Ref sig .tc := ⟨.hbm, 112, rfl⟩
abbrev main_v89 : Ref sig .tc := ⟨.hbm, 113, rfl⟩
abbrev main_v90 : Ref sig .tc := ⟨.hbm, 114, rfl⟩
abbrev main_c_14 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_cst_15 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_c_16 : Ref sig .tc := ⟨.hbm, 146, rfl⟩
abbrev main_v120 : Ref sig .tc := ⟨.hbm, 147, rfl⟩
abbrev main_v121 : Ref sig .tc := ⟨.hbm, 148, rfl⟩
abbrev main_c_17 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_cst_18 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_c_19 : Ref sig .tc := ⟨.hbm, 196, rfl⟩
abbrev main_v167 : Ref sig .tc := ⟨.hbm, 197, rfl⟩
abbrev main_v168 : Ref sig .tc := ⟨.hbm, 198, rfl⟩
abbrev main_c_20 : Ref sig .tc := ⟨.hbm, 199, rfl⟩
abbrev main_v169 : Ref sig .tc := ⟨.hbm, 200, rfl⟩
abbrev main_v170 : Ref sig .tc := ⟨.hbm, 201, rfl⟩
abbrev main_v171 : Ref sig .tc := ⟨.hbm, 202, rfl⟩
abbrev main_v172 : Ref sig .tc := ⟨.hbm, 203, rfl⟩
abbrev main_v173 : Ref sig .tc := ⟨.hbm, 204, rfl⟩
abbrev main_v174 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩
abbrev main_v183 : Ref sig .tc := ⟨.hbm, 214, rfl⟩
abbrev main_v184 : Ref sig .tc := ⟨.hbm, 215, rfl⟩
abbrev main_cst_21 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩

abbrev nD : Nat := 1
abbrev τ : Topo := Topo.v7x

variable {F : FTy → Type} [FloatOps F]
-- ==== Experts.lean ====
abbrev S97 : Shape := ⟨1, ![97]⟩
abbrev S1 : Shape := ⟨1, ![1]⟩
abbrev S49664x1024 : Shape := ⟨2, ![49664, 1024]⟩
abbrev S32x1024x512 : Shape := ⟨3, ![32, 1024, 512]⟩
abbrev S32x512x1024 : Shape := ⟨3, ![32, 512, 1024]⟩
abbrev S512x1024 : Shape := ⟨2, ![512, 1024]⟩
abbrev S1x1024x512 : Shape := ⟨3, ![1, 1024, 512]⟩
abbrev S1x512x1024 : Shape := ⟨3, ![1, 512, 1024]⟩
abbrev S1024x512 : Shape := ⟨2, ![1024, 512]⟩
abbrev S512x512 : Shape := ⟨2, ![512, 512]⟩

abbrev nBuf : Space → Nat
  | .hbm => 5
  | .vmem => 13
  | .smem => 2
  | _ => 0

abbrev bufTy : (tb : Table) → Fin (tcTables nBuf tb) → BufTy
  | .hbm, ⟨0, _⟩ => ⟨S49664x1024, .f32⟩
  | .hbm, ⟨1, _⟩ => ⟨S32x1024x512, .f32⟩
  | .hbm, ⟨2, _⟩ => ⟨S32x1024x512, .f32⟩
  | .hbm, ⟨3, _⟩ => ⟨S32x512x1024, .f32⟩
  | .hbm, ⟨4, _⟩ => ⟨S49664x1024, .f32⟩
  | .local _ .vmem, ⟨0, _⟩ => ⟨S512x1024, .f32⟩
  | .local _ .vmem, ⟨1, _⟩ => ⟨S512x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S512x1024, .f32⟩
  | .local _ .vmem, ⟨9, _⟩ => ⟨S512x1024, .f32⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S97, .i32⟩
  | .local _ .smem, ⟨1, _⟩ => ⟨S1, .i32⟩
  | _, _ => ⟨S49664x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![97], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S97.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S97) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S97.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S97) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S97.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S97) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsReferenceIdeal.lean ====
abbrev S97 : Shape := ⟨1, ![97]⟩
abbrev S1 : Shape := ⟨1, ![1]⟩
abbrev S49664x1024 : Shape := ⟨2, ![49664, 1024]⟩
abbrev S32x1024x512 : Shape := ⟨3, ![32, 1024, 512]⟩
abbrev S32x512x1024 : Shape := ⟨3, ![32, 512, 1024]⟩
abbrev S97x512x1024 : Shape := ⟨3, ![97, 512, 1024]⟩
abbrev S_ : Shape := ⟨0, ![]⟩
abbrev S97x1 : Shape := ⟨2, ![97, 1]⟩
abbrev S97x1024x512 : Shape := ⟨3, ![97, 1024, 512]⟩
abbrev S97x512x512 : Shape := ⟨3, ![97, 512, 512]⟩
abbrev S97x1x1 : Shape := ⟨3, ![97, 1, 1]⟩

abbrev nBuf : Space → Nat
  | .hbm => 58
  | .vmem => 0
  | .smem => 0
  | _ => 0

abbrev bufTy : (tb : Table) → Fin (tcTables nBuf tb) → BufTy
  | .hbm, ⟨0, _⟩ => ⟨S97, .i32⟩
  | .hbm, ⟨1, _⟩ => ⟨S1, .i32⟩
  | .hbm, ⟨2, _⟩ => ⟨S49664x1024, .f32⟩
  | .hbm, ⟨3, _⟩ => ⟨S32x1024x512, .f32⟩
  | .hbm, ⟨4, _⟩ => ⟨S32x1024x512, .f32⟩
  | .hbm, ⟨5, _⟩ => ⟨S32x512x1024, .f32⟩
  | .hbm, ⟨6, _⟩ => ⟨S97x512x1024, .f32⟩
  | .hbm, ⟨7, _⟩ => ⟨S_, .i32⟩
  | .hbm, ⟨8, _⟩ => ⟨S97, .i32⟩
  | .hbm, ⟨9, _⟩ => ⟨S97, .i1⟩
  | .hbm, ⟨10, _⟩ => ⟨S_, .i32⟩
  | .hbm, ⟨11, _⟩ => ⟨S97, .i32⟩
  | .hbm, ⟨12, _⟩ => ⟨S97, .i32⟩
  | .hbm, ⟨13, _⟩ => ⟨S97, .i32⟩
  | .hbm, ⟨14, _⟩ => ⟨S97x1, .i32⟩
  | .hbm, ⟨15, _⟩ => ⟨S97x1024x512, .f32⟩
  | .hbm, ⟨16, _⟩ => ⟨S97x512x512, .f32⟩
  | .hbm, ⟨17, _⟩ => ⟨S_, .i32⟩
  | .hbm, ⟨18, _⟩ => ⟨S97, .i32⟩
  | .hbm, ⟨19, _⟩ => ⟨S97, .i1⟩
  | .hbm, ⟨20, _⟩ => ⟨S_, .i32⟩
  | .hbm, ⟨21, _⟩ => ⟨S97, .i32⟩
  | .hbm, ⟨22, _⟩ => ⟨S97, .i32⟩
  | .hbm, ⟨23, _⟩ => ⟨S97, .i32⟩
  | .hbm, ⟨24, _⟩ => ⟨S97x1, .i32⟩
  | .hbm, ⟨25, _⟩ => ⟨S97x1024x512, .f32⟩
  | .hbm, ⟨26, _⟩ => ⟨S97x512x512, .f32⟩
  | .hbm, ⟨27, _⟩ => ⟨S97x512x512, .f32⟩
  | .hbm, ⟨28, _⟩ => ⟨S97x512x512, .f32⟩
  | .hbm, ⟨29, _⟩ => ⟨S_, .f32⟩
  | .hbm, ⟨30, _⟩ => ⟨S97x512x512, .f32⟩
  | .hbm, ⟨31, _⟩ => ⟨S97x512x512, .f32⟩
  | .hbm, ⟨32, _⟩ => ⟨S_, .f32⟩
  | .hbm, ⟨33, _⟩ => ⟨S97x512x512, .f32⟩
  | .hbm, ⟨34, _⟩ => ⟨S97x512x512, .f32⟩
  | .hbm, ⟨35, _⟩ => ⟨S97x512x512, .f32⟩
  | .hbm, ⟨36, _⟩ => ⟨S97x512x512, .f32⟩
  | .hbm, ⟨37, _⟩ => ⟨S_, .i32⟩
  | .hbm, ⟨38, _⟩ => ⟨S97, .i32⟩
  | .hbm, ⟨39, _⟩ => ⟨S97, .i1⟩
  | .hbm, ⟨40, _⟩ => ⟨S_, .i32⟩
  | .hbm, ⟨41, _⟩ => ⟨S97, .i32⟩
  | .hbm, ⟨42, _⟩ => ⟨S97, .i32⟩
  | .hbm, ⟨43, _⟩ => ⟨S97, .i32⟩
  | .hbm, ⟨44, _⟩ => ⟨S97x1, .i32⟩
  | .hbm, ⟨45, _⟩ => ⟨S97x512x1024, .f32⟩
  | .hbm, ⟨46, _⟩ => ⟨S97x512x1024, .f32⟩
  | .hbm, ⟨47, _⟩ => ⟨S97, .i32⟩
  | .hbm, ⟨48, _⟩ => ⟨S_, .i32⟩
  | .hbm, ⟨49, _⟩ => ⟨S97, .i32⟩
  | .hbm, ⟨50, _⟩ => ⟨S97, .i1⟩
  | .hbm, ⟨51, _⟩ => ⟨S97x1x1, .i1⟩
  | .hbm, ⟨52, _⟩ => ⟨S_, .f32⟩
  | .hbm, ⟨53, _⟩ => ⟨S_, .f32⟩
  | .hbm, ⟨54, _⟩ => ⟨S97x512x1024, .i1⟩
  | .hbm, ⟨55, _⟩ => ⟨S97x512x1024, .f32⟩
  | .hbm, ⟨56, _⟩ => ⟨S97x512x1024, .f32⟩
  | .hbm, ⟨57, _⟩ => ⟨S49664x1024, .f32⟩
  | _, _ => ⟨S97, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v32 : Ref sig .tc := ⟨.hbm, 56, rfl⟩
abbrev main_v33 : Ref sig .tc := ⟨.hbm, 57, rfl⟩

abbrev nD : Nat := 1
abbrev τ : Topo := Topo.v7x

variable {F : FTy → Type} [FloatOps F]
-- ==== Proof.Moba.KernelScratch.lean ====
module

public import proofs.«01_k».proof.Proof.Gen.KernelIdeal.Value
public import Idealize.ShloMosaic.Lib.Pipeline.Value
public import Idealize.ShloMosaic.Lib.Tactic
public import Idealize.ShloMosaic.Lib.Pointwise

@[expose] public section

set_option maxRecDepth 16384

noncomputable section

open Idealize.ShloMosaic Idealize.ShloMosaic.TcCoe Idealize.SL.Sem
open Cert.KernelIdeal Cert.KernelIdeal.Gen Cert.KernelIdeal.Gen.kernelRun0_A.sl

namespace Cert.Moba

/-- Lanes below 64, as the kernel's comparison reads them. -/
theorem lane_lt : ∀ l : Fin 128, IntOp.cmpi .slt (BitVec.ofNat 32 l.val) 64#32 = BitVec.ofBool (decide (l.val < 64)) := by
  decide +kernel

/-- Lanes from 64 on. -/
theorem lane_ge : ∀ l : Fin 128, IntOp.cmpi .sge (BitVec.ofNat 32 l.val) 64#32 = BitVec.ofBool (decide (64 ≤ l.val)) := by
  decide +kernel

/-- Two choices by equivalent conditions, however each is decided. -/
theorem ite_of_iff {α : Type} {p q : Prop} [Decidable p] [Decidable q] (h : p ↔ q) (x y : α) :
    (if p then x else y) = if q then x else y := by
  by_cases hp : p
  · rw [if_pos hp, if_pos (h.mp hp)]
  · rw [if_neg hp, if_neg (fun hq => hp (h.mpr hq))]

/-- A window of one row stored last: that row reads it. -/
theorem canon_row_self (k : ℕ) (inb : ∀ a, (![k, 0] : Fin 2 → ℕ) a + S1x128.size a ≤ S128x128.size a)
    (w : Vec Ideal S1x128 .f32) (L : List (View.Piece (Elt Ideal) S128x128 .f32)) (r l : Fin 128) (h : r.val = k) :
    View.canon ((⟨Rect.unit (s := S128x128) ![k, 0] S1x128.size inb, w⟩ : View.Piece (Elt Ideal) S128x128 .f32) :: L) (ix2 r l)
      = w (ix2 0 l) := by
  have he : (Rect.unit (s := S128x128) ![k, 0] S1x128.size inb).emb (ix2 (0 : Fin 1) l) = ix2 r l := by
    funext x; apply Fin.ext
    fin_cases x
    · show k + 1 * 0 = r.val; omega
    · show 0 + 1 * l.val = l.val; omega
  rw [← he]
  exact View.canon_cons_emb (Rect.unit (s := S128x128) ![k, 0] S1x128.size inb) w L (ix2 (0 : Fin 1) l)

/-- The other rows read the earlier stores. -/
theorem canon_row_ne (k : ℕ) (inb : ∀ a, (![k, 0] : Fin 2 → ℕ) a + S1x128.size a ≤ S128x128.size a)
    (w : Vec Ideal S1x128 .f32) (L : List (View.Piece (Elt Ideal) S128x128 .f32)) (r l : Fin 128) (h : r.val ≠ k) :
    View.canon ((⟨Rect.unit (s := S128x128) ![k, 0] S1x128.size inb, w⟩ : View.Piece (Elt Ideal) S128x128 .f32) :: L) (ix2 r l)
      = View.canon L (ix2 r l) := by
  refine View.canon_cons_of_not_mem _ L ?_
  intro hm
  obtain ⟨i, hi, he⟩ := (LoadRect.mem_set _).mp hm (0 : Fin 2)
  have hi1 : i < 1 := hi
  have he' : r.val = k + 1 * i := he
  omega

variable (c : Dev nD) (i : grid0.Coords) (arg2 : Memref sig .tc .smem S8 .f32) (harg2 : arg2.IsWhole)
  (arg3 : Memref sig .tc .vmem S1x2048x128 .bf16) (harg3 : arg3.IsWhole)
  (arg4 : Memref sig .tc .vmem S1x2048x128 .f32) (harg4 : arg4.IsWhole)
  (arg5 : Memref sig .tc .vmem S1x2048x128 .f32) (harg5 : arg5.IsWhole)
  (x0 : Vec Ideal S8 .f32) (x1 : Vec Ideal S1x2048x128 .bf16) (x2 : Vec Ideal S1x2048x128 .f32) (x3 : Vec Ideal S1x2048x128 .f32)
  (arg10 : Memref sig .tc .vmem S128x128 .f32)

theorem v8_apply (j : Fin 2048) (l : Fin 128) : v8 c arg4 harg4 x2 (ix2 j l) = x2 (ix3 0 j l) := by
  unfold v8
  simp only [View.readAt_eq_ld, harg4.read_unread]
  pointwise

theorem v159_apply : ∀ j : Fin 2048, v159 (ix2 j 0) = BitVec.ofNat 32 (j.val / 256) := by
  decide +kernel

/-- The mean of key block `n` in lane `l`. -/
def blockMean (n : Fin 8) (l : Fin 128) : EReal :=
  (∑ s : Fin 256, x2 (ix3 0 ⟨256 * n.val + s.val, by omega⟩ l)) * Ideal.ofBits .f32 998244352#32

/-- The rows of key means: the first head's means in the low lanes of rows 0 to 7, the second head's in the high
lanes of rows 8 to 15. -/
def meanRow (r : Fin 16) (l : Fin 128) : EReal :=
  if h : r.val < 8 then (if l.val < 64 then blockMean x2 ⟨r.val, h⟩ l else 0)
  else (if l.val < 64 then 0 else blockMean x2 ⟨r.val - 8, by omega⟩ l)

/-- What the scratch of key means holds in its first sixteen rows. -/
theorem v286_apply (r : Fin 16) (l : Fin 128) :
    v286 c arg4 harg4 arg10 x2 (ix2 ⟨r.val, by omega⟩ l) = meanRow x2 r l := by
  unfold v286
  rw [View.readCov_eq_canon']
  have hix : ((Rect.unit (s := S128x128) ![0, 0] S128x128.size (by decide)).toLoadRect).idx (ix2 (⟨r.val, by omega⟩ : Fin 128) l) = ix2 ⟨r.val, by omega⟩ l := by
    funext x; apply Fin.ext
    fin_cases x
    · show 0 + 1 * r.val = r.val; omega
    · show 0 + 1 * l.val = l.val; omega
  refine (congrArg _ hix).trans ?_
  unfold HS3_17 HS3_16 HS3_15 HS3_14 HS3_13 HS3_12 HS3_11 HS3_10 HS3_9 HS3_8 HS3_7 HS3_6 HS3_5 HS3_4 HS3_3 HS3_2
  fin_cases r
  all_goals
    repeat refine (canon_row_ne _ _ _ _ _ l (by decide)).trans ?_
    refine (canon_row_self _ _ _ _ _ l (by decide)).trans ?_
    simp only [v24, v29, v39, v44, v54, v59, v69, v74, v84, v89, v99, v104, v114, v119, v129, v134]
    sl_unfold_words
    simp only [View.readAt_eq_ld, harg4.read_unread]
    pointwise
    rw [lane_lt, WordCmp.select_decide]
    rfl

/-- The value scratch of head 1, and of head 0: the values in the head's lanes, one elsewhere. -/
theorem v283_apply (j : Fin 2048) (l : Fin 128) :
    v283 c arg5 harg5 x3 (ix3 0 j l) = if 64 ≤ l.val then x3 (ix3 0 j l) else 1 := by
  unfold v283; sl_unfold_words
  simp only [View.readAt_eq_ld, harg5.read_unread]
  pointwise
  rw [lane_ge, WordCmp.select_decide]

theorem v221_apply (j : Fin 2048) (l : Fin 128) :
    v221 c arg5 harg5 x3 (ix3 0 j l) = if l.val < 64 then x3 (ix3 0 j l) else 1 := by
  unfold v221; sl_unfold_words
  simp only [View.readAt_eq_ld, harg5.read_unread]
  pointwise
  rw [lane_lt, WordCmp.select_decide]

theorem v285_apply (j : Fin 2048) (l : Fin 128) :
    v285 c arg3 harg3 x1 (ix2 j l) = x1 (ix3 0 j l) := by
  unfold v285; sl_unfold_words
  simp only [View.readAt_eq_ld, harg3.read_unread]
  pointwise

/-- The gate scores: each row of means against each query. -/
def gateRow (r : Fin 16) (j : Fin 2048) : EReal := ∑ l : Fin 128, meanRow x2 r l * x1 (ix3 0 j l)

theorem v289_apply (r : Fin 16) (j : Fin 2048) :
    v289 c arg3 harg3 arg4 harg4 arg10 x1 x2 (ix2 r j) = gateRow x1 x2 r j := by
  unfold v289 v288 v287 cst_97
  pointwise
  simp only [v286_apply, v285_apply]
  rfl

/-- The first head's query scratch in the lanes, before the mask is read. -/
theorem pay71_apply (v : FVec Ideal S2048x128 .bf16) (w : FVec Ideal S2048x128 .f32) (j : Fin 2048) (l : Fin 128) :
    k0_pay71 (cmpi .slt v0 v1) (subi v0 v1) v w (ix3 0 j l)
      = if l.val < 64 then v (ix2 j l) else if l.val - 64 < 3 then 1
        else if l.val - 64 < 11 then k0_pay69 w (ix2 j ⟨(l.val + 128 - 67) % 128, Nat.mod_lt _ (by decide)⟩) else 0 := by
  have h1 : ∀ l : Fin 128, 64 ≤ l.val → IntOp.cmpi .slt (IntOp.subi (BitVec.ofNat 32 l.val) 64#32) 3#32 = BitVec.ofBool (decide (l.val - 64 < 3)) := by
    decide +kernel
  have h2 : ∀ l : Fin 128, 64 ≤ l.val → IntOp.cmpi .slt (IntOp.subi (BitVec.ofNat 32 l.val) 64#32) 11#32 = BitVec.ofBool (decide (l.val - 64 < 11)) := by
    decide +kernel
  unfold v0 v1
  pointwise [k0_pay71, k0_pay70]
  rw [lane_lt, WordCmp.select_decide]
  split
  · rfl
  · rw [h1 l (by omega), h2 l (by omega), WordCmp.select_decide, WordCmp.select_decide]

/-- The second head's. -/
theorem pay73_apply (v : FVec Ideal S2048x128 .bf16) (w : FVec Ideal S2048x128 .f32) (j : Fin 2048) (l : Fin 128) :
    k0_pay73 (k0_pay72 v0 (cmpi .sge v0 v1) v w) (ix3 0 j l)
      = if 64 ≤ l.val then v (ix2 j l) else if l.val < 3 then 1
        else if l.val < 11 then k0_pay69 w (ix2 j ⟨(l.val + 128 - 123) % 128, Nat.mod_lt _ (by decide)⟩) else 0 := by
  have h1 : ∀ l : Fin 128, IntOp.cmpi .slt (BitVec.ofNat 32 l.val) 3#32 = BitVec.ofBool (decide (l.val < 3)) := by
    decide +kernel
  have h2 : ∀ l : Fin 128, IntOp.cmpi .slt (BitVec.ofNat 32 l.val) 11#32 = BitVec.ofBool (decide (l.val < 11)) := by
    decide +kernel
  unfold v0 v1
  pointwise [k0_pay73, k0_pay72, k0_pay70]
  rw [lane_ge, WordCmp.select_decide, h1, h2, WordCmp.select_decide, WordCmp.select_decide]

/-- The mask lane: nothing where the block is kept, the mask constant elsewhere. -/
theorem pay69_apply (w : FVec Ideal S2048x128 .f32) (j : Fin 2048) (l : Fin 128) :
    k0_pay69 w (ix2 j l) = if Ideal.ofBits .f32 1056964608#32 < w (ix2 j l) then (0 : EReal) else ⊥ := by
  pointwise [k0_pay69]
  have hm := IdealRules.named_const.ideal_named_scalar (φ := .f32) κ "mask" 0xF149F2CA#32 ⊥ rfl
  rw [hm]

theorem v290_apply (r : Fin 16) (j : Fin 2048) : v290 (ix2 r j) = BitVec.ofNat 32 r.val := by
  unfold v290
  pointwise

theorem v306_apply (r : Fin 16) (j : Fin 2048) : v306 (ix2 r j) = BitVec.ofNat 32 (r.val % 8) := by
  sl_unfold_words
  pointwise
  revert r
  decide +kernel

theorem v331_apply (r : Fin 16) (j : Fin 2048) : v331 (ix2 r j) = BitVec.ofNat 32 (j.val / 256) := by
  sl_unfold_words
  pointwise
  revert j
  decide +kernel

/-- The gate row of block `m` in the head of row `r`. -/
def rowOf (r : Fin 16) (m : Fin 8) : Fin 16 := ⟨8 * (r.val / 8) + m.val, by omega⟩

/-- Block `m` stands before the block of row `r` in query `j`'s order: a larger score, or the same and earlier; only
blocks wholly in the past count. -/
def before (r : Fin 16) (j : Fin 2048) (m : Fin 8) : Prop :=
  (gateRow x1 x2 r j < gateRow x1 x2 (rowOf r m) j ∨ gateRow x1 x2 (rowOf r m) j = gateRow x1 x2 r j ∧ m.val < r.val % 8)
    ∧ m.val < j.val / 256

open Classical in
/-- The word the kernel adds for block `m`. -/
def beatWord (r : Fin 16) (j : Fin 2048) (m : Fin 8) : BitVec 32 := if before x1 x2 r j m then 1#32 else 0#32

theorem beat_step (r : Fin 16) (j : Fin 2048) (m : Fin 8) (w : BitVec 32) (hw : w = BitVec.ofNat 32 m.val) :
    Scalar.select
        (IntOp.andi
          (IntOp.ori
            (BitVec.ofBool (decide (gateRow x1 x2 r j <
              Scalar.select (IntOp.cmpi .slt (BitVec.ofNat 32 r.val) 8#32) (gateRow x1 x2 ⟨m.val, by omega⟩ j) (gateRow x1 x2 ⟨m.val + 8, by omega⟩ j))))
            (IntOp.andi
              (BitVec.ofBool (decide (Scalar.select (IntOp.cmpi .slt (BitVec.ofNat 32 r.val) 8#32) (gateRow x1 x2 ⟨m.val, by omega⟩ j) (gateRow x1 x2 ⟨m.val + 8, by omega⟩ j)
                = gateRow x1 x2 r j)))
              (IntOp.cmpi .sgt (BitVec.ofNat 32 (r.val % 8)) w)))
          (IntOp.cmpi .sgt (BitVec.ofNat 32 (j.val / 256)) w))
        1#32 0#32 = beatWord x1 x2 r j m := by
  subst hw
  have h1 : ∀ r : Fin 16, IntOp.cmpi .slt (BitVec.ofNat 32 r.val) 8#32 = BitVec.ofBool (decide (r.val < 8)) := by decide +kernel
  have h2 : ∀ a m : Fin 8, IntOp.cmpi .sgt (BitVec.ofNat 32 a.val) (BitVec.ofNat 32 m.val) = BitVec.ofBool (decide (m.val < a.val)) := by decide +kernel
  have hg : Scalar.select (IntOp.cmpi .slt (BitVec.ofNat 32 r.val) 8#32) (gateRow x1 x2 ⟨m.val, by omega⟩ j) (gateRow x1 x2 ⟨m.val + 8, by omega⟩ j)
      = gateRow x1 x2 (rowOf r m) j := by
    rw [h1, WordCmp.select_decide]
    split
    · congr 1; apply Fin.ext; show m.val = 8 * (r.val / 8) + m.val; omega
    · congr 1; apply Fin.ext; show m.val + 8 = 8 * (r.val / 8) + m.val; omega
  have hr := h2 ⟨r.val % 8, by omega⟩ m
  have hj := h2 ⟨j.val / 256, by omega⟩ m
  simp only at hr hj
  rw [hg, hr, hj]
  unfold beatWord before
  have key : ∀ b1 b2 b3 b4 : Bool, Scalar.select (IntOp.andi (IntOp.ori (BitVec.ofBool b1) (IntOp.andi (BitVec.ofBool b2) (BitVec.ofBool b3)))
      (BitVec.ofBool b4)) 1#32 0#32 = if ((b1 = true ∨ b2 = true ∧ b3 = true) ∧ b4 = true) then 1#32 else 0#32 := by decide
  rw [key]
  refine @ite_of_iff _ _ _ (_) (_) ?_ _ _
  simp only [decide_eq_true_eq]

set_option maxHeartbeats 4000000 in
/-- The count of blocks before a row's, as the word the kernel adds up. -/
theorem v508_apply (r : Fin 16) (j : Fin 2048) : v508 c arg3 harg3 arg4 harg4 arg10 x1 x2 (ix2 r j) =
    0#32 + beatWord x1 x2 r j 0 + beatWord x1 x2 r j 1 + beatWord x1 x2 r j 2 + beatWord x1 x2 r j 3 + beatWord x1 x2 r j 4
      + beatWord x1 x2 r j 5 + beatWord x1 x2 r j 6 + beatWord x1 x2 r j 7 := by
  simp only [v293, v295, v322, v335, v336, v337, v338, v339, v340, v341, v342, v343, v346, v347, v350, v353, v354, v357, v358, v359, v360, v361, v362, v363, v364, v365, v368, v369, v372, v375, v376, v379, v380, v381, v382, v383, v384, v385, v386, v387, v388, v390, v391, v394, v397, v398, v401, v402, v403, v404, v405, v406, v407, v408, v409, v410, v412, v413, v416, v419, v420, v423, v424, v425, v426, v427, v428, v429, v430, v431, v432, v434, v435, v438, v441, v442, v445, v446, v447, v448, v449, v450, v451, v452, v453, v454, v456, v457, v460, v463, v464, v467, v468, v469, v470, v471, v472, v473, v474, v475, v476, v478, v479, v482, v485, v486, v489, v490, v491, v492, v493, v494, v495, v496, v497, v498, v500, v501, v504, v507, v508]
  pointwise
  simp only [v290_apply, v306_apply, v331_apply, v289_apply]
  rw [← beat_step x1 x2 r j 0 0#32 rfl, ← beat_step x1 x2 r j 1 1#32 rfl, ← beat_step x1 x2 r j 2 2#32 rfl,
    ← beat_step x1 x2 r j 3 3#32 rfl, ← beat_step x1 x2 r j 4 4#32 rfl, ← beat_step x1 x2 r j 5 5#32 rfl,
    ← beat_step x1 x2 r j 6 6#32 rfl, ← beat_step x1 x2 r j 7 7#32 rfl]
  rfl

open Classical in
/-- Query `j` reads the block of row `r`: its own block, or one of the three best of those in the past. -/
def keptRow (r : Fin 16) (j : Fin 2048) : Prop :=
  ((Finset.univ.filter (before x1 x2 r j)).card < 3 ∧ r.val % 8 < j.val / 256) ∨ r.val % 8 = j.val / 256

open Classical in
theorem count_word (p : Fin 8 → Prop) :
    IntOp.cmpi .slt (0#32 + (if p 0 then 1#32 else 0#32) + (if p 1 then 1#32 else 0#32) + (if p 2 then 1#32 else 0#32)
      + (if p 3 then 1#32 else 0#32) + (if p 4 then 1#32 else 0#32) + (if p 5 then 1#32 else 0#32)
      + (if p 6 then 1#32 else 0#32) + (if p 7 then 1#32 else 0#32)) 3#32
      = BitVec.ofBool (decide ((Finset.univ.filter p).card < 3)) := by
  have key : ∀ b : Fin 8 → Bool,
      IntOp.cmpi .slt (0#32 + (if b 0 then 1#32 else 0#32) + (if b 1 then 1#32 else 0#32) + (if b 2 then 1#32 else 0#32)
        + (if b 3 then 1#32 else 0#32) + (if b 4 then 1#32 else 0#32) + (if b 5 then 1#32 else 0#32)
        + (if b 6 then 1#32 else 0#32) + (if b 7 then 1#32 else 0#32)) 3#32
        = BitVec.ofBool (decide ((Finset.univ.filter (fun m => b m = true)).card < 3)) := by decide +kernel
  have := key (fun m => decide (p m))
  simpa only [decide_eq_true_eq] using this

open Classical in
/-- The kept blocks, as the float the kernel transposes. -/
theorem v516_apply (r : Fin 16) (j : Fin 2048) :
    v516 c arg3 harg3 arg4 harg4 arg10 x1 x2 (ix2 r j) = if keptRow x1 x2 r j then (1 : EReal) else 0 := by
  have h2 : ∀ a m : Fin 8, IntOp.cmpi .slt (BitVec.ofNat 32 a.val) (BitVec.ofNat 32 m.val) = BitVec.ofBool (decide (a.val < m.val)) := by decide +kernel
  have h3 : ∀ a m : Fin 8, IntOp.cmpi .eq (BitVec.ofNat 32 a.val) (BitVec.ofNat 32 m.val) = BitVec.ofBool (decide (a.val = m.val)) := by decide +kernel
  have hr := h2 ⟨r.val % 8, by omega⟩ ⟨j.val / 256, by omega⟩
  have hj := h3 ⟨r.val % 8, by omega⟩ ⟨j.val / 256, by omega⟩
  simp only at hr hj
  have hc := count_word (before x1 x2 r j)
  simp only [v516, v515, v514, v512, v510, v410]
  pointwise
  simp only [v306_apply, v331_apply, v508_apply]
  unfold beatWord
  rw [hr, hj, hc]
  unfold keptRow
  have key : ∀ b1 b2 b3 : Bool, (FloatOps.sitofp (F := Ideal) .f32 (BitVec.setWidth 32 (IntOp.ori (IntOp.andi (BitVec.ofBool b1) (BitVec.ofBool b2))
      (BitVec.ofBool b3))) : EReal) = if ((b1 = true ∧ b2 = true) ∨ b3 = true) then 1 else 0 := by
    have hb : ∀ b1 b2 b3 : Bool, (BitVec.setWidth 32 (IntOp.ori (IntOp.andi (BitVec.ofBool b1) (BitVec.ofBool b2))
      (BitVec.ofBool b3))).toInt = if ((b1 = true ∧ b2 = true) ∨ b3 = true) then 1 else 0 := by decide
    intro b1 b2 b3
    show (((BitVec.setWidth 32 (IntOp.ori (IntOp.andi (BitVec.ofBool b1) (BitVec.ofBool b2)) (BitVec.ofBool b3))).toInt : ℝ) : EReal) = _
    rw [hb]
    split <;> simp
  rw [key]
  refine @ite_of_iff _ _ _ (_) (_) ?_ _ _
  simp only [decide_eq_true_eq]

open Classical in
/-- The mask lanes of query `j`: row `r` in lane `r`. -/
theorem mask_apply (r : Fin 16) (j : Fin 2048) (l : Fin 128) (h : l.val = r.val) :
    k0_pay69 (v519 c arg3 harg3 arg4 harg4 arg10 x1 x2) (ix2 j l) = if keptRow x1 x2 r j then (0 : EReal) else ⊥ := by
  rw [pay69_apply]
  have hv : v519 c arg3 harg3 arg4 harg4 arg10 x1 x2 (ix2 j l) = if keptRow x1 x2 r j then (1 : EReal) else 0 := by
    unfold v519 v518
    pointwise
    rw [dif_pos (by omega), show (⟨l.val, by omega⟩ : Fin 16) = r from Fin.ext h, v516_apply]
  rw [hv]
  have hh : Ideal.ofBits .f32 1056964608#32 = ((1/2 : ℝ) : EReal) := by
    simp [Ideal.ofBits, Ideal.ieee, -EReal.coe_mul]; norm_num
  rw [hh]
  by_cases hk : keptRow x1 x2 r j
  · rw [if_pos hk, if_pos hk, if_pos]
    exact_mod_cast (by norm_num : (1/2 : ℝ) < 1)
  · rw [if_neg hk, if_neg hk, if_neg]
    rw [not_lt]
    exact_mod_cast (by norm_num : (0:ℝ) ≤ 1/2)

/-- The number of head `hd` of the pair that grid point `i` works on. -/
def headOf (hd : Fin 2) : Fin 8 := ⟨2 * (i 1).val + hd.val, by have h : (i 1).val < 4 := (i 1).isLt; omega⟩

/-- The distance term of key `j`, before the query's own part. -/
def bias (hd : Fin 2) (j : Fin 2048) : EReal := x0 (ix1 (headOf i hd)) * ((j.val : ℝ) : EReal)

/-- The features beside a head's lanes: the three pieces of the distance term, then the key's block, one lane each. -/
def feat (b : EReal) (n e : ℕ) : EReal :=
  if e = 0 then b else if e = 1 then b - b else if e = 2 then b - b - (b - b)
  else if 3 ≤ e ∧ e - 3 = n then 1 else 0

theorem r_apply : r c i arg2 harg2 x0 = x0 (ix1 (headOf i 0)) := by
  unfold r
  sl_unfold_words
  simp only [View.readAt_eq_ld, harg2.read_unread]
  pointwise
  congr 2
  have h : ∀ a : Fin 4, (Scalar.indexCast (Scalar.addi (Scalar.muli (2#32) (BitVec.ofNat 32 a.val)) 0#32)).toNat = 2 * a.val + 0 := by decide
  exact Fin.ext (h (i 1))

theorem r_1_apply : r_1 c i arg2 harg2 x0 = x0 (ix1 (headOf i 1)) := by
  unfold r_1
  sl_unfold_words
  simp only [View.readAt_eq_ld, harg2.read_unread]
  pointwise
  congr 2
  have h : ∀ a : Fin 4, (Scalar.indexCast (Scalar.addi (Scalar.muli (2#32) (BitVec.ofNat 32 a.val)) 1#32)).toNat = 2 * a.val + 1 := by decide
  exact Fin.ext (h (i 1))

theorem v135_apply (j : Fin 2048) : FloatOps.sitofp (F := Ideal) .f32 (v135 (ix2 j 0)) = ((j.val : ℝ) : EReal) := by
  unfold v135
  pointwise
  have h : ∀ j : Fin 2048, (BitVec.ofNat 32 j.val).toInt = j.val := by decide +kernel
  show (((BitVec.ofNat 32 j.val).toInt : ℝ) : EReal) = _
  rw [h]
  norm_cast

/-- The kernel's choice of a feature, lane by lane, is `feat`. -/
theorem feat_words (b : EReal) (e : Fin 128) (n : Fin 8) (w : BitVec 32) (hw : w = BitVec.ofNat 32 e.val) :
    Scalar.select (IntOp.cmpi .eq w 0#32) b (Scalar.select (IntOp.cmpi .eq w 1#32) (b - b)
      (Scalar.select (IntOp.cmpi .eq w 2#32) (b - b - (b - b))
        (Scalar.select (IntOp.andi (IntOp.cmpi .sge w 3#32) (IntOp.cmpi .eq (IntOp.subi w 3#32) (BitVec.ofNat 32 n.val))) (1 : EReal) 0)))
      = feat b n.val e.val := by
  subst hw
  have h0 : ∀ e : Fin 128, IntOp.cmpi .eq (BitVec.ofNat 32 e.val) 0#32 = BitVec.ofBool (decide (e.val = 0)) := by decide +kernel
  have h1 : ∀ e : Fin 128, IntOp.cmpi .eq (BitVec.ofNat 32 e.val) 1#32 = BitVec.ofBool (decide (e.val = 1)) := by decide +kernel
  have h2 : ∀ e : Fin 128, IntOp.cmpi .eq (BitVec.ofNat 32 e.val) 2#32 = BitVec.ofBool (decide (e.val = 2)) := by decide +kernel
  have h3 : ∀ (e : Fin 128) (n : Fin 8), IntOp.andi (IntOp.cmpi .sge (BitVec.ofNat 32 e.val) 3#32) (IntOp.cmpi .eq (IntOp.subi (BitVec.ofNat 32 e.val) 3#32) (BitVec.ofNat 32 n.val))
      = BitVec.ofBool (decide (3 ≤ e.val ∧ e.val - 3 = n.val)) := by decide +kernel
  rw [h0, h1, h2, h3]
  simp only [WordCmp.select_decide]
  rfl

theorem v213_apply (j : Fin 2048) (l : Fin 128) :
    v213 c i arg2 harg2 arg4 harg4 x0 x2 (ix3 0 j l)
      = if l.val < 64 then x2 (ix3 0 j l) else feat (bias i x0 0 j) (j.val / 256) (l.val - 64) := by
  simp only [v213, v210, v209, v207, v206, v203, v204, v205, v201, v200, v199, v198, v196, v195, v194, v193, v191, v190,
    v189, v188, v187, v186, v185, v184, v183, v182, v180, v177, v175, v174, v173, v171, v170, v169, v168, v167, v166, v165, v164, v0, v1, cst_64, cst]
  pointwise
  simp only [r_apply, v8_apply, v159_apply, v135_apply]
  rw [lane_lt, WordCmp.select_decide]
  split
  · rfl
  · have hs : ∀ l : Fin 128, ¬ l.val < 64 → IntOp.subi (BitVec.ofNat 32 l.val) 64#32 = BitVec.ofNat 32 (l.val - 64) := by decide +kernel
    exact feat_words (bias i x0 0 j) ⟨l.val - 64, by omega⟩ ⟨j.val / 256, by omega⟩ _ (hs l (by assumption))

theorem v275_apply (j : Fin 2048) (l : Fin 128) :
    v275 c i arg2 harg2 arg4 harg4 x0 x2 (ix3 0 j l)
      = if 64 ≤ l.val then x2 (ix3 0 j l) else feat (bias i x0 1 j) (j.val / 256) l.val := by
  simp only [v275, v272, v271, v269, v268, v267, v266, v264, v263, v262, v261, v259, v258, v257, v256, v254, v247, v243, v242, v240, v235, v233, v232,
    v231, v230, v229, v228, v227, v190, v188, v186, v184, v183, v174, v164, v0, v1, cst_64, cst]
  pointwise
  simp only [r_1_apply, v8_apply, v159_apply, v135_apply]
  rw [lane_ge, WordCmp.select_decide]
  split
  · rfl
  · exact feat_words (bias i x0 1 j) l ⟨j.val / 256, by omega⟩ _ rfl
end Cert.Moba
-- ==== Proof.Moba.KernelTile.lean ====
module

public import proofs.«01_k».proof.Proof.Moba.KernelScratch

@[expose] public section

set_option maxRecDepth 16384

noncomputable section

open Idealize.ShloMosaic Idealize.ShloMosaic.TcCoe Idealize.SL.Sem
open Cert.KernelIdeal Cert.KernelIdeal.Gen Cert.KernelIdeal.Gen.kernelRun0_A.sl

namespace Cert.Moba

/-- A row of softmax weights against values, not yet divided: every key of the sequence, those outside at `⊥`. -/
def fullSum (S V : Fin 2048 → EReal) : EReal := ∑ j, Ideal.exp (S j - Finset.univ.sup S) * V j

theorem exp_bot_sub (M : EReal) : Ideal.exp (⊥ - M) = 0 := by
  rw [show (⊥ : EReal) - M = ⊥ from EReal.bot_sub M]
  rfl

/-- Only the first `n` keys count where the rest are at `⊥`. -/
theorem partSum (n : ℕ) (hn : n ≤ 2048) (S V : Fin 2048 → EReal) (h : ∀ j, n ≤ j.val → S j = ⊥) :
    ∑ x : Fin n, Ideal.exp (S ⟨x.val, by omega⟩ - Finset.univ.fold max (⊥ : EReal) (fun x : Fin n => S ⟨x.val, by omega⟩)) * V ⟨x.val, by omega⟩
      = fullSum S V := by
  have hM : Finset.univ.fold max (⊥ : EReal) (fun x : Fin n => S ⟨x.val, by omega⟩) = Finset.univ.sup S := by
    apply le_antisymm
    · refine Finset.sup_le (f := fun x : Fin n => S ⟨x.val, by omega⟩) fun x _ => ?_
      exact Finset.le_sup (f := S) (Finset.mem_univ _)
    · refine Finset.sup_le fun j _ => ?_
      by_cases hj : j.val < n
      · exact Finset.le_sup (f := fun x : Fin n => S ⟨x.val, by omega⟩) (Finset.mem_univ (⟨j.val, hj⟩ : Fin n))
      · rw [h j (by omega)]; exact bot_le
  rw [hM]
  unfold fullSum
  refine Finset.sum_of_injOn (fun x : Fin n => (⟨x.val, by omega⟩ : Fin 2048)) ?_ ?_ ?_ ?_
  · intro x _ y _ hxy
    exact Fin.ext (by simpa using congrArg Fin.val hxy)
  · intro x _; simp
  · intro j _ hj
    have : n ≤ j.val := by
      by_contra hlt
      exact hj ⟨⟨j.val, by omega⟩, by simp, rfl⟩
    rw [h j this, exp_bot_sub, zero_mul]
  · intro x _; rfl

theorem k74_apply (a x : Fin 512) : k0_pay74 (ix2 a x) = BitVec.ofBool (decide (x.val ≤ a.val)) := by
  pointwise [k0_pay74]
  have hi : ∀ y : Fin 512, (BitVec.ofNat 32 y.val).toInt = y.val := by decide +kernel
  show BitVec.ofBool (BitVec.sle _ _) = _
  congr 1
  rw [BitVec.sle_eq_decide, hi, hi]
  exact decide_eq_decide.mpr Nat.cast_le

theorem mask_bot : (Named.named κ "mask" 0xF149F2CA#32 : Ideal .f32) = (⊥ : EReal) :=
  IdealRules.named_const.ideal_named_scalar (φ := .f32) κ "mask" 0xF149F2CA#32 ⊥ rfl

theorem ofBits_bot : Ideal.ofBits .f32 4286578688#32 = ⊥ := by
  simp [Ideal.ofBits, Ideal.ieee]

/-- The masked scores of one query row of a tile over `m` earlier keys and the tile's own 512. -/
def cutScore (m : ℕ) (a : Fin 512) (S : Fin (m + 512) → EReal) (x : Fin (m + 512)) : EReal :=
  if h : x.val < m then S ⟨x.val, by omega⟩
  else Scalar.select (k0_pay74 (ix2 a ⟨x.val - m, by omega⟩)) (S ⟨m + (x.val - m), by omega⟩) (Named.named κ "mask" 0xF149F2CA#32 : Ideal .f32)

/-- The largest of them, as the kernel's reduction spells it. -/
def cutMax (m : ℕ) (a : Fin 512) (S : Fin (m + 512) → EReal) : EReal :=
  Finset.fold max (Ideal.ofBits .f32 4286578688#32) (cutScore m a S) Finset.univ

/-- The row's weighted sum of values, earlier keys and own keys apart. -/
def cutSum (m : ℕ) (a : Fin 512) (S V : Fin (m + 512) → EReal) : EReal :=
  (∑ x : Fin m, Ideal.exp (S ⟨x.val, by omega⟩ - cutMax m a S) * V ⟨x.val, by omega⟩)
    + ∑ x : Fin 512, Ideal.exp (Scalar.select (k0_pay74 (ix2 a x)) (S ⟨m + x.val, by omega⟩) (Named.named κ "mask" 0xF149F2CA#32 : Ideal .f32) - cutMax m a S)
        * V ⟨m + x.val, by omega⟩

/-- The first tile has its own keys only. -/
def ownSum (a : Fin 512) (S V : Fin 512 → EReal) : EReal :=
  ∑ x : Fin 512, Ideal.exp (Scalar.select (k0_pay74 (ix2 a x)) (S x) (Named.named κ "mask" 0xF149F2CA#32 : Ideal .f32)
    - Finset.fold max (Ideal.ofBits .f32 4286578688#32) (fun x => Scalar.select (k0_pay74 (ix2 a x)) (S x) (Named.named κ "mask" 0xF149F2CA#32 : Ideal .f32)) Finset.univ) * V x

/-- The scores of query `i` up to itself. -/
def causal (i : ℕ) (S : Fin 2048 → EReal) (j : Fin 2048) : EReal := if j.val ≤ i then S j else ⊥

theorem ownSum_full (a : Fin 512) (S V : Fin 2048 → EReal) :
    ownSum a (fun x => S ⟨x.val, by omega⟩) (fun x => V ⟨x.val, by omega⟩) = fullSum (causal a.val S) V := by
  rw [← partSum 512 (by omega) (causal a.val S) V (fun j hj => if_neg (by omega))]
  unfold ownSum
  simp only [k74_apply, WordCmp.select_decide, mask_bot, ofBits_bot]
  rfl

theorem cutSum_full (m : ℕ) (hm : m + 512 ≤ 2048) (a : Fin 512) (S V : Fin 2048 → EReal) :
    cutSum m a (fun x => S ⟨x.val, by omega⟩) (fun x => V ⟨x.val, by omega⟩) = fullSum (causal (m + a.val) S) V := by
  rw [← partSum (m + 512) hm (causal (m + a.val) S) V (fun j hj => if_neg (by omega))]
  have hs : cutScore m a (fun x => S ⟨x.val, by omega⟩) = fun x : Fin (m + 512) => causal (m + a.val) S ⟨x.val, by omega⟩ := by
    funext x
    unfold cutScore causal
    simp only [k74_apply, WordCmp.select_decide, mask_bot]
    split
    · rw [if_pos (by omega)]
    · refine (if_congr (by omega) ?_ rfl)
      congr 1; exact Fin.ext (by simp; omega)
  unfold cutSum cutMax
  rw [hs, ofBits_bot]
  simp only [k74_apply, WordCmp.select_decide, mask_bot]
  generalize Finset.fold max (⊥ : EReal) (fun x : Fin (m + 512) => causal (m + a.val) S ⟨x.val, by omega⟩) Finset.univ = M
  rw [Fin.sum_univ_add]
  refine congrArg₂ _ (Finset.sum_congr rfl fun x _ => ?_) (Finset.sum_congr rfl fun x _ => ?_)
  · unfold causal
    simp only [Fin.val_castAdd]
    rw [if_pos (by omega)]
  · unfold causal
    simp only [Fin.val_natAdd]
    rw [if_congr (Nat.add_le_add_iff_left.symm : x.val ≤ a.val ↔ m + x.val ≤ m + a.val) rfl rfl]

section Payloads

variable (a : Fin 512) (l : Fin 128)

theorem pay75_apply (q k v : Vec Ideal S1x512x128 .bf16) :
    k0_pay75 q k v (ix2 a l) = ownSum a (fun x => ∑ y : Fin 128, q (ix3 0 a y) * k (ix3 0 x y)) (fun x => v (ix3 0 x l)) := by
  pointwise [k0_pay75]
  rfl

theorem pay80_apply (q : Vec Ideal S1x512x128 .bf16) (k v : Vec Ideal S1x1536x128 .bf16) :
    k0_pay80 k0_pay74 q k v (ix2 a l)
      = cutSum 1024 a (fun x => ∑ y : Fin 128, q (ix3 0 a y) * k (ix3 0 x y)) (fun x => v (ix3 0 x l)) := by
  pointwise [k0_pay80]
  rfl

theorem pay84_apply (q : Vec Ideal S1x512x128 .bf16) (k v : Vec Ideal S1x2048x128 .bf16) :
    k0_pay84 k0_pay74 q k v (ix2 a l)
      = cutSum 1536 a (fun x => ∑ y : Fin 128, q (ix3 0 a y) * k (ix3 0 x y)) (fun x => v (ix3 0 x l)) := by
  pointwise [k0_pay84]
  rfl

/-- What a tile leaves: each head's sums over the lane that sums the weights alone. -/
def finish (o0 o1 : Fin 128 → EReal) : EReal :=
  if l.val < 64 then o0 l * Ideal.div 1 (o0 64) else o1 l * Ideal.div 1 (o1 0)

theorem pay77_apply (o0 : FVec Ideal S512x128 .f32) (q k v : Vec Ideal S1x512x128 .bf16) :
    k0_pay77 (cmpi .slt v0 v1) o0 (k0_pay76 q k) v (ix3 0 a l)
      = finish l (fun l => o0 (ix2 a l)) (fun l => ownSum a (fun x => ∑ y : Fin 128, q (ix3 0 a y) * k (ix3 0 x y)) (fun x => v (ix3 0 x l))) := by
  unfold v0 v1
  pointwise [k0_pay77, k0_pay76]
  rw [lane_lt, WordCmp.select_decide]
  rfl

theorem pay79_apply (q0 q1 : Vec Ideal S1x512x128 .bf16) (ka0 va0 ka1 va1 : Vec Ideal S1x1024x128 .bf16) :
    k0_pay79 (cmpi .slt v0 v1) k0_pay74 (k0_pay78 k0_pay74 q0 ka0) va0 q1 ka1 va1 (ix3 0 a l)
      = finish l (fun l => cutSum 512 a (fun x => ∑ y : Fin 128, q0 (ix3 0 a y) * ka0 (ix3 0 x y)) (fun x => va0 (ix3 0 x l)))
         (fun l => cutSum 512 a (fun x => ∑ y : Fin 128, q1 (ix3 0 a y) * ka1 (ix3 0 x y)) (fun x => va1 (ix3 0 x l))) := by
  unfold v0 v1
  pointwise [k0_pay79, k0_pay78]
  rw [lane_lt, WordCmp.select_decide]
  rfl

theorem pay83_apply (o0 : FVec Ideal S512x128 .f32) (q : Vec Ideal S1x512x128 .bf16) (k v : Vec Ideal S1x1536x128 .bf16) :
    k0_pay83 (cmpi .slt v0 v1) o0 (k0_pay81 k0_pay74 q k) (k0_pay82 v) (ix3 0 a l)
      = finish l (fun l => o0 (ix2 a l)) (fun l => cutSum 1024 a (fun x => ∑ y : Fin 128, q (ix3 0 a y) * k (ix3 0 x y)) (fun x => v (ix3 0 x l))) := by
  unfold v0 v1
  pointwise [k0_pay83, k0_pay82, k0_pay81]
  rw [lane_lt, WordCmp.select_decide]
  rfl

theorem pay1_apply (o0 : FVec Ideal S512x128 .f32) (q : Vec Ideal S1x512x128 .bf16) (k v : Vec Ideal S1x2048x128 .bf16) :
    k0_pay1 (k0_pay85 o0) (k0_pay86 k0_pay74 q k v) (k0_pay87 (cmpi .slt v0 v1)) (ix3 0 a l)
      = finish l (fun l => o0 (ix2 a l)) (fun l => cutSum 1536 a (fun x => ∑ y : Fin 128, q (ix3 0 a y) * k (ix3 0 x y)) (fun x => v (ix3 0 x l))) := by
  unfold v0 v1
  pointwise [k0_pay1, k0_pay85, k0_pay86, k0_pay87]
  rw [lane_lt, WordCmp.select_decide]
  rfl

end Payloads

end Cert.Moba
-- ==== Proof.Moba.KernelBlock.lean ====
module

public import proofs.«01_k».proof.Proof.Moba.KernelTile

@[expose] public section

set_option maxRecDepth 16384

noncomputable section

open Idealize.ShloMosaic Idealize.ShloMosaic.TcCoe Idealize.SL.Sem
open Cert.KernelIdeal Cert.KernelIdeal.Gen Cert.KernelIdeal.Gen.kernelRun0_A.sl

namespace Cert.Moba

/-- One head's plane stored last: that head reads it. -/
theorem canon_head_self (h : ℕ) (inb : ∀ a, (![h, 0, 0] : Fin 3 → ℕ) a + S1x2048x128.size a ≤ S2x2048x128.size a)
    (w : Vec Ideal S1x2048x128 .bf16) (L : List (View.Piece (Elt Ideal) S2x2048x128 .bf16)) (hd : Fin 2) (j : Fin 2048) (l : Fin 128) (hh : hd.val = h) :
    View.canon ((⟨Rect.unit (s := S2x2048x128) ![h, 0, 0] S1x2048x128.size inb, w⟩ : View.Piece (Elt Ideal) S2x2048x128 .bf16) :: L) (ix3 hd j l)
      = w (ix3 0 j l) := by
  have he : (Rect.unit (s := S2x2048x128) ![h, 0, 0] S1x2048x128.size inb).emb (ix3 (0 : Fin 1) j l) = ix3 hd j l := by
    funext x; apply Fin.ext
    fin_cases x
    · show h + 1 * 0 = hd.val; omega
    · show 0 + 1 * j.val = j.val; omega
    · show 0 + 1 * l.val = l.val; omega
  rw [← he]
  exact View.canon_cons_emb (Rect.unit (s := S2x2048x128) ![h, 0, 0] S1x2048x128.size inb) w L (ix3 (0 : Fin 1) j l)

/-- The other head reads the earlier store. -/
theorem canon_head_ne (h : ℕ) (inb : ∀ a, (![h, 0, 0] : Fin 3 → ℕ) a + S1x2048x128.size a ≤ S2x2048x128.size a)
    (w : Vec Ideal S1x2048x128 .bf16) (L : List (View.Piece (Elt Ideal) S2x2048x128 .bf16)) (hd : Fin 2) (j : Fin 2048) (l : Fin 128) (hh : hd.val ≠ h) :
    View.canon ((⟨Rect.unit (s := S2x2048x128) ![h, 0, 0] S1x2048x128.size inb, w⟩ : View.Piece (Elt Ideal) S2x2048x128 .bf16) :: L) (ix3 hd j l)
      = View.canon L (ix3 hd j l) := by
  refine View.canon_cons_of_not_mem _ L ?_
  intro hm
  obtain ⟨i, hi, he⟩ := (LoadRect.mem_set _).mp hm (0 : Fin 3)
  have hi1 : i < 1 := hi
  have he' : hd.val = h + 1 * i := he
  omega

/-- A load of `n` rows from row `t` of head `hd` reads what the stores left there. -/
theorem read_rows {κ : Kind} {sp : Space} (v : View sig κ sp S2x2048x128 .bf16) (L : List (View.Piece (Elt Ideal) S2x2048x128 .bf16)) (hd t n : ℕ)
    (inb : ∀ a, (![hd, t, 0] : Fin 3 → ℕ) a + (⟨3, ![1, n, 128]⟩ : Shape).size a ≤ S2x2048x128.size a) (x : Fin n) (l : Fin 128)
    (hh : hd < 2) (ht : t + x.val < 2048) :
    v.readCov L (Rect.unit (s := S2x2048x128) ![hd, t, 0] (⟨3, ![1, n, 128]⟩ : Shape).size inb).toLoadRect (ix3 (0 : Fin 1) x l)
      = View.canon L (ix3 ⟨hd, hh⟩ ⟨t + x.val, ht⟩ l) := by
  rw [View.readCov_eq_canon']
  refine congrArg (View.canon L) ?_
  funext y; apply Fin.ext
  fin_cases y
  · show hd + 1 * 0 = hd; omega
  · show t + 1 * x.val = t + x.val; omega
  · show 0 + 1 * l.val = l.val; omega

variable (c : Dev nD) (i : grid0.Coords) (arg2 : Memref sig .tc .smem S8 .f32) (harg2 : arg2.IsWhole)
  (arg3 : Memref sig .tc .vmem S1x2048x128 .bf16) (harg3 : arg3.IsWhole)
  (arg4 : Memref sig .tc .vmem S1x2048x128 .f32) (harg4 : arg4.IsWhole)
  (arg5 : Memref sig .tc .vmem S1x2048x128 .f32) (harg5 : arg5.IsWhole)
  (arg6 : Memref sig .tc .vmem S1x2048x128 .bf16) (harg6 : arg6.IsWhole)
  (arg7 : Memref sig .tc .vmem S2x2048x128 .bf16) (harg7 : arg7.IsWhole)
  (arg8 : Memref sig .tc .vmem S2x2048x128 .bf16) (harg8 : arg8.IsWhole)
  (arg9 : Memref sig .tc .vmem S2x2048x128 .bf16) (harg9 : arg9.IsWhole)
  (arg10 : Memref sig .tc .vmem S128x128 .f32) (harg10 : arg10.IsWhole)
  (x0 : Vec Ideal S8 .f32) (x1 : Vec Ideal S1x2048x128 .bf16) (x2 : Vec Ideal S1x2048x128 .f32) (x3 : Vec Ideal S1x2048x128 .f32)

/-- Lane `l` belongs to head `hd` of the pair. -/
def own (hd : Fin 2) (l : Fin 128) : Prop := if hd = 0 then l.val < 64 else 64 ≤ l.val

instance (hd : Fin 2) (l : Fin 128) : Decidable (own hd l) := by unfold own; infer_instance

/-- The number of a lane among those beside the head's own. -/
def extraLane (hd : Fin 2) (l : Fin 128) : ℕ := if hd = 0 then l.val - 64 else l.val

/-- The key scratch: the keys, and the features beside them. -/
def keyLane (hd : Fin 2) (j : Fin 2048) (l : Fin 128) : EReal :=
  if own hd l then x2 (ix3 0 j l) else feat (bias i x0 hd j) (j.val / 256) (extraLane hd l)

/-- The value scratch: the values, and ones beside them. -/
def valLane (hd : Fin 2) (j : Fin 2048) (l : Fin 128) : EReal := if own hd l then x3 (ix3 0 j l) else 1

open Classical in
/-- What the query meets a key block with: nothing if the block is read, `⊥` if not. -/
def blockMask (hd : Fin 2) (j : Fin 2048) (n : ℕ) : EReal :=
  if h : n < 8 then (if keptRow x1 x2 ⟨8 * hd.val + n, by omega⟩ j then 0 else ⊥) else 0

/-- The query scratch: the scaled queries, and what meets the keys' features. -/
def queryLane (hd : Fin 2) (j : Fin 2048) (l : Fin 128) : EReal :=
  if own hd l then x1 (ix3 0 j l)
  else if extraLane hd l < 3 then 1 else if extraLane hd l < 11 then blockMask x1 x2 hd j (extraLane hd l - 3) else 0

theorem HS0_2_apply (hd : Fin 2) (j : Fin 2048) (l : Fin 128) :
    View.canon (HS0_2 c i arg2 harg2 arg4 harg4 x0 x2) (ix3 hd j l) = keyLane i x0 x2 hd j l := by
  unfold HS0_2
  fin_cases hd
  · refine (canon_head_ne _ _ _ _ _ j l (by decide)).trans ((canon_head_self _ _ _ _ _ j l (by decide)).trans ?_)
    exact v213_apply c i arg2 harg2 arg4 harg4 x0 x2 j l
  · refine (canon_head_self _ _ _ _ _ j l (by decide)).trans ?_
    exact v275_apply c i arg2 harg2 arg4 harg4 x0 x2 j l

theorem HS1_2_apply (hd : Fin 2) (j : Fin 2048) (l : Fin 128) :
    View.canon (HS1_2 c arg5 harg5 x3) (ix3 hd j l) = valLane x3 hd j l := by
  unfold HS1_2
  fin_cases hd
  · refine (canon_head_ne _ _ _ _ _ j l (by decide)).trans ((canon_head_self _ _ _ _ _ j l (by decide)).trans ?_)
    exact v221_apply c arg5 harg5 x3 j l
  · refine (canon_head_self _ _ _ _ _ j l (by decide)).trans ?_
    exact v283_apply c arg5 harg5 x3 j l

theorem HS2_2_apply (hd : Fin 2) (j : Fin 2048) (l : Fin 128) :
    View.canon (HS2_2 c arg3 harg3 arg4 harg4 arg10 x1 x2) (ix3 hd j l) = queryLane x1 x2 hd j l := by
  unfold HS2_2
  have hsplit := hd.isLt
  rcases (show hd = 0 ∨ hd = 1 by omega) with rfl | rfl
  · refine (canon_head_ne _ _ _ _ _ j l (by decide)).trans ((canon_head_self _ _ _ _ _ j l (by decide)).trans ?_)
    refine (pay71_apply _ _ j l).trans ?_
    unfold queryLane own extraLane
    simp only [if_true]
    by_cases h0 : l.val < 64
    · simp only [h0, if_true, v285_apply]
    · by_cases h1 : l.val - 64 < 3
      · simp only [h0, h1, if_true, if_false]
      · by_cases h2 : l.val - 64 < 11
        · simp only [h0, h1, h2, if_true, if_false]
          unfold blockMask
          rw [dif_pos (by omega), mask_apply c arg3 harg3 arg4 harg4 x1 x2 arg10 ⟨8 * (0 : Fin 2).val + (l.val - 64 - 3), by simp; omega⟩ j _ (by simp; omega)]
        · simp only [h0, h1, h2, if_false]
  · refine (canon_head_self _ _ _ _ _ j l (by decide)).trans ?_
    unfold r_2
    refine (pay73_apply _ _ j l).trans ?_
    unfold queryLane own extraLane
    simp only [one_ne_zero, if_false]
    by_cases h0 : 64 ≤ l.val
    · simp only [h0, if_true, v285_apply]
    · by_cases h1 : l.val < 3
      · simp only [h0, h1, if_true, if_false]
      · by_cases h2 : l.val < 11
        · simp only [h0, h1, h2, if_true, if_false]
          unfold blockMask
          rw [dif_pos (by omega), mask_apply c arg3 harg3 arg4 harg4 x1 x2 arg10 ⟨8 * (1 : Fin 2).val + (l.val - 3), by simp; omega⟩ j _ (by simp; omega)]
        · simp only [h0, h1, h2, if_false]

/-- The score of key `j` for query `i`, as the matrix unit adds it. -/
def rawScore (hd : Fin 2) (q j : Fin 2048) : EReal := ∑ y : Fin 128, queryLane x1 x2 hd q y * keyLane i x0 x2 hd j y

/-- A head's weighted sum for query `q` in lane `l`. -/
def headSum (hd : Fin 2) (q : Fin 2048) (l : Fin 128) : EReal :=
  fullSum (causal q.val (rawScore i x0 x1 x2 hd q)) (fun j => valLane x3 hd j l)

/-- The kernel's output block. -/
def blockOut (q : Fin 2048) (l : Fin 128) : EReal :=
  finish l (headSum i x0 x1 x2 x3 0 q) (headSum i x0 x1 x2 x3 1 q)

/-- The first tile's sum for a head, from what its loads read. -/
theorem ownSum_head (hd : Fin 2) (a : Fin 512) (l : Fin 128) (q k v : Vec Ideal S1x512x128 .bf16)
    (hq : ∀ y, q (ix3 0 a y) = queryLane x1 x2 hd ⟨0 + a.val, by omega⟩ y)
    (hk : ∀ x y, k (ix3 0 x y) = keyLane i x0 x2 hd ⟨x.val, by omega⟩ y)
    (hv : ∀ x y, v (ix3 0 x y) = valLane x3 hd ⟨x.val, by omega⟩ y) :
    ownSum a (fun x => ∑ y : Fin 128, q (ix3 0 a y) * k (ix3 0 x y)) (fun x => v (ix3 0 x l))
      = headSum i x0 x1 x2 x3 hd ⟨0 + a.val, by omega⟩ l := by
  simp only [hq, hk, hv, Nat.zero_add]
  exact ownSum_full a (rawScore i x0 x1 x2 hd ⟨a.val, by omega⟩) (fun j => valLane x3 hd j l)

/-- A later tile's. -/
theorem cutSum_head (m : ℕ) (hm : m + 512 ≤ 2048) (hd : Fin 2) (a : Fin 512) (l : Fin 128)
    (q : Vec Ideal S1x512x128 .bf16) (k v : Vec Ideal ⟨3, ![1, m + 512, 128]⟩ .bf16)
    (hq : ∀ y, q (ix3 0 a y) = queryLane x1 x2 hd ⟨m + a.val, by omega⟩ y)
    (hk : ∀ (x : Fin (m + 512)) y, k (ix3 (0 : Fin 1) x y) = keyLane i x0 x2 hd ⟨x.val, by omega⟩ y)
    (hv : ∀ (x : Fin (m + 512)) y, v (ix3 (0 : Fin 1) x y) = valLane x3 hd ⟨x.val, by omega⟩ y) :
    cutSum m a (fun x => ∑ y : Fin 128, q (ix3 0 a y) * k (ix3 (0 : Fin 1) x y)) (fun x => v (ix3 (0 : Fin 1) x l))
      = headSum i x0 x1 x2 x3 hd ⟨m + a.val, by omega⟩ l := by
  simp only [hq, hk, hv]
  exact cutSum_full m hm a (rawScore i x0 x1 x2 hd ⟨m + a.val, by omega⟩) (fun j => valLane x3 hd j l)

theorem query_load (L) (hL : L = HS2_2 c arg3 harg3 arg4 harg4 arg10 x1 x2) (hd : Fin 2) (t n : ℕ)
    (inb : ∀ a, (![hd.val, t, 0] : Fin 3 → ℕ) a + (⟨3, ![1, n, 128]⟩ : Shape).size a ≤ S2x2048x128.size a) (x : Fin n) (l : Fin 128) (ht : t + x.val < 2048) :
    arg9.view.readCov L (Rect.unit (s := S2x2048x128) ![hd.val, t, 0] (⟨3, ![1, n, 128]⟩ : Shape).size inb).toLoadRect (ix3 (0 : Fin 1) x l)
      = queryLane x1 x2 hd ⟨t + x.val, ht⟩ l := by
  subst hL
  rw [read_rows arg9.view _ hd.val t n inb x l hd.isLt ht]
  exact HS2_2_apply c arg3 harg3 arg4 harg4 arg10 x1 x2 hd _ l

theorem key_load (L) (hL : L = HS0_2 c i arg2 harg2 arg4 harg4 x0 x2) (hd : Fin 2) (n : ℕ)
    (inb : ∀ a, (![hd.val, 0, 0] : Fin 3 → ℕ) a + (⟨3, ![1, n, 128]⟩ : Shape).size a ≤ S2x2048x128.size a) (x : Fin n) (l : Fin 128) (ht : x.val < 2048) :
    arg7.view.readCov L (Rect.unit (s := S2x2048x128) ![hd.val, 0, 0] (⟨3, ![1, n, 128]⟩ : Shape).size inb).toLoadRect (ix3 (0 : Fin 1) x l)
      = keyLane i x0 x2 hd ⟨x.val, ht⟩ l := by
  subst hL
  rw [read_rows arg7.view _ hd.val 0 n inb x l hd.isLt (by omega)]
  refine (HS0_2_apply c i arg2 harg2 arg4 harg4 x0 x2 hd _ l).trans ?_
  congr 1; exact Fin.ext (Nat.zero_add _)

theorem val_load (L) (hL : L = HS1_2 c arg5 harg5 x3) (hd : Fin 2) (n : ℕ)
    (inb : ∀ a, (![hd.val, 0, 0] : Fin 3 → ℕ) a + (⟨3, ![1, n, 128]⟩ : Shape).size a ≤ S2x2048x128.size a) (x : Fin n) (l : Fin 128) (ht : x.val < 2048) :
    arg8.view.readCov L (Rect.unit (s := S2x2048x128) ![hd.val, 0, 0] (⟨3, ![1, n, 128]⟩ : Shape).size inb).toLoadRect (ix3 (0 : Fin 1) x l)
      = valLane x3 hd ⟨x.val, ht⟩ l := by
  subst hL
  rw [read_rows arg8.view _ hd.val 0 n inb x l hd.isLt (by omega)]
  refine (HS1_2_apply c arg5 harg5 x3 hd _ l).trans ?_
  congr 1; exact Fin.ext (Nat.zero_add _)

theorem finish_congr (l : Fin 128) {o0 o1 p0 p1 : Fin 128 → EReal} (h0 : o0 = p0) (h1 : o1 = p1) : finish l o0 o1 = finish l p0 p1 := by
  rw [h0, h1]

/-- Where a tile's row stands in the block. -/
theorem place_tile (t : ℕ) (inb : ∀ a, (![0, t, 0] : Fin 3 → ℕ) a + S1x512x128.size a ≤ S1x2048x128.size a) (a : Fin 512) (l : Fin 128) :
    (fun y : S1x2048x128.Idx => blockOut i x0 x1 x2 x3 (y 1) (y 2)) ((Rect.unit (s := S1x2048x128) ![0, t, 0] S1x512x128.size inb).emb (ix3 (0 : Fin 1) a l))
      = finish l (headSum i x0 x1 x2 x3 0 ⟨t + a.val, by have h : t + 512 ≤ 2048 := inb 1; omega⟩)
          (headSum i x0 x1 x2 x3 1 ⟨t + a.val, by have h : t + 512 ≤ 2048 := inb 1; omega⟩) := by
  have h1 : ((Rect.unit (s := S1x2048x128) ![0, t, 0] S1x512x128.size inb).emb (ix3 (0 : Fin 1) a l)) 1
      = (⟨t + a.val, by have h : t + 512 ≤ 2048 := inb 1; omega⟩ : Fin 2048) := Fin.ext (by show t + 1 * a.val = t + a.val; omega)
  have h2 : ((Rect.unit (s := S1x2048x128) ![0, t, 0] S1x512x128.size inb).emb (ix3 (0 : Fin 1) a l)) 2 = l :=
    Fin.ext (by show 0 + 1 * l.val = l.val; omega)
  show blockOut i x0 x1 x2 x3 _ _ = _
  rw [h1, h2]
  rfl

/-! ## What each load of a tile reads -/

theorem v569_apply (a : Fin 512) (y : Fin 128) :
    v569 c arg3 harg3 arg4 harg4 arg9 arg10 x1 x2 (ix3 0 a y) = queryLane x1 x2 0 ⟨0 + a.val, by omega⟩ y :=
  query_load c arg3 harg3 arg4 harg4 arg9 arg10 x1 x2 _ rfl 0 0 512 (by decide) a y (by omega)
theorem v571_apply (x : Fin 512) (y : Fin 128) :
    v571 c i arg2 harg2 arg4 harg4 arg7 x0 x2 (ix3 0 x y) = keyLane i x0 x2 0 ⟨x.val, by omega⟩ y :=
  key_load c i arg2 harg2 arg4 harg4 arg7 x0 x2 _ rfl 0 512 (by decide) x y (by omega)
theorem v582_apply (x : Fin 512) (y : Fin 128) :
    v582 c arg5 harg5 arg8 x3 (ix3 0 x y) = valLane x3 0 ⟨x.val, by omega⟩ y :=
  val_load c arg5 harg5 arg8 x3 _ rfl 0 512 (by decide) x y (by omega)
theorem v585_apply (a : Fin 512) (y : Fin 128) :
    v585 c arg3 harg3 arg4 harg4 arg9 arg10 x1 x2 (ix3 0 a y) = queryLane x1 x2 1 ⟨0 + a.val, by omega⟩ y :=
  query_load c arg3 harg3 arg4 harg4 arg9 arg10 x1 x2 _ rfl 1 0 512 (by decide) a y (by omega)
theorem v587_apply (x : Fin 512) (y : Fin 128) :
    v587 c i arg2 harg2 arg4 harg4 arg7 x0 x2 (ix3 0 x y) = keyLane i x0 x2 1 ⟨x.val, by omega⟩ y :=
  key_load c i arg2 harg2 arg4 harg4 arg7 x0 x2 _ rfl 1 512 (by decide) x y (by omega)
theorem v598_apply (x : Fin 512) (y : Fin 128) :
    v598 c arg5 harg5 arg8 x3 (ix3 0 x y) = valLane x3 1 ⟨x.val, by omega⟩ y :=
  val_load c arg5 harg5 arg8 x3 _ rfl 1 512 (by decide) x y (by omega)
theorem v618_apply (a : Fin 512) (y : Fin 128) :
    v618 c arg3 harg3 arg4 harg4 arg9 arg10 x1 x2 (ix3 0 a y) = queryLane x1 x2 0 ⟨512 + a.val, by omega⟩ y :=
  query_load c arg3 harg3 arg4 harg4 arg9 arg10 x1 x2 _ rfl 0 512 512 (by decide) a y (by omega)
theorem v620_apply (x : Fin 1024) (y : Fin 128) :
    v620 c i arg2 harg2 arg4 harg4 arg7 x0 x2 (ix3 0 x y) = keyLane i x0 x2 0 ⟨x.val, by omega⟩ y :=
  key_load c i arg2 harg2 arg4 harg4 arg7 x0 x2 _ rfl 0 1024 (by decide) x y (by omega)
theorem v634_apply (x : Fin 1024) (y : Fin 128) :
    v634 c arg5 harg5 arg8 x3 (ix3 0 x y) = valLane x3 0 ⟨x.val, by omega⟩ y :=
  val_load c arg5 harg5 arg8 x3 _ rfl 0 1024 (by decide) x y (by omega)
theorem v637_apply (a : Fin 512) (y : Fin 128) :
    v637 c arg3 harg3 arg4 harg4 arg9 arg10 x1 x2 (ix3 0 a y) = queryLane x1 x2 1 ⟨512 + a.val, by omega⟩ y :=
  query_load c arg3 harg3 arg4 harg4 arg9 arg10 x1 x2 _ rfl 1 512 512 (by decide) a y (by omega)
theorem v639_apply (x : Fin 1024) (y : Fin 128) :
    v639 c i arg2 harg2 arg4 harg4 arg7 x0 x2 (ix3 0 x y) = keyLane i x0 x2 1 ⟨x.val, by omega⟩ y :=
  key_load c i arg2 harg2 arg4 harg4 arg7 x0 x2 _ rfl 1 1024 (by decide) x y (by omega)
theorem v653_apply (x : Fin 1024) (y : Fin 128) :
    v653 c arg5 harg5 arg8 x3 (ix3 0 x y) = valLane x3 1 ⟨x.val, by omega⟩ y :=
  val_load c arg5 harg5 arg8 x3 _ rfl 1 1024 (by decide) x y (by omega)
theorem v673_apply (a : Fin 512) (y : Fin 128) :
    v673 c arg3 harg3 arg4 harg4 arg9 arg10 x1 x2 (ix3 0 a y) = queryLane x1 x2 0 ⟨1024 + a.val, by omega⟩ y :=
  query_load c arg3 harg3 arg4 harg4 arg9 arg10 x1 x2 _ rfl 0 1024 512 (by decide) a y (by omega)
theorem v675_apply (x : Fin 1536) (y : Fin 128) :
    v675 c i arg2 harg2 arg4 harg4 arg7 x0 x2 (ix3 0 x y) = keyLane i x0 x2 0 ⟨x.val, by omega⟩ y :=
  key_load c i arg2 harg2 arg4 harg4 arg7 x0 x2 _ rfl 0 1536 (by decide) x y (by omega)
theorem v689_apply (x : Fin 1536) (y : Fin 128) :
    v689 c arg5 harg5 arg8 x3 (ix3 0 x y) = valLane x3 0 ⟨x.val, by omega⟩ y :=
  val_load c arg5 harg5 arg8 x3 _ rfl 0 1536 (by decide) x y (by omega)
theorem v692_apply (a : Fin 512) (y : Fin 128) :
    v692 c arg3 harg3 arg4 harg4 arg9 arg10 x1 x2 (ix3 0 a y) = queryLane x1 x2 1 ⟨1024 + a.val, by omega⟩ y :=
  query_load c arg3 harg3 arg4 harg4 arg9 arg10 x1 x2 _ rfl 1 1024 512 (by decide) a y (by omega)
theorem v694_apply (x : Fin 1536) (y : Fin 128) :
    v694 c i arg2 harg2 arg4 harg4 arg7 x0 x2 (ix3 0 x y) = keyLane i x0 x2 1 ⟨x.val, by omega⟩ y :=
  key_load c i arg2 harg2 arg4 harg4 arg7 x0 x2 _ rfl 1 1536 (by decide) x y (by omega)
theorem v708_apply (x : Fin 1536) (y : Fin 128) :
    v708 c arg5 harg5 arg8 x3 (ix3 0 x y) = valLane x3 1 ⟨x.val, by omega⟩ y :=
  val_load c arg5 harg5 arg8 x3 _ rfl 1 1536 (by decide) x y (by omega)
theorem v728_apply (a : Fin 512) (y : Fin 128) :
    v728 c arg3 harg3 arg4 harg4 arg9 arg10 x1 x2 (ix3 0 a y) = queryLane x1 x2 0 ⟨1536 + a.val, by omega⟩ y :=
  query_load c arg3 harg3 arg4 harg4 arg9 arg10 x1 x2 _ rfl 0 1536 512 (by decide) a y (by omega)
theorem v730_apply (x : Fin 2048) (y : Fin 128) :
    v730 c i arg2 harg2 arg4 harg4 arg7 x0 x2 (ix3 0 x y) = keyLane i x0 x2 0 ⟨x.val, by omega⟩ y :=
  key_load c i arg2 harg2 arg4 harg4 arg7 x0 x2 _ rfl 0 2048 (by decide) x y (by omega)
theorem v744_apply (x : Fin 2048) (y : Fin 128) :
    v744 c arg5 harg5 arg8 x3 (ix3 0 x y) = valLane x3 0 ⟨x.val, by omega⟩ y :=
  val_load c arg5 harg5 arg8 x3 _ rfl 0 2048 (by decide) x y (by omega)
theorem v747_apply (a : Fin 512) (y : Fin 128) :
    v747 c arg3 harg3 arg4 harg4 arg9 arg10 x1 x2 (ix3 0 a y) = queryLane x1 x2 1 ⟨1536 + a.val, by omega⟩ y :=
  query_load c arg3 harg3 arg4 harg4 arg9 arg10 x1 x2 _ rfl 1 1536 512 (by decide) a y (by omega)
theorem v749_apply (x : Fin 2048) (y : Fin 128) :
    v749 c i arg2 harg2 arg4 harg4 arg7 x0 x2 (ix3 0 x y) = keyLane i x0 x2 1 ⟨x.val, by omega⟩ y :=
  key_load c i arg2 harg2 arg4 harg4 arg7 x0 x2 _ rfl 1 2048 (by decide) x y (by omega)
theorem v763_apply (x : Fin 2048) (y : Fin 128) :
    v763 c arg5 harg5 arg8 x3 (ix3 0 x y) = valLane x3 1 ⟨x.val, by omega⟩ y :=
  val_load c arg5 harg5 arg8 x3 _ rfl 1 2048 (by decide) x y (by omega)

/-! ## The four tiles -/

theorem tile0_apply (a : Fin 512) (l : Fin 128) :
    k0_pay77 (cmpi .slt v0 v1) (r_3 c i arg2 harg2 arg3 harg3 arg4 harg4 arg5 harg5 arg7 arg8 arg9 arg10 x0 x1 x2 x3) (r_4 c i arg2 harg2 arg3 harg3 arg4 harg4 arg7 arg9 arg10 x0 x1 x2) (v598 c arg5 harg5 arg8 x3) (ix3 0 a l)
      = finish l (headSum i x0 x1 x2 x3 0 ⟨0 + a.val, by omega⟩) (headSum i x0 x1 x2 x3 1 ⟨0 + a.val, by omega⟩) := by
  unfold r_3 r_4
  refine (pay77_apply a l _ _ _ _).trans (finish_congr l (funext fun l => ?_) (funext fun l => ?_))
  · exact (pay75_apply a l _ _ _).trans (ownSum_head i x0 x1 x2 x3 0 a l (v569 c arg3 harg3 arg4 harg4 arg9 arg10 x1 x2) (v571 c i arg2 harg2 arg4 harg4 arg7 x0 x2) (v582 c arg5 harg5 arg8 x3)
      (v569_apply c arg3 harg3 arg4 harg4 arg9 arg10 x1 x2 a) (v571_apply c i arg2 harg2 arg4 harg4 arg7 x0 x2) (v582_apply c arg5 harg5 arg8 x3))
  · exact ownSum_head i x0 x1 x2 x3 1 a l (v585 c arg3 harg3 arg4 harg4 arg9 arg10 x1 x2) (v587 c i arg2 harg2 arg4 harg4 arg7 x0 x2) (v598 c arg5 harg5 arg8 x3)
      (v585_apply c arg3 harg3 arg4 harg4 arg9 arg10 x1 x2 a) (v587_apply c i arg2 harg2 arg4 harg4 arg7 x0 x2) (v598_apply c arg5 harg5 arg8 x3)

theorem tile1_apply (a : Fin 512) (l : Fin 128) :
    k0_pay79 (cmpi .slt v0 v1) k0_pay74 (r_5 c i arg2 harg2 arg3 harg3 arg4 harg4 arg7 arg9 arg10 x0 x1 x2) (v634 c arg5 harg5 arg8 x3) (v637 c arg3 harg3 arg4 harg4 arg9 arg10 x1 x2) (v639 c i arg2 harg2 arg4 harg4 arg7 x0 x2) (v653 c arg5 harg5 arg8 x3) (ix3 0 a l)
      = finish l (headSum i x0 x1 x2 x3 0 ⟨512 + a.val, by omega⟩) (headSum i x0 x1 x2 x3 1 ⟨512 + a.val, by omega⟩) := by
  unfold r_5
  refine (pay79_apply a l _ _ _ _ _ _).trans (finish_congr l (funext fun l => ?_) (funext fun l => ?_))
  · exact cutSum_head i x0 x1 x2 x3 512 (by decide) 0 a l (v618 c arg3 harg3 arg4 harg4 arg9 arg10 x1 x2) (v620 c i arg2 harg2 arg4 harg4 arg7 x0 x2) (v634 c arg5 harg5 arg8 x3)
      (v618_apply c arg3 harg3 arg4 harg4 arg9 arg10 x1 x2 a) (v620_apply c i arg2 harg2 arg4 harg4 arg7 x0 x2) (v634_apply c arg5 harg5 arg8 x3)
  · exact cutSum_head i x0 x1 x2 x3 512 (by decide) 1 a l (v637 c arg3 harg3 arg4 harg4 arg9 arg10 x1 x2) (v639 c i arg2 harg2 arg4 harg4 arg7 x0 x2) (v653 c arg5 harg5 arg8 x3)
      (v637_apply c arg3 harg3 arg4 harg4 arg9 arg10 x1 x2 a) (v639_apply c i arg2 harg2 arg4 harg4 arg7 x0 x2) (v653_apply c arg5 harg5 arg8 x3)

theorem tile2_apply (a : Fin 512) (l : Fin 128) :
    k0_pay83 (cmpi .slt v0 v1) (r_6 c i arg2 harg2 arg3 harg3 arg4 harg4 arg5 harg5 arg7 arg8 arg9 arg10 x0 x1 x2 x3) (r_7 c i arg2 harg2 arg3 harg3 arg4 harg4 arg7 arg9 arg10 x0 x1 x2) (r_8 c arg5 harg5 arg8 x3) (ix3 0 a l)
      = finish l (headSum i x0 x1 x2 x3 0 ⟨1024 + a.val, by omega⟩) (headSum i x0 x1 x2 x3 1 ⟨1024 + a.val, by omega⟩) := by
  unfold r_6 r_7 r_8
  refine (pay83_apply a l _ _ _ _).trans (finish_congr l (funext fun l => ?_) (funext fun l => ?_))
  · exact (pay80_apply a l _ _ _).trans (cutSum_head i x0 x1 x2 x3 1024 (by decide) 0 a l (v673 c arg3 harg3 arg4 harg4 arg9 arg10 x1 x2) (v675 c i arg2 harg2 arg4 harg4 arg7 x0 x2) (v689 c arg5 harg5 arg8 x3)
      (v673_apply c arg3 harg3 arg4 harg4 arg9 arg10 x1 x2 a) (v675_apply c i arg2 harg2 arg4 harg4 arg7 x0 x2) (v689_apply c arg5 harg5 arg8 x3))
  · exact cutSum_head i x0 x1 x2 x3 1024 (by decide) 1 a l (v692 c arg3 harg3 arg4 harg4 arg9 arg10 x1 x2) (v694 c i arg2 harg2 arg4 harg4 arg7 x0 x2) (v708 c arg5 harg5 arg8 x3)
      (v692_apply c arg3 harg3 arg4 harg4 arg9 arg10 x1 x2 a) (v694_apply c i arg2 harg2 arg4 harg4 arg7 x0 x2) (v708_apply c arg5 harg5 arg8 x3)

theorem tile3_apply (a : Fin 512) (l : Fin 128) :
    k0_pay1 (r_10 c i arg2 harg2 arg3 harg3 arg4 harg4 arg5 harg5 arg7 arg8 arg9 arg10 x0 x1 x2 x3) (r_11 c i arg2 harg2 arg3 harg3 arg4 harg4 arg5 harg5 arg7 arg8 arg9 arg10 x0 x1 x2 x3) (k0_pay87 (cmpi .slt v0 v1)) (ix3 0 a l)
      = finish l (headSum i x0 x1 x2 x3 0 ⟨1536 + a.val, by omega⟩) (headSum i x0 x1 x2 x3 1 ⟨1536 + a.val, by omega⟩) := by
  unfold r_10 r_9 r_11
  refine (pay1_apply a l _ _ _ _).trans (finish_congr l (funext fun l => ?_) (funext fun l => ?_))
  · exact (pay84_apply a l _ _ _).trans (cutSum_head i x0 x1 x2 x3 1536 (by decide) 0 a l (v728 c arg3 harg3 arg4 harg4 arg9 arg10 x1 x2) (v730 c i arg2 harg2 arg4 harg4 arg7 x0 x2) (v744 c arg5 harg5 arg8 x3)
      (v728_apply c arg3 harg3 arg4 harg4 arg9 arg10 x1 x2 a) (v730_apply c i arg2 harg2 arg4 harg4 arg7 x0 x2) (v744_apply c arg5 harg5 arg8 x3))
  · exact cutSum_head i x0 x1 x2 x3 1536 (by decide) 1 a l (v747 c arg3 harg3 arg4 harg4 arg9 arg10 x1 x2) (v749 c i arg2 harg2 arg4 harg4 arg7 x0 x2) (v763 c arg5 harg5 arg8 x3)
      (v747_apply c arg3 harg3 arg4 harg4 arg9 arg10 x1 x2 a) (v749_apply c i arg2 harg2 arg4 harg4 arg7 x0 x2) (v763_apply c arg5 harg5 arg8 x3)

/-- What the kernel leaves of a block, at an index. -/
theorem out_apply (q : Fin 2048) (l : Fin 128) :
    out0_A_4 c i arg2 harg2 arg3 harg3 arg4 harg4 arg5 harg5 arg6 harg6 arg7 harg7 arg8 harg8 arg9 harg9 arg10 harg10 x0 x1 x2 x3 (ix3 0 q l)
      = blockOut i x0 x1 x2 x3 q l := by
  have hc := cover0_A_4 c i arg2 harg2 arg3 harg3 arg4 harg4 arg5 harg5 arg6 harg6 arg7 harg7 arg8 harg8 arg9 harg9 arg10 harg10 x0 x1 x2 x3
  unfold out0_A_4
  rw [View.read_writes_eq_canon _ _ _ hc]
  refine View.canon_apply_of_pieces (fun y : S1x2048x128.Idx => blockOut i x0 x1 x2 x3 (y 1) (y 2)) _ ?_ (ix3 0 q l) (hc _)
  unfold kernelRun0_A
  dsimp only
  simp only [List.forall_mem_cons]
  refine ⟨?_, ?_, ?_, ?_, by simp⟩ <;> intro z <;> idx_vars z <;> obtain rfl : z0 = 0 := Subsingleton.elim _ _
  · exact (tile3_apply c i arg2 harg2 arg3 harg3 arg4 harg4 arg5 harg5 arg7 arg8 arg9 arg10 x0 x1 x2 x3 z1 z2).trans (place_tile i x0 x1 x2 x3 1536 _ z1 z2).symm
  · exact (tile2_apply c i arg2 harg2 arg3 harg3 arg4 harg4 arg5 harg5 arg7 arg8 arg9 arg10 x0 x1 x2 x3 z1 z2).trans (place_tile i x0 x1 x2 x3 1024 _ z1 z2).symm
  · exact (tile1_apply c i arg2 harg2 arg3 harg3 arg4 harg4 arg5 harg5 arg7 arg8 arg9 arg10 x0 x1 x2 x3 z1 z2).trans (place_tile i x0 x1 x2 x3 512 _ z1 z2).symm
  · exact (tile0_apply c i arg2 harg2 arg3 harg3 arg4 harg4 arg5 harg5 arg7 arg8 arg9 arg10 x0 x1 x2 x3 z1 z2).trans (place_tile i x0 x1 x2 x3 0 _ z1 z2).symm

end Cert.Moba
-- ==== Proof.Moba.KernelArray.lean ====
/-
  The kernel's arrays around its grid: what each point's blocks hold of the program's arguments, and which point wrote
  each entry of the result.
-/
module

public import proofs.«01_k».proof.Proof.Moba.KernelBlock
public import proofs.«01_k».proof.Proof.Gen.KernelIdeal.Value
public import Idealize.ShloMosaic.Lib.Pipeline.Value
public import Idealize.ShloMosaic.Lib.StableHlo.Run

@[expose] public section

set_option maxRecDepth 16384

noncomputable section

open Idealize.ShloMosaic Idealize.ShloMosaic.TcCoe Idealize.SL.Sem
open Cert.KernelIdeal Cert.KernelIdeal.Gen

namespace Cert.Moba

variable (m : (ℓ : Loc nD τ sig) → Buf (Elt Ideal) ℓ) (c : Dev nD)

/-- The eight heads' slopes, as the host line computes them. -/
def slopeVec : FVec Ideal S8 .f32 :=
  Host.exp (mulf (broadcastInDim S8 ![] bcast_S_S8 (constant S_ .f32 0x3F317218#32)) (Host.divf (mulf (broadcastInDim S8 ![] bcast_S_S8 (constant S_ .f32 0xC1000000#32)) (addf (sitofp .f32 (iotaInDim S8 32 0)) (broadcastInDim S8 ![] bcast_S_S8 (constant S_ .f32 0x3F800000#32)))) (broadcastInDim S8 ![] bcast_S_S8 (constant S_ .f32 0x41000000#32))))

/-- The three arguments of the program on one device. -/
abbrev argQ : FVec Ideal S8x2048x8x64 .f32 := m ((c : Thread nD τ).loc main_arg0)
@[inherit_doc argQ] abbrev argK : FVec Ideal S8x2048x8x64 .f32 := m ((c : Thread nD τ).loc main_arg1)
@[inherit_doc argQ] abbrev argV : FVec Ideal S8x2048x8x64 .f32 := m ((c : Thread nD τ).loc main_arg2)

theorem V_v9 : (V m c main_v9 : FVec Ideal S8 .f32) = slopeVec := by
  unfold V hostOps0
  after_results_simp
  rfl

/-- The head and the entry of a column of the flattened arrays. -/
abbrev colHead (l : Fin 512) : Fin 8 := ⟨l.val / 64, by have := l.isLt; omega⟩
@[inherit_doc colHead] abbrev colLane (l : Fin 512) : Fin 64 := ⟨l.val % 64, Nat.mod_lt _ (by decide)⟩

/-- The last two axes flattened, read at an index. -/
theorem flat_apply {α : Type} (x : S8x2048x8x64.Idx → α) (h : S8x2048x8x64.ShapeCasts S8x2048x512)
    (b : Fin 8) (t : Fin 2048) (l : Fin 512) :
    shapeCast S8x2048x512 x h (ix3 b t l) = x (ix4 b t (colHead l) (colLane l)) := by
  pointwise []

theorem V_v13 (b : Fin 8) (t : Fin 2048) (l : Fin 512) :
    (V m c main_v13 : FVec Ideal S8x2048x512 .bf16) (ix3 b t l)
      = argQ m c (ix4 b t (colHead l) (colLane l)) * Ideal.ofBits .f32 0x3E000000#32 := by
  unfold V hostOps0
  after_results_simp
  exact congrArg (· * Ideal.ofBits .f32 0x3E000000#32) (flat_apply (argQ m c) shapeCasts_S8x2048x8x64_S8x2048x512 b t l)

theorem V_v14 (b : Fin 8) (t : Fin 2048) (l : Fin 512) :
    (V m c main_v14 : FVec Ideal S8x2048x512 .f32) (ix3 b t l) = argK m c (ix4 b t (colHead l) (colLane l)) := by
  unfold V hostOps0
  after_results_simp
  exact flat_apply (argK m c) shapeCasts_S8x2048x8x64_S8x2048x512 b t l

theorem V_v15 (b : Fin 8) (t : Fin 2048) (l : Fin 512) :
    (V m c main_v15 : FVec Ideal S8x2048x512 .f32) (ix3 b t l) = argV m c (ix4 b t (colHead l) (colLane l)) := by
  unfold V hostOps0
  after_results_simp
  exact flat_apply (argV m c) shapeCasts_S8x2048x8x64_S8x2048x512 b t l

/-- The batch entry and the pair of heads of a grid point. -/
abbrev ptB (t : Fin cfg0.N) : Fin 8 := ⟨t.val / 4, by have : cfg0.N = 32 := N_0; have := t.isLt; omega⟩
@[inherit_doc ptB] abbrev ptH (t : Fin cfg0.N) : Fin 4 := ⟨t.val % 4, Nat.mod_lt _ (by decide)⟩

/-- A lane of a point's block as a column of the flattened array. -/
abbrev laneCol (hp : Fin 4) (l : Fin 128) : Fin 512 := ⟨128 * hp.val + l.val, by have := hp.isLt; have := l.isLt; omega⟩

theorem coords_0 : ∀ t : Fin cfg0.N, (grid0.coords t 0 : ℕ) = t.val / 4 :=
  (by decide +kernel : ∀ t : Fin grid0.N, (grid0.coords t 0 : ℕ) = t.val / 4)
theorem coords_1 : ∀ t : Fin cfg0.N, (grid0.coords t 1 : ℕ) = t.val % 4 :=
  (by decide +kernel : ∀ t : Fin grid0.N, (grid0.coords t 1 : ℕ) = t.val % 4)

theorem index1 : ∀ t : Fin cfg0.N, win0_1.index t 0 = t.val / 4 ∧ win0_1.index t 1 = 0 ∧ win0_1.index t 2 = t.val % 4 :=
  (by decide +kernel : ∀ t : Fin grid0.N, win0_1.index t 0 = t.val / 4 ∧ win0_1.index t 1 = 0 ∧ win0_1.index t 2 = t.val % 4)
theorem index2 : ∀ t : Fin cfg0.N, win0_2.index t 0 = t.val / 4 ∧ win0_2.index t 1 = 0 ∧ win0_2.index t 2 = t.val % 4 :=
  (by decide +kernel : ∀ t : Fin grid0.N, win0_2.index t 0 = t.val / 4 ∧ win0_2.index t 1 = 0 ∧ win0_2.index t 2 = t.val % 4)
theorem index3 : ∀ t : Fin cfg0.N, win0_3.index t 0 = t.val / 4 ∧ win0_3.index t 1 = 0 ∧ win0_3.index t 2 = t.val % 4 :=
  (by decide +kernel : ∀ t : Fin grid0.N, win0_3.index t 0 = t.val / 4 ∧ win0_3.index t 1 = 0 ∧ win0_3.index t 2 = t.val % 4)
theorem index4 : ∀ t : Fin cfg0.N, win0_4.index t 0 = t.val / 4 ∧ win0_4.index t 1 = 0 ∧ win0_4.index t 2 = t.val % 4 :=
  (by decide +kernel : ∀ t : Fin grid0.N, win0_4.index t 0 = t.val / 4 ∧ win0_4.index t 1 = 0 ∧ win0_4.index t 2 = t.val % 4)
theorem index0 : ∀ t : Fin cfg0.N, win0_0.index t 0 = 0 :=
  (by decide +kernel : ∀ t : Fin grid0.N, win0_0.index t 0 = 0)

theorem iblk0_apply (t : Fin cfg0.N) (h : Fin 8) : (iblk m c 0 t : FVec Ideal S8 .f32) (ix1 h) = slopeVec (ix1 h) := by
  rw [← V_v9 m c]
  unfold iblk
  rw [View.read_apply]
  show V m c main_v9 _ = V m c main_v9 _
  congr 1
  funext a
  apply Fin.ext
  match a with
  | ⟨0, _⟩ => show win0_0.index t 0 * 8 + 1 * h.val = h.val; rw [index0 t]; omega

theorem iblk1_apply (t : Fin cfg0.N) (j : Fin 2048) (l : Fin 128) : (iblk m c 1 t : FVec Ideal S1x2048x128 .bf16) (ix3 0 j l)
    = argQ m c (ix4 (ptB t) j (colHead (laneCol (ptH t) l)) (colLane (laneCol (ptH t) l))) * Ideal.ofBits .f32 0x3E000000#32 := by
  rw [← V_v13 m c]
  unfold iblk
  rw [View.read_apply]
  show V m c main_v13 _ = V m c main_v13 _
  congr 1
  funext a
  apply Fin.ext
  match a with
  | ⟨0, _⟩ => show win0_1.index t 0 * 1 + 1 * 0 = t.val / 4; rw [(index1 t).1]; omega
  | ⟨1, _⟩ => show win0_1.index t 1 * 2048 + 1 * j.val = j.val; rw [(index1 t).2.1]; omega
  | ⟨2, _⟩ => show win0_1.index t 2 * 128 + 1 * l.val = 128 * (t.val % 4) + l.val; rw [(index1 t).2.2]; omega

theorem iblk2_apply (t : Fin cfg0.N) (j : Fin 2048) (l : Fin 128) : (iblk m c 2 t : FVec Ideal S1x2048x128 .f32) (ix3 0 j l)
    = argK m c (ix4 (ptB t) j (colHead (laneCol (ptH t) l)) (colLane (laneCol (ptH t) l))) := by
  rw [← V_v14 m c]
  unfold iblk
  rw [View.read_apply]
  show V m c main_v14 _ = V m c main_v14 _
  congr 1
  funext a
  apply Fin.ext
  match a with
  | ⟨0, _⟩ => show win0_2.index t 0 * 1 + 1 * 0 = t.val / 4; rw [(index2 t).1]; omega
  | ⟨1, _⟩ => show win0_2.index t 1 * 2048 + 1 * j.val = j.val; rw [(index2 t).2.1]; omega
  | ⟨2, _⟩ => show win0_2.index t 2 * 128 + 1 * l.val = 128 * (t.val % 4) + l.val; rw [(index2 t).2.2]; omega

theorem iblk3_apply (t : Fin cfg0.N) (j : Fin 2048) (l : Fin 128) : (iblk m c 3 t : FVec Ideal S1x2048x128 .f32) (ix3 0 j l)
    = argV m c (ix4 (ptB t) j (colHead (laneCol (ptH t) l)) (colLane (laneCol (ptH t) l))) := by
  rw [← V_v15 m c]
  unfold iblk
  rw [View.read_apply]
  show V m c main_v15 _ = V m c main_v15 _
  congr 1
  funext a
  apply Fin.ext
  match a with
  | ⟨0, _⟩ => show win0_3.index t 0 * 1 + 1 * 0 = t.val / 4; rw [(index3 t).1]; omega
  | ⟨1, _⟩ => show win0_3.index t 1 * 2048 + 1 * j.val = j.val; rw [(index3 t).2.1]; omega
  | ⟨2, _⟩ => show win0_3.index t 2 * 128 + 1 * l.val = 128 * (t.val % 4) + l.val; rw [(index3 t).2.2]; omega

/-- An entry of the result array, from the point whose block holds it. -/
theorem result_apply (t : Fin cfg0.N) (j : Fin 2048) (l : Fin 128) :
    ((dats m 0 c).arrAt 4 cfg0.N : FVec Ideal S8x2048x512 .bf16) (ix3 (ptB t) j (laneCol (ptH t) l))
      = blockOut (grid0.coords t) (iblk m c 0 t) (iblk m c 1 t) (iblk m c 2 t) (iblk m c 3 t) j l := by
  have h := congrFun (Value.blocks4 m c t (flush0_4 t)) (ix3 0 j l)
  rw [Value.flushed4_A] at h
  rw [View.read_apply] at h
  refine Eq.trans ?_ (h.trans ?_)
  · congr 1
    funext a
    apply Fin.ext
    match a with
    | ⟨0, _⟩ => show t.val / 4 = win0_4.index t 0 * 1 + 1 * 0; rw [(index4 t).1]; omega
    | ⟨1, _⟩ => show j.val = win0_4.index t 1 * 2048 + 1 * j.val; rw [(index4 t).2.1]; omega
    | ⟨2, _⟩ => show 128 * (t.val % 4) + l.val = win0_4.index t 2 * 128 + 1 * l.val; rw [(index4 t).2.2]; omega
  · exact out_apply _ _ _ _ _ _ _ _ _ _ _ _ _ _ _ _ _ _ _ _ _ _ _ _ j l

end Cert.Moba
-- ==== Proof.Moba.Inputs.lean ====
/-
  What the precondition gives: real queries and keys. And the slopes, which are real on every input.
-/
module

public import proofs.«01_k».proof.Proof.Moba.KernelArray
public import proofs.«01_k».proof.Defs
public import Idealize.ShloMosaic.Lib.ReduceAll

@[expose] public section

set_option maxRecDepth 16384

noncomputable section

open Idealize.ShloMosaic Idealize.ShloMosaic.TcCoe Idealize.SL.Sem

namespace Cert.Moba

/-- The side conditions of the precondition's operations. -/
theorem preFacts : Cert.Pre_finite_qk.Facts := ⟨by decide, by decide, by decide⟩

theorem real_of_abs_lt (x : EReal) (h : max x (-x) < ⊤) : ∃ r : ℝ, x = ((r : ℝ) : EReal) := by
  induction x with
  | bot => simp at h
  | top => simp at h
  | coe r => exact ⟨r, rfl⟩

theorem top_bits : Ideal.ofBits .f32 0x7F800000#32 = (⊤ : EReal) := by
  simp [Ideal.ofBits, Ideal.ieee]

theorem ones_left (x y : BitVec 1) (h : IntOp.andi x y = 1#1) : x = 1#1 := by
  revert x y; decide

theorem ones_right (x y : BitVec 1) (h : IntOp.andi x y = 1#1) : y = 1#1 := by
  revert x y; decide

section

variable [Cert.Pre_finite_qk.Facts]

open Cert.Pre_finite_qk Cert.Pre_finite_qk.Facts

theorem real_of_cmp (x : FVec Ideal S8x2048x8x64 .f32) (j : S8x2048x8x64.Idx)
    (h : cmpf .olt (Host.absf x) (broadcastInDim S8x2048x8x64 ![] bcast_S_S8x2048x8x64 (constant (F := Ideal) S_ .f32 0x7F800000#32)) j = 1#1) :
    ∃ r : ℝ, x j = ((r : ℝ) : EReal) := by
  refine real_of_abs_lt (x j) ?_
  have h' : BitVec.ofBool (decide (max (x j) (-(x j)) < Ideal.ofBits .f32 0x7F800000#32)) = 1#1 := h
  rw [top_bits] at h'
  by_contra hn
  rw [decide_eq_false hn] at h'
  exact absurd h' (by decide)

instance : Subsingleton S_.Idx := ⟨fun a b => funext fun d => d.elim0⟩

/-- Where the precondition holds, every query and every key is a real number. -/
theorem real_of_pre (x y z : FVec Ideal S8x2048x8x64 .f32) (h : Cert.Pre_finite_qk.fn (F := Ideal) x y z = fun _ => 1#1) :
    (∀ j, ∃ r : ℝ, x j = ((r : ℝ) : EReal)) ∧ ∀ j, ∃ r : ℝ, y j = ((r : ℝ) : EReal) := by
  have h0 := congrFun h (fun d => d.elim0)
  refine ⟨fun j => real_of_cmp x j ?_, fun j => real_of_cmp y j ?_⟩
  · exact Host.reduce_andi_all _ _ _ _ _ (ones_left _ _ h0) j
  · exact Host.reduce_andi_all _ _ _ _ _ (ones_right _ _ h0) j

end

/-- Every slope is a real number. -/
theorem slope_real (h : Fin 8) : ∃ σ : ℝ, slopeVec (ix1 h) = ((σ : ℝ) : EReal) := by
  have e1 : Ideal.ofBits .f32 0x3F317218#32 = ((11629080 / 16777216 : ℝ) : EReal) := by
    simp [Ideal.ofBits, Ideal.ieee, -EReal.coe_mul]; norm_num
  have e2 : Ideal.ofBits .f32 0xC1000000#32 = ((-8 : ℝ) : EReal) := by
    simp [Ideal.ofBits, Ideal.ieee, -EReal.coe_mul]; norm_num
  have e3 : Ideal.ofBits .f32 0x3F800000#32 = ((1 : ℝ) : EReal) := by
    simp [Ideal.ofBits, Ideal.ieee, -EReal.coe_mul]; norm_num
  have e4 : Ideal.ofBits .f32 0x41000000#32 = ((8 : ℝ) : EReal) := by
    simp [Ideal.ofBits, Ideal.ieee, -EReal.coe_mul]; norm_num
  have e : slopeVec (ix1 h) = Ideal.exp (Ideal.ofBits .f32 0x3F317218#32 * Ideal.div (Ideal.ofBits .f32 0xC1000000#32
      * ((((BitVec.ofNat 32 h.val).toInt : ℝ) : EReal) + Ideal.ofBits .f32 0x3F800000#32)) (Ideal.ofBits .f32 0x41000000#32)) := rfl
  rw [e, e1, e2, e3, e4, ← EReal.coe_add, ← EReal.coe_mul, Ideal.div_coe (by norm_num), ← EReal.coe_mul, ← EReal.coe_mul]
  exact ⟨_, rfl⟩

end Cert.Moba
-- ==== Proof.Moba.Softmax.lean ====
/-
  The softmax over the keys a query attends to, apart from either program: the weights, their total, and the same sum read
  either over all keys with the others masked, or over three chosen blocks and the query's own.
-/
module

public import proofs.«01_k».proof.Proof.Moba.KernelTile

@[expose] public section

noncomputable section

open Idealize.ShloMosaic
open Classical

namespace Cert.Moba

/-- Key `256 n + s`. -/
abbrev keyAt (n : Fin 8) (s : Fin 256) : Fin 2048 := ⟨256 * n.val + s.val, by have := n.isLt; have := s.isLt; omega⟩

/-- The block of a key. -/
abbrev blockOf (j : Fin 2048) : Fin 8 := ⟨j.val / 256, by have := j.isLt; omega⟩

theorem blockOf_keyAt (n : Fin 8) (s : Fin 256) : blockOf (keyAt n s) = n := by
  have := s.isLt
  apply Fin.ext
  show (256 * n.val + s.val) / 256 = n.val
  omega

theorem keyAt_blockOf (j : Fin 2048) : keyAt (blockOf j) ⟨j.val % 256, Nat.mod_lt _ (by decide)⟩ = j := by
  apply Fin.ext
  show 256 * (j.val / 256) + j.val % 256 = j.val
  omega

/-- A sum over the keys, block by block. -/
theorem sum_blocks {M : Type} [AddCommMonoid M] (f : Fin 2048 → M) : ∑ j, f j = ∑ n : Fin 8, ∑ s : Fin 256, f (keyAt n s) := by
  rw [← Fintype.sum_prod_type' (f := fun n s => f (keyAt n s))]
  refine (Fintype.sum_equiv (finProdFinEquiv (m := 8) (n := 256)) _ f fun x => ?_).symm
  congr 1
  apply Fin.ext
  show 256 * x.1.val + x.2.val = x.2.val + 256 * x.1.val
  omega

variable (ℓ : Fin 2048 → ℝ) (A : Fin 2048 → Prop) (M : ℝ)

/-- `M` is the largest logit over the keys in `A`. -/
def IsTop : Prop := (∃ j, A j ∧ ℓ j = M) ∧ ∀ j, A j → ℓ j ≤ M

theorem exists_top (h : ∃ j, A j) : ∃ M, IsTop ℓ A M := by
  obtain ⟨j, hj⟩ := h
  obtain ⟨x, hx, hm⟩ := Finset.exists_max_image (Finset.univ.filter A) ℓ ⟨j, by simpa using hj⟩
  refine ⟨ℓ x, ⟨x, by simpa using hx, rfl⟩, fun y hy => hm y (by simpa using hy)⟩

/-- The weight of a key before it is divided by the total. -/
def weight (j : Fin 2048) : ℝ := if A j then Real.exp (ℓ j - M) else 0

/-- The total weight. -/
def total : ℝ := ∑ j, weight ℓ A M j

theorem weight_nonneg (j : Fin 2048) : 0 ≤ weight ℓ A M j := by
  unfold weight
  split_ifs
  · exact (Real.exp_pos _).le
  · exact le_rfl

variable {ℓ A M}

theorem total_pos (h : IsTop ℓ A M) : 0 < total ℓ A M := by
  obtain ⟨⟨j, hj, -⟩, -⟩ := h
  refine Finset.sum_pos' (fun j _ => weight_nonneg ℓ A M j) ⟨j, Finset.mem_univ _, ?_⟩
  unfold weight
  rw [if_pos hj]
  exact Real.exp_pos _

/-- A masked logit. -/
def masked (ℓ : Fin 2048 → ℝ) (A : Fin 2048 → Prop) (c : ℝ) (j : Fin 2048) : EReal :=
  if A j then ((ℓ j + c : ℝ) : EReal) else ⊥

theorem masked_le (h : IsTop ℓ A M) (c : ℝ) (j : Fin 2048) : masked ℓ A c j ≤ ((M + c : ℝ) : EReal) := by
  unfold masked
  split_ifs with hj
  · exact EReal.coe_le_coe_iff.mpr (by have := h.2 j hj; linarith)
  · exact bot_le

theorem sup_masked (h : IsTop ℓ A M) (c : ℝ) : Finset.univ.sup (masked ℓ A c) = ((M + c : ℝ) : EReal) := by
  refine le_antisymm (Finset.sup_le fun j _ => masked_le h c j) ?_
  obtain ⟨⟨j, hj, e⟩, -⟩ := h
  refine le_trans (le_of_eq ?_) (Finset.le_sup (Finset.mem_univ j))
  unfold masked
  rw [if_pos hj, e]

theorem exp_masked (c : ℝ) (j : Fin 2048) :
    Ideal.exp (masked ℓ A c j - ((M + c : ℝ) : EReal)) = ((weight ℓ A M j : ℝ) : EReal) := by
  unfold masked weight
  split_ifs with hj
  · rw [← EReal.coe_sub]
    show ((Real.exp (ℓ j + c - (M + c)) : ℝ) : EReal) = _
    congr 2
    ring
  · exact exp_bot_sub _

/-- The kernel's sum over all keys, the masked ones falling away. -/
theorem fullSum_masked (h : IsTop ℓ A M) (c : ℝ) (V : Fin 2048 → EReal) :
    fullSum (masked ℓ A c) V = ∑ j, ((weight ℓ A M j : ℝ) : EReal) * V j := by
  unfold fullSum
  refine Finset.sum_congr rfl fun j _ => ?_
  rw [sup_masked h c, exp_masked]

theorem coe_sum {ι : Type} (S : Finset ι) (f : ι → ℝ) : ((∑ j ∈ S, f j : ℝ) : EReal) = ∑ j ∈ S, ((f j : ℝ) : EReal) := by
  induction S using Finset.induction_on with
  | empty => simp
  | insert a S ha ih => rw [Finset.sum_insert ha, Finset.sum_insert ha, EReal.coe_add, ih]

theorem fullSum_ones (h : IsTop ℓ A M) (c : ℝ) (V : Fin 2048 → EReal) (hV : ∀ j, V j = 1) :
    fullSum (masked ℓ A c) V = ((total ℓ A M : ℝ) : EReal) := by
  rw [fullSum_masked h]
  unfold total
  rw [coe_sum]
  exact Finset.sum_congr rfl fun j _ => by rw [hV, mul_one]

theorem sum_scale {ι : Type} (S : Finset ι) (w : ι → ℝ) (V : ι → EReal) (c : ℝ) (hc : 0 ≤ c) :
    (∑ j ∈ S, ((w j : ℝ) : EReal) * V j) * (c : EReal) = ∑ j ∈ S, ((w j * c : ℝ) : EReal) * V j := by
  induction S using Finset.induction_on with
  | empty => simp
  | insert a S ha ih =>
    rw [Finset.sum_insert ha, Finset.sum_insert ha, ← ih, mul_comm _ (c : EReal),
      EReal.left_distrib_of_nonneg_of_ne_top (by exact_mod_cast hc) (EReal.coe_ne_top c), EReal.coe_mul,
      mul_comm (c : EReal) (∑ j ∈ S, _), ← mul_assoc, mul_comm (c : EReal)]

/-- The attended value: the weights divided by their total, times the values. -/
def attended (ℓ : Fin 2048 → ℝ) (A : Fin 2048 → Prop) (M : ℝ) (V : Fin 2048 → EReal) : EReal :=
  ∑ j, ((weight ℓ A M j * (1 / total ℓ A M) : ℝ) : EReal) * V j

/-- The kernel's quotient is the attended value. -/
theorem kernel_attended (h : IsTop ℓ A M) (c : ℝ) (V W : Fin 2048 → EReal) (hW : ∀ j, W j = 1) :
    fullSum (masked ℓ A c) V * Ideal.div 1 (fullSum (masked ℓ A c) W) = attended ℓ A M V := by
  have hZ := total_pos h
  rw [fullSum_ones h c W hW, Ideal.div_coe hZ.ne', one_mul, fullSum_masked h, sum_scale _ _ _ _ (by positivity)]
  rfl

/-- A sum over the keys that lives on the chosen blocks before the query's own and on that one, read over the three
    chosen blocks and the own block. -/
theorem sum_chosen {E : Type} [AddCommMonoid E] (sel : Fin 3 → Fin 8) (hsel : Function.Injective sel) (cb : Fin 8) (f : Fin 2048 → E)
    (hf : ∀ n s, ¬ ((n < cb ∧ ∃ r, sel r = n) ∨ n = cb) → f (keyAt n s) = 0) :
    (∑ r, ∑ s, if sel r < cb then f (keyAt (sel r) s) else 0) + ∑ s, f (keyAt cb s) = ∑ j, f j := by
  rw [sum_blocks]
  have h1 : (∑ r, ∑ s, if sel r < cb then f (keyAt (sel r) s) else 0)
      = ∑ n, if (∃ r, sel r = n) ∧ n < cb then ∑ s, f (keyAt n s) else 0 := by
    have : ∀ r, (∑ s, if sel r < cb then f (keyAt (sel r) s) else 0) = if sel r < cb then ∑ s, f (keyAt (sel r) s) else 0 := by
      intro r
      split_ifs <;> simp
    simp only [this]
    rw [← Finset.sum_image (s := Finset.univ) (g := sel) (f := fun n => if n < cb then ∑ s, f (keyAt n s) else 0)
      (fun a _ b _ h => hsel h)]
    have : (Finset.univ.image sel) = Finset.univ.filter fun n => ∃ r, sel r = n := by
      ext n; simp
    rw [this, Finset.sum_filter]
    refine Finset.sum_congr rfl fun n _ => ?_
    by_cases h : ∃ r, sel r = n <;> simp [h]
  have h2 : ∑ s, f (keyAt cb s) = ∑ n, if n = cb then ∑ s, f (keyAt n s) else 0 := by
    simp
  rw [h1, h2, ← Finset.sum_add_distrib]
  refine Finset.sum_congr rfl fun n _ => ?_
  by_cases hn : n = cb
  · subst hn
    simp
  · by_cases hk : (∃ r, sel r = n) ∧ n < cb
    · simp [hk, hn]
    · rw [if_neg hk, if_neg hn, add_zero]
      refine (Finset.sum_eq_zero fun s _ => hf n s ?_).symm
      rintro (⟨h3, h4⟩ | h3)
      · exact hk ⟨h4, h3⟩
      · exact hn h3

end Cert.Moba
-- ==== Proof.Moba.Rank.lean ====
/-
  Which entries a stable descending sort puts first: those that fewer than so many others precede, an entry preceding
  another when it is larger, or equal and earlier.
-/
module

public import proofs.«01_k».proof.Proof.Moba.KernelTile
public import Idealize.ShloMosaic.Lib.SortFacts

@[expose] public section

noncomputable section

open Idealize.ShloMosaic
open Classical

namespace Cert.Moba

variable {n : ℕ} (g : Fin n → EReal)

/-- `a` stands before `b` in the descending order of `g`, ties going to the smaller position. -/
def precedes (a b : Fin n) : Prop := g b < g a ∨ g a = g b ∧ a < b

/-- The comparison the sort is given: strictly larger. -/
abbrev larger (a b : Fin n) : Bool := decide (g b < g a)

/-- The same with ties broken by position. -/
abbrev precedesB (a b : Fin n) : Bool := decide (precedes g a b)

theorem stableSort_larger (l : List (Fin n)) (h : l.Pairwise (· < ·)) :
    stableSort (larger g) l = stableSort (precedesB g) l := by
  induction l with
  | nil => rfl
  | cons a l ih =>
    have h' := List.pairwise_cons.mp h
    show insertBefore (larger g) a (stableSort (larger g) l) = insertBefore (precedesB g) a (stableSort (precedesB g) l)
    rw [ih h'.2]
    refine insertBefore_congr _ _ a _ fun b hb => ?_
    have hb' : a < b := h'.1 b ((perm_stableSort _ l).mem_iff.mp hb)
    have : ¬ b < a := not_lt.mpr hb'.le
    simp [larger, precedesB, precedes, this]

theorem sortedFrom_larger : sortedFrom (larger g) = sortedFrom (precedesB g) := by
  have h : sortPositions n (larger g) = sortPositions n (precedesB g) :=
    stableSort_larger g _ (List.pairwise_lt_finRange n)
  funext k
  unfold sortedFrom
  simp only [List.get_eq_getElem, h]
  rfl

theorem precedes_asymm (a b : Fin n) (h : precedes g a b) : ¬ precedes g b a := by
  rintro (h2 | ⟨h2, h3⟩) <;> rcases h with h | ⟨h, h4⟩
  · exact lt_asymm h h2
  · exact absurd h2 (by rw [h]; exact lt_irrefl _)
  · exact absurd h (by rw [h2]; exact lt_irrefl _)
  · exact lt_asymm h3 h4

theorem precedes_total (a b : Fin n) (h : a ≠ b) : precedes g a b ∨ precedes g b a := by
  rcases lt_trichotomy (g a) (g b) with hg | hg | hg
  · exact Or.inr (Or.inl hg)
  · rcases lt_or_gt_of_ne h with h | h
    · exact Or.inl (Or.inr ⟨hg, h⟩)
    · exact Or.inr (Or.inr ⟨hg.symm, h⟩)
  · exact Or.inl (Or.inl hg)

theorem precedes_negTrans (a b c : Fin n) (h : ¬ precedes g a b) (h' : ¬ precedes g b c) : ¬ precedes g a c := by
  simp only [precedes, not_or, not_and, not_lt] at h h' ⊢
  refine ⟨h.1.trans h'.1, fun e => ?_⟩
  have hab : g a = g b := le_antisymm h.1 (e ▸ h'.1)
  exact (h'.2 (hab ▸ e)).trans (h.2 hab)

theorem sorted_precedes (i j : Fin n) : precedes g (sortedFrom (precedesB g) i) (sortedFrom (precedesB g) j) ↔ i < j := by
  have inv : ∀ i j : Fin n, i < j → ¬ precedes g (sortedFrom (precedesB g) j) (sortedFrom (precedesB g) i) := by
    intro i j hij
    have := sortedFrom_noInversion (precedesB g) (precedesB g)
      (fun a b h => by simpa using precedes_asymm g a b (by simpa using h)) (fun a b h => h) (fun a b c h1 h2 => by simpa using precedes_negTrans g a b c (by simpa using h1) (by simpa using h2)) i j hij
    simpa [precedesB] using this
  constructor
  · intro h
    rcases lt_trichotomy i j with hij | hij | hij
    · exact hij
    · subst hij; exact absurd h (precedes_asymm g _ _ h)
    · exact absurd h (inv j i hij)
  · intro h
    rcases precedes_total g _ _ (fun e => h.ne (sortedFrom_injective (precedesB g) e)) with h1 | h1
    · exact h1
    · exact absurd h1 (inv i j h)

/-- The sort puts at place `j` the entry that exactly `j` others precede. -/
theorem card_precedes (j : Fin n) :
    (Finset.univ.filter fun a => precedes g a (sortedFrom (precedesB g) j)).card = j.val := by
  have : (Finset.univ.filter fun a => precedes g a (sortedFrom (precedesB g) j))
      = (Finset.univ.filter fun i : Fin n => i < j).image (sortedFrom (precedesB g)) := by
    ext a
    simp only [Finset.mem_filter, Finset.mem_univ, true_and, Finset.mem_image]
    constructor
    · intro h
      obtain ⟨i, rfl⟩ := sortedFrom_surjective (precedesB g) a
      exact ⟨i, (sorted_precedes g i j).mp h, rfl⟩
    · rintro ⟨i, h, rfl⟩
      exact (sorted_precedes g i j).mpr h
  rw [this, Finset.card_image_of_injective _ (sortedFrom_injective _)]
  have hI : (Finset.univ.filter fun i : Fin n => i < j) = Finset.Iio j := by
    ext i
    rw [Finset.mem_filter, Finset.mem_Iio]
    exact ⟨fun h => h.2, fun h => ⟨Finset.mem_univ _, h⟩⟩
  rw [hI, Fin.card_Iio]

/-- The first `k` of the sort are the entries that fewer than `k` others precede. -/
theorem image_first {k : ℕ} (hk : k ≤ n) (a : Fin n) :
    (∃ r : Fin k, sortedFrom (larger g) (r.castLE hk) = a)
      ↔ (Finset.univ.filter fun m => precedes g m a).card < k := by
  rw [sortedFrom_larger]
  constructor
  · rintro ⟨r, rfl⟩
    rw [card_precedes]
    exact r.isLt
  · intro h
    obtain ⟨i, rfl⟩ := sortedFrom_surjective (precedesB g) a
    rw [card_precedes] at h
    exact ⟨⟨i, h⟩, rfl⟩

end Cert.Moba
-- ==== Proof.Moba.KernelHead.lean ====
/-
  One head of the kernel's block once its inputs are real numbers: the gate, the scores, and the sums over the keys.
-/
module

public import proofs.«01_k».proof.Proof.Moba.KernelBlock
public import proofs.«01_k».proof.Proof.Moba.Softmax
public import proofs.«01_k».proof.Proof.Moba.Rank

@[expose] public section

noncomputable section

open Idealize.ShloMosaic Idealize.ShloMosaic.TcCoe Idealize.SL.Sem
open Cert.KernelIdeal Cert.KernelIdeal.Gen
open Classical

namespace Cert.Moba

/-- Entry `d` of a head as a lane of the block. -/
abbrev headLane (hd : Fin 2) (d : Fin 64) : Fin 128 := ⟨64 * hd.val + d.val, by have := hd.isLt; have := d.isLt; omega⟩

/-- The lanes, the head's own and the others. -/
theorem sum_lanes (hd : Fin 2) (f : Fin 128 → EReal) :
    ∑ l, f l = (∑ d, f (headLane hd d)) + ∑ d, f (headLane (1 - hd) d) := by
  have h := Fin.sum_univ_add (a := 64) (b := 64) f
  have e0 : ∀ d : Fin 64, Fin.castAdd 64 d = headLane 0 d := fun d => Fin.ext (by show d.val = 64 * 0 + d.val; omega)
  have e1 : ∀ d : Fin 64, Fin.natAdd 64 d = headLane 1 d := fun d => Fin.ext (by show 64 + d.val = 64 * 1 + d.val; omega)
  simp only [e0, e1] at h
  have hsplit := hd.isLt
  rcases (show hd = 0 ∨ hd = 1 by omega) with rfl | rfl
  · exact h
  · exact h.trans (add_comm _ _)

theorem own_head (hd : Fin 2) (d : Fin 64) : own hd (headLane hd d) := by
  have hsplit := hd.isLt
  have hd' := d.isLt
  unfold own
  rcases (show hd = 0 ∨ hd = 1 by omega) with rfl | rfl
  · rw [if_pos rfl]; show 64 * 0 + d.val < 64; omega
  · rw [if_neg (by decide)]; show 64 ≤ 64 * 1 + d.val; omega

theorem not_own_other (hd : Fin 2) (d : Fin 64) : ¬ own hd (headLane (1 - hd) d) := by
  have hsplit := hd.isLt
  have hd' := d.isLt
  unfold own
  rcases (show hd = 0 ∨ hd = 1 by omega) with rfl | rfl
  · rw [if_pos rfl]; show ¬ 64 * 1 + d.val < 64; omega
  · rw [if_neg (by decide)]; show ¬ 64 ≤ 64 * 0 + d.val; omega

theorem extraLane_other (hd : Fin 2) (d : Fin 64) : extraLane hd (headLane (1 - hd) d) = d.val := by
  have hsplit := hd.isLt
  unfold extraLane
  rcases (show hd = 0 ∨ hd = 1 by omega) with rfl | rfl
  · rw [if_pos rfl]; show 64 * 1 + d.val - 64 = d.val; omega
  · rw [if_neg (by decide)]; show 64 * 0 + d.val = d.val; omega

theorem real_256 : Ideal.ofBits .f32 998244352#32 = ((1 / 256 : ℝ) : EReal) := by
  simp [Ideal.ofBits, Ideal.ieee, -EReal.coe_mul]; norm_num

variable (i : grid0.Coords)
  (x0 : Vec Ideal S8 .f32) (x1 : Vec Ideal S1x2048x128 .bf16) (x2 : Vec Ideal S1x2048x128 .f32) (x3 : Vec Ideal S1x2048x128 .f32)
  (hd : Fin 2) (σ : ℝ) (q k : Fin 2048 → Fin 64 → ℝ)

/-- The gate of a query and a block over the reals. -/
def gateReal (q k : Fin 2048 → Fin 64 → ℝ) (t : Fin 2048) (n : Fin 8) : ℝ :=
  ∑ d, q t d * ((∑ s, k (keyAt n s) d) * (1 / 256))

/-- The gate, blocks from the query's own on masked. -/
def gateMasked (q k : Fin 2048 → Fin 64 → ℝ) (t : Fin 2048) (n : Fin 8) : EReal :=
  if n.val < t.val / 256 then ((gateReal q k t n : ℝ) : EReal) else ⊥

/-- The row of a head's block. -/
abbrev headRow (hd : Fin 2) (n : Fin 8) : Fin 16 := ⟨8 * hd.val + n.val, by have := hd.isLt; have := n.isLt; omega⟩

theorem meanRow_own (n : Fin 8) (d : Fin 64) : meanRow x2 (headRow hd n) (headLane hd d) = blockMean x2 n (headLane hd d) := by
  have hsplit := hd.isLt
  have hn := n.isLt
  have hd' := d.isLt
  unfold meanRow
  rcases (show hd = 0 ∨ hd = 1 by omega) with rfl | rfl
  · rw [dif_pos (by show 8 * 0 + n.val < 8; omega), if_pos (by show 64 * 0 + d.val < 64; omega)]
    congr 1
    exact Fin.ext (by show 8 * 0 + n.val = n.val; omega)
  · rw [dif_neg (by show ¬ 8 * 1 + n.val < 8; omega), if_neg (by show ¬ 64 * 1 + d.val < 64; omega)]
    congr 1
    exact Fin.ext (by show 8 * 1 + n.val - 8 = n.val; omega)

theorem meanRow_other (n : Fin 8) (d : Fin 64) : meanRow x2 (headRow hd n) (headLane (1 - hd) d) = 0 := by
  have hsplit := hd.isLt
  have hn := n.isLt
  have hd' := d.isLt
  unfold meanRow
  rcases (show hd = 0 ∨ hd = 1 by omega) with rfl | rfl
  · rw [dif_pos (by show 8 * 0 + n.val < 8; omega), if_neg (by show ¬ 64 * 1 + d.val < 64; omega)]
  · rw [dif_neg (by show ¬ 8 * 1 + n.val < 8; omega), if_pos (by show 64 * 0 + d.val < 64; omega)]

section

variable (hx1 : ∀ j d, x1 (ix3 0 j (headLane hd d)) = ((q j d * (1 / 8) : ℝ) : EReal))
  (hx2 : ∀ j d, x2 (ix3 0 j (headLane hd d)) = ((k j d : ℝ) : EReal))
include hx1 hx2

theorem gateRow_real (n : Fin 8) (t : Fin 2048) :
    gateRow x1 x2 (headRow hd n) t = ((1 / 8 * gateReal q k t n : ℝ) : EReal) := by
  unfold gateRow
  rw [sum_lanes hd]
  simp only [meanRow_own, meanRow_other, zero_mul, Finset.sum_const_zero, add_zero]
  have hb : ∀ d, blockMean x2 n (headLane hd d) = (((∑ s, k (keyAt n s) d) * (1 / 256) : ℝ) : EReal) := fun d => by
    unfold blockMean
    rw [real_256, EReal.coe_mul, coe_sum]
    congr 1
    exact Finset.sum_congr rfl fun s _ => hx2 _ _
  simp only [hb, hx1]
  unfold gateReal
  rw [Finset.mul_sum, coe_sum]
  refine Finset.sum_congr rfl fun d _ => ?_
  rw [← EReal.coe_mul]
  congr 1
  ring

theorem before_iff (n : Fin 8) (t : Fin 2048) (hn : n.val < t.val / 256) (m : Fin 8) :
    before x1 x2 (headRow hd n) t m ↔ precedes (gateMasked q k t) m n := by
  have h1 : rowOf (headRow hd n) m = headRow hd m := Fin.ext (by
    have := n.isLt
    show 8 * ((8 * hd.val + n.val) / 8) + m.val = 8 * hd.val + m.val
    omega)
  have h2 : (headRow hd n).val % 8 = n.val := by
    have := n.isLt
    show (8 * hd.val + n.val) % 8 = n.val
    omega
  unfold before precedes gateMasked
  rw [h1, h2, gateRow_real x1 x2 hd q k hx1 hx2, gateRow_real x1 x2 hd q k hx1 hx2, if_pos hn, EReal.coe_lt_coe_iff, EReal.coe_eq_coe_iff]
  by_cases hm : m.val < t.val / 256
  · rw [if_pos hm, EReal.coe_lt_coe_iff, EReal.coe_eq_coe_iff]
    constructor
    · rintro ⟨h3 | ⟨h3, h4⟩, -⟩
      · exact Or.inl (by linarith)
      · exact Or.inr ⟨by linarith, h4⟩
    · rintro (h3 | ⟨h3, h4⟩)
      · exact ⟨Or.inl (by linarith), hm⟩
      · exact ⟨Or.inr ⟨by rw [h3], h4⟩, hm⟩
  · rw [if_neg hm]
    constructor
    · rintro ⟨-, h3⟩
      exact absurd h3 hm
    · rintro (h3 | ⟨h3, -⟩)
      · exact absurd h3 not_lt_bot
      · exact absurd h3.symm (EReal.coe_ne_bot _)

/-- A query reads a block that is its own, or before its own and among the three the sort puts first. -/
theorem keptRow_iff (n : Fin 8) (t : Fin 2048) :
    keptRow x1 x2 (headRow hd n) t
      ↔ (n.val < t.val / 256 ∧ ∃ r : Fin 3, sortedFrom (larger (gateMasked q k t)) (r.castLE (by decide)) = n) ∨ n.val = t.val / 256 := by
  have h2 : (headRow hd n).val % 8 = n.val := by
    have := n.isLt
    show (8 * hd.val + n.val) % 8 = n.val
    omega
  unfold keptRow
  rw [h2]
  refine or_congr ?_ Iff.rfl
  rw [and_comm]
  refine and_congr_right fun hn => ?_
  rw [image_first (gateMasked q k t) (k := 3) (by decide) n]
  have : (Finset.univ.filter (before x1 x2 (headRow hd n) t)) = Finset.univ.filter fun m => precedes (gateMasked q k t) m n :=
    Finset.filter_congr fun m _ => before_iff x1 x2 hd q k hx1 hx2 n t hn m
  rw [this]

end

/-- The features' share of a score: the distance term and the block's mask. -/
theorem extra_term (b : ℝ) (n : Fin 8) (mask : ℕ → EReal) (e : Fin 64) :
    (if e.val < 3 then (1 : EReal) else if e.val < 11 then mask (e.val - 3) else 0) * feat ((b : ℝ) : EReal) n.val e.val
      = (if e = 0 then ((b : ℝ) : EReal) else 0) + (if e = ⟨n.val + 3, by have := n.isLt; omega⟩ then mask n.val else 0) := by
  have hn := n.isLt
  have hbb : ((b : ℝ) : EReal) - ((b : ℝ) : EReal) = 0 := by rw [← EReal.coe_sub, sub_self]; rfl
  have e0 : e = 0 ↔ e.val = 0 := Fin.ext_iff
  have en : e = ⟨n.val + 3, by omega⟩ ↔ e.val = n.val + 3 := Fin.ext_iff
  unfold feat
  rw [hbb]
  simp only [e0, en]
  by_cases h0 : e.val = 0
  · rw [if_pos (by omega), if_pos h0, if_pos h0, if_neg (by omega), one_mul, add_zero]
  · by_cases h1 : e.val = 1
    · simp [h1]
    · by_cases h2 : e.val = 2
      · simp [h2]
      · by_cases h3 : e.val = n.val + 3
        · have : e.val - 3 = n.val := by omega
          rw [if_neg (by omega), if_pos (by omega), if_neg h0, if_neg h1, if_neg h2, if_pos (by omega), if_neg h0, if_pos h3, this, mul_one, zero_add]
        · rw [if_neg h0, if_neg h1, if_neg h2, if_neg (by omega : ¬ e.val < 3),
            if_neg (by omega : ¬ (3 ≤ e.val ∧ e.val - 3 = n.val)), if_neg h0, if_neg h3, mul_zero, add_zero]

section

variable (hx0 : x0 (ix1 (headOf i hd)) = ((σ : ℝ) : EReal))
  (hx1 : ∀ j d, x1 (ix3 0 j (headLane hd d)) = ((q j d * (1 / 8) : ℝ) : EReal))
  (hx2 : ∀ j d, x2 (ix3 0 j (headLane hd d)) = ((k j d : ℝ) : EReal))
include hx0 hx1 hx2

theorem rawScore_real (t j : Fin 2048) :
    rawScore i x0 x1 x2 hd t j
      = if keptRow x1 x2 (headRow hd (blockOf j)) t then (((∑ d, q t d * k j d) * (1 / 8) + σ * (j.val : ℝ) : ℝ) : EReal) else ⊥ := by
  unfold rawScore
  rw [sum_lanes hd]
  have h1 : ∀ d, queryLane x1 x2 hd t (headLane hd d) * keyLane i x0 x2 hd j (headLane hd d) = ((q t d * (1 / 8) * k j d : ℝ) : EReal) := fun d => by
    unfold queryLane keyLane
    rw [if_pos (own_head hd d), if_pos (own_head hd d), hx1, hx2, ← EReal.coe_mul]
  have hb : bias i x0 hd j = ((σ * (j.val : ℝ) : ℝ) : EReal) := by
    unfold bias
    rw [hx0, EReal.coe_mul]
  have h2 : ∀ d, queryLane x1 x2 hd t (headLane (1 - hd) d) * keyLane i x0 x2 hd j (headLane (1 - hd) d)
      = (if d = 0 then ((σ * (j.val : ℝ) : ℝ) : EReal) else 0)
        + (if d = ⟨(blockOf j).val + 3, by have := (blockOf j).isLt; omega⟩ then blockMask x1 x2 hd t (blockOf j).val else 0) := fun d => by
    unfold queryLane keyLane
    rw [if_neg (not_own_other hd d), if_neg (not_own_other hd d), extraLane_other, hb]
    exact extra_term _ (blockOf j) (blockMask x1 x2 hd t) d
  simp only [h1, h2]
  rw [Finset.sum_add_distrib, Finset.sum_ite_eq' Finset.univ, Finset.sum_ite_eq' Finset.univ, if_pos (Finset.mem_univ _),
    if_pos (Finset.mem_univ _), ← coe_sum, ← add_assoc, ← EReal.coe_add]
  unfold blockMask
  rw [dif_pos (blockOf j).isLt]
  have e : (∑ d, q t d * (1 / 8) * k j d) = (∑ d, q t d * k j d) * (1 / 8) := by
    rw [Finset.sum_mul]
    exact Finset.sum_congr rfl fun d _ => by ring
  rw [e]
  by_cases hk : keptRow x1 x2 (headRow hd (blockOf j)) t
  · rw [if_pos hk, if_pos hk, add_zero]
  · rw [if_neg hk, if_neg hk]
    exact EReal.add_bot _

/-- The keys a query of this head sees. -/
def seenReal (q k : Fin 2048 → Fin 64 → ℝ) (t j : Fin 2048) : Prop :=
  (blockOf j < blockOf t ∧ ∃ r : Fin 3, sortedFrom (larger (gateMasked q k t)) (r.castLE (by decide)) = blockOf j)
    ∨ (blockOf j = blockOf t ∧ j.val ≤ t.val)

/-- The logit over the reals. -/
def logitReal (σ : ℝ) (q k : Fin 2048 → Fin 64 → ℝ) (t j : Fin 2048) : ℝ :=
  (∑ d, q t d * k j d) * (1 / 8) - σ * ((t.val : ℝ) - (j.val : ℝ))

theorem causal_masked (t : Fin 2048) :
    causal t.val (rawScore i x0 x1 x2 hd t) = masked (logitReal σ q k t) (seenReal q k t) (σ * (t.val : ℝ)) := by
  funext j
  unfold causal masked
  rw [rawScore_real i x0 x1 x2 hd σ q k hx0 hx1 hx2]
  have hk : (j.val ≤ t.val ∧ keptRow x1 x2 (headRow hd (blockOf j)) t) ↔ seenReal q k t j := by
    rw [keptRow_iff x1 x2 hd q k hx1 hx2]
    unfold seenReal
    constructor
    · rintro ⟨h1, ⟨h2, h3⟩ | h2⟩
      · exact Or.inl ⟨h2, h3⟩
      · exact Or.inr ⟨Fin.ext h2, h1⟩
    · rintro (⟨h2, h3⟩ | ⟨h2, h3⟩)
      · have h2' : j.val / 256 < t.val / 256 := h2
        exact ⟨by omega, Or.inl ⟨h2, h3⟩⟩
      · exact ⟨h3, Or.inr (congrArg Fin.val h2)⟩
  have hl : (∑ d, q t d * k j d) * (1 / 8) + σ * (j.val : ℝ) = logitReal σ q k t j + σ * (t.val : ℝ) := by
    unfold logitReal
    ring
  rw [hl]
  by_cases hs : seenReal q k t j
  · have := hk.mpr hs
    rw [if_pos this.1, if_pos this.2, if_pos hs]
  · rw [if_neg hs]
    by_cases h1 : j.val ≤ t.val
    · rw [if_pos h1, if_neg fun h2 => hs (hk.mp ⟨h1, h2⟩)]
    · rw [if_neg h1]

/-- A head's output: the softmax-weighted sum of the values over the keys seen. -/
theorem headSum_attended (t : Fin 2048) (M : ℝ) (hM : IsTop (logitReal σ q k t) (seenReal q k t) M) (d z : Fin 64) :
    headSum i x0 x1 x2 x3 hd t (headLane hd d) * Ideal.div 1 (headSum i x0 x1 x2 x3 hd t (headLane (1 - hd) z))
      = attended (logitReal σ q k t) (seenReal q k t) M (fun j => x3 (ix3 0 j (headLane hd d))) := by
  unfold headSum
  rw [causal_masked i x0 x1 x2 hd σ q k hx0 hx1 hx2]
  have hv : (fun j => valLane x3 hd j (headLane hd d)) = fun j => x3 (ix3 0 j (headLane hd d)) := funext fun j => by
    unfold valLane
    rw [if_pos (own_head hd d)]
  rw [hv]
  exact kernel_attended hM _ _ _ fun j => by
    unfold valLane
    rw [if_neg (not_own_other hd z)]

/-- The block's output at a lane of the head. -/
theorem blockOut_attended (t : Fin 2048) (M : ℝ) (hM : IsTop (logitReal σ q k t) (seenReal q k t) M) (d : Fin 64) :
    blockOut i x0 x1 x2 x3 t (headLane hd d)
      = attended (logitReal σ q k t) (seenReal q k t) M (fun j => x3 (ix3 0 j (headLane hd d))) := by
  rw [← headSum_attended i x0 x1 x2 x3 hd σ q k hx0 hx1 hx2 t M hM d 0]
  have hsplit := hd.isLt
  have hd' := d.isLt
  unfold blockOut finish
  rcases (show hd = 0 ∨ hd = 1 by omega) with rfl | rfl
  · rw [if_pos (by show 64 * 0 + d.val < 64; omega)]
    rfl
  · rw [if_neg (by show ¬ 64 * 1 + d.val < 64; omega)]
    rfl

end

end Cert.Moba
-- ==== Proof.Moba.RefGate.lean ====
/-
  The reference's arrays read at an index: heads, blocks, the gate and the three chosen blocks.
-/
module

public import proofs.«01_k».proof.Proof.Moba.Rank
public import proofs.«01_k».proof.Proof.Gen.ReferenceIdeal.Run
public import Idealize.ShloMosaic.Lib.Pointwise

@[expose] public section

set_option maxRecDepth 16384

noncomputable section

open Idealize.ShloMosaic Idealize.ShloMosaic.TcCoe Idealize.SL.Sem
open Cert.ReferenceIdeal Cert.ReferenceIdeal.Value

namespace Cert.Moba

variable (V0 : Valuation τ sig (Elt Ideal))

/-- The reference's three arguments. -/
abbrev refQ : FVec Ideal S8x2048x8x64 .f32 := V0 (Proc.devRef .tc main_arg0)
@[inherit_doc refQ] abbrev refK : FVec Ideal S8x2048x8x64 .f32 := V0 (Proc.devRef .tc main_arg1)
@[inherit_doc refQ] abbrev refV : FVec Ideal S8x2048x8x64 .f32 := V0 (Proc.devRef .tc main_arg2)

theorem v10_apply (b h : Fin 8) (t : Fin 2048) (d : Fin 64) :
    (res_main_v10 V0 : FVec Ideal S8x8x2048x64 .f32) (ix4 b h t d) = refQ V0 (ix4 b t h d) := by
  unfold res_main_v10
  pointwise []

theorem v12_apply (b h n : Fin 8) (s : Fin 256) (d : Fin 64) :
    (res_main_v12 V0 : FVec Ideal S8x8x8x256x64 .f32) (ix5 b h n s d) = refK V0 (ix4 b ⟨256 * n.val + s.val, by have := n.isLt; have := s.isLt; omega⟩ h d) := by
  unfold res_main_v12
  pointwise []
  exact congrArg (fun j => refK V0 (ix4 b j h d)) (Fin.ext (by show n.val * 256 + s.val = 256 * n.val + s.val; omega))

theorem v14_apply (b h n : Fin 8) (s : Fin 256) (d : Fin 64) :
    (res_main_v14 V0 : FVec Ideal S8x8x8x256x64 .f32) (ix5 b h n s d) = refV V0 (ix4 b ⟨256 * n.val + s.val, by have := n.isLt; have := s.isLt; omega⟩ h d) := by
  unfold res_main_v14
  pointwise []
  exact congrArg (fun j => refV V0 (ix4 b j h d)) (Fin.ext (by show n.val * 256 + s.val = 256 * n.val + s.val; omega))

theorem v18_apply (t : Fin 2048) : (res_main_v18 V0 : IVec S2048 32) (ix1 t) = BitVec.ofNat 32 t.val := by
  unfold res_main_v18
  pointwise []

theorem v21_apply (t : Fin 2048) : (res_main_v21 V0 : IVec S2048 32) (ix1 t) = BitVec.ofNat 32 (t.val / 256) := by
  unfold res_main_v21
  pointwise []

theorem word_add_mul (a b : ℕ) : IntOp.addi (IntOp.muli (BitVec.ofNat 32 a) 256#32) (BitVec.ofNat 32 b) = BitVec.ofNat 32 (256 * a + b) := by
  show BitVec.ofNat 32 a * 256#32 + BitVec.ofNat 32 b = _
  rw [BitVec.ofNat_add, BitVec.ofNat_mul, BitVec.mul_comm]

theorem v33_apply (t : Fin 2048) (s : Fin 256) : (res_main_v33 V0 : IVec S2048x256 32) (ix2 t s) = BitVec.ofNat 32 (256 * (t.val / 256) + s.val) := by
  unfold res_main_v33
  pointwise [v21_apply]
  exact word_add_mul _ _

/-- The mean of a block's keys as the reference takes it. -/
def refMean (b h n : Fin 8) (d : Fin 64) : EReal :=
  Ideal.div (∑ s : Fin 256, refK V0 (ix4 b ⟨256 * n.val + s.val, by have := n.isLt; have := s.isLt; omega⟩ h d)) (Ideal.ofBits .f32 1132462080#32)

/-- The gate of a query and a block before it is masked. -/
def refGate (b h : Fin 8) (t : Fin 2048) (n : Fin 8) : EReal := ∑ d : Fin 64, refQ V0 (ix4 b t h d) * refMean V0 b h n d

/-- The gate, blocks from the query's own on masked. -/
def refMasked (b h : Fin 8) (t : Fin 2048) (n : Fin 8) : EReal := if n.val < t.val / 256 then refGate V0 b h t n else ⊥

theorem select_lt (n : Fin 8) (t : Fin 2048) {α : Type} (x y : α) :
    Scalar.select (IntOp.cmpi CmpIPredicate.slt (BitVec.ofNat 32 n.val) (BitVec.ofNat 32 (t.val / 256))) x y
      = if n.val < t.val / 256 then x else y := by
  have h : ∀ n c : Fin 8, IntOp.cmpi CmpIPredicate.slt (BitVec.ofNat 32 n.val) (BitVec.ofNat 32 c.val) = BitVec.ofBool (decide (n.val < c.val)) := by
    decide +kernel
  have h' := h n ⟨t.val / 256, by have := t.isLt; omega⟩
  rw [h']
  unfold Scalar.select
  by_cases hc : n.val < t.val / 256 <;> simp [hc]

theorem v60_apply (b h : Fin 8) (t : Fin 2048) (n : Fin 8) :
    (res_main_v60 V0 : FVec Ideal S8x8x2048x8 .f32) (ix4 b h t n) = refMasked V0 b h t n := by
  unfold res_main_v60
  pointwise [v21_apply, v10_apply, v12_apply]
  rw [select_lt]
  unfold refMasked
  refine if_congr Iff.rfl rfl ?_
  exact ofBits_bot

/-- The blocks chosen for a query, in the order the sort gives them. -/
def sel (b h : Fin 8) (t : Fin 2048) (r : Fin 3) : Fin 8 := sortedFrom (larger (refMasked V0 b h t)) (r.castLE (by decide))

theorem along_last (b h : Fin 8) (t : Fin 2048) (r k : Fin 8) (hd : 3 < S8x8x2048x8.rank) :
    Shape.Idx.along (s := S8x8x2048x8) (ix4 b h t r) ⟨3, hd⟩ k = ix4 b h t k := by
  funext a
  match a with
  | ⟨0, _⟩ => rfl
  | ⟨1, _⟩ => rfl
  | ⟨2, _⟩ => rfl
  | ⟨3, _⟩ => rfl

/-- The positions the top-k gives along the last axis. -/
theorem topK_positions (gt : EReal → EReal → BitVec 1) (x : S8x8x2048x8.Idx → EReal) (hs : S8x8x2048x8.Slices (fun _ => 0) S8x8x2048x3)
    (b h : Fin 8) (t : Fin 2048) (r : Fin 3) :
    (Host.topK S8x8x2048x3 3 gt x hs).2 (ix4 b h t r)
      = BitVec.ofNat 32 (sortedFrom (fun k k' : Fin 8 => gt (x (ix4 b h t k)) (x (ix4 b h t k')) == 1#1) (r.castLE (by decide))).val := by
  have hd : 3 < S8x8x2048x8.rank := by decide
  unfold Host.topK Host.sort2 extractStridedSlice
  simp only [dif_pos hd]
  have hJ : (fun a : Fin 4 => (⟨0 + ((ix4 b h t r : S8x8x2048x3.Idx) (a.cast hs.1.symm)).val,
      Nat.lt_of_lt_of_le (Nat.add_lt_add_left ((ix4 b h t r : S8x8x2048x3.Idx) _).isLt _) (hs.2 a)⟩ : Fin (S8x8x2048x8.size a)))
      = (ix4 b h t (r.castLE (by decide)) : S8x8x2048x8.Idx) := by
    funext a
    apply Fin.ext
    match a with
    | ⟨0, _⟩ => exact Nat.zero_add _
    | ⟨1, _⟩ => exact Nat.zero_add _
    | ⟨2, _⟩ => exact Nat.zero_add _
    | ⟨3, _⟩ => exact Nat.zero_add _
  refine (congrArg (fun J : S8x8x2048x8.Idx => iotaInDim S8x8x2048x8 32 ⟨3, hd⟩ (J.along ⟨3, hd⟩
    (sortedFrom (fun k k' => gt (x (J.along ⟨3, hd⟩ k)) (x (J.along ⟨3, hd⟩ k')) == 1#1) (J ⟨3, hd⟩)))) hJ).trans ?_
  have e : (fun k k' : Fin 8 => gt (x (Shape.Idx.along (s := S8x8x2048x8) (ix4 b h t (r.castLE (by decide))) ⟨3, hd⟩ k))
      (x (Shape.Idx.along (s := S8x8x2048x8) (ix4 b h t (r.castLE (by decide))) ⟨3, hd⟩ k')) == 1#1)
      = fun k k' : Fin 8 => gt (x (ix4 b h t k)) (x (ix4 b h t k')) == 1#1 := by
    funext k k'
    rw [along_last, along_last]
  rw [← e]
  exact congrArg (iotaInDim S8x8x2048x8 32 ⟨3, hd⟩) (along_last b h t _ _ hd)

theorem indices_apply (b h : Fin 8) (t : Fin 2048) (r : Fin 3) :
    (res_main_indices V0 : IVec S8x8x2048x3 32) (ix4 b h t r) = BitVec.ofNat 32 (sel V0 b h t r).val := by
  unfold res_main_indices
  rw [topK_positions]
  have key : (fun k k' : Fin 8 => ((FloatOps.cmpfTotal (F := Ideal) (φ := .f32) .gt
      ((res_main_v60 V0 : FVec Ideal S8x8x2048x8 .f32) (ix4 b h t k)) ((res_main_v60 V0 : FVec Ideal S8x8x2048x8 .f32) (ix4 b h t k'))) == 1#1)) = larger (refMasked V0 b h t) := by
    funext k k'
    rw [v60_apply, v60_apply]
    show (BitVec.ofBool (decide _) == 1#1) = decide _
    by_cases hc : refMasked V0 b h t k' < refMasked V0 b h t k <;> simp [hc]
  unfold sel
  rw [← key]

/-- The positions the gathers start from: the batch entry, the head and the chosen block. -/
def starts : IVec S8x8x2048x3x3 32 :=
  concatenate S8x8x2048x3x3 4 [⟨S8x8x2048x3x1, ((broadcastInDim S8x8x2048x3x1 ![0, 1, 2, 3] Gen.bcast_S8x8x2048x3_S8x8x2048x3x1_0_1_2_3 (broadcastInDim S8x8x2048x3 ![0, 1, 2, 3] Gen.bcast_S8x1x1x1_S8x8x2048x3_0_1_2_3 (select (cmpi .slt (res_main_v62 V0) (broadcastInDim S8x1x1x1 ![] Gen.bcast_S_S8x1x1x1 (constantI S_ 32 0#32))) (addi (res_main_v62 V0) (broadcastInDim S8x1x1x1 ![] Gen.bcast_S_S8x1x1x1 (constantI S_ 32 8#32))) (res_main_v62 V0)))) : (⟨S8x8x2048x3x1, .i32⟩ : BufTy).Contents (Elt Ideal))⟩, ⟨S8x8x2048x3x1, ((broadcastInDim S8x8x2048x3x1 ![0, 1, 2, 3] Gen.bcast_S8x8x2048x3_S8x8x2048x3x1_0_1_2_3 (broadcastInDim S8x8x2048x3 ![0, 1, 2, 3] Gen.bcast_S1x8x1x1_S8x8x2048x3_0_1_2_3 (select (cmpi .slt (res_main_v64 V0) (broadcastInDim S1x8x1x1 ![] Gen.bcast_S_S1x8x1x1 (constantI S_ 32 0#32))) (addi (res_main_v64 V0) (broadcastInDim S1x8x1x1 ![] Gen.bcast_S_S1x8x1x1 (constantI S_ 32 8#32))) (res_main_v64 V0)))) : (⟨S8x8x2048x3x1, .i32⟩ : BufTy).Contents (Elt Ideal))⟩, ⟨S8x8x2048x3x1, ((broadcastInDim S8x8x2048x3x1 ![0, 1, 2, 3] Gen.bcast_S8x8x2048x3_S8x8x2048x3x1_0_1_2_3 (select (cmpi .slt (res_main_indices V0) (broadcastInDim S8x8x2048x3 ![] Gen.bcast_S_S8x8x2048x3 (constantI S_ 32 0#32))) (addi (res_main_indices V0) (broadcastInDim S8x8x2048x3 ![] Gen.bcast_S_S8x8x2048x3 (constantI S_ 32 8#32))) (res_main_indices V0))) : (⟨S8x8x2048x3x1, .i32⟩ : BufTy).Contents (Elt Ideal))⟩] Gen.concatenates_S8x8x2048x3x1_S8x8x2048x3x1_S8x8x2048x3x1_S8x8x2048x3x3_d4

theorem wrap_word : ∀ n : Fin 8, Scalar.select (IntOp.cmpi CmpIPredicate.slt (BitVec.ofNat 32 n.val) 0#32)
    (IntOp.addi (BitVec.ofNat 32 n.val) 8#32) (BitVec.ofNat 32 n.val) = BitVec.ofNat 32 n.val := by
  decide +kernel

theorem starts_0 (b h : Fin 8) (t : Fin 2048) (r : Fin 3) : starts V0 (ix5 b h t r 0) = BitVec.ofNat 32 b.val := by
  unfold starts res_main_v62 res_main_v64
  pointwise []
  exact wrap_word b

theorem starts_1 (b h : Fin 8) (t : Fin 2048) (r : Fin 3) : starts V0 (ix5 b h t r 1) = BitVec.ofNat 32 h.val := by
  unfold starts res_main_v62 res_main_v64
  pointwise []
  exact wrap_word h

theorem starts_2 (b h : Fin 8) (t : Fin 2048) (r : Fin 3) : starts V0 (ix5 b h t r 2) = BitVec.ofNat 32 (sel V0 b h t r).val := by
  unfold starts res_main_v62 res_main_v64
  pointwise [indices_apply]
  exact wrap_word _

theorem clamp_word : ∀ n : Fin 8, min (BitVec.ofNat 32 n.val).toInt.toNat 7 = n.val := by
  decide +kernel

abbrev gdims := gather_S8x8x8x256x64_S8x8x2048x3x3_S8x8x2048x3x256x64_45_012_n_n_012_4_11125664

theorem siIdx_eq (b h : Fin 8) (t : Fin 2048) (r : Fin 3) (s : Fin 256) (d : Fin 64) (k : Fin 3) :
    gdims.siIdx (ix6 b h t r s d) k = ix5 b h t r k := by
  funext a
  apply Fin.ext
  match a with
  | ⟨0, _⟩ => rfl
  | ⟨1, _⟩ => rfl
  | ⟨2, _⟩ => rfl
  | ⟨3, _⟩ => rfl
  | ⟨4, _⟩ => rfl

theorem coord_0 (b h : Fin 8) (t : Fin 2048) (r : Fin 3) (s : Fin 256) (d : Fin 64) (idx : IVec S8x8x2048x3x3 32) :
    gdims.start (ix6 b h t r s d) idx 0 + gdims.batchCoord (ix6 b h t r s d) 0 + gdims.offCoord (ix6 b h t r s d) 0
      = min (idx (ix5 b h t r 0)).toInt.toNat 7 := by
  rw [GatherDims.batchCoord_eq_zero _ _ _ (by decide), GatherDims.offCoord_eq_zero _ _ _ (by decide)]
  unfold GatherDims.start
  rw [dif_pos (by decide), ← siIdx_eq b h t r s d 0]
  rfl

theorem coord_1 (b h : Fin 8) (t : Fin 2048) (r : Fin 3) (s : Fin 256) (d : Fin 64) (idx : IVec S8x8x2048x3x3 32) :
    gdims.start (ix6 b h t r s d) idx 1 + gdims.batchCoord (ix6 b h t r s d) 1 + gdims.offCoord (ix6 b h t r s d) 1
      = min (idx (ix5 b h t r 1)).toInt.toNat 7 := by
  rw [GatherDims.batchCoord_eq_zero _ _ _ (by decide), GatherDims.offCoord_eq_zero _ _ _ (by decide)]
  unfold GatherDims.start
  rw [dif_pos (by decide), ← siIdx_eq b h t r s d 1]
  rfl

theorem coord_2 (b h : Fin 8) (t : Fin 2048) (r : Fin 3) (s : Fin 256) (d : Fin 64) (idx : IVec S8x8x2048x3x3 32) :
    gdims.start (ix6 b h t r s d) idx 2 + gdims.batchCoord (ix6 b h t r s d) 2 + gdims.offCoord (ix6 b h t r s d) 2
      = min (idx (ix5 b h t r 2)).toInt.toNat 7 := by
  rw [GatherDims.batchCoord_eq_zero _ _ _ (by decide), GatherDims.offCoord_eq_zero _ _ _ (by decide)]
  unfold GatherDims.start
  rw [dif_pos (by decide), ← siIdx_eq b h t r s d 2]
  rfl

theorem coord_3 (b h : Fin 8) (t : Fin 2048) (r : Fin 3) (s : Fin 256) (d : Fin 64) (idx : IVec S8x8x2048x3x3 32) :
    gdims.start (ix6 b h t r s d) idx 3 + gdims.batchCoord (ix6 b h t r s d) 3 + gdims.offCoord (ix6 b h t r s d) 3 = s.val := by
  rw [GatherDims.batchCoord_eq_zero _ _ _ (by decide)]
  unfold GatherDims.start GatherDims.offCoord
  rw [dif_neg (by decide), dif_pos (by decide), Nat.zero_add]
  rfl

theorem coord_4 (b h : Fin 8) (t : Fin 2048) (r : Fin 3) (s : Fin 256) (d : Fin 64) (idx : IVec S8x8x2048x3x3 32) :
    gdims.start (ix6 b h t r s d) idx 4 + gdims.batchCoord (ix6 b h t r s d) 4 + gdims.offCoord (ix6 b h t r s d) 4 = d.val := by
  rw [GatherDims.batchCoord_eq_zero _ _ _ (by decide)]
  unfold GatherDims.start GatherDims.offCoord
  rw [dif_neg (by decide), dif_pos (by decide), Nat.zero_add]
  rfl

/-- A gather of chosen blocks read at an index. -/
theorem gather_chosen (x : S8x8x8x256x64.Idx → EReal) (b h : Fin 8) (t : Fin 2048) (r : Fin 3) (s : Fin 256) (d : Fin 64) :
    Host.gather gdims x (starts V0) (ix6 b h t r s d) = x (ix5 b h (sel V0 b h t r) s d) := by
  unfold Host.gather
  congr 1
  funext a
  apply Fin.ext
  match a with
  | ⟨0, _⟩ => exact (coord_0 b h t r s d _).trans (by rw [starts_0]; exact clamp_word b)
  | ⟨1, _⟩ => exact (coord_1 b h t r s d _).trans (by rw [starts_1]; exact clamp_word h)
  | ⟨2, _⟩ => exact (coord_2 b h t r s d _).trans (by rw [starts_2]; exact clamp_word _)
  | ⟨3, _⟩ => exact coord_3 b h t r s d _
  | ⟨4, _⟩ => exact coord_4 b h t r s d _

end Cert.Moba
-- ==== Proof.Moba.RefLogit.lean ====
/-
  The reference's masked logits read at an index: three chosen blocks of 256 keys, then the query's own block.
-/
module

public import proofs.«01_k».proof.Proof.Moba.RefGate
public import proofs.«01_k».proof.Proof.Moba.Softmax

@[expose] public section

set_option maxRecDepth 16384

noncomputable section

open Idealize.ShloMosaic Idealize.ShloMosaic.TcCoe Idealize.SL.Sem
open Cert.ReferenceIdeal Cert.ReferenceIdeal.Value

namespace Cert.Moba

variable (V0 : Valuation τ sig (Elt Ideal))

/-- A head's slope. -/
def refSlope (h : Fin 8) : EReal := (res_main_v9 V0 : FVec Ideal S8 .f32) (ix1 h)

/-- The logit of a query and a key before it is masked. -/
def refLogit (b h : Fin 8) (t j : Fin 2048) : EReal :=
  (∑ d : Fin 64, refQ V0 (ix4 b t h d) * refK V0 (ix4 b j h d)) * Ideal.ofBits .f32 1040187392#32
    - refSlope V0 h * (((t.val : ℝ) - (j.val : ℝ) : ℝ) : EReal)

theorem word_sub (a b : ℕ) (ha : a < 2048) (hb : b < 2048) :
    (FloatOps.sitofp .f32 (IntOp.subi (BitVec.ofNat 32 a) (BitVec.ofNat 32 b)) : Ideal .f32) = (((a : ℝ) - (b : ℝ) : ℝ) : EReal) := by
  show (((BitVec.ofNat 32 a - BitVec.ofNat 32 b).toInt : ℝ) : EReal) = _
  have : (BitVec.ofNat 32 a - BitVec.ofNat 32 b).toInt = (a : ℤ) - (b : ℤ) := by
    rw [BitVec.toInt_sub, BitVec.toInt_ofNat', BitVec.toInt_ofNat']
    simp only [Int.bmod]
    omega
  rw [this]
  push_cast
  rfl

theorem select_le (t : Fin 2048) (a : ℕ) (ha : a < 2048) {α : Type} (x y : α) :
    Scalar.select (IntOp.cmpi CmpIPredicate.sle (BitVec.ofNat 32 a) (BitVec.ofNat 32 t.val)) x y
      = if a ≤ t.val then x else y := by
  have ht := t.isLt
  have h : (BitVec.ofNat 32 a).sle (BitVec.ofNat 32 t.val) = decide (a ≤ t.val) := by
    rw [BitVec.sle_eq_decide, BitVec.toInt_ofNat', BitVec.toInt_ofNat']
    simp only [Int.bmod]
    congr 1
    apply propext
    omega
  show Scalar.select (BitVec.ofBool ((BitVec.ofNat 32 a).sle (BitVec.ofNat 32 t.val))) x y = _
  rw [h]
  unfold Scalar.select
  by_cases hc : a ≤ t.val <;> simp [hc]

/-- The masked logits of a query: the three chosen blocks, then its own. -/
def refCut (b h : Fin 8) (t : Fin 2048) (s : Fin 1024) : EReal :=
  if hs : s.val < 768 then
        (if (sel V0 b h t ⟨s.val / 256, by omega⟩).val < t.val / 256 then
          refLogit V0 b h t (keyAt (sel V0 b h t ⟨s.val / 256, by omega⟩) ⟨s.val % 256, Nat.mod_lt _ (by decide)⟩) else ⊥)
      else (if 256 * (t.val / 256) + (s.val - 768) ≤ t.val then
          refLogit V0 b h t (keyAt (blockOf t) ⟨s.val - 768, by have := s.isLt; omega⟩) else ⊥)

theorem v137_apply (b h : Fin 8) (t : Fin 2048) (s : Fin 1024) :
    (res_main_v137 V0 : FVec Ideal S8x8x2048x1024 .f32) (ix4 b h t s)
      = refCut V0 b h t s := by
  have hg := gather_chosen V0
  unfold starts gdims at hg
  unfold res_main_v137
  pointwise [v21_apply, v10_apply, v12_apply, v33_apply, v18_apply, indices_apply, hg]
  unfold refCut
  have ht := t.isLt
  have hs' := s.isLt
  refine dite_congr rfl (fun hs => ?_) (fun hs => ?_)
  · rw [select_lt, word_add_mul, word_sub _ _ t.isLt (keyAt (sel V0 b h t ⟨s.val / 256, by omega⟩) ⟨s.val % 256, Nat.mod_lt _ (by decide)⟩).isLt]
    exact if_congr Iff.rfl rfl ofBits_bot
  · rw [select_le _ _ (by omega), word_sub _ _ t.isLt (by omega)]
    exact if_congr Iff.rfl rfl ofBits_bot

end Cert.Moba
-- ==== Proof.Moba.RefValue.lean ====
/-
  The reference's result read at an index: the softmax of the masked logits against the chosen blocks' values and the own
  block's.
-/
module

public import proofs.«01_k».proof.Proof.Moba.RefLogit

@[expose] public section

set_option maxRecDepth 16384

noncomputable section

open Idealize.ShloMosaic Idealize.ShloMosaic.TcCoe Idealize.SL.Sem
open Cert.ReferenceIdeal Cert.ReferenceIdeal.Value

namespace Cert.Moba

variable (V0 : Valuation τ sig (Elt Ideal))

/-- The reference's result as its run states it. -/
def refResult : FVec Ideal S8x2048x512 .bf16 :=
  truncf .bf16 (shapeCast _ (transpose S8x2048x8x64 [0, 2, 1, 3] (addf (Host.dotGeneral (F := Ideal) (φ₁ := .f32) (φ₂ := .f32) dot_S8x8x2048x3x256_S8x8x2048x3x256x64_S8x8x2048x64_34_34_n_5_012_012 none (shapeCast _ (extractStridedSlice S8x8x2048x768 ![0, 0, 0, 0] (res_main_v148 V0) Gen.slices_S8x8x2048x1024_S8x8x2048x768_0_0_0_0) Gen.shapeCasts_S8x8x2048x768_S8x8x2048x3x256) (Host.gather gather_S8x8x8x256x64_S8x8x2048x3x3_S8x8x2048x3x256x64_45_012_n_n_012_4_11125664 (res_main_v14 V0) ((concatenate S8x8x2048x3x3 4 [⟨S8x8x2048x3x1, ((broadcastInDim S8x8x2048x3x1 ![0, 1, 2, 3] Gen.bcast_S8x8x2048x3_S8x8x2048x3x1_0_1_2_3 (broadcastInDim S8x8x2048x3 ![0, 1, 2, 3] Gen.bcast_S8x1x1x1_S8x8x2048x3_0_1_2_3 (select (cmpi .slt (res_main_v62 V0) (broadcastInDim S8x1x1x1 ![] Gen.bcast_S_S8x1x1x1 (constantI S_ 32 0#32))) (addi (res_main_v62 V0) (broadcastInDim S8x1x1x1 ![] Gen.bcast_S_S8x1x1x1 (constantI S_ 32 8#32))) (res_main_v62 V0)))) : (⟨S8x8x2048x3x1, .i32⟩ : BufTy).Contents (Elt Ideal))⟩, ⟨S8x8x2048x3x1, ((broadcastInDim S8x8x2048x3x1 ![0, 1, 2, 3] Gen.bcast_S8x8x2048x3_S8x8x2048x3x1_0_1_2_3 (broadcastInDim S8x8x2048x3 ![0, 1, 2, 3] Gen.bcast_S1x8x1x1_S8x8x2048x3_0_1_2_3 (select (cmpi .slt (res_main_v64 V0) (broadcastInDim S1x8x1x1 ![] Gen.bcast_S_S1x8x1x1 (constantI S_ 32 0#32))) (addi (res_main_v64 V0) (broadcastInDim S1x8x1x1 ![] Gen.bcast_S_S1x8x1x1 (constantI S_ 32 8#32))) (res_main_v64 V0)))) : (⟨S8x8x2048x3x1, .i32⟩ : BufTy).Contents (Elt Ideal))⟩, ⟨S8x8x2048x3x1, ((broadcastInDim S8x8x2048x3x1 ![0, 1, 2, 3] Gen.bcast_S8x8x2048x3_S8x8x2048x3x1_0_1_2_3 (select (cmpi .slt (res_main_indices V0) (broadcastInDim S8x8x2048x3 ![] Gen.bcast_S_S8x8x2048x3 (constantI S_ 32 0#32))) (addi (res_main_indices V0) (broadcastInDim S8x8x2048x3 ![] Gen.bcast_S_S8x8x2048x3 (constantI S_ 32 8#32))) (res_main_indices V0))) : (⟨S8x8x2048x3x1, .i32⟩ : BufTy).Contents (Elt Ideal))⟩] Gen.concatenates_S8x8x2048x3x1_S8x8x2048x3x1_S8x8x2048x3x1_S8x8x2048x3x3_d4 : (⟨S8x8x2048x3x3, .i32⟩ : BufTy).Contents (Elt Ideal))))) (Host.dotGeneral (F := Ideal) (φ₁ := .f32) (φ₂ := .f32) dot_S8x8x2048x256_S8x8x2048x256x64_S8x8x2048x64_3_3_n_4_012_012 none (extractStridedSlice S8x8x2048x256 ![0, 0, 0, 768] (res_main_v148 V0) Gen.slices_S8x8x2048x1024_S8x8x2048x256_0_0_0_768) (shapeCast _ (broadcastInDim S8x8x8x256x256x64 ![0, 1, 2, 4, 5] Gen.bcast_S8x8x8x256x64_S8x8x8x256x256x64_0_1_2_4_5 (res_main_v14 V0)) Gen.shapeCasts_S8x8x8x256x256x64_S8x8x2048x256x64))) Gen.transposes_S8x8x2048x64_S8x2048x8x64_0_2_1_3) Gen.shapeCasts_S8x2048x8x64_S8x2048x512) Gen.bitsLt_bf16_f32

/-- The largest masked logit of a query. -/
def refMax (b h : Fin 8) (t : Fin 2048) : EReal := Finset.univ.sup (refCut V0 b h t)

/-- The exponential of a masked logit. -/
def refExp (b h : Fin 8) (t : Fin 2048) (s : Fin 1024) : EReal := Ideal.exp (refCut V0 b h t s - refMax V0 b h t)

theorem max_bot_fold {ι : Type} (S : Finset ι) (f : ι → EReal) : max (⊥ : EReal) (Finset.fold max (⊥ : EReal) f S) = S.sup f :=
  max_eq_right bot_le

theorem reduce_max (x : FVec Ideal S8x8x2048x1024 .f32) (b h : Fin 8) (t : Fin 2048) :
    Host.reduce (FloatOps.maximumf (F := Ideal) (φ := .f32)) x (constant (F := Ideal) S_ .f32 0xFF800000#32) Gen.reducesTo_S8x8x2048x1024_S8x8x2048_d3 Gen.h_S_ (ix3 b h t)
      = Finset.fold max (Ideal.ofBits .f32 4286578688#32) (fun s : Fin 1024 => x (ix4 b h t s)) Finset.univ := by
  pointwise []

/-- The maximum each row of an array is lowered by. -/
def maxRow (x : FVec Ideal S8x8x2048x1024 .f32) : FVec Ideal S8x8x2048 .f32 :=
  maximumf (broadcastInDim S8x8x2048 ![] Gen.bcast_S_S8x8x2048 (constant S_ .f32 0xFF800000#32)) (Host.reduce FloatOps.maximumf x (constant S_ .f32 0xFF800000#32) Gen.reducesTo_S8x8x2048x1024_S8x8x2048_d3 Gen.h_S_)

theorem max_split (y : FVec Ideal S8x8x2048 .f32) (i : S8x8x2048.Idx) :
    maximumf (broadcastInDim S8x8x2048 ![] Gen.bcast_S_S8x8x2048 (constant (F := Ideal) S_ .f32 0xFF800000#32)) y i
      = max (Ideal.ofBits .f32 4286578688#32) (y i : EReal) := rfl

theorem maxRow_apply (x : FVec Ideal S8x8x2048x1024 .f32) (b h : Fin 8) (t : Fin 2048) :
    maxRow x (ix3 b h t) = Finset.univ.sup fun s : Fin 1024 => x (ix4 b h t s) := by
  unfold maxRow
  rw [max_split, reduce_max, ofBits_bot]
  exact max_bot_fold _ _

/-- The exponential of an array lowered by its rows' maxima `y`. -/
def expRow (x : FVec Ideal S8x8x2048x1024 .f32) (y : FVec Ideal S8x8x2048 .f32) : FVec Ideal S8x8x2048x1024 .f32 :=
  Host.exp (subf x (broadcastInDim S8x8x2048x1024 ![0, 1, 2, 3] Gen.bcast_S8x8x2048x1_S8x8x2048x1024_0_1_2_3 (broadcastInDim S8x8x2048x1 ![0, 1, 2] Gen.bcast_S8x8x2048_S8x8x2048x1_0_1_2 y)))

theorem expRow_apply (x : FVec Ideal S8x8x2048x1024 .f32) (y : FVec Ideal S8x8x2048 .f32) (b h : Fin 8) (t : Fin 2048) (s : Fin 1024) :
    expRow x y (ix4 b h t s) = Ideal.exp (x (ix4 b h t s) - y (ix3 b h t)) := by
  unfold expRow
  pointwise []

theorem v144_eq : res_main_v144 V0 = expRow (res_main_v137 V0) (maxRow (res_main_v137 V0)) := by
  unfold res_main_v144 expRow maxRow
  rfl

theorem v144_apply (b h : Fin 8) (t : Fin 2048) (s : Fin 1024) :
    (res_main_v144 V0 : FVec Ideal S8x8x2048x1024 .f32) (ix4 b h t s) = refExp V0 b h t s := by
  rw [v144_eq, expRow_apply, maxRow_apply]
  unfold refExp refMax
  simp only [v137_apply]

/-- The softmax weight of a masked logit. -/
def refProb (b h : Fin 8) (t : Fin 2048) (s : Fin 1024) : EReal := Ideal.div (refExp V0 b h t s) (∑ s, refExp V0 b h t s)

/-- An array divided by its rows' sums `y`. -/
def divRow (x : FVec Ideal S8x8x2048x1024 .f32) (y : FVec Ideal S8x8x2048 .f32) : FVec Ideal S8x8x2048x1024 .f32 :=
  Host.divf x (broadcastInDim S8x8x2048x1024 ![0, 1, 2, 3] Gen.bcast_S8x8x2048x1_S8x8x2048x1024_0_1_2_3 (broadcastInDim S8x8x2048x1 ![0, 1, 2] Gen.bcast_S8x8x2048_S8x8x2048x1_0_1_2 y))

theorem divRow_apply (x : FVec Ideal S8x8x2048x1024 .f32) (y : FVec Ideal S8x8x2048 .f32) (b h : Fin 8) (t : Fin 2048) (s : Fin 1024) :
    divRow x y (ix4 b h t s) = Ideal.div (x (ix4 b h t s)) (y (ix3 b h t)) := by
  unfold divRow
  pointwise []

/-- The sum of each row of an array. -/
def sumRow (x : FVec Ideal S8x8x2048x1024 .f32) : FVec Ideal S8x8x2048 .f32 :=
  Host.reduceAdd x (constant S_ .f32 0x00000000#32) Gen.reducesTo_S8x8x2048x1024_S8x8x2048_d3 Gen.h_S_

theorem sumRow_apply (x : FVec Ideal S8x8x2048x1024 .f32) (b h : Fin 8) (t : Fin 2048) :
    sumRow x (ix3 b h t) = ∑ s : Fin 1024, x (ix4 b h t s) := by
  unfold sumRow
  pointwise []

theorem v148_eq : res_main_v148 V0 = divRow (res_main_v144 V0) (sumRow (res_main_v144 V0)) := by
  unfold res_main_v148 divRow sumRow
  rfl

theorem v148_apply (b h : Fin 8) (t : Fin 2048) (s : Fin 1024) :
    (res_main_v148 V0 : FVec Ideal S8x8x2048x1024 .f32) (ix4 b h t s) = refProb V0 b h t s := by
  rw [v148_eq, divRow_apply, sumRow_apply]
  unfold refProb
  simp only [v144_apply]

/-- The value of a key. -/
def refVal (b h : Fin 8) (d : Fin 64) (j : Fin 2048) : EReal := refV V0 (ix4 b j h d)

/-- The attended value as the reference sums it. -/
def refOut (b h : Fin 8) (t : Fin 2048) (d : Fin 64) : EReal :=
  (∑ r : Fin 3, ∑ s : Fin 256, refProb V0 b h t ⟨256 * r.val + s.val, by have := r.isLt; have := s.isLt; omega⟩ * refVal V0 b h d (keyAt (sel V0 b h t r) s))
    + ∑ s : Fin 256, refProb V0 b h t ⟨768 + s.val, by have := s.isLt; omega⟩ * refVal V0 b h d (keyAt (blockOf t) s)

theorem dot_own (P : FVec Ideal S8x8x2048x256 .f32) (G : FVec Ideal S8x8x2048x256x64 .f32) (b h : Fin 8) (t : Fin 2048) (d : Fin 64) :
    Host.dotGeneral dot_S8x8x2048x256_S8x8x2048x256x64_S8x8x2048x64_3_3_n_4_012_012 none P G (ix4 b h t d)
      = ∑ s : Fin 256, P (ix4 b h t s) * G (ix5 b h t s d) := by
  pointwise []

theorem dot_sel (P : FVec Ideal S8x8x2048x3x256 .f32) (G : FVec Ideal S8x8x2048x3x256x64 .f32) (b h : Fin 8) (t : Fin 2048) (d : Fin 64) :
    Host.dotGeneral dot_S8x8x2048x3x256_S8x8x2048x3x256x64_S8x8x2048x64_34_34_n_5_012_012 none P G (ix4 b h t d)
      = ∑ r : Fin 3, ∑ s : Fin 256, P (ix5 b h t r s) * G (ix6 b h t r s d) := by
  pointwise []

theorem flat_out (x : FVec Ideal S8x8x2048x64 .f32) (b : Fin 8) (t : Fin 2048) (l : Fin 512) :
    truncf .bf16 (shapeCast S8x2048x512 (transpose S8x2048x8x64 [0, 2, 1, 3] x Gen.transposes_S8x8x2048x64_S8x2048x8x64_0_2_1_3) Gen.shapeCasts_S8x2048x8x64_S8x2048x512) Gen.bitsLt_bf16_f32 (ix3 b t l)
      = x (ix4 b ⟨l.val / 64, by have := l.isLt; omega⟩ t ⟨l.val % 64, Nat.mod_lt _ (by decide)⟩) := by
  pointwise []

theorem cut_sel (x : FVec Ideal S8x8x2048x1024 .f32) (b h : Fin 8) (t : Fin 2048) (r : Fin 3) (s : Fin 256) :
    shapeCast S8x8x2048x3x256 (extractStridedSlice S8x8x2048x768 ![0, 0, 0, 0] x Gen.slices_S8x8x2048x1024_S8x8x2048x768_0_0_0_0) Gen.shapeCasts_S8x8x2048x768_S8x8x2048x3x256 (ix5 b h t r s)
      = x (ix4 b h t ⟨256 * r.val + s.val, by have := r.isLt; have := s.isLt; omega⟩) := by
  pointwise []
  exact congrArg (fun j => x (ix4 b h t j)) (Fin.ext (by show r.val * 256 + s.val = 256 * r.val + s.val; omega))

theorem cut_own (x : FVec Ideal S8x8x2048x1024 .f32) (b h : Fin 8) (t : Fin 2048) (s : Fin 256) :
    extractStridedSlice S8x8x2048x256 ![0, 0, 0, 768] x Gen.slices_S8x8x2048x1024_S8x8x2048x256_0_0_0_768 (ix4 b h t s)
      = x (ix4 b h t ⟨768 + s.val, by have := s.isLt; omega⟩) := by
  pointwise []

theorem spread_own (x : FVec Ideal S8x8x8x256x64 .f32) (b h : Fin 8) (t : Fin 2048) (s : Fin 256) (d : Fin 64) :
    shapeCast S8x8x2048x256x64 (broadcastInDim S8x8x8x256x256x64 ![0, 1, 2, 4, 5] Gen.bcast_S8x8x8x256x64_S8x8x8x256x256x64_0_1_2_4_5 x) Gen.shapeCasts_S8x8x8x256x256x64_S8x8x2048x256x64 (ix5 b h t s d)
      = x (ix5 b h (blockOf t) s d) := by
  pointwise []

theorem add_at (x y : FVec Ideal S8x8x2048x64 .f32) (i : S8x8x2048x64.Idx) : addf x y i = x i + y i := rfl

theorem refResult_apply (b : Fin 8) (t : Fin 2048) (l : Fin 512) :
    refResult V0 (ix3 b t l) = refOut V0 b ⟨l.val / 64, by have := l.isLt; omega⟩ t ⟨l.val % 64, Nat.mod_lt _ (by decide)⟩ := by
  have hg := gather_chosen V0
  unfold starts gdims at hg
  unfold refResult refOut refVal
  rw [flat_out, add_at, dot_sel, dot_own]
  simp only [cut_sel, cut_own, hg, v148_apply, v14_apply]
  refine congrArg₂ (· + ·) rfl (Finset.sum_congr rfl fun s _ => congrArg (refProb V0 b _ t _ * ·) ?_)
  exact (spread_own (res_main_v14 V0) b _ t s _).trans (v14_apply V0 b _ (blockOf t) s _)

end Cert.Moba
-- ==== Proof.Moba.RefAttend.lean ====
/-
  The reference's result as the attended value over the keys a query may see, once its logits are real numbers.
-/
module

public import proofs.«01_k».proof.Proof.Moba.RefValue

@[expose] public section

noncomputable section

open Idealize.ShloMosaic Idealize.ShloMosaic.TcCoe Idealize.SL.Sem
open Cert.ReferenceIdeal Cert.ReferenceIdeal.Value
open Classical

namespace Cert.Moba

/-- A sum over the 1024 masked logits, over the three chosen blocks and the own one. -/
theorem sum_1024 {M : Type} [AddCommMonoid M] (f : Fin 1024 → M) :
    ∑ x, f x = (∑ r : Fin 3, ∑ s : Fin 256, f ⟨256 * r.val + s.val, by have := r.isLt; have := s.isLt; omega⟩)
      + ∑ s : Fin 256, f ⟨768 + s.val, by have := s.isLt; omega⟩ := by
  have h := Fin.sum_univ_add (a := 768) (b := 256) f
  refine h.trans (congrArg₂ (· + ·) ?_ rfl)
  rw [← Fintype.sum_prod_type' (f := fun (r : Fin 3) (s : Fin 256) => f ⟨256 * r.val + s.val, by have := r.isLt; have := s.isLt; omega⟩)]
  refine (Fintype.sum_equiv (finProdFinEquiv (m := 3) (n := 256)) _ (fun x : Fin 768 => f (Fin.castAdd 256 x)) fun x => ?_).symm
  congr 1
  apply Fin.ext
  show 256 * x.1.val + x.2.val = x.2.val + 256 * x.1.val
  omega

variable (V0 : Valuation τ sig (Elt Ideal)) (b h : Fin 8) (t : Fin 2048)

/-- The keys a query attends to: those of the chosen blocks before its own, and those of its own up to itself. -/
def seen (j : Fin 2048) : Prop :=
  (blockOf j < blockOf t ∧ ∃ r, sel V0 b h t r = blockOf j) ∨ (blockOf j = blockOf t ∧ j.val ≤ t.val)

theorem seen_self : seen V0 b h t t := Or.inr ⟨rfl, le_rfl⟩

variable (ℓ : Fin 2048 → ℝ) (hℓ : ∀ j, refLogit V0 b h t j = ((ℓ j : ℝ) : EReal))
include hℓ

theorem refCut_sel (r : Fin 3) (s : Fin 256) :
    refCut V0 b h t ⟨256 * r.val + s.val, by have := r.isLt; have := s.isLt; omega⟩
      = if sel V0 b h t r < blockOf t then masked ℓ (seen V0 b h t) 0 (keyAt (sel V0 b h t r) s) else ⊥ := by
  have hr := r.isLt
  have hs := s.isLt
  have e1 : (⟨(256 * r.val + s.val) / 256, by omega⟩ : Fin 3) = r := Fin.ext (by show (256 * r.val + s.val) / 256 = r.val; omega)
  have e2 : (⟨(256 * r.val + s.val) % 256, Nat.mod_lt _ (by decide)⟩ : Fin 256) = s := Fin.ext (by show (256 * r.val + s.val) % 256 = s.val; omega)
  unfold refCut
  rw [dif_pos (by show 256 * r.val + s.val < 768; omega)]
  dsimp only
  rw [e1, e2]
  refine if_ctx_congr Iff.rfl (fun hlt => ?_) (fun _ => rfl)
  have hlt' : sel V0 b h t r < blockOf t := hlt
  unfold masked
  have hseen : seen V0 b h t (keyAt (sel V0 b h t r) s) := Or.inl ⟨by rw [blockOf_keyAt]; exact hlt', r, by rw [blockOf_keyAt]⟩
  rw [if_pos hseen, hℓ, add_zero]

theorem refCut_own (s : Fin 256) :
    refCut V0 b h t ⟨768 + s.val, by have := s.isLt; omega⟩ = masked ℓ (seen V0 b h t) 0 (keyAt (blockOf t) s) := by
  have hs := s.isLt
  have e2 : (⟨768 + s.val - 768, by omega⟩ : Fin 256) = s := Fin.ext (by show 768 + s.val - 768 = s.val; omega)
  unfold refCut
  rw [dif_neg (by show ¬ 768 + s.val < 768; omega)]
  dsimp only
  rw [e2]
  unfold masked
  by_cases hle : 256 * (t.val / 256) + s.val ≤ t.val
  · have hseen : seen V0 b h t (keyAt (blockOf t) s) := Or.inr ⟨blockOf_keyAt _ _, hle⟩
    rw [if_pos (by omega), if_pos hseen, hℓ, add_zero]
  · rw [if_neg (by omega), if_neg]
    rintro (⟨h1, -⟩ | ⟨-, h2⟩)
    · rw [blockOf_keyAt] at h1
      exact lt_irrefl _ h1
    · exact hle h2

variable (M : ℝ) (hM : IsTop ℓ (seen V0 b h t) M)
include hM

theorem refMax_eq : refMax V0 b h t = ((M : ℝ) : EReal) := by
  have hle : ∀ j, masked ℓ (seen V0 b h t) 0 j ≤ ((M : ℝ) : EReal) := fun j => by
    have := masked_le hM 0 j
    rwa [add_zero] at this
  unfold refMax
  apply le_antisymm
  · refine Finset.sup_le fun x _ => ?_
    by_cases hx : x.val < 768
    · have := refCut_sel V0 b h t ℓ hℓ ⟨x.val / 256, by omega⟩ ⟨x.val % 256, Nat.mod_lt _ (by decide)⟩
      have e : (⟨256 * (x.val / 256) + x.val % 256, by omega⟩ : Fin 1024) = x := Fin.ext (by show 256 * (x.val / 256) + x.val % 256 = x.val; omega)
      dsimp only at this
      rw [e] at this
      rw [this]
      split_ifs
      · exact hle _
      · exact bot_le
    · have hx' := x.isLt
      have := refCut_own V0 b h t ℓ hℓ ⟨x.val - 768, by omega⟩
      have e : (⟨768 + (x.val - 768), by omega⟩ : Fin 1024) = x := Fin.ext (by show 768 + (x.val - 768) = x.val; omega)
      dsimp only at this
      rw [e] at this
      rw [this]
      exact hle _
  · obtain ⟨⟨j, hj, e⟩, -⟩ := hM
    have hm : masked ℓ (seen V0 b h t) 0 j = ((M : ℝ) : EReal) := by
      unfold masked
      rw [if_pos hj, e, add_zero]
    rcases hj with ⟨h1, r, h2⟩ | ⟨h1, h2⟩
    · have := refCut_sel V0 b h t ℓ hℓ r ⟨j.val % 256, Nat.mod_lt _ (by decide)⟩
      rw [h2, if_pos h1, keyAt_blockOf, hm] at this
      rw [← this]
      exact Finset.le_sup (Finset.mem_univ _)
    · have := refCut_own V0 b h t ℓ hℓ ⟨j.val % 256, Nat.mod_lt _ (by decide)⟩
      rw [← h1, keyAt_blockOf, hm] at this
      rw [← this]
      exact Finset.le_sup (Finset.mem_univ _)

theorem refExp_sel (r : Fin 3) (s : Fin 256) :
    refExp V0 b h t ⟨256 * r.val + s.val, by have := r.isLt; have := s.isLt; omega⟩
      = if sel V0 b h t r < blockOf t then ((weight ℓ (seen V0 b h t) M (keyAt (sel V0 b h t r) s) : ℝ) : EReal) else 0 := by
  unfold refExp
  rw [refMax_eq V0 b h t ℓ hℓ M hM, refCut_sel V0 b h t ℓ hℓ]
  split_ifs
  · have := exp_masked (ℓ := ℓ) (A := seen V0 b h t) (M := M) 0 (keyAt (sel V0 b h t r) s)
    rwa [add_zero] at this
  · exact exp_bot_sub _

theorem refExp_own (s : Fin 256) :
    refExp V0 b h t ⟨768 + s.val, by have := s.isLt; omega⟩ = ((weight ℓ (seen V0 b h t) M (keyAt (blockOf t) s) : ℝ) : EReal) := by
  unfold refExp
  rw [refMax_eq V0 b h t ℓ hℓ M hM, refCut_own V0 b h t ℓ hℓ]
  have := exp_masked (ℓ := ℓ) (A := seen V0 b h t) (M := M) 0 (keyAt (blockOf t) s)
  rwa [add_zero] at this

omit hℓ hM in
theorem sel_injective : Function.Injective (sel V0 b h t) := fun _ _ e =>
  Fin.castLE_injective (by decide) (sortedFrom_injective _ e)

omit hℓ hM in
theorem weight_off (n : Fin 8) (s : Fin 256) (hn : ¬ ((n < blockOf t ∧ ∃ r, sel V0 b h t r = n) ∨ n = blockOf t)) :
    weight ℓ (seen V0 b h t) M (keyAt n s) = 0 := by
  unfold weight
  rw [if_neg]
  rintro (h1 | ⟨h1, -⟩)
  · rw [blockOf_keyAt] at h1
    exact hn (Or.inl h1)
  · rw [blockOf_keyAt] at h1
    exact hn (Or.inr h1)

theorem refTotal : ∑ s, refExp V0 b h t s = ((total ℓ (seen V0 b h t) M : ℝ) : EReal) := by
  rw [sum_1024]
  simp only [refExp_sel V0 b h t ℓ hℓ M hM, refExp_own V0 b h t ℓ hℓ M hM]
  unfold total
  rw [coe_sum]
  exact sum_chosen (sel V0 b h t) (sel_injective V0 b h t) (blockOf t)
    (fun j => ((weight ℓ (seen V0 b h t) M j : ℝ) : EReal))
    (fun n s hn => by rw [weight_off V0 b h t ℓ M n s hn]; rfl)

theorem refOut_eq (d : Fin 64) : refOut V0 b h t d = attended ℓ (seen V0 b h t) M (refVal V0 b h d) := by
  have hZ := total_pos hM
  have hdiv : ∀ w : ℝ, Ideal.div (w : EReal) ((total ℓ (seen V0 b h t) M : ℝ) : EReal) = ((w * (1 / total ℓ (seen V0 b h t) M) : ℝ) : EReal) := fun w => by
    rw [Ideal.div_coe hZ.ne', EReal.coe_mul]
  have h0 : Ideal.div 0 ((total ℓ (seen V0 b h t) M : ℝ) : EReal) = 0 := by
    rw [Ideal.div_coe hZ.ne', zero_mul]
  unfold refOut refProb attended
  rw [refTotal V0 b h t ℓ hℓ M hM]
  simp only [refExp_sel V0 b h t ℓ hℓ M hM, refExp_own V0 b h t ℓ hℓ M hM, hdiv]
  refine Eq.trans ?_ (sum_chosen (sel V0 b h t) (sel_injective V0 b h t) (blockOf t)
    (fun j => ((weight ℓ (seen V0 b h t) M j * (1 / total ℓ (seen V0 b h t) M) : ℝ) : EReal) * refVal V0 b h d j)
    (fun n s hn => by rw [weight_off V0 b h t ℓ M n s hn, zero_mul, EReal.coe_zero, zero_mul]))
  refine congrArg₂ (· + ·) (Finset.sum_congr rfl fun r _ => Finset.sum_congr rfl fun s _ => ?_) rfl
  split_ifs
  · rw [hdiv]
  · rw [h0, zero_mul]

end Cert.Moba
-- ==== Proof.Moba.RefReal.lean ====
/-
  One head of the reference once its queries, keys and slope are real numbers.
-/
module

public import proofs.«01_k».proof.Proof.Moba.KernelHead
public import proofs.«01_k».proof.Proof.Moba.RefAttend

@[expose] public section

set_option maxRecDepth 16384

noncomputable section

open Idealize.ShloMosaic Idealize.ShloMosaic.TcCoe Idealize.SL.Sem
open Cert.ReferenceIdeal

namespace Cert.Moba

theorem real_256_whole : Ideal.ofBits .f32 1132462080#32 = ((256 : ℝ) : EReal) := by
  simp [Ideal.ofBits, Ideal.ieee, -EReal.coe_mul]; norm_num

theorem real_eighth : Ideal.ofBits .f32 1040187392#32 = ((1 / 8 : ℝ) : EReal) := by
  simp [Ideal.ofBits, Ideal.ieee, -EReal.coe_mul]; norm_num

variable (V0 : Valuation τ sig (Elt Ideal)) (b h : Fin 8) (σ : ℝ) (q k : Fin 2048 → Fin 64 → ℝ)
  (hσ : refSlope V0 h = ((σ : ℝ) : EReal))
  (hq : ∀ j d, refQ V0 (ix4 b j h d) = ((q j d : ℝ) : EReal)) (hk : ∀ j d, refK V0 (ix4 b j h d) = ((k j d : ℝ) : EReal))

include hk in
theorem refMean_real (n : Fin 8) (d : Fin 64) :
    refMean V0 b h n d = (((∑ s, k (keyAt n s) d) * (1 / 256) : ℝ) : EReal) := by
  have e : (∑ s : Fin 256, refK V0 (ix4 b (keyAt n s) h d)) = ((∑ s, k (keyAt n s) d : ℝ) : EReal) := by
    rw [coe_sum]
    exact Finset.sum_congr rfl fun s _ => hk _ _
  unfold refMean
  rw [real_256_whole, Ideal.div_coe (by norm_num), EReal.coe_mul, ← e]

include hq hk in
theorem refMasked_real (t : Fin 2048) : refMasked V0 b h t = gateMasked q k t := by
  funext n
  unfold refMasked gateMasked
  have e : refGate V0 b h t n = ((gateReal q k t n : ℝ) : EReal) := by
    unfold refGate gateReal
    rw [coe_sum]
    refine Finset.sum_congr rfl fun d _ => ?_
    rw [hq, refMean_real V0 b h k hk, ← EReal.coe_mul]
  rw [e]

include hq hk in
theorem seen_real (t : Fin 2048) : seen V0 b h t = seenReal q k t := by
  funext j
  unfold seen seenReal sel
  rw [refMasked_real V0 b h q k hq hk]

include hσ hq hk in
theorem refLogit_real (t j : Fin 2048) : refLogit V0 b h t j = ((logitReal σ q k t j : ℝ) : EReal) := by
  have e : (∑ d : Fin 64, refQ V0 (ix4 b t h d) * refK V0 (ix4 b j h d)) = ((∑ d, q t d * k j d : ℝ) : EReal) := by
    rw [coe_sum]
    exact Finset.sum_congr rfl fun d _ => by rw [hq, hk, EReal.coe_mul]
  unfold refLogit logitReal
  rw [e, hσ, real_eighth, ← EReal.coe_mul, ← EReal.coe_mul, ← EReal.coe_sub]

theorem seenReal_self (t : Fin 2048) : seenReal q k t t := Or.inr ⟨rfl, le_rfl⟩

include hσ hq hk in
/-- The reference's output of a head, over the real logits. -/
theorem refOut_real (t : Fin 2048) (M : ℝ) (hM : IsTop (logitReal σ q k t) (seenReal q k t) M) (d : Fin 64) :
    refOut V0 b h t d = attended (logitReal σ q k t) (seenReal q k t) M (refVal V0 b h d) := by
  rw [← seen_real V0 b h q k hq hk t] at hM ⊢
  exact refOut_eq V0 b h t _ (refLogit_real V0 b h σ q k hσ hq hk t) M hM d

end Cert.Moba
-- ==== Proof.Moba.Equal.lean ====
/-
  The kernel's result is the reference's, entry by entry, on real queries and keys.
-/
module

public import proofs.«01_k».proof.Proof.Moba.Inputs
public import proofs.«01_k».proof.Proof.Moba.RefReal
public import proofs.«01_k».proof.Proof.Moba.RefValue

@[expose] public section

set_option maxRecDepth 16384

noncomputable section

open Idealize.ShloMosaic Idealize.ShloMosaic.TcCoe Idealize.SL.Sem
open Cert.KernelIdeal Cert.KernelIdeal.Gen

namespace Cert.Moba

/-- The reference's slopes are the kernel's. -/
theorem refSlope_eq (V0 : Valuation Cert.ReferenceIdeal.τ Cert.ReferenceIdeal.sig (Elt Ideal)) (h : Fin 8) :
    refSlope V0 h = slopeVec (ix1 h) := rfl

/-- A head's lane of a point, as a head and an entry of the whole. -/
theorem colHead_lane (i : grid0.Coords) (hp : Fin 4) (hi : (i 1 : ℕ) = hp.val) (hd : Fin 2) (d : Fin 64) :
    colHead (laneCol hp (headLane hd d)) = headOf i hd ∧ colLane (laneCol hp (headLane hd d)) = d := by
  have h1 := hd.isLt
  have h2 := d.isLt
  refine ⟨Fin.ext ?_, Fin.ext ?_⟩
  · show (128 * hp.val + (64 * hd.val + d.val)) / 64 = 2 * (i 1 : ℕ) + hd.val
    rw [hi]; omega
  · show (128 * hp.val + (64 * hd.val + d.val)) % 64 = d.val
    omega

variable (m : (ℓ : Loc nD τ sig) → Buf (Elt Ideal) ℓ) (c : Dev nD)
  (V0 : Valuation Cert.ReferenceIdeal.τ Cert.ReferenceIdeal.sig (Elt Ideal))
  (hQ : refQ V0 = argQ m c) (hK : refK V0 = argK m c) (hV : refV V0 = argV m c)
  (rq : ∀ j, ∃ r : ℝ, argQ m c j = ((r : ℝ) : EReal)) (rk : ∀ j, ∃ r : ℝ, argK m c j = ((r : ℝ) : EReal))
include hQ hK hV rq rk

theorem entry_eq (p : Fin cfg0.N) (t : Fin 2048) (hd : Fin 2) (d : Fin 64) :
    ((dats m 0 c).arrAt 4 cfg0.N : FVec Ideal S8x2048x512 .bf16) (ix3 (ptB p) t (laneCol (ptH p) (headLane hd d)))
      = refResult V0 (ix3 (ptB p) t (laneCol (ptH p) (headLane hd d))) := by
  choose fq hq using rq
  choose fk hk using rk
  have hc := fun d => colHead_lane (grid0.coords p) (ptH p) (coords_1 p) hd d
  generalize hH : headOf (grid0.coords p) hd = H at hc
  obtain ⟨σ, hσ⟩ := slope_real H
  let q : Fin 2048 → Fin 64 → ℝ := fun j e => fq (ix4 (ptB p) j H e)
  let k : Fin 2048 → Fin 64 → ℝ := fun j e => fk (ix4 (ptB p) j H e)
  obtain ⟨M, hM⟩ := exists_top (logitReal σ q k t) (seenReal q k t) ⟨t, seenReal_self q k t⟩
  rw [result_apply, blockOut_attended (grid0.coords p) (iblk m c 0 p) (iblk m c 1 p) (iblk m c 2 p) (iblk m c 3 p) hd σ q k
    (by rw [hH, iblk0_apply, hσ])
    (fun j e => by rw [iblk1_apply, (hc e).1, (hc e).2, hq, real_eighth, ← EReal.coe_mul])
    (fun j e => by rw [iblk2_apply, (hc e).1, (hc e).2, hk]) t M hM d,
    refResult_apply]
  show _ = refOut V0 (ptB p) (colHead (laneCol (ptH p) (headLane hd d))) t (colLane (laneCol (ptH p) (headLane hd d)))
  rw [(hc d).1, (hc d).2, refOut_real V0 (ptB p) H σ q k ((refSlope_eq V0 H).trans hσ)
    (fun j e => by rw [hQ, hq]) (fun j e => by rw [hK, hk]) t M hM d]
  congr 1
  funext j
  unfold refVal
  rw [iblk3_apply, (hc d).1, (hc d).2, hV]

/-- The two results are the same array. -/
theorem result_eq : ((dats m 0 c).arrAt 4 cfg0.N : FVec Ideal S8x2048x512 .bf16) = refResult V0 := by
  funext i
  rw [eq_ix3 i]
  generalize i 0 = b
  generalize i 1 = t
  generalize i 2 = l
  revert b t l
  intro (b : Fin 8) (t : Fin 2048) (l : Fin 512)
  have hb := b.isLt
  have hl := l.isLt
  have hN : cfg0.N = 32 := N_0
  have h := entry_eq m c V0 hQ hK hV rq rk ⟨4 * b.val + l.val / 128, by omega⟩ t ⟨l.val % 128 / 64, by omega⟩ ⟨l.val % 64, by omega⟩
  have e1 : ptB ⟨4 * b.val + l.val / 128, by omega⟩ = b := Fin.ext (by show (4 * b.val + l.val / 128) / 4 = b.val; omega)
  have e2 : laneCol (ptH ⟨4 * b.val + l.val / 128, by omega⟩) (headLane ⟨l.val % 128 / 64, by omega⟩ ⟨l.val % 64, by omega⟩) = l :=
    Fin.ext (by show 128 * ((4 * b.val + l.val / 128) % 4) + (64 * (l.val % 128 / 64) + l.val % 64) = l.val; omega)
  rw [e1, e2] at h
  exact h

end Cert.Moba
-- ==== Proof.Moba.Claims.lean ====
/-
  The value claim and the reference's frame, from the two programs' runs.
-/
module

public import proofs.«01_k».proof.Proof.Moba.Equal
public import proofs.«01_k».proof.Proof.Gen.KernelIdeal.Value
public import proofs.«01_k».proof.Proof.Gen.ReferenceIdeal.Run
public import Idealize.ShloMosaic.Adequacy
public import Idealize.ShloMosaic.Init

@[expose] public section

set_option maxRecDepth 16384

noncomputable section

open Idealize.ShloMosaic Idealize.ShloMosaic.TcCoe Idealize.SL.Sem Idealize.ShloMosaic.StableHlo

namespace Cert.Moba

/-- The reference runs, keeps its arguments and leaves every semaphore at zero: it has none. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The reference's run leaves the array its operations compose to. -/
theorem reference_result (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v157) = refResult (launchContents m c)
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  Cert.ReferenceIdeal.Value.run (F := Ideal) m ρ

/-- On real queries and keys the two programs leave the same array. -/
theorem algebraic [hPre : Cert.Pre_finite_qk.Facts] : Cert.algebraic_KernelIdeal_ReferenceIdeal_pre_finite_qk := by
  intro m g m' g' hpre hargs
  refine ⟨fun c => (Cert.KernelIdeal.Gen.dats m 0 c).arrAt 4 Cert.KernelIdeal.cfg0.N, Cert.KernelIdeal.Value.run_blocks m g, ?_⟩
  refine (θ_run Cert.ReferenceIdeal.defs _ _).mono (fun r h c => ⟨(h c).1.trans ?_, (h c).2⟩) (reference_result m' g')
  have hr := real_of_pre _ _ _ (hpre c)
  exact (result_eq m c (launchContents m' c) (hargs c).1 (hargs c).2.1 (hargs c).2.2 hr.1 hr.2).symm

end Cert.Moba
-- ==== Proof.Proj.Payload.lean ====
/-
  The matrix products and row sums of the projections' kernel body, read at an index.
-/
module

public import proofs.«01_k».proof.Proof.Gen.ProjectionsIdeal.Skeleton
public import Idealize.ShloMosaic.Lib.Tactic
public import Idealize.ShloMosaic.Lib.Pointwise

@[expose] public section

set_option maxRecDepth 16384

noncomputable section

open Idealize.ShloMosaic Idealize.ShloMosaic.TcCoe Idealize.SL.Sem
open Cert.ProjectionsIdeal Cert.ProjectionsIdeal.Gen

namespace Cert.Proj

/-- The small number added to a mean of squares. -/
abbrev eps : EReal := Ideal.ofBits .f32 0x358637BD#32

/-- A row normalised by its root mean square, with a gain, then scaled and shifted by the modulation. -/
def modRow (x g sc sh : Fin 1024 → EReal) (d : Fin 1024) : EReal :=
  x d * Ideal.rsqrt (Ideal.div (∑ e : Fin 1024, x e * x e) (Ideal.ofBits .f32 0x44800000#32) + eps) * g d
    * (Ideal.ofBits .f32 0x3F800000#32 + sc d) + sh d

/-- That row times the input projection. -/
def projRow (x g sc sh : Fin 1024 → EReal) (w : Fin 1024 → Fin 2048 → EReal) (c : Fin 2048) : EReal :=
  ∑ d : Fin 1024, modRow x g sc sh d * w d c

theorem pay5_apply (v0 : Vec Ideal S1x1024x1024 .f32) (v2 v4 : Vec Ideal S1x1x1024 .f32) (v6 : Vec Ideal S1x1024 .f32)
    (v27 : Vec Ideal S1024x2048 .bf16) (r : Fin 1024) (c : Fin 2048) :
    k0_pay5 v0 v2 v4 v6 v27 (ix2 r c)
      = projRow (fun d => v0 (ix3 0 r d)) (fun d => v6 (ix2 0 d)) (fun d => v4 (ix3 0 0 d)) (fun d => v2 (ix3 0 0 d))
          (fun d c => v27 (ix2 d c)) c := by
  unfold k0_pay5 projRow modRow
  pointwise

/-- The root mean square of a head's lanes, through the two products with the matrix of the heads. -/
def headRms (q : Fin 512 → EReal) (bd : Fin 512 → Fin 512 → EReal) (c : Fin 512) : EReal :=
  Ideal.rsqrt ((∑ j : Fin 512, q j * q j * bd j c + ∑ j : Fin 512, (q j * q j - q j * q j) * bd j c)
    * Ideal.ofBits .f32 0x3C800000#32 + eps)

theorem pay13_apply (v32 : FVec Ideal S1024x512 .f32) (v35 : FVec Ideal S512x512 .bf16) (v68 : Vec Ideal S1x512 .f32)
    (r : Fin 1024) (c : Fin 512) :
    k0_pay13 v32 v35 v68 (ix2 r c)
      = v32 (ix2 r c) * headRms (fun j => v32 (ix2 r j)) (fun j c => v35 (ix2 j c)) c * v68 (ix2 0 c) := by
  unfold k0_pay13 headRms
  pointwise

theorem pay14_apply (v31 : FVec Ideal S1024x512 .f32) (v35 : FVec Ideal S512x512 .bf16) (v50 : Vec Ideal S1x512 .f32)
    (r : Fin 1024) (c : Fin 512) :
    k0_pay14 v31 v35 (mulf v31 v31) (truncf .bf16 (mulf v31 v31) bitsLt_bf16_f32) v50 (ix3 0 r c)
      = v31 (ix2 r c) * headRms (fun j => v31 (ix2 r j)) (fun j c => v35 (ix2 j c)) c * v50 (ix2 0 c)
          * Ideal.ofBits .f32 0x3E000000#32 := by
  unfold k0_pay14 headRms
  pointwise

end Cert.Proj
-- ==== Proof.Proj.PoolPayload.lean ====
/-
  The kernel's window sums, taken by doubling rolled copies of the rows, read at an index.
-/
module

public import proofs.«01_k».proof.Proof.Proj.Payload
public import Idealize.ShloMosaic.Lib.KernelVsHost

@[expose] public section

set_option maxRecDepth 16384

noncomputable section

open Idealize.ShloMosaic Idealize.ShloMosaic.TcCoe Idealize.SL.Sem
open Cert.ProjectionsIdeal Cert.ProjectionsIdeal.Gen

namespace Cert.Proj

/-- A row of the extended rows from row 16 on reads the row a fixed number of places earlier after a rotation. -/
theorem rot_apply (sb : BitVec 32) (s : ℕ) (hs : sb.toNat = s) (hs' : s < 1040) (x : FVec Ideal S1040x128 .f32)
    (h : S1040x128.Rotates 0 none) (j : Fin 1040) (hj : s ≤ j.val) (c : Fin 128) :
    dynamicRotate 0 sb none x h (ix2 j c) = x (ix2 ⟨j.val - s, by omega⟩ c) := by
  refine dynamicRotate_apply 0 sb x h _ _ ?_
  intro b
  fin_cases b
  · show j.val - s = (j.val + 1040 - sb.toNat % 1040) % 1040
    rw [hs]; omega
  · rfl

/-- A sequence plus itself some places earlier. -/
def dbl (s : ℕ) (f : ℕ → EReal) (n : ℕ) : EReal := f n + f (n - s)

theorem dbl_apply (sb : BitVec 32) (s : ℕ) (hs : sb.toNat = s) (hs' : s < 1040) (x : FVec Ideal S1040x128 .f32)
    (h : S1040x128.Rotates 0 none) (c : Fin 128) (f : ℕ → EReal) (lo : ℕ)
    (hx : ∀ j : Fin 1040, lo ≤ j.val → x (ix2 j c) = f j.val) (j : Fin 1040) (hj : lo + s ≤ j.val) :
    addf x (dynamicRotate 0 sb none x h) (ix2 j c) = dbl s f j.val := by
  have : addf x (dynamicRotate 0 sb none x h) (ix2 j c) = x (ix2 j c) + dynamicRotate 0 sb none x h (ix2 j c) := by
    pointwise
  rw [this, rot_apply sb s hs hs' x h j (by omega) c, hx j (by omega), hx _ (by show lo ≤ j.val - s; omega)]
  rfl

/-- The number of rows a window covers, as the kernel counts it. -/
def cntWord (w : BitVec 32) (a : BitVec 32) (r : Fin 1024) : BitVec 32 :=
  IntOp.minsi (IntOp.addi (IntOp.addi (IntOp.muli a 1024#32) (BitVec.ofNat 32 r.val)) 1#32) w

/-- What a channel group does with its window sums: their mean less the row, times the group's map. -/
def poolDot (w a : BitVec 32) (e : FVec Ideal S1040x128 .f32) (u : FVec Ideal S1024x128 .f32)
    (wp : Vec Ideal S1x128x128 .bf16) : FVec Ideal S1024x128 .f32 :=
  matmul dot_S1024x128_S128x128_S1024x128_1_0_0_1_n_n none
    (truncf .bf16 (subf (mulf (extractStridedSlice S1024x128 ![16, 0] e slices_S1040x128_o16_0_S1024x128)
      (broadcastTo S1024x128 (divf (broadcast S1024x1 (Scalar.ofBits .f32 0x3F800000#32 : Ideal .f32))
        (sitofp .f32 (minsi (addi (k0_pay19 a) (broadcast S1024x1 1#32)) (broadcast S1024x1 w)))) broadcasts_S1024x1_S1024x128)) u)
      bitsLt_bf16_f32)
    (shapeCast S128x128 wp shapeCasts_S1x128x128_S128x128 : FVec Ideal S128x128 .bf16) (constant S1024x128 .f32 0x00000000#32)

theorem poolDot_apply (w a : BitVec 32) (e : FVec Ideal S1040x128 .f32) (u : FVec Ideal S1024x128 .f32)
    (wp : Vec Ideal S1x128x128 .bf16) (r : Fin 1024) (c : Fin 128) :
    poolDot w a e u wp (ix2 r c)
      = ∑ j : Fin 128, (e (ix2 ⟨16 + r.val, by omega⟩ j)
          * Ideal.div (Ideal.ofBits .f32 0x3F800000#32) (FloatOps.sitofp (F := Ideal) .f32 (cntWord w a r)) - u (ix2 r j)) * wp (ix3 0 j c) := by
  unfold poolDot k0_pay19 cntWord
  pointwise
  rfl

/-- The group's output: the product times the channel's scale. -/
def poolCast (y : FVec Ideal S1024x128 .f32) (ps : Vec Ideal S1x128 .f32) : FVec Ideal S1x1024x128 .bf16 :=
  shapeCast S1x1024x128 (truncf .bf16 (mulf y (broadcastTo S1024x128 (shapeCast S1x128 ps shapeCasts_S1x128_S1x128)
    broadcasts_S1x128_S1024x128)) bitsLt_bf16_f32) shapeCasts_S1024x128_S1x1024x128

theorem poolCast_apply (y : FVec Ideal S1024x128 .f32) (ps : Vec Ideal S1x128 .f32) (r : Fin 1024) (c : Fin 128) :
    poolCast y ps (ix3 0 r c) = y (ix2 r c) * ps (ix2 0 c) := by
  unfold poolCast
  pointwise

/-- The rows plus themselves `s` places earlier. -/
abbrev rolled (sb : BitVec 32) (x : FVec Ideal S1040x128 .f32) : FVec Ideal S1040x128 .f32 :=
  addf x (dynamicRotate 0 sb none x rotates_S1040x128_d0)

theorem pay20_eq (a : BitVec 32) (v30 : FVec Ideal S1024x512 .f32) (e : Vec Ideal S1040x128 .f32)
    (wp : Vec Ideal S1x128x128 .bf16) :
    k0_pay20 a v30 e wp
      = poolDot 2#32 a (rolled 1#32 e) (extractStridedSlice S1024x128 ![0, 0] v30 slices_S1024x512_o0_0_S1024x128) wp := rfl

theorem pay21_eq (y : FVec Ideal S1024x128 .f32) (ps : Vec Ideal S1x128 .f32) : k0_pay21 y ps = poolCast y ps := rfl

theorem pay22_eq (a : BitVec 32) (v30 : FVec Ideal S1024x512 .f32) (e : Vec Ideal S1040x128 .f32)
    (wp : Vec Ideal S1x128x128 .bf16) (ps : Vec Ideal S1x128 .f32) :
    k0_pay22 v30 (k0_pay19 a) e wp ps
      = poolCast (poolDot 4#32 a (rolled 2#32 (rolled 1#32 e))
          (extractStridedSlice S1024x128 ![0, 128] v30 slices_S1024x512_o0_128_S1024x128) wp) ps := rfl

theorem pay23_eq (a : BitVec 32) (v30 : FVec Ideal S1024x512 .f32) (e : Vec Ideal S1040x128 .f32)
    (wp : Vec Ideal S1x128x128 .bf16) (ps : Vec Ideal S1x128 .f32) :
    k0_pay23 v30 (k0_pay19 a) e wp ps
      = poolCast (poolDot 8#32 a (rolled 4#32 (rolled 2#32 (rolled 1#32 e)))
          (extractStridedSlice S1024x128 ![0, 256] v30 slices_S1024x512_o0_256_S1024x128) wp) ps := rfl

theorem pay1_eq (a : BitVec 32) (v30 : FVec Ideal S1024x512 .f32) (e : Vec Ideal S1040x128 .f32)
    (wp : Vec Ideal S1x128x128 .bf16) (ps : Vec Ideal S1x128 .f32) :
    k0_pay1 v30 (k0_pay19 a) (k0_pay24 e) (k0_pay25 e) wp ps
      = poolCast (poolDot 16#32 a (rolled 8#32 (rolled 4#32 (rolled 2#32 (rolled 1#32 e))))
          (extractStridedSlice S1024x128 ![0, 384] v30 slices_S1024x512_o0_384_S1024x128) wp) ps := rfl

/-- The sum of a window of `w` rows of a sequence, ending at row `n`. -/
def winSum (f : ℕ → EReal) (n : ℕ) : ℕ → EReal
  | 0 => 0
  | w + 1 => winSum f n w + f (n - w)

theorem rolled1 (e : FVec Ideal S1040x128 .f32) (c : Fin 128) (f : ℕ → EReal)
    (he : ∀ j : Fin 1040, e (ix2 j c) = f j.val) (j : Fin 1040) (hj : 1 ≤ j.val) :
    rolled 1#32 e (ix2 j c) = dbl 1 f j.val :=
  dbl_apply 1#32 1 rfl (by decide) e _ c f 0 (fun j _ => he j) j hj

theorem rolled2 (e : FVec Ideal S1040x128 .f32) (c : Fin 128) (f : ℕ → EReal)
    (he : ∀ j : Fin 1040, e (ix2 j c) = f j.val) (j : Fin 1040) (hj : 3 ≤ j.val) :
    rolled 2#32 (rolled 1#32 e) (ix2 j c) = dbl 2 (dbl 1 f) j.val :=
  dbl_apply 2#32 2 rfl (by decide) _ _ c _ 1 (fun j h => rolled1 e c f he j h) j hj

theorem rolled4 (e : FVec Ideal S1040x128 .f32) (c : Fin 128) (f : ℕ → EReal)
    (he : ∀ j : Fin 1040, e (ix2 j c) = f j.val) (j : Fin 1040) (hj : 7 ≤ j.val) :
    rolled 4#32 (rolled 2#32 (rolled 1#32 e)) (ix2 j c) = dbl 4 (dbl 2 (dbl 1 f)) j.val :=
  dbl_apply 4#32 4 rfl (by decide) _ _ c _ 3 (fun j h => rolled2 e c f he j h) j hj

theorem rolled8 (e : FVec Ideal S1040x128 .f32) (c : Fin 128) (f : ℕ → EReal)
    (he : ∀ j : Fin 1040, e (ix2 j c) = f j.val) (j : Fin 1040) (hj : 15 ≤ j.val) :
    rolled 8#32 (rolled 4#32 (rolled 2#32 (rolled 1#32 e))) (ix2 j c) = dbl 8 (dbl 4 (dbl 2 (dbl 1 f))) j.val :=
  dbl_apply 8#32 8 rfl (by decide) _ _ c _ 7 (fun j h => rolled4 e c f he j h) j hj

theorem dbl1_eq (f : ℕ → EReal) (n : ℕ) : dbl 1 f n = winSum f n 2 := by
  simp only [dbl, winSum, zero_add, Nat.sub_zero]
theorem dbl2_eq (f : ℕ → EReal) (n : ℕ) : dbl 2 (dbl 1 f) n = winSum f n 4 := by
  simp only [dbl, winSum, zero_add, Nat.sub_zero, Nat.sub_sub, Nat.reduceAdd, add_assoc]
theorem dbl4_eq (f : ℕ → EReal) (n : ℕ) : dbl 4 (dbl 2 (dbl 1 f)) n = winSum f n 8 := by
  simp only [dbl, winSum, zero_add, Nat.sub_zero, Nat.sub_sub, Nat.reduceAdd, add_assoc]
theorem dbl8_eq (f : ℕ → EReal) (n : ℕ) : dbl 8 (dbl 4 (dbl 2 (dbl 1 f))) n = winSum f n 16 := by
  simp only [dbl, winSum, zero_add, Nat.sub_zero, Nat.sub_sub, Nat.reduceAdd, add_assoc]

end Cert.Proj
-- ==== Proof.Proj.Block.lean ====
/-
  What one grid point's body writes, as plain functions of its blocks.
-/
module

public import proofs.«01_k».proof.Proof.Proj.PoolPayload
public import proofs.«01_k».proof.Proof.Gen.ProjectionsIdeal.Value

@[expose] public section

set_option maxRecDepth 16384

noncomputable section

open Idealize.ShloMosaic Idealize.ShloMosaic.TcCoe Idealize.SL.Sem
open Cert.ProjectionsIdeal Cert.ProjectionsIdeal.Gen

namespace Cert.Proj

/-- The projection of a block's rows: the modulation's first 1024 entries shift, the next 1024 scale. -/
def zB (x0 : Vec Ideal S1x1024x1024 .f32) (x1 : Vec Ideal S1x1x6144 .f32) (x2 : Vec Ideal S1x1024 .f32)
    (x3 : Vec Ideal S1024x2048 .bf16) (r : Fin 1024) (c : Fin 2048) : EReal :=
  projRow (fun d => x0 (ix3 0 r d)) (fun d => x2 (ix2 0 d)) (fun d => x1 (ix3 0 0 ⟨1024 + d.val, by omega⟩))
    (fun d => x1 (ix3 0 0 ⟨d.val, by omega⟩)) (fun d c => x3 (ix2 d c)) c

/-- A column of one of the four parts of the projection. -/
abbrev part (o : ℕ) (ho : o + 512 ≤ 2048) (c : Fin 512) : Fin 2048 := ⟨o + c.val, by omega⟩

/-- A row normalised within the heads, with its gain. -/
def normB (q : Fin 512 → EReal) (bd : Fin 512 → Fin 512 → EReal) (g : Fin 512 → EReal) (c : Fin 512) : EReal :=
  q c * headRms q bd c * g c

/-- The rows a window may reach: sixteen rows before the block, then the block's. -/
def extB (hal : Fin 16 → EReal) (u : Fin 1024 → EReal) (n : ℕ) : EReal :=
  if h : n < 16 then hal ⟨n, h⟩ else if h' : n - 16 < 1024 then u ⟨n - 16, h'⟩ else 0

/-- A column of a channel group. -/
abbrev grp (o : ℕ) (ho : o + 128 ≤ 512) (c : Fin 128) : Fin 512 := ⟨o + c.val, by omega⟩

/-- The pooled output of the channel group at columns `o` on, with windows of `w` rows counted by `cnt`. -/
def poolB (w : ℕ) (cnt : Fin 1024 → EReal) (o : ℕ) (ho : o + 128 ≤ 512) (hal : Fin 16 → Fin 512 → EReal) (u : Fin 1024 → Fin 512 → EReal)
    (wp : Fin 128 → Fin 128 → EReal) (ps : Fin 512 → EReal) (r : Fin 1024) (c : Fin 128) : EReal :=
  (∑ j : Fin 128, (winSum (extB (fun s => hal s (grp o ho j)) (fun s => u s (grp o ho j))) (16 + r.val) w
      * Ideal.div (Ideal.ofBits .f32 0x3F800000#32) (cnt r) - u r (grp o ho j)) * wp j c) * ps (grp o ho c)

/-- A window's number of rows, as a number. -/
def cntB (w a : BitVec 32) (r : Fin 1024) : EReal := FloatOps.sitofp (F := Ideal) .f32 (cntWord w a r)

section Payloads
variable (v0 : Vec Ideal S1x1024x1024 .f32) (v2 v4 : Vec Ideal S1x1x1024 .f32) (v6 : Vec Ideal S1x1024 .f32)
  (v27 : Vec Ideal S1024x2048 .bf16) (r : Fin 1024) (c : Fin 512)

theorem pay6_apply : k0_pay6 v0 v2 v4 v6 v27 (ix2 r c) = k0_pay5 v0 v2 v4 v6 v27 (ix2 r (part 0 (by decide) c)) := by
  unfold k0_pay6; generalize k0_pay5 v0 v2 v4 v6 v27 = z; pointwise
  congr 2; apply Fin.ext; show c.val = 0 + c.val; omega
theorem pay7_apply : k0_pay7 v0 v2 v4 v6 v27 (ix2 r c) = k0_pay5 v0 v2 v4 v6 v27 (ix2 r (part 512 (by decide) c)) := by
  unfold k0_pay7; generalize k0_pay5 v0 v2 v4 v6 v27 = z; pointwise
theorem pay8_apply : k0_pay8 v0 v2 v4 v6 v27 (ix2 r c) = k0_pay5 v0 v2 v4 v6 v27 (ix2 r (part 1024 (by decide) c)) := by
  unfold k0_pay8; generalize k0_pay5 v0 v2 v4 v6 v27 = z; pointwise
theorem pay9_apply : k0_pay9 v0 v2 v4 v6 v27 (ix2 r c) = k0_pay5 v0 v2 v4 v6 v27 (ix2 r (part 1536 (by decide) c)) := by
  unfold k0_pay9; generalize k0_pay5 v0 v2 v4 v6 v27 = z; pointwise
end Payloads

section Reads
variable (arg2 : Memref sig .tc .vmem S1x1024x1024 .f32) (harg2 : arg2.IsWhole) (arg3 : Memref sig .tc .vmem S1x1x6144 .f32) (harg3 : arg3.IsWhole)
  (arg4 : Memref sig .tc .vmem S1x1024 .f32) (harg4 : arg4.IsWhole) (arg5 : Memref sig .tc .vmem S1024x2048 .bf16) (harg5 : arg5.IsWhole)
  (x0 : Vec Ideal S1x1024x1024 .f32) (x1 : Vec Ideal S1x1x6144 .f32) (x2 : Vec Ideal S1x1024 .f32) (x3 : Vec Ideal S1024x2048 .bf16)

/-- The projection of what the body loads is the projection of the blocks. -/
theorem z_read (r : Fin 1024) (c : Fin 2048) :
    k0_pay5 (View.readAt (Elt Ideal) arg2.view (Rect.unit ![0, 0, 0] S1x1024x1024.size inb_S1x1024x1024_S1x1024x1024_0_0_0).toLoadRect (harg2.unread x0))
      (View.readAt (Elt Ideal) arg3.view (Rect.unit (s := S1x1x6144) ![0, 0, 0] S1x1x1024.size inb_S1x1x6144_S1x1x1024_0_0_0).toLoadRect (harg3.unread x1))
      (View.readAt (Elt Ideal) arg3.view (Rect.unit (s := S1x1x6144) ![0, 0, 1024] S1x1x1024.size inb_S1x1x6144_S1x1x1024_0_0_1024).toLoadRect (harg3.unread x1))
      (View.readAt (Elt Ideal) arg4.view (Rect.unit ![0, 0] S1x1024.size inb_S1x1024_S1x1024_0_0).toLoadRect (harg4.unread x2))
      (View.readAt (Elt Ideal) arg5.view (Rect.unit ![0, 0] S1024x2048.size inb_S1024x2048_S1024x2048_0_0).toLoadRect (harg5.unread x3)) (ix2 r c)
      = zB x0 x1 x2 x3 r c := by
  rw [pay5_apply]
  simp only [View.readAt_eq_ld, harg2.read_unread, harg3.read_unread, harg4.read_unread, harg5.read_unread]
  unfold zB
  pointwise

end Reads

section Scratch
variable (pay : FVec Ideal S1024x512 .f32) (z : FVec Ideal S16x512 .f32)
  (inb16 : ∀ a, (![16, 0] : Fin 2 → ℕ) a + S1024x512.size a ≤ S1040x512.size a)
  (inb0 : ∀ a, (![0, 0] : Fin 2 → ℕ) a + S16x512.size a ≤ S1040x512.size a)

theorem emb16 (j : Fin 1040) (hj : 16 ≤ j.val) (c : Fin 512) :
    (Rect.unit (s := S1040x512) ![16, 0] S1024x512.size inb16).emb (ix2 (⟨j.val - 16, by omega⟩ : Fin 1024) c) = ix2 j c := by
  funext x; apply Fin.ext
  fin_cases x
  · show 16 + 1 * (j.val - 16) = j.val; omega
  · show 0 + 1 * c.val = c.val; omega

theorem emb0 (j : Fin 1040) (hj : j.val < 16) (c : Fin 512) :
    (Rect.unit (s := S1040x512) ![0, 0] S16x512.size inb0).emb (ix2 (⟨j.val, hj⟩ : Fin 16) c) = ix2 j c := by
  funext x; apply Fin.ext
  fin_cases x
  · show 0 + 1 * j.val = j.val; omega
  · show 0 + 1 * c.val = c.val; omega

theorem not_mem16 (j : Fin 1040) (hj : j.val < 16) (c : Fin 512) :
    ix2 j c ∉ (Rect.unit (s := S1040x512) ![16, 0] S1024x512.size inb16).set := by
  intro hm
  obtain ⟨i, hi, he⟩ := (LoadRect.mem_set _).mp hm (0 : Fin 2)
  have he' : j.val = 16 + 1 * i := he
  omega

theorem canon16 (L : List (View.Piece (Elt Ideal) S1040x512 .f32)) (j : Fin 1040) (hj : 16 ≤ j.val) (c : Fin 512) :
    View.canon ((⟨Rect.unit (s := S1040x512) ![16, 0] S1024x512.size inb16, pay⟩ : View.Piece (Elt Ideal) S1040x512 .f32) :: L) (ix2 j c)
      = pay (ix2 ⟨j.val - 16, by omega⟩ c) := by
  rw [← emb16 inb16 j hj c]
  exact View.canon_cons_emb (Rect.unit (s := S1040x512) ![16, 0] S1024x512.size inb16) pay L (ix2 (⟨j.val - 16, by omega⟩ : Fin 1024) c)

theorem canon0 (L : List (View.Piece (Elt Ideal) S1040x512 .f32)) (j : Fin 1040) (hj : j.val < 16) (c : Fin 512) :
    View.canon ((⟨Rect.unit (s := S1040x512) ![0, 0] S16x512.size inb0, z⟩ : View.Piece (Elt Ideal) S1040x512 .f32) :: L) (ix2 j c)
      = z (ix2 ⟨j.val, hj⟩ c) := by
  rw [← emb0 inb0 j hj c]
  exact View.canon_cons_emb (Rect.unit (s := S1040x512) ![0, 0] S16x512.size inb0) z L (ix2 (⟨j.val, hj⟩ : Fin 16) c)

theorem canon_off (L : List (View.Piece (Elt Ideal) S1040x512 .f32)) (j : Fin 1040) (hj : j.val < 16) (c : Fin 512) :
    View.canon ((⟨Rect.unit (s := S1040x512) ![16, 0] S1024x512.size inb16, pay⟩ : View.Piece (Elt Ideal) S1040x512 .f32) :: L) (ix2 j c)
      = View.canon L (ix2 j c) :=
  View.canon_cons_of_not_mem _ L (not_mem16 inb16 j hj c)

/-- The scratch with the block's rows stored over sixteen rows stored before. -/
theorem canon_ext (L : List (View.Piece (Elt Ideal) S1040x512 .f32)) (j : Fin 1040) (c : Fin 512) :
    View.canon ((⟨Rect.unit (s := S1040x512) ![16, 0] S1024x512.size inb16, pay⟩ : View.Piece (Elt Ideal) S1040x512 .f32)
      :: ⟨Rect.unit (s := S1040x512) ![0, 0] S16x512.size inb0, z⟩ :: L) (ix2 j c)
      = extB (fun s => z (ix2 s c)) (fun s => pay (ix2 s c)) j.val := by
  unfold extB
  by_cases hj : j.val < 16
  · rw [dif_pos hj]
    exact (canon_off pay inb16 _ j hj c).trans (canon0 z inb0 L j hj c)
  · rw [dif_neg hj, dif_pos (show j.val - 16 < 1024 by omega)]
    exact canon16 pay inb16 _ j (by omega) c

theorem read16 (arg16 : Memref sig .tc .vmem S1040x512 .f32) (f : arg16.view.ty.Contents (Elt Ideal))
    (j : Fin 1040) (hj : 16 ≤ j.val) (c : Fin 512) :
    arg16.view.read (Elt Ideal) (arg16.view.writes (Elt Ideal) f
      [(⟨Rect.unit (s := S1040x512) ![16, 0] S1024x512.size inb16, pay⟩ : View.Piece (Elt Ideal) S1040x512 .f32)]) (ix2 j c)
      = pay (ix2 ⟨j.val - 16, by omega⟩ c) := by
  rw [← emb16 inb16 j hj c]
  exact View.read_writes_cons_emb arg16.view f (Rect.unit (s := S1040x512) ![16, 0] S1024x512.size inb16) pay [] (ix2 (⟨j.val - 16, by omega⟩ : Fin 1024) c)

/-- The scratch with the block's rows stored over what it held. -/
theorem read_ext (arg16 : Memref sig .tc .vmem S1040x512 .f32) (harg16 : arg16.IsWhole) (xs : Vec Ideal S1040x512 .f32)
    (j : Fin 1040) (c : Fin 512) :
    arg16.view.read (Elt Ideal) (arg16.view.writes (Elt Ideal) (harg16.unread xs)
      [(⟨Rect.unit (s := S1040x512) ![16, 0] S1024x512.size inb16, pay⟩ : View.Piece (Elt Ideal) S1040x512 .f32)]) (ix2 j c)
      = extB (fun s => xs (ix2 ⟨s.val, by omega⟩ c)) (fun s => pay (ix2 s c)) j.val := by
  unfold extB
  by_cases hj : j.val < 16
  · rw [dif_pos hj, View.read_writes_apply_of_forall_not_mem, harg16.read_unread]
    intro p hp
    obtain rfl := List.mem_singleton.mp hp
    exact not_mem16 inb16 j hj c
  · rw [dif_neg hj, dif_pos (show j.val - 16 < 1024 by omega)]
    exact read16 pay inb16 arg16 _ j (by omega) c

/-- A group's columns of the scratch. -/
theorem grp_idx (o : ℕ) (ho : o + 128 ≤ 512) (inb : ∀ a, (![0, o] : Fin 2 → ℕ) a + S1040x128.size a ≤ S1040x512.size a)
    (j : Fin 1040) (c : Fin 128) :
    ((Rect.unit (s := S1040x512) ![0, o] S1040x128.size inb).toLoadRect).idx (ix2 j c) = ix2 j (grp o ho c) := by
  funext x; apply Fin.ext
  fin_cases x
  · show 0 + 1 * j.val = j.val; omega
  · show o + 1 * c.val = o + c.val; omega

end Scratch

/-- A group's output from its extended rows: the product of the pooled rows with the group's map, scaled. -/
theorem pool_apply (w : ℕ) (wb a : BitVec 32) (o : ℕ) (ho : o + 128 ≤ 512) (e : FVec Ideal S1040x128 .f32) (u : FVec Ideal S1024x128 .f32)
    (wp : Vec Ideal S1x128x128 .bf16) (ps : Vec Ideal S1x128 .f32) (hal : Fin 16 → Fin 512 → EReal) (uu : Fin 1024 → Fin 512 → EReal)
    (wq : Fin 128 → Fin 128 → EReal) (pq : Fin 512 → EReal)
    (he : ∀ (j : Fin 128) (r : Fin 1024), e (ix2 ⟨16 + r.val, by omega⟩ j)
      = winSum (extB (fun s => hal s (grp o ho j)) (fun s => uu s (grp o ho j))) (16 + r.val) w)
    (hu : ∀ (j : Fin 128) (r : Fin 1024), u (ix2 r j) = uu r (grp o ho j))
    (hw : ∀ j c : Fin 128, wp (ix3 0 j c) = wq j c) (hp : ∀ c : Fin 128, ps (ix2 0 c) = pq (grp o ho c))
    (r : Fin 1024) (c : Fin 128) :
    poolCast (poolDot wb a e u wp) ps (ix3 0 r c) = poolB w (cntB wb a) o ho hal uu wq pq r c := by
  rw [poolCast_apply, poolDot_apply, hp]
  unfold poolB cntB
  simp only [he, hu, hw]

/-- The number of rows of a group's windows. -/
abbrev winOf (g : Fin 4) : ℕ := 2 ^ (g.val + 1)

/-- The pooled output of a row at any column: of the column's group. -/
def poolCol (a : BitVec 32) (hal : Fin 16 → Fin 512 → EReal) (u : Fin 1024 → Fin 512 → EReal)
    (wp : Fin 4 → Fin 128 → Fin 128 → EReal) (ps : Fin 512 → EReal) (r : Fin 1024) (l : Fin 512) : EReal :=
  poolB (winOf ⟨l.val / 128, by omega⟩) (cntB (BitVec.ofNat 32 (winOf ⟨l.val / 128, by omega⟩)) a) (128 * (l.val / 128)) (by omega) hal u
    (wp ⟨l.val / 128, by omega⟩) ps r ⟨l.val % 128, Nat.mod_lt _ (by decide)⟩

theorem poolCol_grp (a : BitVec 32) (hal : Fin 16 → Fin 512 → EReal) (u : Fin 1024 → Fin 512 → EReal)
    (wp : Fin 4 → Fin 128 → Fin 128 → EReal) (ps : Fin 512 → EReal) (r : Fin 1024) (g : Fin 4) (l : Fin 128) :
    poolCol a hal u wp ps r (grp (128 * g.val) (by omega) l)
      = poolB (winOf g) (cntB (BitVec.ofNat 32 (winOf g)) a) (128 * g.val) (by omega) hal u (wp g) ps r l := by
  have hd : (128 * g.val + l.val) / 128 = g.val := by omega
  have hm : (128 * g.val + l.val) % 128 = l.val := by omega
  unfold poolCol
  simp only [hd, hm]

end Cert.Proj
-- ==== Proof.Proj.Spec.lean ====
/-
  The projections as plain functions of the arguments, and the windows of rows they are stated with.
-/
module

public import proofs.«01_k».proof.Proof.Proj.Block

@[expose] public section

noncomputable section

open Idealize.ShloMosaic

namespace Cert.Proj

/-- A row of the projection, of a batch entry. -/
def zT (X : Fin 8 → Fin 2048 → Fin 1024 → EReal) (M : Fin 8 → Fin 6144 → EReal) (G : Fin 1024 → EReal) (W : Fin 1024 → Fin 2048 → EReal)
    (b : Fin 8) (t : Fin 2048) (c : Fin 2048) : EReal :=
  projRow (X b t) G (fun d => M b ⟨1024 + d.val, by omega⟩) (fun d => M b ⟨d.val, by omega⟩) W c

/-- A sequence with sixteen zero rows before it. -/
def padded (u : Fin 2048 → EReal) (n : ℕ) : EReal :=
  if h : 16 ≤ n ∧ n - 16 < 2048 then u ⟨n - 16, h.2⟩ else 0

theorem winSum_congr (f g : ℕ → EReal) (n n' : ℕ) : ∀ w : ℕ, (∀ s < w, f (n - s) = g (n' - s)) → winSum f n w = winSum g n' w := by
  intro w
  induction w with
  | zero => intro _; rfl
  | succ w ih =>
    intro h
    show winSum f n w + f (n - w) = winSum g n' w + g (n' - w)
    rw [ih fun s hs => h s (by omega), h w (by omega)]

/-- The number of rows in the window of a row, of at most `w` rows. -/
def winCnt (w : ℕ) (t : Fin 2048) : EReal := ((min (t.val + 1) w : ℕ) : ℝ)

/-- The pooled output at a row and a column. -/
def poolT (u : Fin 2048 → Fin 512 → EReal) (wp : Fin 4 → Fin 128 → Fin 128 → EReal) (ps : Fin 512 → EReal) (t : Fin 2048) (l : Fin 512) : EReal :=
  (∑ j : Fin 128, (Ideal.div (winSum (padded fun s => u s (grp (128 * (l.val / 128)) (by omega) j)) (16 + t.val) (winOf ⟨l.val / 128, by omega⟩))
        (winCnt (winOf ⟨l.val / 128, by omega⟩) t)
      - u t (grp (128 * (l.val / 128)) (by omega) j)) * wp ⟨l.val / 128, by omega⟩ j ⟨l.val % 128, Nat.mod_lt _ (by decide)⟩) * ps l

/-- The kernel's count of a row of a tile. -/
theorem cntB_eq (g : Fin 4) (a : Fin 2) (r : Fin 1024) (t : Fin 2048) (ht : t.val = 1024 * a.val + r.val) :
    cntB (BitVec.ofNat 32 (winOf g)) (BitVec.ofNat 32 a.val) r = winCnt (winOf g) t := by
  have key : ∀ (a : Fin 2) (g : Fin 4) (r : Fin 1024),
      (cntWord (BitVec.ofNat 32 (winOf g)) (BitVec.ofNat 32 a.val) r).toInt = ((min (1024 * a.val + r.val + 1) (winOf g) : ℕ) : ℤ) := by
    decide +kernel
  unfold winCnt
  rw [ht]
  show (((cntWord (BitVec.ofNat 32 (winOf g)) (BitVec.ofNat 32 a.val) r).toInt : ℝ) : EReal) = _
  rw [key]
  norm_cast

theorem one_bits : Ideal.ofBits .f32 0x3F800000#32 = 1 := by
  simp [Ideal.ofBits, Ideal.ieee, -EReal.coe_mul]; norm_num

/-- Multiplying by a count's reciprocal is dividing by it. -/
theorem mul_recip (x : EReal) (g : Fin 4) (t : Fin 2048) :
    x * Ideal.div (Ideal.ofBits .f32 0x3F800000#32) (winCnt (winOf g) t) = Ideal.div x (winCnt (winOf g) t) := by
  have h : ((min (t.val + 1) (winOf g) : ℕ) : ℝ) ≠ 0 := by
    have : 0 < winOf g := Nat.pow_pos (by decide)
    exact Nat.cast_ne_zero.mpr (by omega)
  unfold winCnt
  rw [Ideal.div_coe h, Ideal.div_coe h, one_bits, one_mul]

/-- A block's pooled output is the sequence's, when the rows before the block are the sequence's. -/
theorem poolCol_eq (a : Fin 2) (hal : Fin 16 → Fin 512 → EReal) (u : Fin 1024 → Fin 512 → EReal) (U : Fin 2048 → Fin 512 → EReal)
    (wp : Fin 4 → Fin 128 → Fin 128 → EReal) (ps : Fin 512 → EReal)
    (hu : ∀ (r : Fin 1024) l, u r l = U ⟨1024 * a.val + r.val, by omega⟩ l)
    (hh : ∀ (s : Fin 16) l, hal s l = padded (fun t => U t l) (1024 * a.val + s.val))
    (r : Fin 1024) (l : Fin 512) :
    poolCol (BitVec.ofNat 32 a.val) hal u wp ps r l = poolT U wp ps ⟨1024 * a.val + r.val, by omega⟩ l := by
  unfold poolCol poolB poolT
  have hl : grp (128 * (l.val / 128)) (by omega) ⟨l.val % 128, Nat.mod_lt _ (by decide)⟩ = l := Fin.ext (by show 128 * (l.val / 128) + l.val % 128 = l.val; omega)
  rw [hl]
  congr 1
  refine Finset.sum_congr rfl fun j _ => ?_
  congr 2
  · rw [cntB_eq _ a r ⟨1024 * a.val + r.val, by omega⟩ rfl, mul_recip]
    congr 1
    refine winSum_congr _ _ _ _ _ fun s hs => ?_
    have hw : winOf ⟨l.val / 128, by omega⟩ ≤ 16 := (by decide : ∀ g : Fin 4, winOf g ≤ 16) _
    have hs' : s < 16 := lt_of_lt_of_le hs hw
    have ha := a.isLt
    unfold extB
    by_cases h1 : 16 + r.val - s < 16
    · rw [dif_pos h1]
      refine (hh _ _).trans ?_
      congr 1
      show 1024 * a.val + (16 + r.val - s) = 16 + (1024 * a.val + r.val) - s
      omega
    · have h2 : 16 + r.val - s - 16 < 1024 := by omega
      rw [dif_neg h1, dif_pos h2]
      refine (hu _ _).trans ?_
      unfold padded
      rw [dif_pos ⟨by show 16 ≤ 16 + (1024 * a.val + r.val) - s; omega, by show 16 + (1024 * a.val + r.val) - s - 16 < 2048; omega⟩]
      congr 1
      apply Fin.ext
      show 1024 * a.val + (16 + r.val - s - 16) = 16 + (1024 * a.val + r.val) - s - 16
      omega
  · exact hu r _

end Cert.Proj
-- ==== Proof.Proj.RefRows.lean ====
/-
  The reference's projection, its keys, values, queries and last rows, read at an index.
-/
module

public import proofs.«01_k».proof.Proof.Proj.Spec
public import proofs.«01_k».proof.Proof.Gen.ProjectionsReferenceIdeal.Run

@[expose] public section

set_option maxRecDepth 16384

noncomputable section

open Idealize.ShloMosaic Idealize.ShloMosaic.TcCoe Idealize.SL.Sem
open Cert.ProjectionsReferenceIdeal Cert.ProjectionsReferenceIdeal.Value

namespace Cert.Proj.Ref

variable (V0 : Valuation τ sig (Elt Ideal))

/-- The reference's arguments. -/
abbrev aX : FVec Ideal S8x2048x1024 .f32 := V0 (Proc.devRef .tc main_arg0)
@[inherit_doc aX] abbrev aMod : FVec Ideal S8x6144 .f32 := V0 (Proc.devRef .tc main_arg1)
@[inherit_doc aX] abbrev aG : FVec Ideal S1024 .f32 := V0 (Proc.devRef .tc main_arg2)
@[inherit_doc aX] abbrev aW : FVec Ideal S1024x2048 .f32 := V0 (Proc.devRef .tc main_arg3)
@[inherit_doc aX] abbrev aGq : FVec Ideal S64 .f32 := V0 (Proc.devRef .tc main_arg4)
@[inherit_doc aX] abbrev aGk : FVec Ideal S64 .f32 := V0 (Proc.devRef .tc main_arg5)
@[inherit_doc aX] abbrev aPool : FVec Ideal S4x128x128 .f32 := V0 (Proc.devRef .tc main_arg6)
@[inherit_doc aX] abbrev aScale : FVec Ideal S512 .f32 := V0 (Proc.devRef .tc main_arg7)

/-- The projection of the reference's arguments. -/
def zRef (b : Fin 8) (t : Fin 2048) (l : Fin 2048) : EReal :=
  zT (fun b t d => aX V0 (ix3 b t d)) (fun b e => aMod V0 (ix2 b e)) (fun d => aG V0 (ix1 d)) (fun d l => aW V0 (ix2 d l)) b t l

/-- The projection, as the reference computes it. -/
def projected (x : FVec Ideal S8x2048x1024 .f32) (md : FVec Ideal S8x6144 .f32) (g : FVec Ideal S1024 .f32) (w : FVec Ideal S1024x2048 .f32) :
    FVec Ideal S8x2048x2048 .f32 :=
  Host.dotGeneral dot_S8x2048x1024_S1024x2048_S8x2048x2048_2_0_01_1_n_n none (addf (mulf (mulf (mulf x (broadcastInDim S8x2048x1024 ![0, 1, 2] Gen.bcast_S8x2048x1_S8x2048x1024_0_1_2 (Host.rsqrt (addf (Host.divf (broadcastInDim S8x2048x1 ![0, 1] Gen.bcast_S8x2048_S8x2048x1_0_1 (Host.reduceAdd (mulf x x) (constant S_ .f32 0x00000000#32) Gen.reducesTo_S8x2048x1024_S8x2048_d2 Gen.h_S_)) (broadcastInDim S8x2048x1 ![] Gen.bcast_S_S8x2048x1 (constant S_ .f32 0x44800000#32))) (broadcastInDim S8x2048x1 ![] Gen.bcast_S_S8x2048x1 (constant S_ .f32 0x358637BD#32)))))) (broadcastInDim S8x2048x1024 ![0, 1, 2] Gen.bcast_S1x1x1024_S8x2048x1024_0_1_2 (broadcastInDim S1x1x1024 ![2] Gen.bcast_S1024_S1x1x1024_2 g))) (broadcastInDim S8x2048x1024 ![0, 1, 2] Gen.bcast_S8x1x1024_S8x2048x1024_0_1_2 (addf (broadcastInDim S8x1x1024 ![] Gen.bcast_S_S8x1x1024 (constant S_ .f32 0x3F800000#32)) (broadcastInDim S8x1x1024 ![0, 2] Gen.bcast_S8x1024_S8x1x1024_0_2 (extractStridedSlice S8x1024 ![0, 1024] md Gen.slices_S8x6144_S8x1024_0_1024))))) (broadcastInDim S8x2048x1024 ![0, 1, 2] Gen.bcast_S8x1x1024_S8x2048x1024_0_1_2 (broadcastInDim S8x1x1024 ![0, 2] Gen.bcast_S8x1024_S8x1x1024_0_2 (extractStridedSlice S8x1024 ![0, 0] md Gen.slices_S8x6144_S8x1024_0_0)))) w

theorem projected_apply (x : FVec Ideal S8x2048x1024 .f32) (md : FVec Ideal S8x6144 .f32) (g : FVec Ideal S1024 .f32) (w : FVec Ideal S1024x2048 .f32)
    (b : Fin 8) (t : Fin 2048) (l : Fin 2048) :
    projected x md g w (ix3 b t l) = zT (fun b t d => x (ix3 b t d)) (fun b e => md (ix2 b e)) (fun d => g (ix1 d)) (fun d l => w (ix2 d l)) b t l := by
  unfold projected zT projRow modRow
  pointwise

theorem v23_apply (b : Fin 8) (t : Fin 2048) (l : Fin 2048) :
    (res_main_v23 V0 : FVec Ideal S8x2048x2048 .f32) (ix3 b t l) = zRef V0 b t l := by
  have h : res_main_v23 V0 = projected (aX V0) (aMod V0) (aG V0) (aW V0) := by
    unfold res_main_v23 projected
    rfl
  rw [h, projected_apply]
  rfl

theorem v24_apply (b : Fin 8) (t : Fin 2048) (l : Fin 512) :
    (res_main_v24 V0 : FVec Ideal S8x2048x512 .f32) (ix3 b t l) = zRef V0 b t (part 0 (by decide) l) := by
  rw [← v23_apply]
  unfold res_main_v24
  generalize (res_main_v23 V0 : FVec Ideal S8x2048x2048 .f32) = z
  pointwise
  exact congrArg (fun j => z (ix3 b t j)) (Fin.ext (by show l.val = 0 + l.val; omega))

theorem v28_apply (b : Fin 8) (t : Fin 2048) (h : Fin 8) (d : Fin 64) :
    (res_main_v28 V0 : FVec Ideal S8x2048x8x64 .f32) (ix4 b t h d) = zRef V0 b t (part 512 (by decide) ⟨64 * h.val + d.val, by omega⟩) := by
  rw [← v23_apply]
  unfold res_main_v28
  generalize (res_main_v23 V0 : FVec Ideal S8x2048x2048 .f32) = z
  pointwise
  exact congrArg (fun j => z (ix3 b t j)) (Fin.ext (by show 512 + (h.val * 64 + d.val) = 512 + (64 * h.val + d.val); omega))

theorem v43_apply (b : Fin 8) (t : Fin 2048) (h : Fin 8) (d : Fin 64) :
    (res_main_v43 V0 : FVec Ideal S8x2048x8x64 .f32) (ix4 b t h d) = zRef V0 b t (part 1024 (by decide) ⟨64 * h.val + d.val, by omega⟩) := by
  rw [← v23_apply]
  unfold res_main_v43
  generalize (res_main_v23 V0 : FVec Ideal S8x2048x2048 .f32) = z
  pointwise
  exact congrArg (fun j => z (ix3 b t j)) (Fin.ext (by show 1024 + (h.val * 64 + d.val) = 1024 + (64 * h.val + d.val); omega))

theorem v59_apply (b : Fin 8) (j : Fin 2063) (l : Fin 512) :
    (res_main_v59 V0 : FVec Ideal S8x2063x512 .f32) (ix3 b j l) = padded (fun t => zRef V0 b t (part 0 (by decide) l)) (j.val + 1) := by
  simp only [← v24_apply]
  unfold res_main_v59
  generalize (res_main_v24 V0 : FVec Ideal S8x2048x512 .f32) = z
  pointwise
  unfold padded
  have hj := j.isLt
  by_cases h : j.val < 15
  · rw [dif_pos h, dif_neg (by rintro ⟨h', -⟩; omega)]
  · rw [dif_neg h, dif_pos ⟨by omega, by omega⟩]
    exact congrArg (fun s => z (ix3 b s l)) (Fin.ext (by show j.val - 15 = j.val + 1 - 16; omega))

/-- The reference's normalisation within the heads. -/
def normRef (q : Fin 512 → EReal) (g : Fin 64 → EReal) (l : Fin 512) : EReal :=
  q l * Ideal.rsqrt (Ideal.div (∑ d : Fin 64, q ⟨64 * (l.val / 64) + d.val, by omega⟩ * q ⟨64 * (l.val / 64) + d.val, by omega⟩) (Ideal.ofBits .f32 0x42800000#32) + eps)
    * g ⟨l.val % 64, Nat.mod_lt _ (by decide)⟩

/-- The heads' rows normalised, as the reference computes them. -/
abbrev normed (v : FVec Ideal S8x2048x8x64 .f32) (g : FVec Ideal S64 .f32) : FVec Ideal S8x2048x512 .f32 :=
  shapeCast _ (mulf (mulf v (broadcastInDim S8x2048x8x64 ![0, 1, 2, 3] Gen.bcast_S8x2048x8x1_S8x2048x8x64_0_1_2_3 (Host.rsqrt (addf (Host.divf (broadcastInDim S8x2048x8x1 ![0, 1, 2] Gen.bcast_S8x2048x8_S8x2048x8x1_0_1_2 (Host.reduceAdd (mulf v v) (constant S_ .f32 0x00000000#32) Gen.reducesTo_S8x2048x8x64_S8x2048x8_d3 Gen.h_S_)) (broadcastInDim S8x2048x8x1 ![] Gen.bcast_S_S8x2048x8x1 (constant S_ .f32 0x42800000#32))) (broadcastInDim S8x2048x8x1 ![] Gen.bcast_S_S8x2048x8x1 (constant S_ .f32 0x358637BD#32)))))) (broadcastInDim S8x2048x8x64 ![0, 1, 2, 3] Gen.bcast_S1x1x1x64_S8x2048x8x64_0_1_2_3 (broadcastInDim S1x1x1x64 ![3] Gen.bcast_S64_S1x1x1x64_3 g))) Gen.shapeCasts_S8x2048x8x64_S8x2048x512

theorem normed_apply (v : FVec Ideal S8x2048x8x64 .f32) (g : FVec Ideal S64 .f32) (b : Fin 8) (t : Fin 2048) (l : Fin 512) :
    normed v g (ix3 b t l) = v (ix4 b t ⟨l.val / 64, by omega⟩ ⟨l.val % 64, Nat.mod_lt _ (by decide)⟩) * Ideal.rsqrt (Ideal.div
        (∑ d : Fin 64, v (ix4 b t ⟨l.val / 64, by omega⟩ d) * v (ix4 b t ⟨l.val / 64, by omega⟩ d)) (Ideal.ofBits .f32 0x42800000#32) + eps)
      * g (ix1 ⟨l.val % 64, Nat.mod_lt _ (by decide)⟩) := by
  unfold normed
  pointwise

/-- The reference's queries, keys, values and last rows. -/
abbrev resQuery : FVec Ideal S8x2048x512 .bf16 :=
  truncf .bf16 (mulf (normed (res_main_v28 V0) (aGq V0)) (broadcastInDim S8x2048x512 ![] Gen.bcast_S_S8x2048x512 (constant S_ .f32 0x3E000000#32))) Gen.bitsLt_bf16_f32
@[inherit_doc resQuery] abbrev resKey : FVec Ideal S8x2048x512 .f32 := normed (res_main_v43 V0) (aGk V0)
@[inherit_doc resQuery] abbrev resValue : FVec Ideal S8x2048x512 .f32 :=
  extractStridedSlice S8x2048x512 ![0, 0, 1536] (res_main_v23 V0 : FVec Ideal S8x2048x2048 .f32) Gen.slices_S8x2048x2048_S8x2048x512_0_0_1536
@[inherit_doc resQuery] abbrev resTail : FVec Ideal S8x16x512 .f32 :=
  extractStridedSlice S8x16x512 ![0, 2032, 0] (res_main_v24 V0 : FVec Ideal S8x2048x512 .f32) Gen.slices_S8x2048x512_S8x16x512_0_2032_0

theorem resQuery_apply (b : Fin 8) (t : Fin 2048) (l : Fin 512) :
    resQuery V0 (ix3 b t l) = normRef (fun j => zRef V0 b t (part 512 (by decide) j)) (fun d => aGq V0 (ix1 d)) l * Ideal.ofBits .f32 0x3E000000#32 := by
  have h := normed_apply (res_main_v28 V0) (aGq V0) b t l
  simp only [v28_apply] at h
  have hl : (⟨64 * (l.val / 64) + l.val % 64, by omega⟩ : Fin 512) = l := Fin.ext (by show 64 * (l.val / 64) + l.val % 64 = l.val; omega)
  rw [hl] at h
  unfold normRef
  refine Eq.trans ?_ (congrArg (· * Ideal.ofBits .f32 0x3E000000#32) h)
  unfold resQuery
  generalize (normed (res_main_v28 V0) (aGq V0)) = z
  pointwise

theorem resKey_apply (b : Fin 8) (t : Fin 2048) (l : Fin 512) :
    resKey V0 (ix3 b t l) = normRef (fun j => zRef V0 b t (part 1024 (by decide) j)) (fun d => aGk V0 (ix1 d)) l := by
  have h := normed_apply (res_main_v43 V0) (aGk V0) b t l
  simp only [v43_apply] at h
  have hl : (⟨64 * (l.val / 64) + l.val % 64, by omega⟩ : Fin 512) = l := Fin.ext (by show 64 * (l.val / 64) + l.val % 64 = l.val; omega)
  rw [hl] at h
  exact h

theorem resValue_apply (b : Fin 8) (t : Fin 2048) (l : Fin 512) :
    resValue V0 (ix3 b t l) = zRef V0 b t (part 1536 (by decide) l) := by
  rw [← v23_apply]
  unfold resValue
  generalize (res_main_v23 V0 : FVec Ideal S8x2048x2048 .f32) = z
  pointwise

theorem resTail_apply (b : Fin 8) (s : Fin 16) (l : Fin 512) :
    resTail V0 (ix3 b s l) = zRef V0 b ⟨2032 + s.val, by omega⟩ (part 0 (by decide) l) := by
  rw [← v24_apply]
  unfold resTail
  generalize (res_main_v24 V0 : FVec Ideal S8x2048x512 .f32) = z
  pointwise

end Cert.Proj.Ref
-- ==== Proof.Proj.First.lean ====
/-
  The body at the first tile of a prompt: no rows come before it.
-/
module

public import proofs.«01_k».proof.Proof.Proj.Block

@[expose] public section

set_option maxRecDepth 16384

noncomputable section

open Idealize.ShloMosaic Idealize.ShloMosaic.TcCoe Idealize.SL.Sem
open Cert.ProjectionsIdeal Cert.ProjectionsIdeal.Gen Cert.ProjectionsIdeal.Gen.kernelRun0_A.sl

namespace Cert.Proj.First

variable (c : Dev nD) (i : grid0.Coords)
  (arg2 : Memref sig .tc .vmem S1x1024x1024 .f32) (harg2 : arg2.IsWhole) (arg3 : Memref sig .tc .vmem S1x1x6144 .f32) (harg3 : arg3.IsWhole)
  (arg4 : Memref sig .tc .vmem S1x1024 .f32) (harg4 : arg4.IsWhole) (arg5 : Memref sig .tc .vmem S1024x2048 .bf16) (harg5 : arg5.IsWhole)
  (arg6 : Memref sig .tc .vmem S512x512 .bf16) (harg6 : arg6.IsWhole) (arg7 : Memref sig .tc .vmem S1x512 .f32) (harg7 : arg7.IsWhole)
  (arg8 : Memref sig .tc .vmem S1x512 .f32) (harg8 : arg8.IsWhole) (arg9 : Memref sig .tc .vmem S4x128x128 .bf16) (harg9 : arg9.IsWhole)
  (arg10 : Memref sig .tc .vmem S1x512 .f32) (harg10 : arg10.IsWhole) (arg11 : Memref sig .tc .vmem S1x1024x512 .bf16) (harg11 : arg11.IsWhole)
  (arg12 : Memref sig .tc .vmem S1x1024x512 .bf16) (harg12 : arg12.IsWhole) (arg13 : Memref sig .tc .vmem S1x1024x512 .f32) (harg13 : arg13.IsWhole)
  (arg14 : Memref sig .tc .vmem S1x1024x512 .f32) (harg14 : arg14.IsWhole) (arg15 : Memref sig .tc .vmem S1x16x512 .f32) (harg15 : arg15.IsWhole)
  (arg16 : Memref sig .tc .vmem S1040x512 .f32) (harg16 : arg16.IsWhole) (hc0 : cond0_0 i) (hc1 : ¬cond0_1 i)
  (x0 : Vec Ideal S1x1024x1024 .f32) (x1 : Vec Ideal S1x1x6144 .f32) (x2 : Vec Ideal S1x1024 .f32) (x3 : Vec Ideal S1024x2048 .bf16)
  (x4 : Vec Ideal S512x512 .bf16) (x5 x6 : Vec Ideal S1x512 .f32) (x7 : Vec Ideal S4x128x128 .bf16) (x8 : Vec Ideal S1x512 .f32)

section Parts
variable (r' : Fin 1024) (l : Fin 512)

theorem u_apply : r c arg2 harg2 arg3 harg3 arg4 harg4 arg5 harg5 x0 x1 x2 x3 (ix2 r' l) = zB x0 x1 x2 x3 r' (part 0 (by decide) l) := by
  unfold r
  exact (pay6_apply _ _ _ _ _ _ _).trans (z_read ..)
theorem q_apply : r_1 c arg2 harg2 arg3 harg3 arg4 harg4 arg5 harg5 x0 x1 x2 x3 (ix2 r' l) = zB x0 x1 x2 x3 r' (part 512 (by decide) l) := by
  unfold r_1
  exact (pay7_apply _ _ _ _ _ _ _).trans (z_read ..)
theorem k_apply : r_2 c arg2 harg2 arg3 harg3 arg4 harg4 arg5 harg5 x0 x1 x2 x3 (ix2 r' l) = zB x0 x1 x2 x3 r' (part 1024 (by decide) l) := by
  unfold r_2
  exact (pay8_apply _ _ _ _ _ _ _).trans (z_read ..)
theorem v_apply : r_3 c arg2 harg2 arg3 harg3 arg4 harg4 arg5 harg5 x0 x1 x2 x3 (ix2 r' l) = zB x0 x1 x2 x3 r' (part 1536 (by decide) l) := by
  unfold r_3
  exact (pay9_apply _ _ _ _ _ _ _).trans (z_read ..)
end Parts

theorem bd_apply (j l : Fin 512) : r_4 c arg6 harg6 x4 (ix2 j l) = x4 (ix2 j l) := by
  unfold r_4 k0_pay10
  simp only [View.readAt_eq_ld, harg6.read_unread]
  pointwise

/-- The keys: each row normalised within its heads. -/
theorem key_apply (r' : Fin 1024) (l : Fin 512) :
    r_7 c arg2 harg2 arg3 harg3 arg4 harg4 arg5 harg5 arg6 harg6 arg8 harg8 x0 x1 x2 x3 x4 x6 (ix2 r' l)
      = normB (fun j => zB x0 x1 x2 x3 r' (part 1024 (by decide) j)) (fun j l => x4 (ix2 j l)) (fun l => x6 (ix2 0 l)) l := by
  unfold r_7 normB
  rw [pay13_apply]
  simp only [k_apply, bd_apply]
  simp only [View.readAt_eq_ld, harg8.read_unread]
  pointwise

/-- The queries, scaled. -/
theorem query_apply (r' : Fin 1024) (l : Fin 512) :
    k0_pay14 (r_1 c arg2 harg2 arg3 harg3 arg4 harg4 arg5 harg5 x0 x1 x2 x3) (r_4 c arg6 harg6 x4)
        (r_5 c arg2 harg2 arg3 harg3 arg4 harg4 arg5 harg5 x0 x1 x2 x3) (r_6 c arg2 harg2 arg3 harg3 arg4 harg4 arg5 harg5 x0 x1 x2 x3)
        (View.readAt (Elt Ideal) arg7.view (Rect.unit ![0, 0] S1x512.size inb_S1x512_S1x512_0_0).toLoadRect (harg7.unread x5)) (ix3 0 r' l)
      = normB (fun j => zB x0 x1 x2 x3 r' (part 512 (by decide) j)) (fun j l => x4 (ix2 j l)) (fun l => x5 (ix2 0 l)) l
          * Ideal.ofBits .f32 0x3E000000#32 := by
  refine (pay14_apply (r_1 c arg2 harg2 arg3 harg3 arg4 harg4 arg5 harg5 x0 x1 x2 x3) _ _ r' l).trans ?_
  unfold normB
  simp only [q_apply, bd_apply]
  simp only [View.readAt_eq_ld, harg7.read_unread]
  pointwise

/-- The map of a channel group, and its scale, as loaded. -/
theorem map_apply (g : Fin 4) (inb : ∀ a, (![g.val, 0, 0] : Fin 3 → ℕ) a + S1x128x128.size a ≤ S4x128x128.size a) (j l : Fin 128) :
    (View.readAt (Elt Ideal) arg9.view (Rect.unit (s := S4x128x128) ![g.val, 0, 0] S1x128x128.size inb).toLoadRect (harg9.unread x7) : Vec Ideal S1x128x128 .bf16)
      (ix3 0 j l) = x7 (ix3 g j l) := by
  simp only [View.readAt_eq_ld, harg9.read_unread]
  show x7 _ = x7 _
  congr 1
  funext a; apply Fin.ext
  fin_cases a
  · show g.val + 1 * 0 = g.val; omega
  · show 0 + 1 * j.val = j.val; omega
  · show 0 + 1 * l.val = l.val; omega

theorem scale_apply (o : ℕ) (ho : o + 128 ≤ 512) (inb : ∀ a, (![0, o] : Fin 2 → ℕ) a + S1x128.size a ≤ S1x512.size a) (l : Fin 128) :
    (View.readAt (Elt Ideal) arg10.view (Rect.unit (s := S1x512) ![0, o] S1x128.size inb).toLoadRect (harg10.unread x8) : Vec Ideal S1x128 .f32)
      (ix2 0 l) = x8 (ix2 0 (grp o ho l)) := by
  simp only [View.readAt_eq_ld, harg10.read_unread]
  show x8 _ = x8 _
  congr 1
  funext a; apply Fin.ext
  fin_cases a
  · show 0 + 1 * 0 = 0; omega
  · show o + 1 * l.val = o + l.val; omega

/-- The sixteen rows before the block. -/
def halo (_ : Fin 16) (_ : Fin 512) : EReal := 0

/-- The block's pooling rows. -/
abbrev uRow (s : Fin 1024) (l : Fin 512) : EReal := zB x0 x1 x2 x3 s (part 0 (by decide) l)

/-- A group's extended rows, as loaded. -/
theorem ext_apply (o : ℕ) (ho : o + 128 ≤ 512) (inb : ∀ a, (![0, o] : Fin 2 → ℕ) a + S1040x128.size a ≤ S1040x512.size a) (j : Fin 1040) (l : Fin 128) :
    (arg16.view.readCov (HS0_2 c arg2 harg2 arg3 harg3 arg4 harg4 arg5 harg5 x0 x1 x2 x3)
      (Rect.unit (s := S1040x512) ![0, o] S1040x128.size inb).toLoadRect : FVec Ideal S1040x128 .f32) (ix2 j l)
      = extB (fun s => halo s (grp o ho l)) (fun s => uRow x0 x1 x2 x3 s (grp o ho l)) j.val := by
  rw [View.readCov_eq_canon']
  refine (congrArg _ (grp_idx o ho inb j l)).trans ?_
  unfold HS0_2
  refine (canon_ext _ _ _ _ [] j (grp o ho l)).trans ?_
  congr 1
  · funext s
    unfold k0_pay17 halo
    pointwise
  · funext s
    unfold k0_pay18
    generalize hz : r c arg2 harg2 arg3 harg3 arg4 harg4 arg5 harg5 x0 x1 x2 x3 = z
    pointwise
    rw [← hz]
    exact u_apply ..

theorem pool_group0 (r' : Fin 1024) (l : Fin 128) :
    k0_pay21 (r_9 c i arg2 harg2 arg3 harg3 arg4 harg4 arg5 harg5 arg9 harg9 arg16 x0 x1 x2 x3 x7) (r_10 c arg10 harg10 x8) (ix3 0 r' l)
      = poolCol (BitVec.ofNat 32 (i 1).val) halo (uRow x0 x1 x2 x3) (fun g j l => x7 (ix3 g j l)) (fun l => x8 (ix2 0 l)) r' (grp 0 (by decide) l) := by
  unfold r_9 r_10 v94
  rw [pay21_eq, pay20_eq]
  refine (pool_apply 2 2#32 (BitVec.ofNat 32 (i 1).val) 0 (by decide) _ _ _ _ halo (uRow x0 x1 x2 x3) (fun j l => x7 (ix3 0 j l)) (fun l => x8 (ix2 0 l)) ?_ ?_ ?_ ?_ r' l).trans
    (poolCol_grp (BitVec.ofNat 32 (i 1).val) halo (uRow x0 x1 x2 x3) (fun g j l => x7 (ix3 g j l)) (fun l => x8 (ix2 0 l)) r' 0 l).symm
  · intro j s
    exact (rolled1 _ j _ (fun n => ext_apply c arg2 harg2 arg3 harg3 arg4 harg4 arg5 harg5 arg16 x0 x1 x2 x3 0 (by decide) _ n j) ⟨16 + s.val, by omega⟩ (by show 1 ≤ 16 + s.val; omega)).trans
      (dbl1_eq _ _)
  · intro j s
    refine Eq.trans ?_ (u_apply c arg2 harg2 arg3 harg3 arg4 harg4 arg5 harg5 x0 x1 x2 x3 s (grp 0 (by decide) j))
    generalize r c arg2 harg2 arg3 harg3 arg4 harg4 arg5 harg5 x0 x1 x2 x3 = z
    pointwise
    congr 2; apply Fin.ext; show j.val = 0 + j.val; omega
  · exact map_apply arg9 harg9 x7 0 _
  · exact scale_apply arg10 harg10 x8 0 (by decide) _

theorem pool_group1 (r' : Fin 1024) (l : Fin 128) :
    k0_pay22 (r c arg2 harg2 arg3 harg3 arg4 harg4 arg5 harg5 x0 x1 x2 x3) (r_8 i) (v121 c arg2 harg2 arg3 harg3 arg4 harg4 arg5 harg5 arg16 x0 x1 x2 x3)
        (View.readAt (Elt Ideal) arg9.view (Rect.unit (s := S4x128x128) ![1, 0, 0] S1x128x128.size inb_S4x128x128_S1x128x128_1_0_0).toLoadRect (harg9.unread x7))
        (View.readAt (Elt Ideal) arg10.view (Rect.unit (s := S1x512) ![0, 128] S1x128.size inb_S1x512_S1x128_0_128).toLoadRect (harg10.unread x8)) (ix3 0 r' l)
      = poolCol (BitVec.ofNat 32 (i 1).val) halo (uRow x0 x1 x2 x3) (fun g j l => x7 (ix3 g j l)) (fun l => x8 (ix2 0 l)) r' (grp 128 (by decide) l) := by
  unfold r_8 v121
  rw [pay22_eq]
  refine (pool_apply 4 4#32 (BitVec.ofNat 32 (i 1).val) 128 (by decide) _ _ _ _ halo (uRow x0 x1 x2 x3) (fun j l => x7 (ix3 1 j l)) (fun l => x8 (ix2 0 l)) ?_ ?_ ?_ ?_ r' l).trans
    (poolCol_grp (BitVec.ofNat 32 (i 1).val) halo (uRow x0 x1 x2 x3) (fun g j l => x7 (ix3 g j l)) (fun l => x8 (ix2 0 l)) r' 1 l).symm
  · intro j s
    exact (rolled2 _ j _ (fun n => ext_apply c arg2 harg2 arg3 harg3 arg4 harg4 arg5 harg5 arg16 x0 x1 x2 x3 128 (by decide) _ n j) ⟨16 + s.val, by omega⟩ (by show 3 ≤ 16 + s.val; omega)).trans
      (dbl2_eq _ _)
  · intro j s
    refine Eq.trans ?_ (u_apply c arg2 harg2 arg3 harg3 arg4 harg4 arg5 harg5 x0 x1 x2 x3 s (grp 128 (by decide) j))
    generalize r c arg2 harg2 arg3 harg3 arg4 harg4 arg5 harg5 x0 x1 x2 x3 = z
    pointwise
  · exact map_apply arg9 harg9 x7 1 _
  · exact scale_apply arg10 harg10 x8 128 (by decide) _

theorem pool_group2 (r' : Fin 1024) (l : Fin 128) :
    k0_pay23 (r c arg2 harg2 arg3 harg3 arg4 harg4 arg5 harg5 x0 x1 x2 x3) (r_8 i) (v c arg2 harg2 arg3 harg3 arg4 harg4 arg5 harg5 arg16 x0 x1 x2 x3)
        (View.readAt (Elt Ideal) arg9.view (Rect.unit (s := S4x128x128) ![2, 0, 0] S1x128x128.size inb_S4x128x128_S1x128x128_2_0_0).toLoadRect (harg9.unread x7))
        (View.readAt (Elt Ideal) arg10.view (Rect.unit (s := S1x512) ![0, 256] S1x128.size inb_S1x512_S1x128_0_256).toLoadRect (harg10.unread x8)) (ix3 0 r' l)
      = poolCol (BitVec.ofNat 32 (i 1).val) halo (uRow x0 x1 x2 x3) (fun g j l => x7 (ix3 g j l)) (fun l => x8 (ix2 0 l)) r' (grp 256 (by decide) l) := by
  unfold r_8 v
  rw [pay23_eq]
  refine (pool_apply 8 8#32 (BitVec.ofNat 32 (i 1).val) 256 (by decide) _ _ _ _ halo (uRow x0 x1 x2 x3) (fun j l => x7 (ix3 2 j l)) (fun l => x8 (ix2 0 l)) ?_ ?_ ?_ ?_ r' l).trans
    (poolCol_grp (BitVec.ofNat 32 (i 1).val) halo (uRow x0 x1 x2 x3) (fun g j l => x7 (ix3 g j l)) (fun l => x8 (ix2 0 l)) r' 2 l).symm
  · intro j s
    exact (rolled4 _ j _ (fun n => ext_apply c arg2 harg2 arg3 harg3 arg4 harg4 arg5 harg5 arg16 x0 x1 x2 x3 256 (by decide) _ n j) ⟨16 + s.val, by omega⟩ (by show 7 ≤ 16 + s.val; omega)).trans
      (dbl4_eq _ _)
  · intro j s
    refine Eq.trans ?_ (u_apply c arg2 harg2 arg3 harg3 arg4 harg4 arg5 harg5 x0 x1 x2 x3 s (grp 256 (by decide) j))
    generalize r c arg2 harg2 arg3 harg3 arg4 harg4 arg5 harg5 x0 x1 x2 x3 = z
    pointwise
  · exact map_apply arg9 harg9 x7 2 _
  · exact scale_apply arg10 harg10 x8 256 (by decide) _

theorem pool_group3 (r' : Fin 1024) (l : Fin 128) :
    k0_pay1 (r c arg2 harg2 arg3 harg3 arg4 harg4 arg5 harg5 x0 x1 x2 x3) (r_8 i) (r_11 c arg2 harg2 arg3 harg3 arg4 harg4 arg5 harg5 arg16 x0 x1 x2 x3) (r_12 c arg2 harg2 arg3 harg3 arg4 harg4 arg5 harg5 arg16 x0 x1 x2 x3)
        (View.readAt (Elt Ideal) arg9.view (Rect.unit (s := S4x128x128) ![3, 0, 0] S1x128x128.size inb_S4x128x128_S1x128x128_3_0_0).toLoadRect (harg9.unread x7))
        (View.readAt (Elt Ideal) arg10.view (Rect.unit (s := S1x512) ![0, 384] S1x128.size inb_S1x512_S1x128_0_384).toLoadRect (harg10.unread x8)) (ix3 0 r' l)
      = poolCol (BitVec.ofNat 32 (i 1).val) halo (uRow x0 x1 x2 x3) (fun g j l => x7 (ix3 g j l)) (fun l => x8 (ix2 0 l)) r' (grp 384 (by decide) l) := by
  unfold r_8 r_11 r_12 v181
  rw [pay1_eq]
  refine (pool_apply 16 16#32 (BitVec.ofNat 32 (i 1).val) 384 (by decide) _ _ _ _ halo (uRow x0 x1 x2 x3) (fun j l => x7 (ix3 3 j l)) (fun l => x8 (ix2 0 l)) ?_ ?_ ?_ ?_ r' l).trans
    (poolCol_grp (BitVec.ofNat 32 (i 1).val) halo (uRow x0 x1 x2 x3) (fun g j l => x7 (ix3 g j l)) (fun l => x8 (ix2 0 l)) r' 3 l).symm
  · intro j s
    exact (rolled8 _ j _ (fun n => ext_apply c arg2 harg2 arg3 harg3 arg4 harg4 arg5 harg5 arg16 x0 x1 x2 x3 384 (by decide) _ n j) ⟨16 + s.val, by omega⟩ (by show 15 ≤ 16 + s.val; omega)).trans
      (dbl8_eq _ _)
  · intro j s
    refine Eq.trans ?_ (u_apply c arg2 harg2 arg3 harg3 arg4 harg4 arg5 harg5 x0 x1 x2 x3 s (grp 384 (by decide) j))
    generalize r c arg2 harg2 arg3 harg3 arg4 harg4 arg5 harg5 x0 x1 x2 x3 = z
    pointwise
  · exact map_apply arg9 harg9 x7 3 _
  · exact scale_apply arg10 harg10 x8 384 (by decide) _

/-- The queries the body leaves. -/
theorem out_query (r' : Fin 1024) (l : Fin 512) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 (ix3 0 r' l) = normB (fun j => zB x0 x1 x2 x3 r' (part 512 (by decide) j)) (fun j l => x4 (ix2 j l)) (fun l => x5 (ix2 0 l)) l * Ideal.ofBits .f32 0x3E000000#32 := by
  have hc := cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8
  unfold out0_A_10
  rw [View.read_writes_eq_canon _ _ _ hc]
  refine View.canon_apply_of_pieces (fun y : S1x1024x512.Idx => normB (fun j => zB x0 x1 x2 x3 (y 1) (part 512 (by decide) j)) (fun j l => x4 (ix2 j l)) (fun l => x5 (ix2 0 l)) (y 2) * Ideal.ofBits .f32 0x3E000000#32) _ ?_ (ix3 0 r' l) (hc _)
  unfold kernelRun0_A
  dsimp only
  simp only [List.forall_mem_cons]
  refine ⟨?_, by simp⟩
  intro z; idx_vars z; obtain rfl : z0 = 0 := Subsingleton.elim _ _
  exact (query_apply c arg2 harg2 arg3 harg3 arg4 harg4 arg5 harg5 arg6 harg6 arg7 harg7 x0 x1 x2 x3 x4 x5 z1 z2).trans
    (congrArg₂ (fun (a : Fin 1024) (b : Fin 512) => normB (fun j => zB x0 x1 x2 x3 a (part 512 (by decide) j)) (fun j l => x4 (ix2 j l)) (fun l => x5 (ix2 0 l)) b * Ideal.ofBits .f32 0x3E000000#32)
      (Fin.ext (by show z1.val = 0 + 1 * z1.val; omega)) (Fin.ext (by show z2.val = 0 + 1 * z2.val; omega)))

theorem store_key (z : FVec Ideal S1024x512 .f32) (r' : Fin 1024) (l : Fin 512) : k0_pay15 z (ix3 0 r' l) = z (ix2 r' l) := by
  unfold k0_pay15; pointwise
theorem store_value (z : FVec Ideal S1024x512 .f32) (r' : Fin 1024) (l : Fin 512) : k0_pay16 z (ix3 0 r' l) = z (ix2 r' l) := by
  unfold k0_pay16; pointwise

/-- The keys the body leaves. -/
theorem out_key (r' : Fin 1024) (l : Fin 512) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 (ix3 0 r' l) = normB (fun j => zB x0 x1 x2 x3 r' (part 1024 (by decide) j)) (fun j l => x4 (ix2 j l)) (fun l => x6 (ix2 0 l)) l := by
  have hc := cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8
  unfold out0_A_11
  rw [View.read_writes_eq_canon _ _ _ hc]
  refine View.canon_apply_of_pieces (fun y : S1x1024x512.Idx => normB (fun j => zB x0 x1 x2 x3 (y 1) (part 1024 (by decide) j)) (fun j l => x4 (ix2 j l)) (fun l => x6 (ix2 0 l)) (y 2)) _ ?_ (ix3 0 r' l) (hc _)
  unfold kernelRun0_A
  dsimp only
  simp only [List.forall_mem_cons]
  refine ⟨?_, by simp⟩
  intro z; idx_vars z; obtain rfl : z0 = 0 := Subsingleton.elim _ _
  exact (store_key _ z1 z2).trans ((key_apply c arg2 harg2 arg3 harg3 arg4 harg4 arg5 harg5 arg6 harg6 arg8 harg8 x0 x1 x2 x3 x4 x6 z1 z2).trans
    (congrArg₂ (fun (a : Fin 1024) (b : Fin 512) => normB (fun j => zB x0 x1 x2 x3 a (part 1024 (by decide) j)) (fun j l => x4 (ix2 j l)) (fun l => x6 (ix2 0 l)) b)
      (Fin.ext (by show z1.val = 0 + 1 * z1.val; omega)) (Fin.ext (by show z2.val = 0 + 1 * z2.val; omega))))

/-- The values the body leaves. -/
theorem out_value (r' : Fin 1024) (l : Fin 512) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 (ix3 0 r' l) = zB x0 x1 x2 x3 r' (part 1536 (by decide) l) := by
  have hc := cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8
  unfold out0_A_12
  rw [View.read_writes_eq_canon _ _ _ hc]
  refine View.canon_apply_of_pieces (fun y : S1x1024x512.Idx => zB x0 x1 x2 x3 (y 1) (part 1536 (by decide) (y 2))) _ ?_ (ix3 0 r' l) (hc _)
  unfold kernelRun0_A
  dsimp only
  simp only [List.forall_mem_cons]
  refine ⟨?_, by simp⟩
  intro z; idx_vars z; obtain rfl : z0 = 0 := Subsingleton.elim _ _
  exact (store_value _ z1 z2).trans ((v_apply c arg2 harg2 arg3 harg3 arg4 harg4 arg5 harg5 x0 x1 x2 x3 z1 z2).trans
    (congrArg₂ (fun (a : Fin 1024) (b : Fin 512) => zB x0 x1 x2 x3 a (part 1536 (by decide) b))
      (Fin.ext (by show z1.val = 0 + 1 * z1.val; omega)) (Fin.ext (by show z2.val = 0 + 1 * z2.val; omega))))

/-- The pooled rows the body leaves. -/
theorem out_pool (r' : Fin 1024) (l : Fin 512) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 (ix3 0 r' l) = poolCol (BitVec.ofNat 32 (i 1).val) halo (uRow x0 x1 x2 x3) (fun g j l => x7 (ix3 g j l)) (fun l => x8 (ix2 0 l)) r' l := by
  have hc := cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8
  unfold out0_A_9
  rw [View.read_writes_eq_canon _ _ _ hc]
  refine View.canon_apply_of_pieces (fun y : S1x1024x512.Idx => poolCol (BitVec.ofNat 32 (i 1).val) halo (uRow x0 x1 x2 x3) (fun g j l => x7 (ix3 g j l)) (fun l => x8 (ix2 0 l)) (y 1) (y 2)) _ ?_ (ix3 0 r' l) (hc _)
  unfold kernelRun0_A
  dsimp only
  simp only [List.forall_mem_cons]
  refine ⟨?_, ?_, ?_, ?_, by simp⟩ <;> intro z <;> idx_vars z <;> obtain rfl : z0 = 0 := Subsingleton.elim _ _
  · exact (pool_group3 c i arg2 harg2 arg3 harg3 arg4 harg4 arg5 harg5 arg9 harg9 arg10 harg10 arg16 x0 x1 x2 x3 x7 x8 z1 z2).trans
      (congrArg₂ (fun (a : Fin 1024) (b : Fin 512) => poolCol (BitVec.ofNat 32 (i 1).val) halo (uRow x0 x1 x2 x3) (fun g j l => x7 (ix3 g j l)) (fun l => x8 (ix2 0 l)) a b)
        (Fin.ext (by show z1.val = 0 + 1 * z1.val; omega)) (Fin.ext (by show 384 + z2.val = 384 + 1 * z2.val; omega)))
  · exact (pool_group2 c i arg2 harg2 arg3 harg3 arg4 harg4 arg5 harg5 arg9 harg9 arg10 harg10 arg16 x0 x1 x2 x3 x7 x8 z1 z2).trans
      (congrArg₂ (fun (a : Fin 1024) (b : Fin 512) => poolCol (BitVec.ofNat 32 (i 1).val) halo (uRow x0 x1 x2 x3) (fun g j l => x7 (ix3 g j l)) (fun l => x8 (ix2 0 l)) a b)
        (Fin.ext (by show z1.val = 0 + 1 * z1.val; omega)) (Fin.ext (by show 256 + z2.val = 256 + 1 * z2.val; omega)))
  · exact (pool_group1 c i arg2 harg2 arg3 harg3 arg4 harg4 arg5 harg5 arg9 harg9 arg10 harg10 arg16 x0 x1 x2 x3 x7 x8 z1 z2).trans
      (congrArg₂ (fun (a : Fin 1024) (b : Fin 512) => poolCol (BitVec.ofNat 32 (i 1).val) halo (uRow x0 x1 x2 x3) (fun g j l => x7 (ix3 g j l)) (fun l => x8 (ix2 0 l)) a b)
        (Fin.ext (by show z1.val = 0 + 1 * z1.val; omega)) (Fin.ext (by show 128 + z2.val = 128 + 1 * z2.val; omega)))
  · exact (pool_group0 c i arg2 harg2 arg3 harg3 arg4 harg4 arg5 harg5 arg9 harg9 arg10 harg10 arg16 x0 x1 x2 x3 x7 x8 z1 z2).trans
      (congrArg₂ (fun (a : Fin 1024) (b : Fin 512) => poolCol (BitVec.ofNat 32 (i 1).val) halo (uRow x0 x1 x2 x3) (fun g j l => x7 (ix3 g j l)) (fun l => x8 (ix2 0 l)) a b)
        (Fin.ext (by show z1.val = 0 + 1 * z1.val; omega)) (Fin.ext (by show 0 + z2.val = 0 + 1 * z2.val; omega)))

/-- The last sixteen pooling rows, as the body stores them for the next block. -/
theorem last_apply (s : Fin 16) (l : Fin 512) :
    k0_pay3 (r c arg2 harg2 arg3 harg3 arg4 harg4 arg5 harg5 x0 x1 x2 x3) (ix2 s l) = uRow x0 x1 x2 x3 ⟨1008 + s.val, by omega⟩ l := by
  refine Eq.trans ?_ (u_apply c arg2 harg2 arg3 harg3 arg4 harg4 arg5 harg5 x0 x1 x2 x3 ⟨1008 + s.val, by omega⟩ l)
  generalize r c arg2 harg2 arg3 harg3 arg4 harg4 arg5 harg5 x0 x1 x2 x3 = z
  unfold k0_pay3 k0_pay2
  pointwise

/-- What the body leaves in the first sixteen rows of the scratch. -/
theorem out_halo (s : Fin 16) (l : Fin 512) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 (ix2 ⟨s.val, by omega⟩ l)
      = uRow x0 x1 x2 x3 ⟨1008 + s.val, by omega⟩ l := by
  have hc := scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8
  unfold sout0_A_0
  rw [View.read_writes_eq_canon _ _ _ hc]
  unfold kernelRun0_A
  dsimp only
  exact (canon0 _ _ _ (⟨s.val, by omega⟩ : Fin 1040) s.isLt l).trans (last_apply c arg2 harg2 arg3 harg3 arg4 harg4 arg5 harg5 x0 x1 x2 x3 s l)

end Cert.Proj.First
-- ==== Proof.Proj.Second.lean ====
/-
  The body at a later tile of a prompt: the rows before it come from the scratch array.
-/
module

public import proofs.«01_k».proof.Proof.Proj.First

@[expose] public section

set_option maxRecDepth 16384

noncomputable section

open Idealize.ShloMosaic Idealize.ShloMosaic.TcCoe Idealize.SL.Sem
open Cert.ProjectionsIdeal Cert.ProjectionsIdeal.Gen Cert.ProjectionsIdeal.Gen.kernelRun0_B.sl

namespace Cert.Proj.Second

variable (c : Dev nD) (i : grid0.Coords)
  (arg2 : Memref sig .tc .vmem S1x1024x1024 .f32) (harg2 : arg2.IsWhole) (arg3 : Memref sig .tc .vmem S1x1x6144 .f32) (harg3 : arg3.IsWhole)
  (arg4 : Memref sig .tc .vmem S1x1024 .f32) (harg4 : arg4.IsWhole) (arg5 : Memref sig .tc .vmem S1024x2048 .bf16) (harg5 : arg5.IsWhole)
  (arg6 : Memref sig .tc .vmem S512x512 .bf16) (harg6 : arg6.IsWhole) (arg7 : Memref sig .tc .vmem S1x512 .f32) (harg7 : arg7.IsWhole)
  (arg8 : Memref sig .tc .vmem S1x512 .f32) (harg8 : arg8.IsWhole) (arg9 : Memref sig .tc .vmem S4x128x128 .bf16) (harg9 : arg9.IsWhole)
  (arg10 : Memref sig .tc .vmem S1x512 .f32) (harg10 : arg10.IsWhole) (arg11 : Memref sig .tc .vmem S1x1024x512 .bf16) (harg11 : arg11.IsWhole)
  (arg12 : Memref sig .tc .vmem S1x1024x512 .bf16) (harg12 : arg12.IsWhole) (arg13 : Memref sig .tc .vmem S1x1024x512 .f32) (harg13 : arg13.IsWhole)
  (arg14 : Memref sig .tc .vmem S1x1024x512 .f32) (harg14 : arg14.IsWhole) (arg15 : Memref sig .tc .vmem S1x16x512 .f32) (harg15 : arg15.IsWhole)
  (arg16 : Memref sig .tc .vmem S1040x512 .f32) (harg16 : arg16.IsWhole) (hc0 : ¬cond0_0 i) (hc1 : cond0_1 i)
  (x0 : Vec Ideal S1x1024x1024 .f32) (x1 : Vec Ideal S1x1x6144 .f32) (x2 : Vec Ideal S1x1024 .f32) (x3 : Vec Ideal S1024x2048 .bf16)
  (x4 : Vec Ideal S512x512 .bf16) (x5 x6 : Vec Ideal S1x512 .f32) (x7 : Vec Ideal S4x128x128 .bf16) (x8 : Vec Ideal S1x512 .f32) (xs0 : Vec Ideal S1040x512 .f32)

section Parts
variable (r' : Fin 1024) (l : Fin 512)

theorem u_apply : r c arg2 harg2 arg3 harg3 arg4 harg4 arg5 harg5 x0 x1 x2 x3 (ix2 r' l) = zB x0 x1 x2 x3 r' (part 0 (by decide) l) := by
  unfold r
  exact (pay6_apply _ _ _ _ _ _ _).trans (z_read ..)
theorem q_apply : r_1 c arg2 harg2 arg3 harg3 arg4 harg4 arg5 harg5 x0 x1 x2 x3 (ix2 r' l) = zB x0 x1 x2 x3 r' (part 512 (by decide) l) := by
  unfold r_1
  exact (pay7_apply _ _ _ _ _ _ _).trans (z_read ..)
theorem k_apply : r_2 c arg2 harg2 arg3 harg3 arg4 harg4 arg5 harg5 x0 x1 x2 x3 (ix2 r' l) = zB x0 x1 x2 x3 r' (part 1024 (by decide) l) := by
  unfold r_2
  exact (pay8_apply _ _ _ _ _ _ _).trans (z_read ..)
theorem v_apply : r_3 c arg2 harg2 arg3 harg3 arg4 harg4 arg5 harg5 x0 x1 x2 x3 (ix2 r' l) = zB x0 x1 x2 x3 r' (part 1536 (by decide) l) := by
  unfold r_3
  exact (pay9_apply _ _ _ _ _ _ _).trans (z_read ..)
end Parts

theorem bd_apply (j l : Fin 512) : r_4 c arg6 harg6 x4 (ix2 j l) = x4 (ix2 j l) := by
  unfold r_4 k0_pay10
  simp only [View.readAt_eq_ld, harg6.read_unread]
  pointwise

/-- The keys: each row normalised within its heads. -/
theorem key_apply (r' : Fin 1024) (l : Fin 512) :
    r_7 c arg2 harg2 arg3 harg3 arg4 harg4 arg5 harg5 arg6 harg6 arg8 harg8 x0 x1 x2 x3 x4 x6 (ix2 r' l)
      = normB (fun j => zB x0 x1 x2 x3 r' (part 1024 (by decide) j)) (fun j l => x4 (ix2 j l)) (fun l => x6 (ix2 0 l)) l := by
  unfold r_7 normB
  rw [pay13_apply]
  simp only [k_apply, bd_apply]
  simp only [View.readAt_eq_ld, harg8.read_unread]
  pointwise

/-- The queries, scaled. -/
theorem query_apply (r' : Fin 1024) (l : Fin 512) :
    k0_pay14 (r_1 c arg2 harg2 arg3 harg3 arg4 harg4 arg5 harg5 x0 x1 x2 x3) (r_4 c arg6 harg6 x4)
        (r_5 c arg2 harg2 arg3 harg3 arg4 harg4 arg5 harg5 x0 x1 x2 x3) (r_6 c arg2 harg2 arg3 harg3 arg4 harg4 arg5 harg5 x0 x1 x2 x3)
        (View.readAt (Elt Ideal) arg7.view (Rect.unit ![0, 0] S1x512.size inb_S1x512_S1x512_0_0).toLoadRect (harg7.unread x5)) (ix3 0 r' l)
      = normB (fun j => zB x0 x1 x2 x3 r' (part 512 (by decide) j)) (fun j l => x4 (ix2 j l)) (fun l => x5 (ix2 0 l)) l
          * Ideal.ofBits .f32 0x3E000000#32 := by
  refine (pay14_apply (r_1 c arg2 harg2 arg3 harg3 arg4 harg4 arg5 harg5 x0 x1 x2 x3) _ _ r' l).trans ?_
  unfold normB
  simp only [q_apply, bd_apply]
  simp only [View.readAt_eq_ld, harg7.read_unread]
  pointwise

/-- The map of a channel group, and its scale, as loaded. -/
theorem map_apply (g : Fin 4) (inb : ∀ a, (![g.val, 0, 0] : Fin 3 → ℕ) a + S1x128x128.size a ≤ S4x128x128.size a) (j l : Fin 128) :
    (View.readAt (Elt Ideal) arg9.view (Rect.unit (s := S4x128x128) ![g.val, 0, 0] S1x128x128.size inb).toLoadRect (harg9.unread x7) : Vec Ideal S1x128x128 .bf16)
      (ix3 0 j l) = x7 (ix3 g j l) := by
  simp only [View.readAt_eq_ld, harg9.read_unread]
  show x7 _ = x7 _
  congr 1
  funext a; apply Fin.ext
  fin_cases a
  · show g.val + 1 * 0 = g.val; omega
  · show 0 + 1 * j.val = j.val; omega
  · show 0 + 1 * l.val = l.val; omega

theorem scale_apply (o : ℕ) (ho : o + 128 ≤ 512) (inb : ∀ a, (![0, o] : Fin 2 → ℕ) a + S1x128.size a ≤ S1x512.size a) (l : Fin 128) :
    (View.readAt (Elt Ideal) arg10.view (Rect.unit (s := S1x512) ![0, o] S1x128.size inb).toLoadRect (harg10.unread x8) : Vec Ideal S1x128 .f32)
      (ix2 0 l) = x8 (ix2 0 (grp o ho l)) := by
  simp only [View.readAt_eq_ld, harg10.read_unread]
  show x8 _ = x8 _
  congr 1
  funext a; apply Fin.ext
  fin_cases a
  · show 0 + 1 * 0 = 0; omega
  · show o + 1 * l.val = o + l.val; omega

/-- The sixteen rows before the block. -/
def halo (s : Fin 16) (l : Fin 512) : EReal := xs0 (ix2 ⟨s.val, by omega⟩ l)

/-- The block's pooling rows. -/
abbrev uRow (s : Fin 1024) (l : Fin 512) : EReal := zB x0 x1 x2 x3 s (part 0 (by decide) l)

/-- A group's extended rows, as loaded. -/
theorem ext_apply (o : ℕ) (ho : o + 128 ≤ 512) (inb : ∀ a, (![0, o] : Fin 2 → ℕ) a + S1040x128.size a ≤ S1040x512.size a) (j : Fin 1040) (l : Fin 128) :
    (View.readAt (Elt Ideal) arg16.view (Rect.unit (s := S1040x512) ![0, o] S1040x128.size inb).toLoadRect
      (arg16.view.writes (Elt Ideal) (harg16.unread xs0) (HS0_1 c arg2 harg2 arg3 harg3 arg4 harg4 arg5 harg5 x0 x1 x2 x3)) : FVec Ideal S1040x128 .f32) (ix2 j l)
      = extB (fun s => halo xs0 s (grp o ho l)) (fun s => uRow x0 x1 x2 x3 s (grp o ho l)) j.val := by
  rw [View.readAt_eq_ld]
  refine (congrArg _ (grp_idx o ho inb j l)).trans ?_
  unfold HS0_1
  refine (read_ext _ _ arg16 harg16 xs0 j (grp o ho l)).trans ?_
  congr 1
  funext s
  unfold k0_pay18
  generalize hz : r c arg2 harg2 arg3 harg3 arg4 harg4 arg5 harg5 x0 x1 x2 x3 = z
  pointwise
  rw [← hz]
  exact u_apply ..

theorem pool_group0 (r' : Fin 1024) (l : Fin 128) :
    k0_pay21 (r_9 c i arg2 harg2 arg3 harg3 arg4 harg4 arg5 harg5 arg9 harg9 arg16 harg16 x0 x1 x2 x3 x7 xs0) (r_10 c arg10 harg10 x8) (ix3 0 r' l)
      = poolCol (BitVec.ofNat 32 (i 1).val) (halo xs0) (uRow x0 x1 x2 x3) (fun g j l => x7 (ix3 g j l)) (fun l => x8 (ix2 0 l)) r' (grp 0 (by decide) l) := by
  unfold r_9 r_10 v94
  rw [pay21_eq, pay20_eq]
  refine (pool_apply 2 2#32 (BitVec.ofNat 32 (i 1).val) 0 (by decide) _ _ _ _ (halo xs0) (uRow x0 x1 x2 x3) (fun j l => x7 (ix3 0 j l)) (fun l => x8 (ix2 0 l)) ?_ ?_ ?_ ?_ r' l).trans
    (poolCol_grp (BitVec.ofNat 32 (i 1).val) (halo xs0) (uRow x0 x1 x2 x3) (fun g j l => x7 (ix3 g j l)) (fun l => x8 (ix2 0 l)) r' 0 l).symm
  · intro j s
    exact (rolled1 _ j _ (fun n => ext_apply c arg2 harg2 arg3 harg3 arg4 harg4 arg5 harg5 arg16 harg16 x0 x1 x2 x3 xs0 0 (by decide) _ n j) ⟨16 + s.val, by omega⟩ (by show 1 ≤ 16 + s.val; omega)).trans
      (dbl1_eq _ _)
  · intro j s
    refine Eq.trans ?_ (u_apply c arg2 harg2 arg3 harg3 arg4 harg4 arg5 harg5 x0 x1 x2 x3 s (grp 0 (by decide) j))
    generalize r c arg2 harg2 arg3 harg3 arg4 harg4 arg5 harg5 x0 x1 x2 x3 = z
    pointwise
    congr 2; apply Fin.ext; show j.val = 0 + j.val; omega
  · exact map_apply arg9 harg9 x7 0 _
  · exact scale_apply arg10 harg10 x8 0 (by decide) _

theorem pool_group1 (r' : Fin 1024) (l : Fin 128) :
    k0_pay22 (r c arg2 harg2 arg3 harg3 arg4 harg4 arg5 harg5 x0 x1 x2 x3) (r_8 i) (v121 c arg2 harg2 arg3 harg3 arg4 harg4 arg5 harg5 arg16 harg16 x0 x1 x2 x3 xs0)
        (View.readAt (Elt Ideal) arg9.view (Rect.unit (s := S4x128x128) ![1, 0, 0] S1x128x128.size inb_S4x128x128_S1x128x128_1_0_0).toLoadRect (harg9.unread x7))
        (View.readAt (Elt Ideal) arg10.view (Rect.unit (s := S1x512) ![0, 128] S1x128.size inb_S1x512_S1x128_0_128).toLoadRect (harg10.unread x8)) (ix3 0 r' l)
      = poolCol (BitVec.ofNat 32 (i 1).val) (halo xs0) (uRow x0 x1 x2 x3) (fun g j l => x7 (ix3 g j l)) (fun l => x8 (ix2 0 l)) r' (grp 128 (by decide) l) := by
  unfold r_8 v121
  rw [pay22_eq]
  refine (pool_apply 4 4#32 (BitVec.ofNat 32 (i 1).val) 128 (by decide) _ _ _ _ (halo xs0) (uRow x0 x1 x2 x3) (fun j l => x7 (ix3 1 j l)) (fun l => x8 (ix2 0 l)) ?_ ?_ ?_ ?_ r' l).trans
    (poolCol_grp (BitVec.ofNat 32 (i 1).val) (halo xs0) (uRow x0 x1 x2 x3) (fun g j l => x7 (ix3 g j l)) (fun l => x8 (ix2 0 l)) r' 1 l).symm
  · intro j s
    exact (rolled2 _ j _ (fun n => ext_apply c arg2 harg2 arg3 harg3 arg4 harg4 arg5 harg5 arg16 harg16 x0 x1 x2 x3 xs0 128 (by decide) _ n j) ⟨16 + s.val, by omega⟩ (by show 3 ≤ 16 + s.val; omega)).trans
      (dbl2_eq _ _)
  · intro j s
    refine Eq.trans ?_ (u_apply c arg2 harg2 arg3 harg3 arg4 harg4 arg5 harg5 x0 x1 x2 x3 s (grp 128 (by decide) j))
    generalize r c arg2 harg2 arg3 harg3 arg4 harg4 arg5 harg5 x0 x1 x2 x3 = z
    pointwise
  · exact map_apply arg9 harg9 x7 1 _
  · exact scale_apply arg10 harg10 x8 128 (by decide) _

theorem pool_group2 (r' : Fin 1024) (l : Fin 128) :
    k0_pay23 (r c arg2 harg2 arg3 harg3 arg4 harg4 arg5 harg5 x0 x1 x2 x3) (r_8 i) (v c arg2 harg2 arg3 harg3 arg4 harg4 arg5 harg5 arg16 harg16 x0 x1 x2 x3 xs0)
        (View.readAt (Elt Ideal) arg9.view (Rect.unit (s := S4x128x128) ![2, 0, 0] S1x128x128.size inb_S4x128x128_S1x128x128_2_0_0).toLoadRect (harg9.unread x7))
        (View.readAt (Elt Ideal) arg10.view (Rect.unit (s := S1x512) ![0, 256] S1x128.size inb_S1x512_S1x128_0_256).toLoadRect (harg10.unread x8)) (ix3 0 r' l)
      = poolCol (BitVec.ofNat 32 (i 1).val) (halo xs0) (uRow x0 x1 x2 x3) (fun g j l => x7 (ix3 g j l)) (fun l => x8 (ix2 0 l)) r' (grp 256 (by decide) l) := by
  unfold r_8 v
  rw [pay23_eq]
  refine (pool_apply 8 8#32 (BitVec.ofNat 32 (i 1).val) 256 (by decide) _ _ _ _ (halo xs0) (uRow x0 x1 x2 x3) (fun j l => x7 (ix3 2 j l)) (fun l => x8 (ix2 0 l)) ?_ ?_ ?_ ?_ r' l).trans
    (poolCol_grp (BitVec.ofNat 32 (i 1).val) (halo xs0) (uRow x0 x1 x2 x3) (fun g j l => x7 (ix3 g j l)) (fun l => x8 (ix2 0 l)) r' 2 l).symm
  · intro j s
    exact (rolled4 _ j _ (fun n => ext_apply c arg2 harg2 arg3 harg3 arg4 harg4 arg5 harg5 arg16 harg16 x0 x1 x2 x3 xs0 256 (by decide) _ n j) ⟨16 + s.val, by omega⟩ (by show 7 ≤ 16 + s.val; omega)).trans
      (dbl4_eq _ _)
  · intro j s
    refine Eq.trans ?_ (u_apply c arg2 harg2 arg3 harg3 arg4 harg4 arg5 harg5 x0 x1 x2 x3 s (grp 256 (by decide) j))
    generalize r c arg2 harg2 arg3 harg3 arg4 harg4 arg5 harg5 x0 x1 x2 x3 = z
    pointwise
  · exact map_apply arg9 harg9 x7 2 _
  · exact scale_apply arg10 harg10 x8 256 (by decide) _

theorem pool_group3 (r' : Fin 1024) (l : Fin 128) :
    k0_pay1 (r c arg2 harg2 arg3 harg3 arg4 harg4 arg5 harg5 x0 x1 x2 x3) (r_8 i) (r_11 c arg2 harg2 arg3 harg3 arg4 harg4 arg5 harg5 arg16 harg16 x0 x1 x2 x3 xs0) (r_12 c arg2 harg2 arg3 harg3 arg4 harg4 arg5 harg5 arg16 harg16 x0 x1 x2 x3 xs0)
        (View.readAt (Elt Ideal) arg9.view (Rect.unit (s := S4x128x128) ![3, 0, 0] S1x128x128.size inb_S4x128x128_S1x128x128_3_0_0).toLoadRect (harg9.unread x7))
        (View.readAt (Elt Ideal) arg10.view (Rect.unit (s := S1x512) ![0, 384] S1x128.size inb_S1x512_S1x128_0_384).toLoadRect (harg10.unread x8)) (ix3 0 r' l)
      = poolCol (BitVec.ofNat 32 (i 1).val) (halo xs0) (uRow x0 x1 x2 x3) (fun g j l => x7 (ix3 g j l)) (fun l => x8 (ix2 0 l)) r' (grp 384 (by decide) l) := by
  unfold r_8 r_11 r_12 v181
  rw [pay1_eq]
  refine (pool_apply 16 16#32 (BitVec.ofNat 32 (i 1).val) 384 (by decide) _ _ _ _ (halo xs0) (uRow x0 x1 x2 x3) (fun j l => x7 (ix3 3 j l)) (fun l => x8 (ix2 0 l)) ?_ ?_ ?_ ?_ r' l).trans
    (poolCol_grp (BitVec.ofNat 32 (i 1).val) (halo xs0) (uRow x0 x1 x2 x3) (fun g j l => x7 (ix3 g j l)) (fun l => x8 (ix2 0 l)) r' 3 l).symm
  · intro j s
    exact (rolled8 _ j _ (fun n => ext_apply c arg2 harg2 arg3 harg3 arg4 harg4 arg5 harg5 arg16 harg16 x0 x1 x2 x3 xs0 384 (by decide) _ n j) ⟨16 + s.val, by omega⟩ (by show 15 ≤ 16 + s.val; omega)).trans
      (dbl8_eq _ _)
  · intro j s
    refine Eq.trans ?_ (u_apply c arg2 harg2 arg3 harg3 arg4 harg4 arg5 harg5 x0 x1 x2 x3 s (grp 384 (by decide) j))
    generalize r c arg2 harg2 arg3 harg3 arg4 harg4 arg5 harg5 x0 x1 x2 x3 = z
    pointwise
  · exact map_apply arg9 harg9 x7 3 _
  · exact scale_apply arg10 harg10 x8 384 (by decide) _

/-- The queries the body leaves. -/
theorem out_query (r' : Fin 1024) (l : Fin 512) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 (ix3 0 r' l) = normB (fun j => zB x0 x1 x2 x3 r' (part 512 (by decide) j)) (fun j l => x4 (ix2 j l)) (fun l => x5 (ix2 0 l)) l * Ideal.ofBits .f32 0x3E000000#32 := by
  have hc := cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0
  unfold out0_B_10
  rw [View.read_writes_eq_canon _ _ _ hc]
  refine View.canon_apply_of_pieces (fun y : S1x1024x512.Idx => normB (fun j => zB x0 x1 x2 x3 (y 1) (part 512 (by decide) j)) (fun j l => x4 (ix2 j l)) (fun l => x5 (ix2 0 l)) (y 2) * Ideal.ofBits .f32 0x3E000000#32) _ ?_ (ix3 0 r' l) (hc _)
  unfold kernelRun0_B
  dsimp only
  simp only [List.forall_mem_cons]
  refine ⟨?_, by simp⟩
  intro z; idx_vars z; obtain rfl : z0 = 0 := Subsingleton.elim _ _
  exact (query_apply c arg2 harg2 arg3 harg3 arg4 harg4 arg5 harg5 arg6 harg6 arg7 harg7 x0 x1 x2 x3 x4 x5 z1 z2).trans
    (congrArg₂ (fun (a : Fin 1024) (b : Fin 512) => normB (fun j => zB x0 x1 x2 x3 a (part 512 (by decide) j)) (fun j l => x4 (ix2 j l)) (fun l => x5 (ix2 0 l)) b * Ideal.ofBits .f32 0x3E000000#32)
      (Fin.ext (by show z1.val = 0 + 1 * z1.val; omega)) (Fin.ext (by show z2.val = 0 + 1 * z2.val; omega)))

/-- The keys the body leaves. -/
theorem out_key (r' : Fin 1024) (l : Fin 512) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 (ix3 0 r' l) = normB (fun j => zB x0 x1 x2 x3 r' (part 1024 (by decide) j)) (fun j l => x4 (ix2 j l)) (fun l => x6 (ix2 0 l)) l := by
  have hc := cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0
  unfold out0_B_11
  rw [View.read_writes_eq_canon _ _ _ hc]
  refine View.canon_apply_of_pieces (fun y : S1x1024x512.Idx => normB (fun j => zB x0 x1 x2 x3 (y 1) (part 1024 (by decide) j)) (fun j l => x4 (ix2 j l)) (fun l => x6 (ix2 0 l)) (y 2)) _ ?_ (ix3 0 r' l) (hc _)
  unfold kernelRun0_B
  dsimp only
  simp only [List.forall_mem_cons]
  refine ⟨?_, by simp⟩
  intro z; idx_vars z; obtain rfl : z0 = 0 := Subsingleton.elim _ _
  exact (First.store_key _ z1 z2).trans ((key_apply c arg2 harg2 arg3 harg3 arg4 harg4 arg5 harg5 arg6 harg6 arg8 harg8 x0 x1 x2 x3 x4 x6 z1 z2).trans
    (congrArg₂ (fun (a : Fin 1024) (b : Fin 512) => normB (fun j => zB x0 x1 x2 x3 a (part 1024 (by decide) j)) (fun j l => x4 (ix2 j l)) (fun l => x6 (ix2 0 l)) b)
      (Fin.ext (by show z1.val = 0 + 1 * z1.val; omega)) (Fin.ext (by show z2.val = 0 + 1 * z2.val; omega))))

/-- The values the body leaves. -/
theorem out_value (r' : Fin 1024) (l : Fin 512) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 (ix3 0 r' l) = zB x0 x1 x2 x3 r' (part 1536 (by decide) l) := by
  have hc := cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0
  unfold out0_B_12
  rw [View.read_writes_eq_canon _ _ _ hc]
  refine View.canon_apply_of_pieces (fun y : S1x1024x512.Idx => zB x0 x1 x2 x3 (y 1) (part 1536 (by decide) (y 2))) _ ?_ (ix3 0 r' l) (hc _)
  unfold kernelRun0_B
  dsimp only
  simp only [List.forall_mem_cons]
  refine ⟨?_, by simp⟩
  intro z; idx_vars z; obtain rfl : z0 = 0 := Subsingleton.elim _ _
  exact (First.store_value _ z1 z2).trans ((v_apply c arg2 harg2 arg3 harg3 arg4 harg4 arg5 harg5 x0 x1 x2 x3 z1 z2).trans
    (congrArg₂ (fun (a : Fin 1024) (b : Fin 512) => zB x0 x1 x2 x3 a (part 1536 (by decide) b))
      (Fin.ext (by show z1.val = 0 + 1 * z1.val; omega)) (Fin.ext (by show z2.val = 0 + 1 * z2.val; omega))))

/-- The pooled rows the body leaves. -/
theorem out_pool (r' : Fin 1024) (l : Fin 512) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 (ix3 0 r' l) = poolCol (BitVec.ofNat 32 (i 1).val) (halo xs0) (uRow x0 x1 x2 x3) (fun g j l => x7 (ix3 g j l)) (fun l => x8 (ix2 0 l)) r' l := by
  have hc := cover0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0
  unfold out0_B_9
  rw [View.read_writes_eq_canon _ _ _ hc]
  refine View.canon_apply_of_pieces (fun y : S1x1024x512.Idx => poolCol (BitVec.ofNat 32 (i 1).val) (halo xs0) (uRow x0 x1 x2 x3) (fun g j l => x7 (ix3 g j l)) (fun l => x8 (ix2 0 l)) (y 1) (y 2)) _ ?_ (ix3 0 r' l) (hc _)
  unfold kernelRun0_B
  dsimp only
  simp only [List.forall_mem_cons]
  refine ⟨?_, ?_, ?_, ?_, by simp⟩ <;> intro z <;> idx_vars z <;> obtain rfl : z0 = 0 := Subsingleton.elim _ _
  · exact (pool_group3 c i arg2 harg2 arg3 harg3 arg4 harg4 arg5 harg5 arg9 harg9 arg10 harg10 arg16 harg16 x0 x1 x2 x3 x7 x8 xs0 z1 z2).trans
      (congrArg₂ (fun (a : Fin 1024) (b : Fin 512) => poolCol (BitVec.ofNat 32 (i 1).val) (halo xs0) (uRow x0 x1 x2 x3) (fun g j l => x7 (ix3 g j l)) (fun l => x8 (ix2 0 l)) a b)
        (Fin.ext (by show z1.val = 0 + 1 * z1.val; omega)) (Fin.ext (by show 384 + z2.val = 384 + 1 * z2.val; omega)))
  · exact (pool_group2 c i arg2 harg2 arg3 harg3 arg4 harg4 arg5 harg5 arg9 harg9 arg10 harg10 arg16 harg16 x0 x1 x2 x3 x7 x8 xs0 z1 z2).trans
      (congrArg₂ (fun (a : Fin 1024) (b : Fin 512) => poolCol (BitVec.ofNat 32 (i 1).val) (halo xs0) (uRow x0 x1 x2 x3) (fun g j l => x7 (ix3 g j l)) (fun l => x8 (ix2 0 l)) a b)
        (Fin.ext (by show z1.val = 0 + 1 * z1.val; omega)) (Fin.ext (by show 256 + z2.val = 256 + 1 * z2.val; omega)))
  · exact (pool_group1 c i arg2 harg2 arg3 harg3 arg4 harg4 arg5 harg5 arg9 harg9 arg10 harg10 arg16 harg16 x0 x1 x2 x3 x7 x8 xs0 z1 z2).trans
      (congrArg₂ (fun (a : Fin 1024) (b : Fin 512) => poolCol (BitVec.ofNat 32 (i 1).val) (halo xs0) (uRow x0 x1 x2 x3) (fun g j l => x7 (ix3 g j l)) (fun l => x8 (ix2 0 l)) a b)
        (Fin.ext (by show z1.val = 0 + 1 * z1.val; omega)) (Fin.ext (by show 128 + z2.val = 128 + 1 * z2.val; omega)))
  · exact (pool_group0 c i arg2 harg2 arg3 harg3 arg4 harg4 arg5 harg5 arg9 harg9 arg10 harg10 arg16 harg16 x0 x1 x2 x3 x7 x8 xs0 z1 z2).trans
      (congrArg₂ (fun (a : Fin 1024) (b : Fin 512) => poolCol (BitVec.ofNat 32 (i 1).val) (halo xs0) (uRow x0 x1 x2 x3) (fun g j l => x7 (ix3 g j l)) (fun l => x8 (ix2 0 l)) a b)
        (Fin.ext (by show z1.val = 0 + 1 * z1.val; omega)) (Fin.ext (by show 0 + z2.val = 0 + 1 * z2.val; omega)))

/-- The last sixteen pooling rows, as the body stores them for the caller. -/
theorem tail_apply (s : Fin 16) (l : Fin 512) :
    k0_pay4 (r c arg2 harg2 arg3 harg3 arg4 harg4 arg5 harg5 x0 x1 x2 x3) (ix3 0 s l) = uRow x0 x1 x2 x3 ⟨1008 + s.val, by omega⟩ l := by
  refine Eq.trans ?_ (u_apply c arg2 harg2 arg3 harg3 arg4 harg4 arg5 harg5 x0 x1 x2 x3 ⟨1008 + s.val, by omega⟩ l)
  generalize r c arg2 harg2 arg3 harg3 arg4 harg4 arg5 harg5 x0 x1 x2 x3 = z
  unfold k0_pay4 k0_pay2
  pointwise

/-- The tail the body leaves. -/
theorem out_tail (s : Fin 16) (l : Fin 512) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0 (ix3 0 s l)
      = uRow x0 x1 x2 x3 ⟨1008 + s.val, by omega⟩ l := by
  have hc := cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 xs0
  unfold out0_B_13
  rw [View.read_writes_eq_canon _ _ _ hc]
  refine View.canon_apply_of_pieces (fun y : S1x16x512.Idx => uRow x0 x1 x2 x3 ⟨1008 + (y 1).val, by have h : (y 1).val < 16 := (y 1).isLt; omega⟩ (y 2)) _ ?_ (ix3 0 s l) (hc _)
  unfold kernelRun0_B
  dsimp only
  simp only [List.forall_mem_cons]
  refine ⟨?_, by simp⟩
  intro z; idx_vars z; obtain rfl : z0 = 0 := Subsingleton.elim _ _
  exact (tail_apply c arg2 harg2 arg3 harg3 arg4 harg4 arg5 harg5 x0 x1 x2 x3 z1 z2).trans
    (congrArg₂ (fun (a : Fin 1024) (b : Fin 512) => uRow x0 x1 x2 x3 a b)
      (Fin.ext (by show 1008 + z1.val = 1008 + (0 + 1 * z1.val); omega)) (Fin.ext (by show z2.val = 0 + 1 * z2.val; omega)))

end Cert.Proj.Second
-- ==== Proof.Proj.Arrays.lean ====
/-
  The arrays the projections' kernel is launched on, in terms of the program's arguments.
-/
module

public import proofs.«01_k».proof.Proof.Proj.Second
public import Idealize.ShloMosaic.Lib.Pipeline.Value
public import Idealize.ShloMosaic.Lib.StableHlo.Run

@[expose] public section

set_option maxRecDepth 16384

noncomputable section

open Idealize.ShloMosaic Idealize.ShloMosaic.TcCoe Idealize.SL.Sem
open Cert.ProjectionsIdeal Cert.ProjectionsIdeal.Gen

namespace Cert.Proj

variable (m : (ℓ : Loc nD τ sig) → Buf (Elt Ideal) ℓ) (c : Dev nD)

/-- The arguments of the program on one device. -/
abbrev argX : FVec Ideal S8x2048x1024 .f32 := m ((c : Thread nD τ).loc main_arg0)
@[inherit_doc argX] abbrev argMod : FVec Ideal S8x6144 .f32 := m ((c : Thread nD τ).loc main_arg1)
@[inherit_doc argX] abbrev argG : FVec Ideal S1024 .f32 := m ((c : Thread nD τ).loc main_arg2)
@[inherit_doc argX] abbrev argW : FVec Ideal S1024x2048 .f32 := m ((c : Thread nD τ).loc main_arg3)
@[inherit_doc argX] abbrev argGq : FVec Ideal S64 .f32 := m ((c : Thread nD τ).loc main_arg4)
@[inherit_doc argX] abbrev argGk : FVec Ideal S64 .f32 := m ((c : Thread nD τ).loc main_arg5)
@[inherit_doc argX] abbrev argPool : FVec Ideal S4x128x128 .f32 := m ((c : Thread nD τ).loc main_arg6)
@[inherit_doc argX] abbrev argScale : FVec Ideal S512 .f32 := m ((c : Thread nD τ).loc main_arg7)

/-- The arrays the launch reads. -/
def vX : FVec Ideal S8x2048x1024 .f32 := V m c main_arg0
@[inherit_doc vX] def vW : FVec Ideal S1024x2048 .bf16 := V m c main_v0
@[inherit_doc vX] def vPool : FVec Ideal S4x128x128 .bf16 := V m c main_v1
@[inherit_doc vX] def vG : FVec Ideal S1x1024 .f32 := V m c main_v2
@[inherit_doc vX] def vGq : FVec Ideal S1x512 .f32 := V m c main_v6
@[inherit_doc vX] def vGk : FVec Ideal S1x512 .f32 := V m c main_v10
@[inherit_doc vX] def vScale : FVec Ideal S1x512 .f32 := V m c main_v11
@[inherit_doc vX] def vMod : FVec Ideal S8x1x6144 .f32 := V m c main_v20
@[inherit_doc vX] def vBd : FVec Ideal S512x512 .bf16 := V m c main_v19

/-- The head of a column, as a number. -/
def headWord : IVec S512 32 :=
  select (andi (cmpi .ne (signi (iotaInDim S512 32 0)) (broadcastInDim S512 ![] bcast_S_S512 (signi (constantI S_ 32 64#32))))
      (cmpi .ne (Host.remsi (iotaInDim S512 32 0) (broadcastInDim S512 ![] bcast_S_S512 (constantI S_ 32 64#32)))
        (broadcastInDim S512 ![] bcast_S_S512 (constantI S_ 32 0#32))))
    (subi (Host.divsi (iotaInDim S512 32 0) (broadcastInDim S512 ![] bcast_S_S512 (constantI S_ 32 64#32)))
      (broadcastInDim S512 ![] bcast_S_S512 (constantI S_ 32 1#32)))
    (Host.divsi (iotaInDim S512 32 0) (broadcastInDim S512 ![] bcast_S_S512 (constantI S_ 32 64#32)))

theorem headWord_apply : ∀ l : Fin 512, headWord (ix1 l) = BitVec.ofNat 32 (l.val / 64) := by
  decide +kernel

theorem V_x : vX m c = argX m c := by
  unfold vX V hostOps0 hostOps0_1 hostOps0_2
  simp only [List.flatten_cons, List.flatten_nil, List.cons_append, List.nil_append, List.append_nil,
    StableHlo.TRef.nullary, StableHlo.TRef.unary, StableHlo.TRef.binary, StableHlo.TRef.ternary]
  after_results_simp

theorem V_w : vW m c = truncf .bf16 (argW m c) bitsLt_bf16_f32 := by
  unfold vW V hostOps0 hostOps0_1 hostOps0_2
  simp only [List.flatten_cons, List.flatten_nil, List.cons_append, List.nil_append, List.append_nil,
    StableHlo.TRef.nullary, StableHlo.TRef.unary, StableHlo.TRef.binary, StableHlo.TRef.ternary]
  after_results_simp

theorem V_pool : vPool m c = truncf .bf16 (argPool m c) bitsLt_bf16_f32 := by
  unfold vPool V hostOps0 hostOps0_1 hostOps0_2
  simp only [List.flatten_cons, List.flatten_nil, List.cons_append, List.nil_append, List.append_nil,
    StableHlo.TRef.nullary, StableHlo.TRef.unary, StableHlo.TRef.binary, StableHlo.TRef.ternary]
  after_results_simp

theorem V_g : vG m c = shapeCast S1x1024 (argG m c) shapeCasts_S1024_S1x1024 := by
  unfold vG V hostOps0 hostOps0_1 hostOps0_2
  simp only [List.flatten_cons, List.flatten_nil, List.cons_append, List.nil_append, List.append_nil,
    StableHlo.TRef.nullary, StableHlo.TRef.unary, StableHlo.TRef.binary, StableHlo.TRef.ternary]
  after_results_simp
  rfl

theorem V_gq : vGq m c
    = shapeCast S1x512 (shapeCast S512 (broadcastInDim S8x64 ![0, 1] bcast_S1x64_S8x64_0_1 (shapeCast S1x64 (argGq m c) shapeCasts_S64_S1x64))
        shapeCasts_S8x64_S512) shapeCasts_S512_S1x512 := by
  unfold vGq V hostOps0 hostOps0_1 hostOps0_2
  simp only [List.flatten_cons, List.flatten_nil, List.cons_append, List.nil_append, List.append_nil,
    StableHlo.TRef.nullary, StableHlo.TRef.unary, StableHlo.TRef.binary, StableHlo.TRef.ternary]
  after_results_simp
  rfl

theorem V_gk : vGk m c
    = shapeCast S1x512 (shapeCast S512 (broadcastInDim S8x64 ![0, 1] bcast_S1x64_S8x64_0_1 (shapeCast S1x64 (argGk m c) shapeCasts_S64_S1x64))
        shapeCasts_S8x64_S512) shapeCasts_S512_S1x512 := by
  unfold vGk V hostOps0 hostOps0_1 hostOps0_2
  simp only [List.flatten_cons, List.flatten_nil, List.cons_append, List.nil_append, List.append_nil,
    StableHlo.TRef.nullary, StableHlo.TRef.unary, StableHlo.TRef.binary, StableHlo.TRef.ternary]
  after_results_simp
  rfl

theorem V_scale : vScale m c = shapeCast S1x512 (argScale m c) shapeCasts_S512_S1x512 := by
  unfold vScale V hostOps0 hostOps0_1 hostOps0_2
  simp only [List.flatten_cons, List.flatten_nil, List.cons_append, List.nil_append, List.append_nil,
    StableHlo.TRef.nullary, StableHlo.TRef.unary, StableHlo.TRef.binary, StableHlo.TRef.ternary]
  after_results_simp
  rfl

theorem V_mod : vMod m c = shapeCast S8x1x6144 (argMod m c) shapeCasts_S8x6144_S8x1x6144 := by
  unfold vMod V hostOps0 hostOps0_1 hostOps0_2
  simp only [List.flatten_cons, List.flatten_nil, List.cons_append, List.nil_append, List.append_nil,
    StableHlo.TRef.nullary, StableHlo.TRef.unary, StableHlo.TRef.binary, StableHlo.TRef.ternary]
  after_results_simp
  rfl

theorem V_bd : vBd m c
    = uitofp .bf16 (cmpi .eq (broadcastInDim S512x512 ![0, 1] bcast_S512x1_S512x512_0_1 (broadcastInDim S512x1 ![0] bcast_S512_S512x1_0 headWord))
        (broadcastInDim S512x512 ![0, 1] bcast_S1x512_S512x512_0_1 (broadcastInDim S1x512 ![1] bcast_S512_S1x512_1 headWord))) := by
  unfold vBd V hostOps0 hostOps0_1 hostOps0_2
  simp only [List.flatten_cons, List.flatten_nil, List.cons_append, List.nil_append, List.append_nil,
    StableHlo.TRef.nullary, StableHlo.TRef.unary, StableHlo.TRef.binary, StableHlo.TRef.ternary]
  after_results_simp
  rfl

/-- The matrix of the heads: one where the two columns are of one head, zero elsewhere. -/
theorem bd_entry (j l : Fin 512) : vBd m c (ix2 j l) = if j.val / 64 = l.val / 64 then 1 else 0 := by
  rw [V_bd]
  generalize hz : headWord = z
  pointwise
  rw [← hz, headWord_apply, headWord_apply]
  exact (by decide +kernel : ∀ a b : Fin 8, (BitVec.ofNat 32 a.val = BitVec.ofNat 32 b.val) = (a.val = b.val)) |> fun key => by
    have e := key ⟨j.val / 64, by omega⟩ ⟨l.val / 64, by omega⟩
    have e' : ∀ x : BitVec 1, (FloatOps.uitofp (F := Ideal) .bf16 x : EReal) = ((x.toNat : ℝ) : EReal) := fun x => rfl
    refine (e' _).trans ?_
    by_cases h : j.val / 64 = l.val / 64
    · rw [if_pos h, h]; simp [IntOp.cmpi]
    · rw [if_neg h]
      have hne : ¬ (BitVec.ofNat 32 (j.val / 64) = BitVec.ofNat 32 (l.val / 64)) := by rw [show _ = _ from e]; exact h
      simp [IntOp.cmpi, hne]

theorem gq_entry (l : Fin 512) : vGq m c (ix2 0 l) = argGq m c (ix1 ⟨l.val % 64, Nat.mod_lt _ (by decide)⟩) := by
  rw [V_gq]
  pointwise

theorem gk_entry (l : Fin 512) : vGk m c (ix2 0 l) = argGk m c (ix1 ⟨l.val % 64, Nat.mod_lt _ (by decide)⟩) := by
  rw [V_gk]
  pointwise

theorem scale_entry (l : Fin 512) : vScale m c (ix2 0 l) = argScale m c (ix1 l) := by
  rw [V_scale]
  pointwise

theorem g_entry (l : Fin 1024) : vG m c (ix2 0 l) = argG m c (ix1 l) := by
  rw [V_g]
  pointwise

theorem mod_entry (b : Fin 8) (e : Fin 6144) : vMod m c (ix3 b 0 e) = argMod m c (ix2 b e) := by
  rw [V_mod]
  pointwise

end Cert.Proj
-- ==== Proof.Proj.Points.lean ====
/-
  What each grid point's blocks hold of the program's arguments, and which point wrote each entry of the results.
-/
module

public import proofs.«01_k».proof.Proof.Proj.Arrays
public import proofs.«01_k».proof.Proof.Gen.ProjectionsIdeal.Value

@[expose] public section

set_option maxRecDepth 16384

noncomputable section

open Idealize.ShloMosaic Idealize.ShloMosaic.TcCoe Idealize.SL.Sem
open Cert.ProjectionsIdeal Cert.ProjectionsIdeal.Gen

namespace Cert.Proj

variable (m : (ℓ : Loc nD τ sig) → Buf (Elt Ideal) ℓ) (c : Dev nD)

/-- The batch entry of a grid point. -/
abbrev ptB (t : Fin cfg0.N) : Fin 8 := ⟨t.val / 2, by have : cfg0.N = 16 := N_0; have := t.isLt; omega⟩

/-- A row of a point's tile as a row of the sequence. -/
abbrev ptRow (t : Fin cfg0.N) (r : Fin 1024) : Fin 2048 := ⟨1024 * (t.val % 2) + r.val, by have := r.isLt; omega⟩

theorem coords_1 : ∀ t : Fin cfg0.N, (grid0.coords t 1 : ℕ) = t.val % 2 :=
  (by decide +kernel : ∀ t : Fin grid0.N, (grid0.coords t 1 : ℕ) = t.val % 2)

theorem index0 : ∀ t : Fin cfg0.N, win0_0.index t 0 = t.val / 2 ∧ win0_0.index t 1 = t.val % 2 ∧ win0_0.index t 2 = 0 :=
  (by decide +kernel : ∀ t : Fin grid0.N, win0_0.index t 0 = t.val / 2 ∧ win0_0.index t 1 = t.val % 2 ∧ win0_0.index t 2 = 0)
theorem index1 : ∀ t : Fin cfg0.N, win0_1.index t 0 = t.val / 2 ∧ win0_1.index t 1 = 0 ∧ win0_1.index t 2 = 0 :=
  (by decide +kernel : ∀ t : Fin grid0.N, win0_1.index t 0 = t.val / 2 ∧ win0_1.index t 1 = 0 ∧ win0_1.index t 2 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = 0 ∧ win0_5.index t 1 = 0 :=
  (by decide +kernel : ∀ t : Fin grid0.N, win0_5.index t 0 = 0 ∧ win0_5.index t 1 = 0)
theorem index6 : ∀ t : Fin cfg0.N, win0_6.index t 0 = 0 ∧ win0_6.index t 1 = 0 :=
  (by decide +kernel : ∀ t : Fin grid0.N, win0_6.index t 0 = 0 ∧ win0_6.index t 1 = 0)
theorem index8 : ∀ t : Fin cfg0.N, win0_8.index t 0 = 0 ∧ win0_8.index t 1 = 0 :=
  (by decide +kernel : ∀ t : Fin grid0.N, win0_8.index t 0 = 0 ∧ win0_8.index t 1 = 0)
theorem index7 : ∀ t : Fin cfg0.N, win0_7.index t 0 = 0 ∧ win0_7.index t 1 = 0 ∧ win0_7.index t 2 = 0 :=
  (by decide +kernel : ∀ t : Fin grid0.N, win0_7.index t 0 = 0 ∧ win0_7.index t 1 = 0 ∧ win0_7.index t 2 = 0)
theorem index9 : ∀ t : Fin cfg0.N, win0_9.index t 0 = t.val / 2 ∧ win0_9.index t 1 = t.val % 2 ∧ win0_9.index t 2 = 0 :=
  (by decide +kernel : ∀ t : Fin grid0.N, win0_9.index t 0 = t.val / 2 ∧ win0_9.index t 1 = t.val % 2 ∧ win0_9.index t 2 = 0)
theorem index10 : ∀ t : Fin cfg0.N, win0_10.index t 0 = t.val / 2 ∧ win0_10.index t 1 = t.val % 2 ∧ win0_10.index t 2 = 0 :=
  (by decide +kernel : ∀ t : Fin grid0.N, win0_10.index t 0 = t.val / 2 ∧ win0_10.index t 1 = t.val % 2 ∧ win0_10.index t 2 = 0)
theorem index11 : ∀ t : Fin cfg0.N, win0_11.index t 0 = t.val / 2 ∧ win0_11.index t 1 = t.val % 2 ∧ win0_11.index t 2 = 0 :=
  (by decide +kernel : ∀ t : Fin grid0.N, win0_11.index t 0 = t.val / 2 ∧ win0_11.index t 1 = t.val % 2 ∧ win0_11.index t 2 = 0)
theorem index12 : ∀ t : Fin cfg0.N, win0_12.index t 0 = t.val / 2 ∧ win0_12.index t 1 = t.val % 2 ∧ win0_12.index t 2 = 0 :=
  (by decide +kernel : ∀ t : Fin grid0.N, win0_12.index t 0 = t.val / 2 ∧ win0_12.index t 1 = t.val % 2 ∧ win0_12.index t 2 = 0)
theorem index13 : ∀ t : Fin cfg0.N, win0_13.index t 0 = t.val / 2 ∧ win0_13.index t 1 = 0 ∧ win0_13.index t 2 = 0 :=
  (by decide +kernel : ∀ t : Fin grid0.N, win0_13.index t 0 = t.val / 2 ∧ win0_13.index t 1 = 0 ∧ win0_13.index t 2 = 0)

theorem iblk0_apply (t : Fin cfg0.N) (r d : Fin 1024) : (iblk m c 0 t : FVec Ideal S1x1024x1024 .f32) (ix3 0 r d) = vX m c (ix3 (ptB t) (ptRow t r) d) := by
  unfold vX iblk
  rw [View.read_apply]
  show V m c _ _ = V m c _ _
  congr 1
  funext a
  apply Fin.ext
  match a with
  | ⟨0, _⟩ => show win0_0.index t 0 * 1 + 1 * 0 = t.val / 2; rw [(index0 t).1]; omega
  | ⟨1, _⟩ => show win0_0.index t 1 * 1024 + 1 * r.val = 1024 * (t.val % 2) + r.val; rw [(index0 t).2.1]; omega
  | ⟨2, _⟩ => show win0_0.index t 2 * 1024 + 1 * d.val = d.val; rw [(index0 t).2.2]; omega

theorem iblk1_apply (t : Fin cfg0.N) (e : Fin 6144) : (iblk m c 1 t : FVec Ideal S1x1x6144 .f32) (ix3 0 0 e) = vMod m c (ix3 (ptB t) 0 e) := by
  unfold vMod iblk
  rw [View.read_apply]
  show V m c _ _ = V m c _ _
  congr 1
  funext a
  apply Fin.ext
  match a with
  | ⟨0, _⟩ => show win0_1.index t 0 * 1 + 1 * 0 = t.val / 2; rw [(index1 t).1]; omega
  | ⟨1, _⟩ => show win0_1.index t 1 * 1 + 1 * 0 = 0; rw [(index1 t).2.1]
  | ⟨2, _⟩ => show win0_1.index t 2 * 6144 + 1 * e.val = e.val; rw [(index1 t).2.2]; omega

theorem iblk2_apply (t : Fin cfg0.N) (d : Fin 1024) : (iblk m c 2 t : FVec Ideal S1x1024 .f32) (ix2 0 d) = vG m c (ix2 0 d) := by
  unfold vG iblk
  rw [View.read_apply]
  show V m c _ _ = V m c _ _
  congr 1
  funext a
  apply Fin.ext
  match a with
  | ⟨0, _⟩ => show win0_2.index t 0 * 1 + 1 * 0 = 0; rw [(index2 t).1]
  | ⟨1, _⟩ => show win0_2.index t 1 * 1024 + 1 * d.val = d.val; rw [(index2 t).2]; omega

theorem iblk3_apply (t : Fin cfg0.N) (d : Fin 1024) (l : Fin 2048) : (iblk m c 3 t : FVec Ideal S1024x2048 .bf16) (ix2 d l) = vW m c (ix2 d l) := by
  unfold vW iblk
  rw [View.read_apply]
  show V m c _ _ = V m c _ _
  congr 1
  funext a
  apply Fin.ext
  match a with
  | ⟨0, _⟩ => show win0_3.index t 0 * 1024 + 1 * d.val = d.val; rw [(index3 t).1]; omega
  | ⟨1, _⟩ => show win0_3.index t 1 * 2048 + 1 * l.val = l.val; rw [(index3 t).2]; omega

theorem iblk4_apply (t : Fin cfg0.N) (j l : Fin 512) : (iblk m c 4 t : FVec Ideal S512x512 .bf16) (ix2 j l) = vBd m c (ix2 j l) := by
  unfold vBd iblk
  rw [View.read_apply]
  show V m c _ _ = V m c _ _
  congr 1
  funext a
  apply Fin.ext
  match a with
  | ⟨0, _⟩ => show win0_4.index t 0 * 512 + 1 * j.val = j.val; rw [(index4 t).1]; omega
  | ⟨1, _⟩ => show win0_4.index t 1 * 512 + 1 * l.val = l.val; rw [(index4 t).2]; omega

theorem iblk5_apply (t : Fin cfg0.N) (l : Fin 512) : (iblk m c 5 t : FVec Ideal S1x512 .f32) (ix2 0 l) = vGq m c (ix2 0 l) := by
  unfold vGq iblk
  rw [View.read_apply]
  show V m c _ _ = V m c _ _
  congr 1
  funext a
  apply Fin.ext
  match a with
  | ⟨0, _⟩ => show win0_5.index t 0 * 1 + 1 * 0 = 0; rw [(index5 t).1]
  | ⟨1, _⟩ => show win0_5.index t 1 * 512 + 1 * l.val = l.val; rw [(index5 t).2]; omega

theorem iblk6_apply (t : Fin cfg0.N) (l : Fin 512) : (iblk m c 6 t : FVec Ideal S1x512 .f32) (ix2 0 l) = vGk m c (ix2 0 l) := by
  unfold vGk iblk
  rw [View.read_apply]
  show V m c _ _ = V m c _ _
  congr 1
  funext a
  apply Fin.ext
  match a with
  | ⟨0, _⟩ => show win0_6.index t 0 * 1 + 1 * 0 = 0; rw [(index6 t).1]
  | ⟨1, _⟩ => show win0_6.index t 1 * 512 + 1 * l.val = l.val; rw [(index6 t).2]; omega

theorem iblk8_apply (t : Fin cfg0.N) (l : Fin 512) : (iblk m c 8 t : FVec Ideal S1x512 .f32) (ix2 0 l) = vScale m c (ix2 0 l) := by
  unfold vScale iblk
  rw [View.read_apply]
  show V m c _ _ = V m c _ _
  congr 1
  funext a
  apply Fin.ext
  match a with
  | ⟨0, _⟩ => show win0_8.index t 0 * 1 + 1 * 0 = 0; rw [(index8 t).1]
  | ⟨1, _⟩ => show win0_8.index t 1 * 512 + 1 * l.val = l.val; rw [(index8 t).2]; omega

theorem iblk7_apply (t : Fin cfg0.N) (g : Fin 4) (j l : Fin 128) : (iblk m c 7 t : FVec Ideal S4x128x128 .bf16) (ix3 g j l) = vPool m c (ix3 g j l) := by
  unfold vPool iblk
  rw [View.read_apply]
  show V m c _ _ = V m c _ _
  congr 1
  funext a
  apply Fin.ext
  match a with
  | ⟨0, _⟩ => show win0_7.index t 0 * 4 + 1 * g.val = g.val; rw [(index7 t).1]; omega
  | ⟨1, _⟩ => show win0_7.index t 1 * 128 + 1 * j.val = j.val; rw [(index7 t).2.1]; omega
  | ⟨2, _⟩ => show win0_7.index t 2 * 128 + 1 * l.val = l.val; rw [(index7 t).2.2]; omega

end Cert.Proj
-- ==== Proof.Proj.Results.lean ====
/-
  The entries of the kernel's five results, as plain functions of the arguments.
-/
module

public import proofs.«01_k».proof.Proof.Proj.Points
public import proofs.«01_k».proof.Proof.Proj.Spec

@[expose] public section

set_option maxRecDepth 16384

noncomputable section

open Idealize.ShloMosaic Idealize.ShloMosaic.TcCoe Idealize.SL.Sem
open Cert.ProjectionsIdeal Cert.ProjectionsIdeal.Gen

namespace Cert.Proj

variable (m : (ℓ : Loc nD τ sig) → Buf (Elt Ideal) ℓ) (c : Dev nD)

/-- The projection of the arguments. -/
def zArr (b : Fin 8) (t : Fin 2048) (l : Fin 2048) : EReal :=
  zT (fun b t d => argX m c (ix3 b t d)) (fun b e => argMod m c (ix2 b e)) (fun d => argG m c (ix1 d)) (fun d l => argW m c (ix2 d l)) b t l

/-- One where two columns are of one head, zero elsewhere. -/
def sameHead (j l : Fin 512) : EReal := if j.val / 64 = l.val / 64 then 1 else 0

/-- The queries', keys', values' and pooling rows' entries, and the pooled output's. -/
def queryArr (b : Fin 8) (t : Fin 2048) (l : Fin 512) : EReal :=
  normB (fun j => zArr m c b t (part 512 (by decide) j)) sameHead (fun l => argGq m c (ix1 ⟨l.val % 64, Nat.mod_lt _ (by decide)⟩)) l * Ideal.ofBits .f32 0x3E000000#32
@[inherit_doc queryArr] def keyArr (b : Fin 8) (t : Fin 2048) (l : Fin 512) : EReal :=
  normB (fun j => zArr m c b t (part 1024 (by decide) j)) sameHead (fun l => argGk m c (ix1 ⟨l.val % 64, Nat.mod_lt _ (by decide)⟩)) l
@[inherit_doc queryArr] def valueArr (b : Fin 8) (t : Fin 2048) (l : Fin 512) : EReal := zArr m c b t (part 1536 (by decide) l)
@[inherit_doc queryArr] def uArr (b : Fin 8) (t : Fin 2048) (l : Fin 512) : EReal := zArr m c b t (part 0 (by decide) l)
@[inherit_doc queryArr] def poolArr (b : Fin 8) (t : Fin 2048) (l : Fin 512) : EReal :=
  poolT (uArr m c b) (fun g j l => argPool m c (ix3 g j l)) (fun l => argScale m c (ix1 l)) t l

theorem projRow_congr {x x' g g' sc sc' sh sh' : Fin 1024 → EReal} {w w' : Fin 1024 → Fin 2048 → EReal} (hx : x = x') (hg : g = g')
    (hsc : sc = sc') (hsh : sh = sh') (hw : w = w') (l : Fin 2048) : projRow x g sc sh w l = projRow x' g' sc' sh' w' l := by
  subst hx hg hsc hsh hw; rfl

theorem zB_eq (t : Fin cfg0.N) (r : Fin 1024) (l : Fin 2048) :
    zB (iblk m c 0 t) (iblk m c 1 t) (iblk m c 2 t) (iblk m c 3 t) r l = zArr m c (ptB t) (ptRow t r) l := by
  unfold zB zArr zT
  refine projRow_congr (funext fun d => ?_) (funext fun d => ?_) (funext fun d => ?_) (funext fun d => ?_) (funext fun d => funext fun l => ?_) l
  · exact (iblk0_apply m c t r d).trans (congrFun (V_x m c) _)
  · exact (iblk2_apply m c t d).trans (g_entry m c d)
  · exact (iblk1_apply m c t ⟨1024 + d.val, by omega⟩).trans (mod_entry m c (ptB t) ⟨1024 + d.val, by omega⟩)
  · exact (iblk1_apply m c t ⟨d.val, by omega⟩).trans (mod_entry m c (ptB t) ⟨d.val, by omega⟩)
  · exact (iblk3_apply m c t d l).trans (congrFun (V_w m c) _)

theorem norm_congr {q q' : Fin 512 → EReal} {bd bd' : Fin 512 → Fin 512 → EReal} {g g' : Fin 512 → EReal} (hq : q = q') (hb : bd = bd')
    (hg : g = g') (l : Fin 512) : normB q bd g l = normB q' bd' g' l := by
  subst hq hb hg; rfl

theorem norm_query (t : Fin cfg0.N) (r : Fin 1024) (l : Fin 512) :
    normB (fun j => zB (iblk m c 0 t) (iblk m c 1 t) (iblk m c 2 t) (iblk m c 3 t) r (part 512 (by decide) j))
      (fun j l => (iblk m c 4 t : FVec Ideal S512x512 .bf16) (ix2 j l)) (fun l => (iblk m c 5 t : FVec Ideal S1x512 .f32) (ix2 0 l)) l * Ideal.ofBits .f32 0x3E000000#32
      = queryArr m c (ptB t) (ptRow t r) l := by
  refine congrArg (· * Ideal.ofBits .f32 0x3E000000#32) (norm_congr (funext fun j => zB_eq m c t r _)
    (funext fun j => funext fun l => (iblk4_apply m c t j l).trans (bd_entry m c j l)) (funext fun l => (iblk5_apply m c t l).trans (gq_entry m c l)) l)

theorem norm_key (t : Fin cfg0.N) (r : Fin 1024) (l : Fin 512) :
    normB (fun j => zB (iblk m c 0 t) (iblk m c 1 t) (iblk m c 2 t) (iblk m c 3 t) r (part 1024 (by decide) j))
      (fun j l => (iblk m c 4 t : FVec Ideal S512x512 .bf16) (ix2 j l)) (fun l => (iblk m c 6 t : FVec Ideal S1x512 .f32) (ix2 0 l)) l
      = keyArr m c (ptB t) (ptRow t r) l := by
  refine norm_congr (funext fun j => zB_eq m c t r _)
    (funext fun j => funext fun l => (iblk4_apply m c t j l).trans (bd_entry m c j l)) (funext fun l => (iblk6_apply m c t l).trans (gk_entry m c l)) l

theorem u_block (t : Fin cfg0.N) (r : Fin 1024) (l : Fin 512) :
    zB (iblk m c 0 t) (iblk m c 1 t) (iblk m c 2 t) (iblk m c 3 t) r (part 0 (by decide) l) = uArr m c (ptB t) (ptRow t r) l := zB_eq m c t r _

theorem pool_args (t : Fin cfg0.N) :
    (fun (g : Fin 4) (j l : Fin 128) => (iblk m c 7 t : FVec Ideal S4x128x128 .bf16) (ix3 g j l)) = fun g j l => argPool m c (ix3 g j l) :=
  funext fun g => funext fun j => funext fun l => (iblk7_apply m c t g j l).trans (congrFun (V_pool m c) _)

theorem pool_scale (t : Fin cfg0.N) :
    (fun (l : Fin 512) => (iblk m c 8 t : FVec Ideal S1x512 .f32) (ix2 0 l)) = fun l => argScale m c (ix1 l) :=
  funext fun l => (iblk8_apply m c t l).trans (scale_entry m c l)

/-- What a tile's second half reads before its rows: the last rows of the tile before. -/
theorem halo_entry (t : Fin cfg0.N) (h1 : t.val % 2 = 1) (s : Fin 16) (l : Fin 512) :
    Second.halo (outsAt0 m c (t.val - 1) (Nat.lt_of_le_of_lt (Nat.sub_le _ _) t.isLt)).2.2.2.2.2 s l
      = uArr m c (ptB t) ⟨1008 + s.val, by omega⟩ l := by
  have hA := outsAt0_A m c ⟨t.val - 1, Nat.lt_of_le_of_lt (Nat.sub_le _ _) t.isLt⟩ (by show (t.val - 1) % 2 = 0; omega) (by show ¬ (t.val - 1) % 2 = 1; omega)
  have hS := congrArg (fun o : Vec Ideal S1x1024x512 .bf16 × Vec Ideal S1x1024x512 .bf16 × Vec Ideal S1x1024x512 .f32 × Vec Ideal S1x1024x512 .f32 × Vec Ideal S1x16x512 .f32 × Vec Ideal S1040x512 .f32 =>
    o.2.2.2.2.2) hA
  dsimp only at hS
  rw [hS]
  unfold Second.halo
  refine (First.out_halo _ _ _ _ _ _ _ _ _ _ _ _ _ _ _ _ _ _ _ _ _ _ _ _ _ _ _ _ _ _ _ _ _ _ _ _ _ _ _ _ _ _ _ s l).trans ?_
  refine (u_block m c _ _ _).trans ?_
  have e1 : ptB ⟨t.val - 1, Nat.lt_of_le_of_lt (Nat.sub_le _ _) t.isLt⟩ = ptB t := Fin.ext (by show (t.val - 1) / 2 = t.val / 2; omega)
  have e2 : ptRow ⟨t.val - 1, Nat.lt_of_le_of_lt (Nat.sub_le _ _) t.isLt⟩ ⟨1008 + s.val, by omega⟩ = ⟨1008 + s.val, by omega⟩ :=
    Fin.ext (by show 1024 * ((t.val - 1) % 2) + (1008 + s.val) = 1008 + s.val; omega)
  rw [e1, e2]

theorem pool_first (t : Fin cfg0.N) (h0 : t.val % 2 = 0) (r : Fin 1024) (l : Fin 512) :
    poolCol (BitVec.ofNat 32 (grid0.coords t 1).val) First.halo (First.uRow (iblk m c 0 t) (iblk m c 1 t) (iblk m c 2 t) (iblk m c 3 t))
      (fun g j l => (iblk m c 7 t : FVec Ideal S4x128x128 .bf16) (ix3 g j l)) (fun l => (iblk m c 8 t : FVec Ideal S1x512 .f32) (ix2 0 l)) r l
      = poolArr m c (ptB t) (ptRow t r) l := by
  rw [pool_args, pool_scale, show (grid0.coords t 1 : ℕ) = (0 : Fin 2).val from (coords_1 t).trans h0]
  refine (poolCol_eq 0 _ _ (uArr m c (ptB t)) _ _ (fun r l => (u_block m c t r l).trans ?_) (fun s l => ?_) r l).trans ?_
  · congr 1; exact Fin.ext (by show 1024 * (t.val % 2) + r.val = 1024 * 0 + r.val; rw [h0])
  · unfold padded; rw [dif_neg]; · rfl
    rintro ⟨h, -⟩; have := s.isLt; have h' : 16 ≤ 1024 * 0 + s.val := h; omega
  · unfold poolArr; congr 1; exact Fin.ext (by show 1024 * 0 + r.val = 1024 * (t.val % 2) + r.val; rw [h0])

theorem pool_second (t : Fin cfg0.N) (h1 : t.val % 2 = 1) (r : Fin 1024) (l : Fin 512) :
    poolCol (BitVec.ofNat 32 (grid0.coords t 1).val) (Second.halo (outsAt0 m c (t.val - 1) (Nat.lt_of_le_of_lt (Nat.sub_le _ _) t.isLt)).2.2.2.2.2)
      (Second.uRow (iblk m c 0 t) (iblk m c 1 t) (iblk m c 2 t) (iblk m c 3 t))
      (fun g j l => (iblk m c 7 t : FVec Ideal S4x128x128 .bf16) (ix3 g j l)) (fun l => (iblk m c 8 t : FVec Ideal S1x512 .f32) (ix2 0 l)) r l
      = poolArr m c (ptB t) (ptRow t r) l := by
  rw [pool_args, pool_scale, show (grid0.coords t 1 : ℕ) = (1 : Fin 2).val from (coords_1 t).trans h1]
  refine (poolCol_eq 1 _ _ (uArr m c (ptB t)) _ _ (fun r l => (u_block m c t r l).trans ?_) (fun s l => (halo_entry m c t h1 s l).trans ?_) r l).trans ?_
  · congr 1; exact Fin.ext (by show 1024 * (t.val % 2) + r.val = 1024 * 1 + r.val; rw [h1])
  · unfold padded
    have hs := s.isLt
    rw [dif_pos ⟨by show 16 ≤ 1024 * 1 + s.val; omega, by show 1024 * 1 + s.val - 16 < 2048; omega⟩]
    congr 1; exact Fin.ext (by show 1008 + s.val = 1024 * 1 + s.val - 16; omega)
  · unfold poolArr; congr 1; exact Fin.ext (by show 1024 * 1 + r.val = 1024 * (t.val % 2) + r.val; rw [h1])

theorem pool_entry (t : Fin cfg0.N) (r : Fin 1024) (l : Fin 512) :
    ((dats m 0 c).arrAt 9 cfg0.N : FVec Ideal S8x2048x512 .bf16) (ix3 (ptB t) (ptRow t r) l) = poolArr m c (ptB t) (ptRow t r) l := by
  have emb : ∀ z : FVec Ideal S8x2048x512 .bf16, z (((cfg0.win 9).blk t).view.emb (ix3 0 r l)) = z (ix3 (ptB t) (ptRow t r) l) := by
    intro z
    congr 1
    funext a
    apply Fin.ext
    match a with
    | ⟨0, _⟩ => show win0_9.index t 0 * 1 + 1 * 0 = t.val / 2; rw [(index9 t).1]; omega
    | ⟨1, _⟩ => show win0_9.index t 1 * 1024 + 1 * r.val = 1024 * (t.val % 2) + r.val; rw [(index9 t).2.1]; omega
    | ⟨2, _⟩ => show win0_9.index t 2 * 512 + 1 * l.val = l.val; rw [(index9 t).2.2]; omega
  have h := congrFun (Value.blocks9 m c t (flush0_9 t)) (ix3 0 r l)
  rw [View.read_apply] at h
  refine (emb _).symm.trans (h.trans ?_)
  rcases Nat.mod_two_eq_zero_or_one t.val with h0 | h1
  · rw [Value.flushed9_A m c t h0 (by omega)]
    exact (First.out_pool _ _ _ _ _ _ _ _ _ _ _ _ _ _ _ _ _ _ _ _ _ _ _ _ _ _ _ _ _ _ _ _ _ _ _ _ _ _ _ _ _ _ _ r l).trans (pool_first m c t h0 r l)
  · rw [Value.flushed9_B m c t (by omega) h1]
    exact (Second.out_pool _ _ _ _ _ _ _ _ _ _ _ _ _ _ _ _ _ _ _ _ _ _ _ _ _ _ _ _ _ _ _ _ _ _ _ _ _ _ _ _ _ _ _ _ r l).trans (pool_second m c t h1 r l)

theorem query_entry (t : Fin cfg0.N) (r : Fin 1024) (l : Fin 512) :
    ((dats m 0 c).arrAt 10 cfg0.N : FVec Ideal S8x2048x512 .bf16) (ix3 (ptB t) (ptRow t r) l) = queryArr m c (ptB t) (ptRow t r) l := by
  have emb : ∀ z : FVec Ideal S8x2048x512 .bf16, z (((cfg0.win 10).blk t).view.emb (ix3 0 r l)) = z (ix3 (ptB t) (ptRow t r) l) := by
    intro z
    congr 1
    funext a
    apply Fin.ext
    match a with
    | ⟨0, _⟩ => show win0_10.index t 0 * 1 + 1 * 0 = t.val / 2; rw [(index10 t).1]; omega
    | ⟨1, _⟩ => show win0_10.index t 1 * 1024 + 1 * r.val = 1024 * (t.val % 2) + r.val; rw [(index10 t).2.1]; omega
    | ⟨2, _⟩ => show win0_10.index t 2 * 512 + 1 * l.val = l.val; rw [(index10 t).2.2]; omega
  have h := congrFun (Value.blocks10 m c t (flush0_10 t)) (ix3 0 r l)
  rw [View.read_apply] at h
  refine (emb _).symm.trans (h.trans ?_)
  rcases Nat.mod_two_eq_zero_or_one t.val with h0 | h1
  · rw [Value.flushed10_A m c t h0 (by omega)]
    exact (First.out_query _ _ _ _ _ _ _ _ _ _ _ _ _ _ _ _ _ _ _ _ _ _ _ _ _ _ _ _ _ _ _ _ _ _ _ _ _ _ _ _ _ _ _ r l).trans (norm_query m c t r l)
  · rw [Value.flushed10_B m c t (by omega) h1]
    exact (Second.out_query _ _ _ _ _ _ _ _ _ _ _ _ _ _ _ _ _ _ _ _ _ _ _ _ _ _ _ _ _ _ _ _ _ _ _ _ _ _ _ _ _ _ _ _ r l).trans (norm_query m c t r l)

theorem key_entry (t : Fin cfg0.N) (r : Fin 1024) (l : Fin 512) :
    ((dats m 0 c).arrAt 11 cfg0.N : FVec Ideal S8x2048x512 .f32) (ix3 (ptB t) (ptRow t r) l) = keyArr m c (ptB t) (ptRow t r) l := by
  have emb : ∀ z : FVec Ideal S8x2048x512 .f32, z (((cfg0.win 11).blk t).view.emb (ix3 0 r l)) = z (ix3 (ptB t) (ptRow t r) l) := by
    intro z
    congr 1
    funext a
    apply Fin.ext
    match a with
    | ⟨0, _⟩ => show win0_11.index t 0 * 1 + 1 * 0 = t.val / 2; rw [(index11 t).1]; omega
    | ⟨1, _⟩ => show win0_11.index t 1 * 1024 + 1 * r.val = 1024 * (t.val % 2) + r.val; rw [(index11 t).2.1]; omega
    | ⟨2, _⟩ => show win0_11.index t 2 * 512 + 1 * l.val = l.val; rw [(index11 t).2.2]; omega
  have h := congrFun (Value.blocks11 m c t (flush0_11 t)) (ix3 0 r l)
  rw [View.read_apply] at h
  refine (emb _).symm.trans (h.trans ?_)
  rcases Nat.mod_two_eq_zero_or_one t.val with h0 | h1
  · rw [Value.flushed11_A m c t h0 (by omega)]
    exact (First.out_key _ _ _ _ _ _ _ _ _ _ _ _ _ _ _ _ _ _ _ _ _ _ _ _ _ _ _ _ _ _ _ _ _ _ _ _ _ _ _ _ _ _ _ r l).trans (norm_key m c t r l)
  · rw [Value.flushed11_B m c t (by omega) h1]
    exact (Second.out_key _ _ _ _ _ _ _ _ _ _ _ _ _ _ _ _ _ _ _ _ _ _ _ _ _ _ _ _ _ _ _ _ _ _ _ _ _ _ _ _ _ _ _ _ r l).trans (norm_key m c t r l)

theorem value_entry (t : Fin cfg0.N) (r : Fin 1024) (l : Fin 512) :
    ((dats m 0 c).arrAt 12 cfg0.N : FVec Ideal S8x2048x512 .f32) (ix3 (ptB t) (ptRow t r) l) = valueArr m c (ptB t) (ptRow t r) l := by
  have emb : ∀ z : FVec Ideal S8x2048x512 .f32, z (((cfg0.win 12).blk t).view.emb (ix3 0 r l)) = z (ix3 (ptB t) (ptRow t r) l) := by
    intro z
    congr 1
    funext a
    apply Fin.ext
    match a with
    | ⟨0, _⟩ => show win0_12.index t 0 * 1 + 1 * 0 = t.val / 2; rw [(index12 t).1]; omega
    | ⟨1, _⟩ => show win0_12.index t 1 * 1024 + 1 * r.val = 1024 * (t.val % 2) + r.val; rw [(index12 t).2.1]; omega
    | ⟨2, _⟩ => show win0_12.index t 2 * 512 + 1 * l.val = l.val; rw [(index12 t).2.2]; omega
  have h := congrFun (Value.blocks12 m c t (flush0_12 t)) (ix3 0 r l)
  rw [View.read_apply] at h
  refine (emb _).symm.trans (h.trans ?_)
  rcases Nat.mod_two_eq_zero_or_one t.val with h0 | h1
  · rw [Value.flushed12_A m c t h0 (by omega)]
    exact (First.out_value _ _ _ _ _ _ _ _ _ _ _ _ _ _ _ _ _ _ _ _ _ _ _ _ _ _ _ _ _ _ _ _ _ _ _ _ _ _ _ _ _ _ _ r l).trans (zB_eq m c t r _)
  · rw [Value.flushed12_B m c t (by omega) h1]
    exact (Second.out_value _ _ _ _ _ _ _ _ _ _ _ _ _ _ _ _ _ _ _ _ _ _ _ _ _ _ _ _ _ _ _ _ _ _ _ _ _ _ _ _ _ _ _ _ r l).trans (zB_eq m c t r _)

/-- The last rows, from the point that writes them back. -/
theorem tail_entry (t : Fin cfg0.N) (h1 : t.val % 2 = 1) (s : Fin 16) (l : Fin 512) :
    ((dats m 0 c).arrAt 13 cfg0.N : FVec Ideal S8x16x512 .f32) (ix3 (ptB t) s l) = uArr m c (ptB t) ⟨2032 + s.val, by omega⟩ l := by
  have emb : ∀ z : FVec Ideal S8x16x512 .f32, z (((cfg0.win 13).blk t).view.emb (ix3 0 s l)) = z (ix3 (ptB t) s l) := by
    intro z
    congr 1
    funext a
    apply Fin.ext
    match a with
    | ⟨0, _⟩ => show win0_13.index t 0 * 1 + 1 * 0 = t.val / 2; rw [(index13 t).1]; omega
    | ⟨1, _⟩ => show win0_13.index t 1 * 16 + 1 * s.val = s.val; rw [(index13 t).2.1]; omega
    | ⟨2, _⟩ => show win0_13.index t 2 * 512 + 1 * l.val = l.val; rw [(index13 t).2.2]; omega
  have h := (congrFun (Value.flushed13_eq m c t ((flush0_13 t).mpr h1)) (ix3 0 s l)).symm
  rw [View.read_apply] at h
  rw [Value.final13]
  refine (emb _).symm.trans (h.trans ?_)
  rw [Value.flushed13_B m c t (by omega) h1]
  refine (Second.out_tail _ _ _ _ _ _ _ _ _ _ _ _ _ _ _ _ _ _ _ _ _ _ _ _ _ _ _ _ _ _ _ _ _ _ _ _ _ _ _ _ _ _ _ _ s l).trans ((u_block m c t _ l).trans ?_)
  congr 1
  exact Fin.ext (by show 1024 * (t.val % 2) + (1008 + s.val) = 2032 + s.val; omega)

end Cert.Proj
-- ==== Proof.Proj.Real.lean ====
/-
  With a real gain, modulation and column the projection is real, and there the kernel's sum over a head, taken through the matrix of the heads and
  with the remainder of the squares' rounding added, is the sum of the head's squares.
-/
module

public import proofs.«01_k».proof.Proof.Proj.RefRows
public import proofs.«01_k».proof.Proof.Proj.Results
public import proofs.«01_k».proof.Proof.Moba.Softmax

@[expose] public section

noncomputable section

open Idealize.ShloMosaic

namespace Cert.Proj

/-- An extended real that is a real number. -/
abbrev IsReal (x : EReal) : Prop := ∃ r : ℝ, x = ((r : ℝ) : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem isReal_sum {ι : Type} [Fintype ι] {f : ι → EReal} (h : ∀ i, IsReal (f i)) : IsReal (∑ i, f i) := by
  choose g hg using h
  exact ⟨∑ i, g i, (Finset.sum_congr rfl fun i _ => hg i).trans (Cert.Moba.coe_sum Finset.univ g).symm⟩

theorem eps_real : eps = ((8796093 / 8796093022208 : ℝ) : EReal) := by
  simp [eps, Ideal.ofBits, Ideal.ieee, -EReal.coe_mul]; norm_num

theorem rows_bits : Ideal.ofBits .f32 0x44800000#32 = ((1024 : ℝ) : EReal) := by
  simp [Ideal.ofBits, Ideal.ieee, -EReal.coe_mul]; norm_num

theorem lanes_bits : Ideal.ofBits .f32 0x42800000#32 = ((64 : ℝ) : EReal) := by
  simp [Ideal.ofBits, Ideal.ieee, -EReal.coe_mul]; norm_num

theorem recip_bits : Ideal.ofBits .f32 0x3C800000#32 = ((1 / 64 : ℝ) : EReal) := by
  simp [Ideal.ofBits, Ideal.ieee, -EReal.coe_mul]; norm_num

/-- The reciprocal root of a mean of squares, with the small number added, is real. -/
theorem rms_real {x : Fin 1024 → EReal} (hx : ∀ d, IsReal (x d)) :
    IsReal (Ideal.rsqrt (Ideal.div (∑ e : Fin 1024, x e * x e) (Ideal.ofBits .f32 0x44800000#32) + eps)) := by
  choose X hX using hx
  have hs : ∑ e : Fin 1024, x e * x e = ((∑ e : Fin 1024, X e * X e : ℝ) : EReal) :=
    (Finset.sum_congr rfl fun e _ => by rw [hX e, EReal.coe_mul]).trans (Cert.Moba.coe_sum Finset.univ _).symm
  have hn : (0 : ℝ) ≤ ∑ e : Fin 1024, X e * X e := Finset.sum_nonneg fun e _ => mul_self_nonneg _
  rw [hs, rows_bits, eps_real, Ideal.div_coe (by norm_num), ← EReal.coe_mul, ← EReal.coe_add]
  have hp : (0 : ℝ) < (∑ e : Fin 1024, X e * X e) * (1 / 1024) + 8796093 / 8796093022208 := by positivity
  rw [Ideal.rsqrt_coe, if_neg (not_lt.mpr hp.le), if_neg hp.ne']
  exact ⟨_, rfl⟩

theorem square_nonneg (x : EReal) : 0 ≤ x * x := by
  induction x with
  | bot => simp
  | top => simp
  | coe r => exact_mod_cast mul_self_nonneg r

/-- A row over its root mean square is real, whatever the row: an infinite element makes the reciprocal root zero. -/
theorem scaled_real (x : Fin 1024 → EReal) (d : Fin 1024) :
    IsReal (x d * Ideal.rsqrt (Ideal.div (∑ e : Fin 1024, x e * x e) (Ideal.ofBits .f32 0x44800000#32) + eps)) := by
  by_cases hx : ∀ e, IsReal (x e)
  · exact (hx d).mul (rms_real hx)
  · obtain ⟨e, he⟩ := not_forall.mp hx
    have hsq : x e * x e = ⊤ := by
      generalize x e = y at he
      induction y with
      | bot => rfl
      | top => rfl
      | coe r => exact absurd ⟨r, rfl⟩ he
    have hs : ∑ e : Fin 1024, x e * x e = ⊤ := by
      have h1 := Finset.single_le_sum (f := fun e => x e * x e) (fun i _ => square_nonneg (x i)) (Finset.mem_univ e)
      exact top_le_iff.mp (hsq ▸ h1)
    rw [hs, rows_bits, eps_real, Ideal.div_coe (by norm_num), EReal.top_mul_coe_of_pos (by norm_num), EReal.top_add_coe, Ideal.rsqrt_top,
      mul_zero]
    exact ⟨0, rfl⟩

theorem projRow_real {x g sc sh : Fin 1024 → EReal} {w : Fin 1024 → Fin 2048 → EReal} (hg : ∀ d, IsReal (g d))
    (hsc : ∀ d, IsReal (sc d)) (hsh : ∀ d, IsReal (sh d)) (c : Fin 2048) (hw : ∀ d, IsReal (w d c)) : IsReal (projRow x g sc sh w c) := by
  refine isReal_sum fun d => ?_
  unfold modRow
  have h1 : IsReal (Ideal.ofBits .f32 0x3F800000#32) := ⟨1, by rw [one_bits]; rfl⟩
  exact (((scaled_real x d).mul (hg d)).mul (h1.add (hsc d))).add (hsh d) |>.mul (hw d)

/-- A sum against the matrix of the heads is the sum over the column's head. -/
theorem head_sum (a : Fin 512 → EReal) (l : Fin 512) :
    ∑ j : Fin 512, a j * sameHead j l = ∑ d : Fin 64, a ⟨64 * (l.val / 64) + d.val, by omega⟩ := by
  have h1 : ∀ j : Fin 512, a j * sameHead j l = if j.val / 64 = l.val / 64 then a j else 0 := by
    intro j; unfold sameHead; by_cases h : j.val / 64 = l.val / 64 <;> simp [h]
  rw [Finset.sum_congr rfl fun j _ => h1 j, ← Finset.sum_filter]
  refine (Finset.sum_bij (fun (d : Fin 64) _ => (⟨64 * (l.val / 64) + d.val, by omega⟩ : Fin 512)) ?_ ?_ ?_ ?_).symm
  · intro d _
    rw [Finset.mem_filter]
    exact ⟨Finset.mem_univ _, by show (64 * (l.val / 64) + d.val) / 64 = l.val / 64; omega⟩
  · intro d _ d' _ h
    have h' : 64 * (l.val / 64) + d.val = 64 * (l.val / 64) + d'.val := congrArg Fin.val h
    exact Fin.ext (by omega)
  · intro j hj
    rw [Finset.mem_filter] at hj
    refine ⟨⟨j.val % 64, Nat.mod_lt _ (by decide)⟩, Finset.mem_univ _, Fin.ext ?_⟩
    show 64 * (l.val / 64) + j.val % 64 = j.val
    have := hj.2
    omega
  · intro d _; rfl

/-- On a real row the two normalisations within the heads agree. -/
theorem norm_eq {q : Fin 512 → EReal} (hq : ∀ j, IsReal (q j)) (g : Fin 64 → EReal) (l : Fin 512) :
    normB q sameHead (fun l => g ⟨l.val % 64, Nat.mod_lt _ (by decide)⟩) l = Ref.normRef q g l := by
  unfold normB headRms Ref.normRef
  have h0 : ∑ j : Fin 512, (q j * q j - q j * q j) * sameHead j l = 0 := by
    refine Finset.sum_eq_zero fun j _ => ?_
    obtain ⟨a, ha⟩ := hq j
    rw [ha, ← EReal.coe_mul, ← EReal.coe_sub, sub_self, EReal.coe_zero, zero_mul]
  rw [h0, add_zero, head_sum (fun j => q j * q j), lanes_bits, recip_bits, Ideal.div_coe (by norm_num)]

end Cert.Proj
-- ==== Proof.Proj.Inputs.lean ====
/-
  What the precondition gives: a real gain, real shifts and scales, and real columns of the queries and keys.
-/
module

public import proofs.«01_k».proof.Proof.Proj.Real
public import proofs.«01_k».proof.Proof.Moba.Inputs
public import proofs.«01_k».proof.Pre_finite_projection
public import Idealize.ShloMosaic.Lib.ReduceAll

@[expose] public section

set_option maxRecDepth 16384

noncomputable section

open Idealize.ShloMosaic Idealize.ShloMosaic.TcCoe Idealize.SL.Sem

namespace Cert.Proj

/-- The side conditions of the precondition's operations. -/
theorem preFacts : Cert.Pre_finite_projection.Facts := ⟨by decide, by decide, by decide, by decide, by decide, by decide, by decide, by decide, by decide⟩

/-- An entry whose absolute value is below infinity is real. -/
theorem real_of_cmp {s t : Shape} {dims : Fin t.rank → Fin s.rank} (x : FVec Ideal s .f32) (hb : t.BroadcastsInDim s dims) (j : s.Idx)
    (h : cmpf .olt (Host.absf x) (broadcastInDim s dims hb (constant (F := Ideal) t .f32 0x7F800000#32)) j = 1#1) : IsReal (x j) := by
  refine Cert.Moba.real_of_abs_lt (x j) ?_
  have h' : BitVec.ofBool (decide (max (x j) (-(x j)) < Ideal.ofBits .f32 0x7F800000#32)) = 1#1 := h
  rw [Cert.Moba.top_bits] at h'
  by_contra hn
  rw [decide_eq_false hn] at h'
  exact absurd h' (by decide)

section

variable [Cert.Pre_finite_projection.Facts]

open Cert.Pre_finite_projection Cert.Pre_finite_projection.Facts

instance : Subsingleton Cert.Pre_finite_projection.S_.Idx := ⟨fun a b => funext fun d => d.elim0⟩

/-- Where the precondition holds, the gain, the rows' shift and scale and the queries' and keys' columns are real. -/
theorem real_of_pre (x : FVec Ideal S8x2048x1024 .f32) (md : FVec Ideal S8x6144 .f32) (g : FVec Ideal S1024 .f32) (w : FVec Ideal S1024x2048 .f32)
    (gq gk : FVec Ideal S64 .f32) (wp : FVec Ideal S4x128x128 .f32) (ps : FVec Ideal S512 .f32)
    (h : Cert.Pre_finite_projection.fn (F := Ideal) x md g w gq gk wp ps = fun _ => 1#1) :
    (∀ (b : Fin 8) (e : Fin 2048), IsReal (md (ix2 b ⟨e.val, by omega⟩))) ∧ (∀ j, IsReal (g j))
      ∧ ∀ (d l : Fin 1024), IsReal (w (ix2 d ⟨512 + l.val, by omega⟩)) := by
  have h0 := congrFun h (fun d => d.elim0)
  have h2 := Cert.Moba.ones_left _ _ h0
  refine ⟨fun b e => ?_, fun j => real_of_cmp g bcast_S_S1024 j ?_, fun d l => ?_⟩
  · have k := real_of_cmp (extractStridedSlice S8x2048 ![0, 0] md slices_S8x6144_S8x2048_0_0) bcast_S_S8x2048 (ix2 b e)
      (Host.reduce_andi_all _ _ _ _ _ (Cert.Moba.ones_left _ _ h2) _)
    have hi : (extractStridedSlice S8x2048 ![0, 0] md slices_S8x6144_S8x2048_0_0 : FVec Ideal S8x2048 .f32) (ix2 b e) = md (ix2 b ⟨e.val, by omega⟩) := by
      refine congrArg md (funext fun a => Fin.ext ?_)
      fin_cases a
      · exact Nat.zero_add _
      · exact Nat.zero_add _
    exact hi ▸ k
  · exact Host.reduce_andi_all _ _ _ _ _ (Cert.Moba.ones_right _ _ h2) j
  · have k := real_of_cmp (extractStridedSlice S1024x1024 ![0, 512] w slices_S1024x2048_S1024x1024_0_512) bcast_S_S1024x1024 (ix2 d l)
      (Host.reduce_andi_all _ _ _ _ _ (Cert.Moba.ones_right _ _ h0) _)
    have hi : (extractStridedSlice S1024x1024 ![0, 512] w slices_S1024x2048_S1024x1024_0_512 : FVec Ideal S1024x1024 .f32) (ix2 d l)
        = w (ix2 d ⟨512 + l.val, by omega⟩) := by
      refine congrArg w (funext fun a => Fin.ext ?_)
      fin_cases a
      · exact Nat.zero_add _
      · rfl
    exact hi ▸ k

end

end Cert.Proj
-- ==== Proof.Proj.RefPool.lean ====
/-
  The reference's pooled output, read at an index: each channel group's window of rows, averaged, less the row itself, times
  the group's map.
-/
module

public import proofs.«01_k».proof.Proof.Proj.RefRows

@[expose] public section

set_option maxRecDepth 16384

noncomputable section

open Idealize.ShloMosaic Idealize.ShloMosaic.TcCoe Idealize.SL.Sem
open Cert.ProjectionsReferenceIdeal Cert.ProjectionsReferenceIdeal.Value

namespace Cert.Proj.Ref

/-- The count of a row's window, as the reference computes it. -/
theorem cnt_word (g : Fin 4) (t : Fin 2048) :
    (FloatOps.sitofp (F := Ideal) .f32 (IntOp.minsi (IntOp.addi (BitVec.ofNat 32 t.val) 1#32) (BitVec.ofNat 32 (winOf g))) : EReal) = winCnt (winOf g) t := by
  have key : ∀ (g : Fin 4) (t : Fin 2048),
      (IntOp.minsi (IntOp.addi (BitVec.ofNat 32 t.val) 1#32) (BitVec.ofNat 32 (winOf g))).toInt = ((min (t.val + 1) (winOf g) : ℕ) : ℤ) := by
    decide +kernel
  unfold winCnt
  show (((IntOp.minsi (IntOp.addi (BitVec.ofNat 32 t.val) 1#32) (BitVec.ofNat 32 (winOf g))).toInt : ℝ) : EReal) = _
  rw [key]
  norm_cast

section Groups
variable (e : FVec Ideal S8x2063x512 .f32) (u : FVec Ideal S8x2048x512 .f32) (wp : FVec Ideal S4x128x128 .f32)

/-- A channel group's output, as the reference computes it. -/
def pooled0 : FVec Ideal S8x2048x128 .f32 :=
  (Host.dotGeneral (F := Ideal) (φ₁ := .f32) (φ₂ := .f32) dot_S8x2048x128_S128x128_S8x2048x128_2_0_01_1_n_n none (subf (Host.divf (addf (addf (broadcastInDim S8x2048x128 ![] Gen.bcast_S_S8x2048x128 (constant S_ .f32 0x00000000#32)) (extractStridedSlice S8x2048x128 ![0, 15, 0] e Gen.slices_S8x2063x512_S8x2048x128_0_15_0)) (extractStridedSlice S8x2048x128 ![0, 14, 0] e Gen.slices_S8x2063x512_S8x2048x128_0_14_0)) (broadcastInDim S8x2048x128 ![0, 1, 2] Gen.bcast_S1x2048x1_S8x2048x128_0_1_2 (broadcastInDim S1x2048x1 ![1] Gen.bcast_S2048_S1x2048x1_1 (sitofp .f32 (minsi (addi (iotaInDim S2048 32 0) (broadcastInDim S2048 ![] Gen.bcast_S_S2048 (constantI S_ 32 1#32))) (broadcastInDim S2048 ![] Gen.bcast_S_S2048 (constantI S_ 32 2#32))))))) (extractStridedSlice S8x2048x128 ![0, 0, 0] u Gen.slices_S8x2048x512_S8x2048x128_0_0_0)) (shapeCast _ (extractStridedSlice S1x128x128 ![0, 0, 0] wp Gen.slices_S4x128x128_S1x128x128_0_0_0) Gen.shapeCasts_S1x128x128_S128x128))

theorem pooled0_apply (f : Fin 512 → ℕ → EReal) (b : Fin 8) (he : ∀ j l, e (ix3 b j l) = f l (j.val + 1)) (t : Fin 2048) (c : Fin 128) :
    pooled0 e u wp (ix3 b t c) = ∑ j : Fin 128, (Ideal.div (winSum (f (grp (128 * 0) (by decide) j)) (16 + t.val) (winOf 0)) (winCnt (winOf 0) t)
      - u (ix3 b t (grp (128 * 0) (by decide) j))) * wp (ix3 0 j c) := by
  rw [← cnt_word]
  unfold pooled0
  pointwise
  simp only [he]
  show _ = ∑ j : Fin 128, (Ideal.div (winSum (f (grp (128 * 0) (by decide) j)) (16 + t.val) 2) _ - _) * _
  simp only [winSum, zero_add, show 16 + t.val - 0 = 15 + t.val + 1 from by omega, show 16 + t.val - 1 = 14 + t.val + 1 from by omega]
  refine Finset.sum_congr rfl fun x _ => ?_
  have hx : (⟨x.val, by omega⟩ : Fin 512) = grp (128 * 0) (by decide) x := Fin.ext (by show x.val = 0 + x.val; omega)
  rw [hx]
  rfl

@[inherit_doc pooled0] def pooled1 : FVec Ideal S8x2048x128 .f32 :=
  (Host.dotGeneral (F := Ideal) (φ₁ := .f32) (φ₂ := .f32) dot_S8x2048x128_S128x128_S8x2048x128_2_0_01_1_n_n none (subf (Host.divf (addf (addf (addf (addf (broadcastInDim S8x2048x128 ![] Gen.bcast_S_S8x2048x128 (constant S_ .f32 0x00000000#32)) (extractStridedSlice S8x2048x128 ![0, 15, 128] e Gen.slices_S8x2063x512_S8x2048x128_0_15_128)) (extractStridedSlice S8x2048x128 ![0, 14, 128] e Gen.slices_S8x2063x512_S8x2048x128_0_14_128)) (extractStridedSlice S8x2048x128 ![0, 13, 128] e Gen.slices_S8x2063x512_S8x2048x128_0_13_128)) (extractStridedSlice S8x2048x128 ![0, 12, 128] e Gen.slices_S8x2063x512_S8x2048x128_0_12_128)) (broadcastInDim S8x2048x128 ![0, 1, 2] Gen.bcast_S1x2048x1_S8x2048x128_0_1_2 (broadcastInDim S1x2048x1 ![1] Gen.bcast_S2048_S1x2048x1_1 (sitofp .f32 (minsi (addi (iotaInDim S2048 32 0) (broadcastInDim S2048 ![] Gen.bcast_S_S2048 (constantI S_ 32 1#32))) (broadcastInDim S2048 ![] Gen.bcast_S_S2048 (constantI S_ 32 4#32))))))) (extractStridedSlice S8x2048x128 ![0, 0, 128] u Gen.slices_S8x2048x512_S8x2048x128_0_0_128)) (shapeCast _ (extractStridedSlice S1x128x128 ![1, 0, 0] wp Gen.slices_S4x128x128_S1x128x128_1_0_0) Gen.shapeCasts_S1x128x128_S128x128))

theorem pooled1_apply (f : Fin 512 → ℕ → EReal) (b : Fin 8) (he : ∀ j l, e (ix3 b j l) = f l (j.val + 1)) (t : Fin 2048) (c : Fin 128) :
    pooled1 e u wp (ix3 b t c) = ∑ j : Fin 128, (Ideal.div (winSum (f (grp (128 * 1) (by decide) j)) (16 + t.val) (winOf 1)) (winCnt (winOf 1) t)
      - u (ix3 b t (grp (128 * 1) (by decide) j))) * wp (ix3 1 j c) := by
  rw [← cnt_word]
  unfold pooled1
  pointwise
  simp only [he]
  show _ = ∑ j : Fin 128, (Ideal.div (winSum (f (grp (128 * 1) (by decide) j)) (16 + t.val) 4) _ - _) * _
  simp only [winSum, zero_add, show 16 + t.val - 0 = 15 + t.val + 1 from by omega, show 16 + t.val - 1 = 14 + t.val + 1 from by omega, show 16 + t.val - 2 = 13 + t.val + 1 from by omega, show 16 + t.val - 3 = 12 + t.val + 1 from by omega]
  rfl

@[inherit_doc pooled0] def pooled2 : FVec Ideal S8x2048x128 .f32 :=
  (Host.dotGeneral (F := Ideal) (φ₁ := .f32) (φ₂ := .f32) dot_S8x2048x128_S128x128_S8x2048x128_2_0_01_1_n_n none (subf (Host.divf (addf (addf (addf (addf (addf (addf (addf (addf (broadcastInDim S8x2048x128 ![] Gen.bcast_S_S8x2048x128 (constant S_ .f32 0x00000000#32)) (extractStridedSlice S8x2048x128 ![0, 15, 256] e Gen.slices_S8x2063x512_S8x2048x128_0_15_256)) (extractStridedSlice S8x2048x128 ![0, 14, 256] e Gen.slices_S8x2063x512_S8x2048x128_0_14_256)) (extractStridedSlice S8x2048x128 ![0, 13, 256] e Gen.slices_S8x2063x512_S8x2048x128_0_13_256)) (extractStridedSlice S8x2048x128 ![0, 12, 256] e Gen.slices_S8x2063x512_S8x2048x128_0_12_256)) (extractStridedSlice S8x2048x128 ![0, 11, 256] e Gen.slices_S8x2063x512_S8x2048x128_0_11_256)) (extractStridedSlice S8x2048x128 ![0, 10, 256] e Gen.slices_S8x2063x512_S8x2048x128_0_10_256)) (extractStridedSlice S8x2048x128 ![0, 9, 256] e Gen.slices_S8x2063x512_S8x2048x128_0_9_256)) (extractStridedSlice S8x2048x128 ![0, 8, 256] e Gen.slices_S8x2063x512_S8x2048x128_0_8_256)) (broadcastInDim S8x2048x128 ![0, 1, 2] Gen.bcast_S1x2048x1_S8x2048x128_0_1_2 (broadcastInDim S1x2048x1 ![1] Gen.bcast_S2048_S1x2048x1_1 (sitofp .f32 (minsi (addi (iotaInDim S2048 32 0) (broadcastInDim S2048 ![] Gen.bcast_S_S2048 (constantI S_ 32 1#32))) (broadcastInDim S2048 ![] Gen.bcast_S_S2048 (constantI S_ 32 8#32))))))) (extractStridedSlice S8x2048x128 ![0, 0, 256] u Gen.slices_S8x2048x512_S8x2048x128_0_0_256)) (shapeCast _ (extractStridedSlice S1x128x128 ![2, 0, 0] wp Gen.slices_S4x128x128_S1x128x128_2_0_0) Gen.shapeCasts_S1x128x128_S128x128))

theorem pooled2_apply (f : Fin 512 → ℕ → EReal) (b : Fin 8) (he : ∀ j l, e (ix3 b j l) = f l (j.val + 1)) (t : Fin 2048) (c : Fin 128) :
    pooled2 e u wp (ix3 b t c) = ∑ j : Fin 128, (Ideal.div (winSum (f (grp (128 * 2) (by decide) j)) (16 + t.val) (winOf 2)) (winCnt (winOf 2) t)
      - u (ix3 b t (grp (128 * 2) (by decide) j))) * wp (ix3 2 j c) := by
  rw [← cnt_word]
  unfold pooled2
  pointwise
  simp only [he]
  show _ = ∑ j : Fin 128, (Ideal.div (winSum (f (grp (128 * 2) (by decide) j)) (16 + t.val) 8) _ - _) * _
  simp only [winSum, zero_add, show 16 + t.val - 0 = 15 + t.val + 1 from by omega, show 16 + t.val - 1 = 14 + t.val + 1 from by omega, show 16 + t.val - 2 = 13 + t.val + 1 from by omega, show 16 + t.val - 3 = 12 + t.val + 1 from by omega, show 16 + t.val - 4 = 11 + t.val + 1 from by omega, show 16 + t.val - 5 = 10 + t.val + 1 from by omega, show 16 + t.val - 6 = 9 + t.val + 1 from by omega, show 16 + t.val - 7 = 8 + t.val + 1 from by omega]
  rfl

@[inherit_doc pooled0] def pooled3 : FVec Ideal S8x2048x128 .f32 :=
  (Host.dotGeneral (F := Ideal) (φ₁ := .f32) (φ₂ := .f32) dot_S8x2048x128_S128x128_S8x2048x128_2_0_01_1_n_n none (subf (Host.divf (addf (addf (addf (addf (addf (addf (addf (addf (addf (addf (addf (addf (addf (addf (addf (addf (broadcastInDim S8x2048x128 ![] Gen.bcast_S_S8x2048x128 (constant S_ .f32 0x00000000#32)) (extractStridedSlice S8x2048x128 ![0, 15, 384] e Gen.slices_S8x2063x512_S8x2048x128_0_15_384)) (extractStridedSlice S8x2048x128 ![0, 14, 384] e Gen.slices_S8x2063x512_S8x2048x128_0_14_384)) (extractStridedSlice S8x2048x128 ![0, 13, 384] e Gen.slices_S8x2063x512_S8x2048x128_0_13_384)) (extractStridedSlice S8x2048x128 ![0, 12, 384] e Gen.slices_S8x2063x512_S8x2048x128_0_12_384)) (extractStridedSlice S8x2048x128 ![0, 11, 384] e Gen.slices_S8x2063x512_S8x2048x128_0_11_384)) (extractStridedSlice S8x2048x128 ![0, 10, 384] e Gen.slices_S8x2063x512_S8x2048x128_0_10_384)) (extractStridedSlice S8x2048x128 ![0, 9, 384] e Gen.slices_S8x2063x512_S8x2048x128_0_9_384)) (extractStridedSlice S8x2048x128 ![0, 8, 384] e Gen.slices_S8x2063x512_S8x2048x128_0_8_384)) (extractStridedSlice S8x2048x128 ![0, 7, 384] e Gen.slices_S8x2063x512_S8x2048x128_0_7_384)) (extractStridedSlice S8x2048x128 ![0, 6, 384] e Gen.slices_S8x2063x512_S8x2048x128_0_6_384)) (extractStridedSlice S8x2048x128 ![0, 5, 384] e Gen.slices_S8x2063x512_S8x2048x128_0_5_384)) (extractStridedSlice S8x2048x128 ![0, 4, 384] e Gen.slices_S8x2063x512_S8x2048x128_0_4_384)) (extractStridedSlice S8x2048x128 ![0, 3, 384] e Gen.slices_S8x2063x512_S8x2048x128_0_3_384)) (extractStridedSlice S8x2048x128 ![0, 2, 384] e Gen.slices_S8x2063x512_S8x2048x128_0_2_384)) (extractStridedSlice S8x2048x128 ![0, 1, 384] e Gen.slices_S8x2063x512_S8x2048x128_0_1_384)) (extractStridedSlice S8x2048x128 ![0, 0, 384] e Gen.slices_S8x2063x512_S8x2048x128_0_0_384)) (broadcastInDim S8x2048x128 ![0, 1, 2] Gen.bcast_S1x2048x1_S8x2048x128_0_1_2 (broadcastInDim S1x2048x1 ![1] Gen.bcast_S2048_S1x2048x1_1 (sitofp .f32 (minsi (addi (iotaInDim S2048 32 0) (broadcastInDim S2048 ![] Gen.bcast_S_S2048 (constantI S_ 32 1#32))) (broadcastInDim S2048 ![] Gen.bcast_S_S2048 (constantI S_ 32 16#32))))))) (extractStridedSlice S8x2048x128 ![0, 0, 384] u Gen.slices_S8x2048x512_S8x2048x128_0_0_384)) (shapeCast _ (extractStridedSlice S1x128x128 ![3, 0, 0] wp Gen.slices_S4x128x128_S1x128x128_3_0_0) Gen.shapeCasts_S1x128x128_S128x128))

theorem pooled3_apply (f : Fin 512 → ℕ → EReal) (b : Fin 8) (he : ∀ j l, e (ix3 b j l) = f l (j.val + 1)) (t : Fin 2048) (c : Fin 128) :
    pooled3 e u wp (ix3 b t c) = ∑ j : Fin 128, (Ideal.div (winSum (f (grp (128 * 3) (by decide) j)) (16 + t.val) (winOf 3)) (winCnt (winOf 3) t)
      - u (ix3 b t (grp (128 * 3) (by decide) j))) * wp (ix3 3 j c) := by
  rw [← cnt_word]
  unfold pooled3
  pointwise
  simp only [he]
  show _ = ∑ j : Fin 128, (Ideal.div (winSum (f (grp (128 * 3) (by decide) j)) (16 + t.val) 16) _ - _) * _
  simp only [winSum, zero_add, show 16 + t.val - 0 = 15 + t.val + 1 from by omega, show 16 + t.val - 1 = 14 + t.val + 1 from by omega, show 16 + t.val - 2 = 13 + t.val + 1 from by omega, show 16 + t.val - 3 = 12 + t.val + 1 from by omega, show 16 + t.val - 4 = 11 + t.val + 1 from by omega, show 16 + t.val - 5 = 10 + t.val + 1 from by omega, show 16 + t.val - 6 = 9 + t.val + 1 from by omega, show 16 + t.val - 7 = 8 + t.val + 1 from by omega, show 16 + t.val - 8 = 7 + t.val + 1 from by omega, show 16 + t.val - 9 = 6 + t.val + 1 from by omega, show 16 + t.val - 10 = 5 + t.val + 1 from by omega, show 16 + t.val - 11 = 4 + t.val + 1 from by omega, show 16 + t.val - 12 = 3 + t.val + 1 from by omega, show 16 + t.val - 13 = 2 + t.val + 1 from by omega, show 16 + t.val - 14 = 1 + t.val + 1 from by omega, show 16 + t.val - 15 = 0 + t.val + 1 from by omega]
  rfl

end Groups

variable (V0 : Valuation τ sig (Elt Ideal))

theorem v180_eq : (res_main_v180 V0 : FVec Ideal S8x2048x512 .f32)
    = concatenate S8x2048x512 2 [⟨S8x2048x128, pooled0 (res_main_v59 V0) (res_main_v24 V0) (aPool V0)⟩, ⟨S8x2048x128, pooled1 (res_main_v59 V0) (res_main_v24 V0) (aPool V0)⟩,
        ⟨S8x2048x128, pooled2 (res_main_v59 V0) (res_main_v24 V0) (aPool V0)⟩, ⟨S8x2048x128, pooled3 (res_main_v59 V0) (res_main_v24 V0) (aPool V0)⟩]
        Gen.concatenates_S8x2048x128_S8x2048x128_S8x2048x128_S8x2048x128_S8x2048x512_d2 := by
  unfold res_main_v180 pooled0 pooled1 pooled2 pooled3
  rfl

theorem groups_apply (p0 p1 p2 p3 : FVec Ideal S8x2048x128 .f32) (b : Fin 8) (t : Fin 2048) (f : Fin 4 → Fin 128 → EReal)
    (h0 : ∀ c, p0 (ix3 b t c) = f 0 c) (h1 : ∀ c, p1 (ix3 b t c) = f 1 c) (h2 : ∀ c, p2 (ix3 b t c) = f 2 c) (h3 : ∀ c, p3 (ix3 b t c) = f 3 c)
    (l : Fin 512) :
    (concatenate S8x2048x512 2 [⟨S8x2048x128, p0⟩, ⟨S8x2048x128, p1⟩, ⟨S8x2048x128, p2⟩, ⟨S8x2048x128, p3⟩]
        Gen.concatenates_S8x2048x128_S8x2048x128_S8x2048x128_S8x2048x128_S8x2048x512_d2 : FVec Ideal S8x2048x512 .f32) (ix3 b t l)
      = f ⟨l.val / 128, by omega⟩ ⟨l.val % 128, Nat.mod_lt _ (by decide)⟩ := by
  pointwise
  have hl := l.isLt
  by_cases c0 : l.val < 128
  · rw [dif_pos c0, h0]
    exact congrArg₂ f (Fin.ext (by show 0 = l.val / 128; omega)) (Fin.ext (by show l.val = l.val % 128; omega))
  rw [dif_neg c0]
  by_cases c1 : l.val - 128 < 128
  · rw [dif_pos c1, h1]
    exact congrArg₂ f (Fin.ext (by show 1 = l.val / 128; omega)) (Fin.ext (by show l.val - 128 = l.val % 128; omega))
  rw [dif_neg c1]
  by_cases c2 : l.val - 128 - 128 < 128
  · rw [dif_pos c2, h2]
    exact congrArg₂ f (Fin.ext (by show 2 = l.val / 128; omega)) (Fin.ext (by show l.val - 128 - 128 = l.val % 128; omega))
  rw [dif_neg c2, h3]
  exact congrArg₂ f (Fin.ext (by show 3 = l.val / 128; omega)) (Fin.ext (by show l.val - 128 - 128 - 128 = l.val % 128; omega))

/-- The reference's pooled output before its scale. -/
theorem v180_apply (b : Fin 8) (t : Fin 2048) (l : Fin 512) :
    (res_main_v180 V0 : FVec Ideal S8x2048x512 .f32) (ix3 b t l)
      = ∑ j : Fin 128, (Ideal.div (winSum (padded fun s => zRef V0 b s (part 0 (by decide) (grp (128 * (l.val / 128)) (by omega) j))) (16 + t.val) (winOf ⟨l.val / 128, by omega⟩))
          (winCnt (winOf ⟨l.val / 128, by omega⟩) t)
        - zRef V0 b t (part 0 (by decide) (grp (128 * (l.val / 128)) (by omega) j))) * aPool V0 (ix3 ⟨l.val / 128, by omega⟩ j ⟨l.val % 128, Nat.mod_lt _ (by decide)⟩) := by
  have he : ∀ (j : Fin 2063) (k : Fin 512), (res_main_v59 V0 : FVec Ideal S8x2063x512 .f32) (ix3 b j k)
      = (fun k : Fin 512 => padded fun s => zRef V0 b s (part 0 (by decide) k)) k (j.val + 1) := fun j k => v59_apply V0 b j k
  have hu := v24_apply V0 b t
  rw [v180_eq]
  generalize (res_main_v59 V0 : FVec Ideal S8x2063x512 .f32) = e at he
  generalize (res_main_v24 V0 : FVec Ideal S8x2048x512 .f32) = u at hu
  refine groups_apply _ _ _ _ b t (fun (g : Fin 4) (c : Fin 128) => ∑ j : Fin 128, (Ideal.div (winSum (padded fun s => zRef V0 b s (part 0 (by decide) (grp (128 * g.val) (by omega) j))) (16 + t.val) (winOf g))
          (winCnt (winOf g) t)
        - zRef V0 b t (part 0 (by decide) (grp (128 * g.val) (by omega) j))) * aPool V0 (ix3 g j c)) ?_ ?_ ?_ ?_ l
  · intro c; rw [pooled0_apply e u (aPool V0) _ b he t c]; simp only [hu]; rfl
  · intro c; rw [pooled1_apply e u (aPool V0) _ b he t c]; simp only [hu]; rfl
  · intro c; rw [pooled2_apply e u (aPool V0) _ b he t c]; simp only [hu]; rfl
  · intro c; rw [pooled3_apply e u (aPool V0) _ b he t c]; simp only [hu]; rfl

/-- The reference's first result. -/
abbrev resPool : FVec Ideal S8x2048x512 .bf16 :=
  truncf .bf16 (mulf (res_main_v180 V0 : FVec Ideal S8x2048x512 .f32) (broadcastInDim S8x2048x512 ![0, 1, 2] Gen.bcast_S1x1x512_S8x2048x512_0_1_2 (broadcastInDim S1x1x512 ![2] Gen.bcast_S512_S1x1x512_2 (aScale V0)))) Gen.bitsLt_bf16_f32

theorem resPool_apply (b : Fin 8) (t : Fin 2048) (l : Fin 512) :
    resPool V0 (ix3 b t l) = poolT (fun t l => zRef V0 b t (part 0 (by decide) l)) (fun g j l => aPool V0 (ix3 g j l)) (fun l => aScale V0 (ix1 l)) t l := by
  have h := v180_apply V0 b t l
  unfold resPool poolT
  rw [← h]
  generalize (res_main_v180 V0 : FVec Ideal S8x2048x512 .f32) = z
  pointwise

end Cert.Proj.Ref
-- ==== Proof.Proj.Equal.lean ====
/-
  Where the precondition holds the kernel's five results are the reference's.
-/
module

public import proofs.«01_k».proof.Proof.Proj.Inputs
public import proofs.«01_k».proof.Proof.Proj.RefPool

@[expose] public section

set_option maxRecDepth 16384

noncomputable section

open Idealize.ShloMosaic Idealize.ShloMosaic.TcCoe Idealize.SL.Sem

namespace Cert.Proj

open Cert.ProjectionsIdeal Cert.ProjectionsIdeal.Gen

/-- The grid point that holds a row of a batch entry. -/
def ptOf (b : Fin 8) (t : Fin 2048) : Fin cfg0.N := ⟨2 * b.val + t.val / 1024, by have : cfg0.N = 16 := N_0; omega⟩

theorem ptB_ptOf (b : Fin 8) (t : Fin 2048) : ptB (ptOf b t) = b := Fin.ext (by show (2 * b.val + t.val / 1024) / 2 = b.val; omega)

theorem ptRow_ptOf (b : Fin 8) (t : Fin 2048) : ptRow (ptOf b t) ⟨t.val % 1024, Nat.mod_lt _ (by decide)⟩ = t :=
  Fin.ext (by show 1024 * ((2 * b.val + t.val / 1024) % 2) + t.val % 1024 = t.val; omega)

variable (m : (ℓ : Loc nD τ sig) → Buf (Elt Ideal) ℓ) (c : Dev nD)
variable (V0 : Valuation Cert.ProjectionsReferenceIdeal.τ Cert.ProjectionsReferenceIdeal.sig (Elt Ideal))

/-- The two programs' arguments are the same. -/
structure SameArgs : Prop where
  x : Ref.aX V0 = argX m c
  md : Ref.aMod V0 = argMod m c
  g : Ref.aG V0 = argG m c
  w : Ref.aW V0 = argW m c
  gq : Ref.aGq V0 = argGq m c
  gk : Ref.aGk V0 = argGk m c
  wp : Ref.aPool V0 = argPool m c
  ps : Ref.aScale V0 = argScale m c

variable {m c V0} (h : SameArgs m c V0)

include h in
theorem zRef_eq (b : Fin 8) (t l : Fin 2048) : Ref.zRef V0 b t l = zArr m c b t l := by
  unfold Ref.zRef zArr
  rw [h.x, h.md, h.g, h.w]

/-- What the precondition says of the arguments. -/
structure RealArgs (m : (ℓ : Loc nD τ sig) → Buf (Elt Ideal) ℓ) (c : Dev nD) : Prop where
  md : ∀ (b : Fin 8) (e : Fin 2048), IsReal (argMod m c (ix2 b ⟨e.val, by omega⟩))
  g : ∀ j, IsReal (argG m c j)
  w : ∀ d l : Fin 1024, IsReal (argW m c (ix2 d ⟨512 + l.val, by omega⟩))

theorem zArr_real (hr : RealArgs m c) (b : Fin 8) (t : Fin 2048) (l : Fin 1024) : IsReal (zArr m c b t ⟨512 + l.val, by omega⟩) := by
  unfold zArr zT
  exact projRow_real (fun _ => hr.g _) (fun d => hr.md b ⟨1024 + d.val, by omega⟩) (fun d => hr.md b ⟨d.val, by omega⟩) _ (fun d => hr.w d l)

include h

theorem query_eq (hr : RealArgs m c) : ((dats m 0 c).arrAt 10 cfg0.N : FVec Ideal S8x2048x512 .bf16) = Ref.resQuery V0 := by
  funext i; idx_vars i
  have e := query_entry m c (ptOf i0 i1) ⟨i1.val % 1024, Nat.mod_lt _ (by decide)⟩ i2
  rw [ptB_ptOf, ptRow_ptOf] at e
  refine e.trans ((Ref.resQuery_apply V0 i0 i1 i2).trans ?_).symm
  simp only [zRef_eq h]
  rw [h.gq, ← norm_eq (fun j => zArr_real hr i0 i1 ⟨j.val, by omega⟩)]
  rfl

theorem key_eq (hr : RealArgs m c) : ((dats m 0 c).arrAt 11 cfg0.N : FVec Ideal S8x2048x512 .f32) = Ref.resKey V0 := by
  funext i; idx_vars i
  have e := key_entry m c (ptOf i0 i1) ⟨i1.val % 1024, Nat.mod_lt _ (by decide)⟩ i2
  rw [ptB_ptOf, ptRow_ptOf] at e
  refine e.trans ((Ref.resKey_apply V0 i0 i1 i2).trans ?_).symm
  simp only [zRef_eq h]
  rw [h.gk, ← norm_eq (q := fun j => zArr m c i0 i1 (part 1024 (by decide) j)) (fun j => by
    have e : part 1024 (by decide) j = (⟨512 + (512 + j.val), by omega⟩ : Fin 2048) := Fin.ext (by show 1024 + j.val = 512 + (512 + j.val); omega)
    rw [e]; exact zArr_real hr i0 i1 ⟨512 + j.val, by omega⟩)]
  rfl

theorem value_eq : ((dats m 0 c).arrAt 12 cfg0.N : FVec Ideal S8x2048x512 .f32) = Ref.resValue V0 := by
  funext i; idx_vars i
  have e := value_entry m c (ptOf i0 i1) ⟨i1.val % 1024, Nat.mod_lt _ (by decide)⟩ i2
  rw [ptB_ptOf, ptRow_ptOf] at e
  exact e.trans ((Ref.resValue_apply V0 i0 i1 i2).trans (zRef_eq h _ _ _)).symm

theorem pool_eq : ((dats m 0 c).arrAt 9 cfg0.N : FVec Ideal S8x2048x512 .bf16) = Ref.resPool V0 := by
  funext i; idx_vars i
  have e := pool_entry m c (ptOf i0 i1) ⟨i1.val % 1024, Nat.mod_lt _ (by decide)⟩ i2
  rw [ptB_ptOf, ptRow_ptOf] at e
  refine e.trans ((Ref.resPool_apply V0 i0 i1 i2).trans ?_).symm
  simp only [zRef_eq h]
  rw [h.wp, h.ps]
  rfl

theorem tail_eq : ((dats m 0 c).arrAt 13 cfg0.N : FVec Ideal S8x16x512 .f32) = Ref.resTail V0 := by
  funext i; idx_vars i
  have e := tail_entry m c ⟨2 * i0.val + 1, by have : cfg0.N = 16 := N_0; omega⟩ (by show (2 * i0.val + 1) % 2 = 1; omega) i1 i2
  rw [show ptB ⟨2 * i0.val + 1, by have : cfg0.N = 16 := N_0; omega⟩ = i0 from Fin.ext (by show (2 * i0.val + 1) / 2 = i0.val; omega)] at e
  exact e.trans ((Ref.resTail_apply V0 i0 i1 i2).trans (zRef_eq h _ _ _)).symm

end Cert.Proj
-- ==== Proof.Proj.Claims.lean ====
/-
  The value claim of the projections and their reference's frame, from the two programs' runs.
-/
module

public import proofs.«01_k».proof.Proof.Proj.Equal
public import proofs.«01_k».proof.Proof.Gen.ProjectionsIdeal.Value
public import proofs.«01_k».proof.Proof.Gen.ProjectionsReferenceIdeal.Run
public import proofs.«01_k».proof.Defs
public import Idealize.ShloMosaic.Adequacy
public import Idealize.ShloMosaic.Init

@[expose] public section

set_option maxRecDepth 16384

noncomputable section

open Idealize.ShloMosaic Idealize.ShloMosaic.TcCoe Idealize.SL.Sem Idealize.ShloMosaic.StableHlo

namespace Cert.Proj

/-- The reference's run leaves the arrays its operations compose to, and keeps its arguments. -/
theorem reference_result (m : (ℓ : Loc Cert.ProjectionsReferenceIdeal.nD Cert.ProjectionsReferenceIdeal.τ Cert.ProjectionsReferenceIdeal.sig) → Buf (Elt Ideal) ℓ) (ρ : Dev Cert.ProjectionsReferenceIdeal.nD → PrngReg) :
    θ_run (Cert.ProjectionsReferenceIdeal.defs (F := Ideal)) (onTc (τ := Cert.ProjectionsReferenceIdeal.τ) (Cert.ProjectionsReferenceIdeal.main (F := Ideal)))
      ⟨m, fun _ => 0, ρ⟩ (fun r => ∀ c : Dev Cert.ProjectionsReferenceIdeal.nD,
        r.2.mem ((c.tc : Thread Cert.ProjectionsReferenceIdeal.nD Cert.ProjectionsReferenceIdeal.τ).loc Cert.ProjectionsReferenceIdeal.main_v184) = Ref.resPool (launchContents m c)
        ∧ r.2.mem ((c.tc : Thread Cert.ProjectionsReferenceIdeal.nD Cert.ProjectionsReferenceIdeal.τ).loc Cert.ProjectionsReferenceIdeal.main_v187) = Ref.resQuery (launchContents m c)
        ∧ r.2.mem ((c.tc : Thread Cert.ProjectionsReferenceIdeal.nD Cert.ProjectionsReferenceIdeal.τ).loc Cert.ProjectionsReferenceIdeal.main_v57) = Ref.resKey (launchContents m c)
        ∧ r.2.mem ((c.tc : Thread Cert.ProjectionsReferenceIdeal.nD Cert.ProjectionsReferenceIdeal.τ).loc Cert.ProjectionsReferenceIdeal.main_v27) = Ref.resValue (launchContents m c)
        ∧ r.2.mem ((c.tc : Thread Cert.ProjectionsReferenceIdeal.nD Cert.ProjectionsReferenceIdeal.τ).loc Cert.ProjectionsReferenceIdeal.main_v188) = Ref.resTail (launchContents m c)
        ∧ r.2.mem ((c.tc : Thread Cert.ProjectionsReferenceIdeal.nD Cert.ProjectionsReferenceIdeal.τ).loc Cert.ProjectionsReferenceIdeal.main_arg0) = m ((c.tc : Thread Cert.ProjectionsReferenceIdeal.nD Cert.ProjectionsReferenceIdeal.τ).loc Cert.ProjectionsReferenceIdeal.main_arg0)
        ∧ r.2.mem ((c.tc : Thread Cert.ProjectionsReferenceIdeal.nD Cert.ProjectionsReferenceIdeal.τ).loc Cert.ProjectionsReferenceIdeal.main_arg1) = m ((c.tc : Thread Cert.ProjectionsReferenceIdeal.nD Cert.ProjectionsReferenceIdeal.τ).loc Cert.ProjectionsReferenceIdeal.main_arg1)
        ∧ r.2.mem ((c.tc : Thread Cert.ProjectionsReferenceIdeal.nD Cert.ProjectionsReferenceIdeal.τ).loc Cert.ProjectionsReferenceIdeal.main_arg2) = m ((c.tc : Thread Cert.ProjectionsReferenceIdeal.nD Cert.ProjectionsReferenceIdeal.τ).loc Cert.ProjectionsReferenceIdeal.main_arg2)
        ∧ r.2.mem ((c.tc : Thread Cert.ProjectionsReferenceIdeal.nD Cert.ProjectionsReferenceIdeal.τ).loc Cert.ProjectionsReferenceIdeal.main_arg3) = m ((c.tc : Thread Cert.ProjectionsReferenceIdeal.nD Cert.ProjectionsReferenceIdeal.τ).loc Cert.ProjectionsReferenceIdeal.main_arg3)
        ∧ r.2.mem ((c.tc : Thread Cert.ProjectionsReferenceIdeal.nD Cert.ProjectionsReferenceIdeal.τ).loc Cert.ProjectionsReferenceIdeal.main_arg4) = m ((c.tc : Thread Cert.ProjectionsReferenceIdeal.nD Cert.ProjectionsReferenceIdeal.τ).loc Cert.ProjectionsReferenceIdeal.main_arg4)
        ∧ r.2.mem ((c.tc : Thread Cert.ProjectionsReferenceIdeal.nD Cert.ProjectionsReferenceIdeal.τ).loc Cert.ProjectionsReferenceIdeal.main_arg5) = m ((c.tc : Thread Cert.ProjectionsReferenceIdeal.nD Cert.ProjectionsReferenceIdeal.τ).loc Cert.ProjectionsReferenceIdeal.main_arg5)
        ∧ r.2.mem ((c.tc : Thread Cert.ProjectionsReferenceIdeal.nD Cert.ProjectionsReferenceIdeal.τ).loc Cert.ProjectionsReferenceIdeal.main_arg6) = m ((c.tc : Thread Cert.ProjectionsReferenceIdeal.nD Cert.ProjectionsReferenceIdeal.τ).loc Cert.ProjectionsReferenceIdeal.main_arg6)
        ∧ r.2.mem ((c.tc : Thread Cert.ProjectionsReferenceIdeal.nD Cert.ProjectionsReferenceIdeal.τ).loc Cert.ProjectionsReferenceIdeal.main_arg7) = m ((c.tc : Thread Cert.ProjectionsReferenceIdeal.nD Cert.ProjectionsReferenceIdeal.τ).loc Cert.ProjectionsReferenceIdeal.main_arg7)) :=
  Cert.ProjectionsReferenceIdeal.Value.run (F := Ideal) m ρ

/-- The reference runs, keeps its arguments and leaves every semaphore at zero: it has none. -/
theorem reference_frame (m : (ℓ : Loc Cert.ProjectionsReferenceIdeal.nD Cert.ProjectionsReferenceIdeal.τ Cert.ProjectionsReferenceIdeal.sig) → Buf (Elt Ideal) ℓ) (ρ : Dev Cert.ProjectionsReferenceIdeal.nD → PrngReg) :
    θ_run (Cert.ProjectionsReferenceIdeal.defs (F := Ideal)) (onTc (τ := Cert.ProjectionsReferenceIdeal.τ) (Cert.ProjectionsReferenceIdeal.main (F := Ideal)))
      ⟨m, fun _ => 0, ρ⟩ (fun r => (∀ c : Dev Cert.ProjectionsReferenceIdeal.nD,
        r.2.mem ((c.tc : Thread Cert.ProjectionsReferenceIdeal.nD Cert.ProjectionsReferenceIdeal.τ).loc Cert.ProjectionsReferenceIdeal.main_arg0) = m ((c.tc : Thread Cert.ProjectionsReferenceIdeal.nD Cert.ProjectionsReferenceIdeal.τ).loc Cert.ProjectionsReferenceIdeal.main_arg0)
        ∧ r.2.mem ((c.tc : Thread Cert.ProjectionsReferenceIdeal.nD Cert.ProjectionsReferenceIdeal.τ).loc Cert.ProjectionsReferenceIdeal.main_arg1) = m ((c.tc : Thread Cert.ProjectionsReferenceIdeal.nD Cert.ProjectionsReferenceIdeal.τ).loc Cert.ProjectionsReferenceIdeal.main_arg1)
        ∧ r.2.mem ((c.tc : Thread Cert.ProjectionsReferenceIdeal.nD Cert.ProjectionsReferenceIdeal.τ).loc Cert.ProjectionsReferenceIdeal.main_arg2) = m ((c.tc : Thread Cert.ProjectionsReferenceIdeal.nD Cert.ProjectionsReferenceIdeal.τ).loc Cert.ProjectionsReferenceIdeal.main_arg2)
        ∧ r.2.mem ((c.tc : Thread Cert.ProjectionsReferenceIdeal.nD Cert.ProjectionsReferenceIdeal.τ).loc Cert.ProjectionsReferenceIdeal.main_arg3) = m ((c.tc : Thread Cert.ProjectionsReferenceIdeal.nD Cert.ProjectionsReferenceIdeal.τ).loc Cert.ProjectionsReferenceIdeal.main_arg3)
        ∧ r.2.mem ((c.tc : Thread Cert.ProjectionsReferenceIdeal.nD Cert.ProjectionsReferenceIdeal.τ).loc Cert.ProjectionsReferenceIdeal.main_arg4) = m ((c.tc : Thread Cert.ProjectionsReferenceIdeal.nD Cert.ProjectionsReferenceIdeal.τ).loc Cert.ProjectionsReferenceIdeal.main_arg4)
        ∧ r.2.mem ((c.tc : Thread Cert.ProjectionsReferenceIdeal.nD Cert.ProjectionsReferenceIdeal.τ).loc Cert.ProjectionsReferenceIdeal.main_arg5) = m ((c.tc : Thread Cert.ProjectionsReferenceIdeal.nD Cert.ProjectionsReferenceIdeal.τ).loc Cert.ProjectionsReferenceIdeal.main_arg5)
        ∧ r.2.mem ((c.tc : Thread Cert.ProjectionsReferenceIdeal.nD Cert.ProjectionsReferenceIdeal.τ).loc Cert.ProjectionsReferenceIdeal.main_arg6) = m ((c.tc : Thread Cert.ProjectionsReferenceIdeal.nD Cert.ProjectionsReferenceIdeal.τ).loc Cert.ProjectionsReferenceIdeal.main_arg6)
        ∧ r.2.mem ((c.tc : Thread Cert.ProjectionsReferenceIdeal.nD Cert.ProjectionsReferenceIdeal.τ).loc Cert.ProjectionsReferenceIdeal.main_arg7) = m ((c.tc : Thread Cert.ProjectionsReferenceIdeal.nD Cert.ProjectionsReferenceIdeal.τ).loc Cert.ProjectionsReferenceIdeal.main_arg7))
        ∧ r.2.sem = fun _ => 0) :=
  (θ_run Cert.ProjectionsReferenceIdeal.defs _ _).mono (fun r h => ⟨fun c => (h c).2.2.2.2.2, Idealize.ShloMosaic.sem_eq_zero_of_no_sems (by decide) r.2⟩)
    (reference_result m ρ)

/-- Where the precondition holds the two programs leave the same five arrays. -/
theorem algebraic [hPre : Cert.Pre_finite_projection.Facts] : Cert.algebraic_ProjectionsIdeal_ProjectionsReferenceIdeal_pre_finite_projection := by
  intro m g m' g' hpre hargs
  refine ⟨fun c => (Cert.ProjectionsIdeal.Gen.dats m 0 c).arrAt 9 Cert.ProjectionsIdeal.cfg0.N, fun c => (Cert.ProjectionsIdeal.Gen.dats m 0 c).arrAt 10 Cert.ProjectionsIdeal.cfg0.N,
    fun c => (Cert.ProjectionsIdeal.Gen.dats m 0 c).arrAt 11 Cert.ProjectionsIdeal.cfg0.N, fun c => (Cert.ProjectionsIdeal.Gen.dats m 0 c).arrAt 12 Cert.ProjectionsIdeal.cfg0.N,
    fun c => (Cert.ProjectionsIdeal.Gen.dats m 0 c).arrAt 13 Cert.ProjectionsIdeal.cfg0.N, Cert.ProjectionsIdeal.Value.run_blocks m g, ?_⟩
  refine (θ_run Cert.ProjectionsReferenceIdeal.defs _ _).mono (fun r h c => ?_) (reference_result m' g')
  obtain ⟨h0, h1, h2, h3, h4, hk⟩ := h c
  obtain ⟨a0, a1, a2, a3, a4, a5, a6, a7⟩ := hargs c
  have hs : SameArgs m c (launchContents m' c) := ⟨a0, a1, a2, a3, a4, a5, a6, a7⟩
  obtain ⟨r0, r1, r2⟩ := real_of_pre _ _ _ _ _ _ _ _ (hpre c)
  have hr : RealArgs m c := ⟨r0, r1, r2⟩
  exact ⟨h0.trans (pool_eq hs).symm, h1.trans (query_eq hs hr).symm, h2.trans (key_eq hs hr).symm, h3.trans (value_eq hs).symm,
    h4.trans (tail_eq hs).symm, hk⟩

end Cert.Proj
-- ==== Proof.Moe.TablesIdeal.lean ====
/-
  The two prefetched tables as words: the blocks' experts and the number of blocks in use; with words in range,
  every block the index maps name lies in its array.
-/
module

public import proofs.«01_k».proof.Proof.Gen.ExpertsIdeal.Frame.Runs
public import proofs.«01_k».proof.Proof.Moba.Inputs

@[expose] public section

set_option maxRecDepth 16384

noncomputable section

namespace Cert.Moe.TablesIdeal

open Idealize.ShloMosaic Idealize.ShloMosaic.TcCoe Idealize.SL Idealize.SL.Sem
open Cert.ExpertsIdeal Cert.ExpertsIdeal.Gen

variable {F : FTy → Type} [FloatOps F]

/-- The expert of a block. -/
def be (pf : pre0.Contents (Elt F)) (b : Fin 97) : BitVec 32 := (pf 0 : IVec S97 32) (ix1 b)

/-- The number of blocks in use. -/
def na (pf : pre0.Contents (Elt F)) : BitVec 32 := (pf 1 : IVec S1 32) (ix1 0)

theorem coord_lt (i : grid0.Coords) : (i 0).val < 97 := (i 0).isLt

/-- A point's coordinate, as a word. -/
theorem coord_word (i : grid0.Coords) : (BitVec.ofNat 32 (i 0).val).toNat = (i 0).val := by
  rw [BitVec.toNat_ofNat]; exact Nat.mod_eq_of_lt (by have := coord_lt i; omega)

/-- The point's offset in the first table. -/
theorem off1_val (i : grid0.Coords) : k0_off1 i 0 = (i 0).val := coord_word i

/-- The word the index maps read of the first table. -/
theorem at_zero (pf : pre0.Contents (Elt F)) (i : grid0.Coords) :
    pf.at 0 (Rect.unit (s := S97) (k0_off1 i) S1.size (Facts₀.k0_off1_inb i)) Facts₀.numel1_S1 = be pf (i 0) := by
  refine congrArg (pf 0 : IVec S97 32) (funext fun a => Fin.ext ?_)
  fin_cases a
  show k0_off1 i 0 + 1 * 0 = (i 0).val
  rw [off1_val]; omega

/-- The word the index maps read of the second table. -/
theorem at_one (pf : pre0.Contents (Elt F)) :
    pf.at 1 (Rect.unit (s := S1) ![0] S1.size Facts₀.inb_S1_S1_0) Facts₀.numel1_S1 = na pf := by
  refine congrArg (pf 1 : IVec S1 32) (funext fun a => Fin.ext ?_)
  fin_cases a
  rfl

/-- A word whose value is not negative has that value unsigned too. -/
theorem toNat_of_nonneg (w : BitVec 32) (h : 0 ≤ w.toInt) : (w.toNat : Int) = w.toInt := by
  have e := BitVec.toInt_eq_toNat_cond w
  have := w.isLt
  split at e <;> omega

/-- A small number, as a word, is that number. -/
theorem toInt_small (n : Nat) (hn : n < 97) : (BitVec.ofNat 32 n).toInt = n := by
  have en : (BitVec.ofNat 32 n).toNat = n := by rw [BitVec.toNat_ofNat]; exact Nat.mod_eq_of_lt (by omega)
  have e := BitVec.toInt_eq_toNat_cond (BitVec.ofNat 32 n)
  rw [en] at e
  split at e <;> omega

/-- A positive word less one. -/
theorem toInt_pred (w : BitVec 32) (hw : 1 ≤ w.toInt) : (Scalar.subi w 1#32).toInt = w.toInt - 1 ∧ (Scalar.subi w 1#32).toNat = w.toNat - 1 := by
  have h1 := toNat_of_nonneg w (by omega)
  have hlt := w.isLt
  have hh : w.toNat < 2 ^ 31 := by
    have e := BitVec.toInt_eq_toNat_cond w
    split at e <;> omega
  have e : (Scalar.subi w 1#32).toNat = w.toNat - 1 := by
    show (w - 1#32).toNat = _
    rw [BitVec.toNat_sub]
    have : (1#32 : BitVec 32).toNat = 1 := rfl
    rw [this]
    omega
  have e2 := BitVec.toInt_eq_toNat_cond (Scalar.subi w 1#32)
  rw [e] at e2
  refine ⟨?_, e⟩
  split at e2 <;> omega

/-- The smaller of a point's coordinate and the last block in use. -/
theorem minsi_val (n : Nat) (hn : n < 97) (w : BitVec 32) (hw : 1 ≤ w.toInt) :
    (Scalar.minsi (BitVec.ofNat 32 n) (Scalar.subi w 1#32)).toNat ≤ n
      ∧ ((n : Int) < w.toInt → (Scalar.minsi (BitVec.ofNat 32 n) (Scalar.subi w 1#32)).toNat = n) := by
  obtain ⟨e, e'⟩ := toInt_pred w hw
  have h1 := toNat_of_nonneg w (by omega)
  have en : (BitVec.ofNat 32 n).toNat = n := by rw [BitVec.toNat_ofNat]; exact Nat.mod_eq_of_lt (by omega)
  have ei := toInt_small n hn
  have key : Scalar.minsi (BitVec.ofNat 32 n) (Scalar.subi w 1#32) = if BitVec.slt (BitVec.ofNat 32 n) (Scalar.subi w 1#32) then BitVec.ofNat 32 n else Scalar.subi w 1#32 := rfl
  rw [key]
  split
  · exact ⟨en.le, fun _ => en⟩
  · next hs =>
      have hs' : ¬ (BitVec.ofNat 32 n).toInt < (Scalar.subi w 1#32).toInt := fun h => hs (decide_eq_true h)
      rw [ei, e] at hs'
      rw [e']
      exact ⟨by omega, fun _ => by omega⟩

/-- With every block's expert one of the 32 and a block in use, every block the index maps name lies in its array. -/
theorem ok_of_range (pf : pre0.Contents (Elt F)) (hb : ∀ b, 0 ≤ (be pf b).toInt ∧ (be pf b).toInt < 32) (hn : 1 ≤ (na pf).toInt) : ok0 pf := by
  have hw : ∀ i : grid0.Coords, (be pf (i 0)).toNat < 32 := fun i => by
    have := hb (i 0); have := toNat_of_nonneg _ this.1; omega
  have h3 : ∀ i : grid0.Coords, ∀ a, (cc0_transform_1 Facts₀.k0_off1_inb Facts₀.numel1_S1 pf i a + 1) * S1x1024x512.size a ≤ S32x1024x512.size a := by
    intro i a
    fin_cases a
    · show (BitVec.toNat (pf.at 0 (Rect.unit (s := S97) (k0_off1 i) S1.size (Facts₀.k0_off1_inb i)) Facts₀.numel1_S1) + 1) * 1 ≤ 32
      rw [at_zero]; have := hw i; omega
    · exact Nat.le_refl _
    · exact Nat.le_refl _
  refine ⟨fun i => ⟨fun a => ?_, .inl rfl⟩, fun i => ⟨h3 i, .inl rfl⟩, fun i => ⟨h3 i, .inl rfl⟩, fun i => ⟨fun a => ?_, .inl rfl⟩⟩
  · fin_cases a
    · show (BitVec.toNat (Scalar.minsi (BitVec.ofNat 32 (i 0).val) (Scalar.subi (pf.at 1 (Rect.unit (s := S1) ![0] S1.size Facts₀.inb_S1_S1_0) Facts₀.numel1_S1) 1#32)) + 1) * 512 ≤ 49664
      rw [at_one]
      have := (minsi_val (i 0).val (coord_lt i) (na pf) hn).1
      have := coord_lt i
      omega
    · exact Nat.le_refl _
  · fin_cases a
    · show (BitVec.toNat (pf.at 0 (Rect.unit (s := S97) (k0_off1 i) S1.size (Facts₀.k0_off1_inb i)) Facts₀.numel1_S1) + 1) * 1 ≤ 32
      rw [at_zero]; have := hw i; omega
    · exact Nat.le_refl _
    · exact Nat.le_refl _

end Cert.Moe.TablesIdeal
-- ==== Proof.Moe.Body.lean ====
/-
  What the body leaves at a point, whole array by whole array: in use with new weights, in use with the weights kept,
  and not in use.
-/
module

public import proofs.«01_k».proof.Proof.Moe.TablesIdeal
public import proofs.«01_k».proof.Proof.Gen.ExpertsIdeal.Frame
public import Idealize.ShloMosaic.Lib.Tactic
public import Idealize.ShloMosaic.Lib.VecWindow
public import Idealize.ShloMosaic.Lib.Pipeline.Value

@[expose] public section

set_option maxRecDepth 16384

noncomputable section

open Idealize.ShloMosaic Idealize.ShloMosaic.TcCoe Idealize.SL.Sem
open Cert.ExpertsIdeal Cert.ExpertsIdeal.Gen

namespace Cert.Moe.Body

/-! Loads of a whole array, and loads after a store of the whole array. -/

theorem load_512x1024 {sp : Space} {e : EltTy} (v : View sig .tc sp S512x1024 e) (f : v.ty.Contents (Elt Ideal)) (inb) :
    v.readAt (Elt Ideal) (Rect.unit (s := S512x1024) ![0, 0] ![512, 1024] inb).toLoadRect f = v.read (Elt Ideal) f := View.readAt_full v _ _

theorem load_1024x512 {sp : Space} {e : EltTy} (v : View sig .tc sp S1024x512 e) (f : v.ty.Contents (Elt Ideal)) (inb) :
    v.readAt (Elt Ideal) (Rect.unit (s := S1024x512) ![0, 0] ![1024, 512] inb).toLoadRect f = v.read (Elt Ideal) f := View.readAt_full v _ _

theorem load_1x1024x512 {sp : Space} {e : EltTy} (v : View sig .tc sp S1x1024x512 e) (f : v.ty.Contents (Elt Ideal)) (inb) :
    v.readAt (Elt Ideal) (Rect.unit (s := S1x1024x512) ![0, 0, 0] ![1, 1024, 512] inb).toLoadRect f = v.read (Elt Ideal) f := View.readAt_full v _ _

theorem load_1x512x1024 {sp : Space} {e : EltTy} (v : View sig .tc sp S1x512x1024 e) (f : v.ty.Contents (Elt Ideal)) (inb) :
    v.readAt (Elt Ideal) (Rect.unit (s := S1x512x1024) ![0, 0, 0] ![1, 512, 1024] inb).toLoadRect f = v.read (Elt Ideal) f := View.readAt_full v _ _

theorem stored_512x1024 {sp : Space} {e : EltTy} (v : View sig .tc sp S512x1024 e) (inb inb') (w : S512x1024.Idx → Elt Ideal e) (L : List (View.Piece (Elt Ideal) S512x1024 e)) :
    v.readCov (⟨Rect.unit (s := S512x1024) ![0, 0] ![512, 1024] inb', w⟩ :: L) (Rect.unit (s := S512x1024) ![0, 0] ![512, 1024] inb).toLoadRect = w := View.readCov_full v _ _ w L

theorem stored_1024x512 {sp : Space} {e : EltTy} (v : View sig .tc sp S1024x512 e) (inb inb') (w : S1024x512.Idx → Elt Ideal e) (L : List (View.Piece (Elt Ideal) S1024x512 e)) :
    v.readCov (⟨Rect.unit (s := S1024x512) ![0, 0] ![1024, 512] inb', w⟩ :: L) (Rect.unit (s := S1024x512) ![0, 0] ![1024, 512] inb).toLoadRect = w := View.readCov_full v _ _ w L

theorem zero2 : (![0, 0] : Fin 2 → Nat) = fun _ => 0 := by funext a; fin_cases a <;> rfl

variable (c : Dev nD) (i : grid0.Coords) (arg3 : Memref sig .tc .vmem S512x1024 .f32) (harg3 : arg3.IsWhole) (arg4 arg5 : Memref sig .tc .vmem S1x1024x512 .f32) (harg4 : arg4.IsWhole)
  (harg5 : arg5.IsWhole) (arg6 : Memref sig .tc .vmem S1x512x1024 .f32) (harg6 : arg6.IsWhole) (arg7 : Memref sig .tc .vmem S512x1024 .f32) (harg7 : arg7.IsWhole)
  (arg8 arg9 : Memref sig .tc .vmem S1024x512 .bf16) (harg8 : arg8.IsWhole) (harg9 : arg9.IsWhole) (arg10 : Memref sig .tc .vmem S512x1024 .bf16) (harg10 : arg10.IsWhole)
  (x0 : Vec Ideal S512x1024 .f32) (x1 x2 : Vec Ideal S1x1024x512 .f32) (x3 : Vec Ideal S1x512x1024 .f32)
  (xt0 : TbBuf0 (F := Ideal) c tbM0_0) (xt1 : TbBuf0 (F := Ideal) c tbM0_1) (xs0 xs1 : Vec Ideal S1024x512 .bf16) (xs2 : Vec Ideal S512x1024 .bf16)

/-- The scratch 0 after a point that takes new weights. -/
theorem scratch0_A (hc0 hc1 hc2) : sout0_A_0 c i arg3 harg3 arg4 harg4 arg5 harg5 arg6 harg6 arg7 harg7 arg8 harg8 arg9 harg9 arg10 harg10 hc0 x0 x1 x2 x3 xt0 xt1 hc1 hc2 = k0_pay4 x1 := by
  have hc := scover0_A_0 c i arg3 harg3 arg4 harg4 arg5 harg5 arg6 harg6 arg7 harg7 arg8 harg8 arg9 harg9 arg10 harg10 hc0 x0 x1 x2 x3 xt0 xt1 hc1 hc2
  unfold sout0_A_0
  rw [View.read_writes_eq_canon _ _ _ hc]
  unfold kernelRun0_A
  dsimp only
  try unfold kernelRun0_A.sl.HS0_2
  rw [View.canon_cons_unit_zero zero2]
  simp only [load_512x1024, load_1024x512, load_1x1024x512, load_1x512x1024, harg4.read_unread, harg5.read_unread, harg6.read_unread]

/-- The scratch 1 after a point that takes new weights. -/
theorem scratch1_A (hc0 hc1 hc2) : sout0_A_1 c i arg3 harg3 arg4 harg4 arg5 harg5 arg6 harg6 arg7 harg7 arg8 harg8 arg9 harg9 arg10 harg10 hc0 x0 x1 x2 x3 xt0 xt1 hc1 hc2 = k0_pay5 x2 := by
  have hc := scover0_A_1 c i arg3 harg3 arg4 harg4 arg5 harg5 arg6 harg6 arg7 harg7 arg8 harg8 arg9 harg9 arg10 harg10 hc0 x0 x1 x2 x3 xt0 xt1 hc1 hc2
  unfold sout0_A_1
  rw [View.read_writes_eq_canon _ _ _ hc]
  unfold kernelRun0_A
  dsimp only
  try unfold kernelRun0_A.sl.HS1_2
  rw [View.canon_cons_unit_zero zero2]
  simp only [load_512x1024, load_1024x512, load_1x1024x512, load_1x512x1024, harg4.read_unread, harg5.read_unread, harg6.read_unread]

/-- The scratch 2 after a point that takes new weights. -/
theorem scratch2_A (hc0 hc1 hc2) : sout0_A_2 c i arg3 harg3 arg4 harg4 arg5 harg5 arg6 harg6 arg7 harg7 arg8 harg8 arg9 harg9 arg10 harg10 hc0 x0 x1 x2 x3 xt0 xt1 hc1 hc2 = k0_pay6 x3 := by
  have hc := scover0_A_2 c i arg3 harg3 arg4 harg4 arg5 harg5 arg6 harg6 arg7 harg7 arg8 harg8 arg9 harg9 arg10 harg10 hc0 x0 x1 x2 x3 xt0 xt1 hc1 hc2
  unfold sout0_A_2
  rw [View.read_writes_eq_canon _ _ _ hc]
  unfold kernelRun0_A
  dsimp only
  try unfold kernelRun0_A.sl.HS2_2
  rw [View.canon_cons_unit_zero zero2]
  simp only [load_512x1024, load_1024x512, load_1x1024x512, load_1x512x1024, harg4.read_unread, harg5.read_unread, harg6.read_unread]

/-- The rows a point in use leaves, with new weights. -/
theorem rows_A (hc0 hc1 hc2) : out0_A_4 c i arg3 harg3 arg4 harg4 arg5 harg5 arg6 harg6 arg7 harg7 arg8 harg8 arg9 harg9 arg10 harg10 hc0 x0 x1 x2 x3 xt0 xt1 hc1 hc2 = k0_pay8 x0 (k0_pay4 x1) (k0_pay5 x2) (k0_pay6 x3) := by
  have hc := cover0_A_4 c i arg3 harg3 arg4 harg4 arg5 harg5 arg6 harg6 arg7 harg7 arg8 harg8 arg9 harg9 arg10 harg10 hc0 x0 x1 x2 x3 xt0 xt1 hc1 hc2
  unfold out0_A_4
  rw [View.read_writes_eq_canon _ _ _ hc]
  unfold kernelRun0_A
  dsimp only
  rw [View.canon_cons_unit_zero zero2]
  unfold kernelRun0_A.sl.v23 kernelRun0_A.sl.v25 kernelRun0_A.sl.v35
  try unfold kernelRun0_A.sl.HS0_2 kernelRun0_A.sl.HS1_2 kernelRun0_A.sl.HS2_2
  simp only [load_512x1024, load_1024x512, load_1x1024x512, load_1x512x1024, stored_512x1024, stored_1024x512, harg3.read_unread, harg4.read_unread, harg5.read_unread, harg6.read_unread]

/-- The scratch 0 after a point that takes new weights. -/
theorem scratch0_E (hc0 hc1 hc2) : sout0_E_0 c i arg3 harg3 arg4 harg4 arg5 harg5 arg6 harg6 arg7 harg7 arg8 harg8 arg9 harg9 arg10 harg10 hc0 x0 x1 x2 x3 xt0 xt1 hc1 hc2 = k0_pay4 x1 := by
  have hc := scover0_E_0 c i arg3 harg3 arg4 harg4 arg5 harg5 arg6 harg6 arg7 harg7 arg8 harg8 arg9 harg9 arg10 harg10 hc0 x0 x1 x2 x3 xt0 xt1 hc1 hc2
  unfold sout0_E_0
  rw [View.read_writes_eq_canon _ _ _ hc]
  unfold kernelRun0_E
  dsimp only
  try unfold kernelRun0_E.sl.HS0_1
  rw [View.canon_cons_unit_zero zero2]
  simp only [load_512x1024, load_1024x512, load_1x1024x512, load_1x512x1024, harg4.read_unread, harg5.read_unread, harg6.read_unread]

/-- The scratch 1 after a point that takes new weights. -/
theorem scratch1_E (hc0 hc1 hc2) : sout0_E_1 c i arg3 harg3 arg4 harg4 arg5 harg5 arg6 harg6 arg7 harg7 arg8 harg8 arg9 harg9 arg10 harg10 hc0 x0 x1 x2 x3 xt0 xt1 hc1 hc2 = k0_pay5 x2 := by
  have hc := scover0_E_1 c i arg3 harg3 arg4 harg4 arg5 harg5 arg6 harg6 arg7 harg7 arg8 harg8 arg9 harg9 arg10 harg10 hc0 x0 x1 x2 x3 xt0 xt1 hc1 hc2
  unfold sout0_E_1
  rw [View.read_writes_eq_canon _ _ _ hc]
  unfold kernelRun0_E
  dsimp only
  try unfold kernelRun0_E.sl.HS1_1
  rw [View.canon_cons_unit_zero zero2]
  simp only [load_512x1024, load_1024x512, load_1x1024x512, load_1x512x1024, harg4.read_unread, harg5.read_unread, harg6.read_unread]

/-- The scratch 2 after a point that takes new weights. -/
theorem scratch2_E (hc0 hc1 hc2) : sout0_E_2 c i arg3 harg3 arg4 harg4 arg5 harg5 arg6 harg6 arg7 harg7 arg8 harg8 arg9 harg9 arg10 harg10 hc0 x0 x1 x2 x3 xt0 xt1 hc1 hc2 = k0_pay6 x3 := by
  have hc := scover0_E_2 c i arg3 harg3 arg4 harg4 arg5 harg5 arg6 harg6 arg7 harg7 arg8 harg8 arg9 harg9 arg10 harg10 hc0 x0 x1 x2 x3 xt0 xt1 hc1 hc2
  unfold sout0_E_2
  rw [View.read_writes_eq_canon _ _ _ hc]
  unfold kernelRun0_E
  dsimp only
  try unfold kernelRun0_E.sl.HS2_1
  rw [View.canon_cons_unit_zero zero2]
  simp only [load_512x1024, load_1024x512, load_1x1024x512, load_1x512x1024, harg4.read_unread, harg5.read_unread, harg6.read_unread]

/-- The rows a point in use leaves, with new weights. -/
theorem rows_E (hc0 hc1 hc2) : out0_E_4 c i arg3 harg3 arg4 harg4 arg5 harg5 arg6 harg6 arg7 harg7 arg8 harg8 arg9 harg9 arg10 harg10 hc0 x0 x1 x2 x3 xt0 xt1 hc1 hc2 = k0_pay8 x0 (k0_pay4 x1) (k0_pay5 x2) (k0_pay6 x3) := by
  have hc := cover0_E_4 c i arg3 harg3 arg4 harg4 arg5 harg5 arg6 harg6 arg7 harg7 arg8 harg8 arg9 harg9 arg10 harg10 hc0 x0 x1 x2 x3 xt0 xt1 hc1 hc2
  unfold out0_E_4
  rw [View.read_writes_eq_canon _ _ _ hc]
  unfold kernelRun0_E
  dsimp only
  rw [View.canon_cons_unit_zero zero2]
  unfold kernelRun0_E.sl.v23 kernelRun0_E.sl.v25 kernelRun0_E.sl.v35
  try unfold kernelRun0_E.sl.HS0_1 kernelRun0_E.sl.HS1_1 kernelRun0_E.sl.HS2_1
  simp only [load_512x1024, load_1024x512, load_1x1024x512, load_1x512x1024, stored_512x1024, stored_1024x512, harg3.read_unread, harg4.read_unread, harg5.read_unread, harg6.read_unread]

/-- The rows a point in use leaves, with the weights kept. -/
theorem rows_G (hc0 hc1 hc2) : out0_G_4 c i arg3 harg3 arg4 harg4 arg5 harg5 arg6 harg6 arg7 harg7 arg8 harg8 arg9 harg9 arg10 harg10 hc0 x0 x1 x2 x3 xt0 xt1 xs0 xs1 xs2 hc1 hc2 = k0_pay8 x0 xs0 xs1 xs2 := by
  have hc := cover0_G_4 c i arg3 harg3 arg4 harg4 arg5 harg5 arg6 harg6 arg7 harg7 arg8 harg8 arg9 harg9 arg10 harg10 hc0 x0 x1 x2 x3 xt0 xt1 xs0 xs1 xs2 hc1 hc2
  unfold out0_G_4
  rw [View.read_writes_eq_canon _ _ _ hc]
  unfold kernelRun0_G
  dsimp only
  rw [View.canon_cons_unit_zero zero2]
  simp only [load_512x1024, load_1024x512, load_1x1024x512, load_1x512x1024, harg3.read_unread, harg8.read_unread, harg9.read_unread, harg10.read_unread]

/-- The rows a point not in use leaves. -/
theorem rows_H (hc0 hc1 hc2) : out0_H_4 c i arg3 harg3 arg4 harg4 arg5 harg5 arg6 harg6 arg7 harg7 arg8 harg8 arg9 harg9 arg10 harg10 hc0 x0 x1 x2 x3 xt0 xt1 xs0 xs1 xs2 hc1 hc2 = k0_pay7 (F := Ideal) := by
  have hc := cover0_H_4 c i arg3 harg3 arg4 harg4 arg5 harg5 arg6 harg6 arg7 harg7 arg8 harg8 arg9 harg9 arg10 harg10 hc0 x0 x1 x2 x3 xt0 xt1 xs0 xs1 xs2 hc1 hc2
  unfold out0_H_4
  rw [View.read_writes_eq_canon _ _ _ hc]
  unfold kernelRun0_H
  dsimp only
  rw [View.canon_cons_unit_zero zero2]

end Cert.Moe.Body
-- ==== Proof.Moe.Range.lean ====
/-
  What the precondition gives: every block's expert is one of the 32 and at least one block is in use.
-/
module

public import proofs.«01_k».proof.Proof.Moba.Inputs
public import proofs.«01_k».proof.Pre_experts_in_range
public import Idealize.ShloMosaic.Lib.ReduceAll

@[expose] public section

set_option maxRecDepth 16384

noncomputable section

open Idealize.ShloMosaic Idealize.ShloMosaic.TcCoe Idealize.SL.Sem

namespace Cert.Moe

/-- The side conditions of the precondition's operations. -/
theorem preFacts : Cert.Pre_experts_in_range.Facts := ⟨by decide, by decide, by decide, by decide⟩

/-- A signed comparison of words that holds, from its bit. -/
theorem le_of_sge (a b : BitVec 32) (h : Scalar.cmpi .sge a b = 1#1) : b.toInt ≤ a.toInt := by
  have h' : BitVec.ofBool (BitVec.sle b a) = 1#1 := h
  by_contra hn
  have : BitVec.sle b a = false := by rw [BitVec.sle]; exact decide_eq_false hn
  rw [this] at h'
  exact absurd h' (by decide)

/-- The same for the strict comparison. -/
theorem lt_of_slt (a b : BitVec 32) (h : Scalar.cmpi .slt a b = 1#1) : a.toInt < b.toInt := by
  have h' : BitVec.ofBool (BitVec.slt a b) = 1#1 := h
  by_contra hn
  have : BitVec.slt a b = false := by rw [BitVec.slt]; exact decide_eq_false hn
  rw [this] at h'
  exact absurd h' (by decide)

section

variable [Cert.Pre_experts_in_range.Facts] {F : FTy → Type} [FloatOps F]

open Cert.Pre_experts_in_range Cert.Pre_experts_in_range.Facts

instance : Subsingleton Cert.Pre_experts_in_range.S_.Idx := ⟨fun a b => funext fun d => d.elim0⟩

/-- Where the precondition holds, every entry of the first table is one of 0 to 31 and the second table's word is
    positive. -/
theorem range_of_pre (be : IVec S97 32) (na : IVec S1 32) (x : FVec F S49664x1024 .f32) (w1 w2 : FVec F S32x1024x512 .f32) (w3 : FVec F S32x512x1024 .f32)
    (h : Cert.Pre_experts_in_range.fn (F := F) be na x w1 w2 w3 = fun _ => 1#1) :
    (∀ b, 0 ≤ (be b).toInt ∧ (be b).toInt < 32) ∧ 1 ≤ (na (ix1 0)).toInt := by
  have h0 := congrFun h (fun d => d.elim0)
  refine ⟨fun b => ?_, ?_⟩
  · have k := Host.reduce_andi_all _ _ _ _ _ (Cert.Moba.ones_left _ _ h0) b
    exact ⟨le_of_sge _ _ (Cert.Moba.ones_left _ _ k), lt_of_slt _ _ (Cert.Moba.ones_right _ _ k)⟩
  · have k := le_of_sge _ _ (Cert.Moba.ones_right _ _ h0)
    have e : (shapeCast S_ na shapeCasts_S1_S_ : IVec S_ 32) (fun d => d.elim0) = na (ix1 0) :=
      congrArg na (funext fun a => Fin.ext (by
        fin_cases a
        exact Nat.lt_one_iff.mp (Fin.isLt _)))
    exact e ▸ k

end

end Cert.Moe
-- ==== Proof.Moe.Points.lean ====
/-
  The words the body reads and the branches they select; the blocks it is handed; what it leaves at every point.
-/
module

public import proofs.«01_k».proof.Proof.Moe.Body
public import proofs.«01_k».proof.Proof.Moe.Range

@[expose] public section

set_option maxRecDepth 16384

noncomputable section

open Idealize.ShloMosaic Idealize.ShloMosaic.TcCoe Idealize.SL.Sem
open Cert.ExpertsIdeal Cert.ExpertsIdeal.Gen

namespace Cert.Moe

open TablesIdeal (be na)

/-! ## The branches -/

theorem word_bit : ∀ b : BitVec 1, (Scalar.cmpi .ne (Scalar.extui b : BitVec 32) 0#32 = 1#1) ↔ b = 1#1 := by decide

theorem and_bit : ∀ a b : BitVec 1, (Scalar.andi a b = 1#1) ↔ a = 1#1 ∧ b = 1#1 := by decide

theorem or_bit : ∀ a b : BitVec 1, (Scalar.ori a b = 1#1) ↔ a = 1#1 ∨ b = 1#1 := by decide

theorem slt_bit (a b : BitVec 32) : (Scalar.cmpi .slt a b = 1#1) ↔ a.toInt < b.toInt := by
  refine ⟨lt_of_slt a b, fun h => ?_⟩
  show BitVec.ofBool (BitVec.slt a b) = 1#1
  have : BitVec.slt a b = true := by rw [BitVec.slt]; exact decide_eq_true h
  rw [this]; rfl

theorem ne_bit (a b : BitVec 32) : (Scalar.cmpi .ne a b = 1#1) ↔ a ≠ b := by
  show BitVec.ofBool (a != b) = 1#1 ↔ _
  by_cases h : a = b
  · simp [h]
  · have e : (a != b) = true := bne_iff_ne.mpr h
    rw [e]; exact ⟨fun _ => h, fun _ => rfl⟩

theorem eq_bit (a b : BitVec 32) : (Scalar.cmpi .eq a b = 1#1) ↔ a = b := by
  show BitVec.ofBool (a == b) = 1#1 ↔ _
  by_cases h : a = b
  · simp [h]
  · have e : (a == b) = false := beq_eq_false_iff_ne.mpr h
    rw [e]; exact ⟨fun hh => absurd hh (by decide), fun hh => absurd hh h⟩

/-- The last branch: the block is in use. -/
theorem cond2_iff (i : grid0.Coords) (w : BitVec 32) : cond0_2 i w ↔ ((i 0).val : Int) < w.toInt := by
  rw [cond0_2, word_bit, slt_bit, TablesIdeal.toInt_small _ (TablesIdeal.coord_lt i)]

/-- The branch before: the block is in use and its expert is new. -/
theorem cond1_iff (i : grid0.Coords) (v3 v4 v11 : BitVec 32) :
    cond0_1 i v3 v4 v11 ↔ ((i 0).val : Int) < v4.toInt ∧ ((i 0).val = 0 ∨ v11 ≠ v3) := by
  rw [cond0_1, word_bit, and_bit, or_bit, slt_bit, ne_bit, eq_bit, TablesIdeal.toInt_small _ (TablesIdeal.coord_lt i)]
  refine and_congr Iff.rfl (or_congr ⟨fun h => ?_, fun h => by rw [h]⟩ Iff.rfl)
  have := congrArg BitVec.toNat h
  rw [TablesIdeal.coord_word] at this
  exact this

/-! ## The words -/

variable (m : (ℓ : Loc nD τ sig) → Buf (Elt Ideal) ℓ) (c : Dev nD)

/-- The words of the tables the run starts with. -/
abbrev expertW (b : Fin 97) : BitVec 32 := be (tbl m) b
@[inherit_doc expertW] abbrev usedW : BitVec 32 := na (tbl m)

theorem coord_val (t : Fin grid0.N) : (grid0.coords t 0).val = t.val := by
  have ht : t.val < 97 := Nat.lt_of_lt_of_eq t.isLt N_0
  have e0 : (grid0.coords t 0).val = t.val / 1 % 97 := Pipeline.Grid.coords_val t 0 (by decide) rfl
  rw [e0]; omega

/-- The block before a point's, or the first. -/
theorem off2_val : ∀ n : Fin 97, (Scalar.maxsi (Scalar.subi (BitVec.ofNat 32 n.val) 1#32) 0#32).toNat = n.val - 1 := by decide

theorem word_prev (i : grid0.Coords) :
    tbM0_0.view.readAt (Elt Ideal) (Rect.unit (s := S97) (k0_off2 i) S1.size (k0_off2_inb i)).toLoadRect (tbl m 0) (Shape.Idx.first (numel1_S1.symm ▸ Nat.one_pos))
      = expertW m ⟨(i 0).val - 1, by have := TablesIdeal.coord_lt i; omega⟩ := by
  refine congrArg (tbl m 0 : IVec S97 32) (funext fun a => Fin.ext ?_)
  fin_cases a
  show (Scalar.maxsi (Scalar.subi (BitVec.ofNat 32 (i 0).val) 1#32) 0#32).toNat + 1 * 0 = (i 0).val - 1
  rw [off2_val (i 0)]; omega

theorem word_here (i : grid0.Coords) :
    tbM0_0.view.readAt (Elt Ideal) (Rect.unit (s := S97) (k0_off1 i) S1.size (k0_off1_inb i)).toLoadRect (tbl m 0) (Shape.Idx.first (numel1_S1.symm ▸ Nat.one_pos))
      = expertW m (i 0) := by
  refine congrArg (tbl m 0 : IVec S97 32) (funext fun a => Fin.ext ?_)
  fin_cases a
  show k0_off1 i 0 + 1 * 0 = (i 0).val
  rw [TablesIdeal.off1_val]; omega

theorem word_used :
    tbM0_1.view.readAt (Elt Ideal) (Rect.unit (s := S1) ![0] S1.size inb_S1_S1_0).toLoadRect (tbl m 1) (Shape.Idx.first (numel1_S1.symm ▸ Nat.one_pos)) = usedW m := by
  refine congrArg (tbl m 1 : IVec S1 32) (funext fun a => Fin.ext ?_)
  fin_cases a
  rfl

/-! ## The blocks -/

/-- The arguments of the program on one device. -/
abbrev argX : FVec Ideal S49664x1024 .f32 := m ((c : Thread nD τ).loc main_arg2)
@[inherit_doc argX] abbrev argG : FVec Ideal S32x1024x512 .f32 := m ((c : Thread nD τ).loc main_arg3)
@[inherit_doc argX] abbrev argU : FVec Ideal S32x1024x512 .f32 := m ((c : Thread nD τ).loc main_arg4)
@[inherit_doc argX] abbrev argD : FVec Ideal S32x512x1024 .f32 := m ((c : Thread nD τ).loc main_arg5)

/-- The tables' words are in range: the precondition. -/
def InRange : Prop := (∀ b, 0 ≤ (expertW m b).toInt ∧ (expertW m b).toInt < 32) ∧ 1 ≤ (usedW m).toInt

variable {m}

/-- Words in range name blocks inside their arrays. -/
theorem ok (hr : InRange m) : Ok m := TablesIdeal.ok_of_range (tbl m) hr.1 hr.2

theorem expert_lt (hr : InRange m) (b : Fin 97) : (expertW m b).toNat < 32 := by
  have := hr.1 b; have := TablesIdeal.toNat_of_nonneg _ this.1; omega

/-- The expert of a block. -/
def expert (hr : InRange m) (b : Fin 97) : Fin 32 := ⟨(expertW m b).toNat, expert_lt hr b⟩

variable (hO : Ok m)

/-- The block of a point. -/
def ptBlk (t : Fin (cfgM m hO).N) : Fin 97 := ⟨t.val, Nat.lt_of_lt_of_eq t.isLt N_0⟩

/-- A row of a block. -/
def blkRow (b : Fin 97) (r : Fin 512) : Fin 49664 := ⟨b.val * 512 + r.val, by omega⟩

theorem coords_blk (t : Fin (cfgM m hO).N) : grid0.coords t 0 = ptBlk hO t := Fin.ext (coord_val t)

theorem index1 (t : Fin (cfgM m hO).N) : cc0_transform_1 Facts₀.k0_off1_inb Facts₀.numel1_S1 (tbl m) (grid0.coords t) 0 = (expertW m (ptBlk hO t)).toNat := by
  show BitVec.toNat ((tbl m).at 0 (Rect.unit (s := S97) (k0_off1 (grid0.coords t)) S1.size (Facts₀.k0_off1_inb (grid0.coords t))) Facts₀.numel1_S1) = _
  rw [TablesIdeal.at_zero, coords_blk]

theorem index0 (hr : InRange m) (t : Fin (cfgM m hO).N) (hu : (t.val : Int) < (usedW m).toInt) :
    cc0_transform_0 Facts₀.inb_S1_S1_0 Facts₀.numel1_S1 (tbl m) (grid0.coords t) 0 = t.val := by
  show BitVec.toNat (Scalar.minsi (BitVec.ofNat 32 (grid0.coords t 0).val) (Scalar.subi ((tbl m).at 1 (Rect.unit (s := S1) ![0] S1.size Facts₀.inb_S1_S1_0) Facts₀.numel1_S1) 1#32)) = t.val
  rw [TablesIdeal.at_one, coord_val]
  exact (TablesIdeal.minsi_val t.val (Nat.lt_of_lt_of_eq t.isLt N_0) (usedW m) hr.2).2 hu

theorem rows_block (hr : InRange m) (t : Fin (cfgM m hO).N) (hu : (t.val : Int) < (usedW m).toInt) (r : Fin 512) (d : Fin 1024) :
    (iblk m hO c 0 t : FVec Ideal S512x1024 .f32) (ix2 r d) = argX m c (ix2 (blkRow (ptBlk hO t) r) d) := by
  unfold iblk
  refine congrArg (argX m c) (funext fun a => Fin.ext ?_)
  match a with
  | ⟨0, _⟩ =>
      show cc0_transform_0 Facts₀.inb_S1_S1_0 Facts₀.numel1_S1 (tbl m) (grid0.coords t) 0 * 512 + 1 * r.val = t.val * 512 + r.val
      rw [index0 hO hr t hu]; omega
  | ⟨1, _⟩ => show 0 * 1024 + 1 * d.val = d.val; omega

theorem gate_block (hr : InRange m) (t : Fin (cfgM m hO).N) (d : Fin 1024) (f : Fin 512) :
    (iblk m hO c 1 t : FVec Ideal S1x1024x512 .f32) (ix3 0 d f) = argG m c (ix3 (expert hr (ptBlk hO t)) d f) := by
  unfold iblk
  refine congrArg (argG m c) (funext fun a => Fin.ext ?_)
  match a with
  | ⟨0, _⟩ =>
      show cc0_transform_1 Facts₀.k0_off1_inb Facts₀.numel1_S1 (tbl m) (grid0.coords t) 0 * 1 + 1 * 0 = (expertW m (ptBlk hO t)).toNat
      rw [index1]; omega
  | ⟨1, _⟩ => show 0 * 1024 + 1 * d.val = d.val; omega
  | ⟨2, _⟩ => show 0 * 512 + 1 * f.val = f.val; omega

theorem up_block (hr : InRange m) (t : Fin (cfgM m hO).N) (d : Fin 1024) (f : Fin 512) :
    (iblk m hO c 2 t : FVec Ideal S1x1024x512 .f32) (ix3 0 d f) = argU m c (ix3 (expert hr (ptBlk hO t)) d f) := by
  unfold iblk
  refine congrArg (argU m c) (funext fun a => Fin.ext ?_)
  match a with
  | ⟨0, _⟩ =>
      show cc0_transform_1 Facts₀.k0_off1_inb Facts₀.numel1_S1 (tbl m) (grid0.coords t) 0 * 1 + 1 * 0 = (expertW m (ptBlk hO t)).toNat
      rw [index1]; omega
  | ⟨1, _⟩ => show 0 * 1024 + 1 * d.val = d.val; omega
  | ⟨2, _⟩ => show 0 * 512 + 1 * f.val = f.val; omega

theorem down_block (hr : InRange m) (t : Fin (cfgM m hO).N) (f : Fin 512) (d : Fin 1024) :
    (iblk m hO c 3 t : FVec Ideal S1x512x1024 .f32) (ix3 0 f d) = argD m c (ix3 (expert hr (ptBlk hO t)) f d) := by
  unfold iblk
  refine congrArg (argD m c) (funext fun a => Fin.ext ?_)
  match a with
  | ⟨0, _⟩ =>
      show cc0_transform_1 Facts₀.k0_off1_inb Facts₀.numel1_S1 (tbl m) (grid0.coords t) 0 * 1 + 1 * 0 = (expertW m (ptBlk hO t)).toNat
      rw [index1]; omega
  | ⟨1, _⟩ => show 0 * 512 + 1 * f.val = f.val; omega
  | ⟨2, _⟩ => show 0 * 1024 + 1 * d.val = d.val; omega

end Cert.Moe
-- ==== Proof.Moe.Sweep.lean ====
/-
  Along the grid: after a point in use the scratch holds the weights of that point's expert, and the rows it leaves are
  that expert's; a point not in use leaves zeros.
-/
module

public import proofs.«01_k».proof.Proof.Moe.Points

@[expose] public section

set_option maxRecDepth 16384

noncomputable section

open Idealize.ShloMosaic Idealize.ShloMosaic.TcCoe Idealize.SL.Sem
open Cert.ExpertsIdeal Cert.ExpertsIdeal.Gen

namespace Cert.Moe

variable {m : (ℓ : Loc nD τ sig) → Buf (Elt Ideal) ℓ} (hO : Ok m) (c : Dev nD)

/-- One expert's matrices, as the body keeps them. -/
def gateOf (m : (ℓ : Loc nD τ sig) → Buf (Elt Ideal) ℓ) (c : Dev nD) (e : Fin 32) : FVec Ideal S1024x512 .bf16 := fun j => argG m c (ix3 e (j 0) (j 1))
@[inherit_doc gateOf] def upOf (m : (ℓ : Loc nD τ sig) → Buf (Elt Ideal) ℓ) (c : Dev nD) (e : Fin 32) : FVec Ideal S1024x512 .bf16 := fun j => argU m c (ix3 e (j 0) (j 1))
@[inherit_doc gateOf] def downOf (m : (ℓ : Loc nD τ sig) → Buf (Elt Ideal) ℓ) (c : Dev nD) (e : Fin 32) : FVec Ideal S512x1024 .bf16 := fun j => argD m c (ix3 e (j 0) (j 1))

theorem pay4_apply (x : Vec Ideal S1x1024x512 .f32) (d : Fin 1024) (f : Fin 512) : k0_pay4 x (ix2 d f) = x (ix3 0 d f) := by
  unfold k0_pay4; pointwise
theorem pay5_apply (x : Vec Ideal S1x1024x512 .f32) (d : Fin 1024) (f : Fin 512) : k0_pay5 x (ix2 d f) = x (ix3 0 d f) := by
  unfold k0_pay5; pointwise
theorem pay6_apply (x : Vec Ideal S1x512x1024 .f32) (f : Fin 512) (d : Fin 1024) : k0_pay6 x (ix2 f d) = x (ix3 0 f d) := by
  unfold k0_pay6; pointwise

theorem gate_kept (hr : InRange m) (t : Fin (cfgM m hO).N) : k0_pay4 (iblk m hO c 1 t) = gateOf m c (expert hr (ptBlk hO t)) := by
  funext j; idx_vars j
  exact (pay4_apply _ j0 j1).trans (gate_block c hO hr t j0 j1)
theorem up_kept (hr : InRange m) (t : Fin (cfgM m hO).N) : k0_pay5 (iblk m hO c 2 t) = upOf m c (expert hr (ptBlk hO t)) := by
  funext j; idx_vars j
  exact (pay5_apply _ j0 j1).trans (up_block c hO hr t j0 j1)
theorem down_kept (hr : InRange m) (t : Fin (cfgM m hO).N) : k0_pay6 (iblk m hO c 3 t) = downOf m c (expert hr (ptBlk hO t)) := by
  funext j; idx_vars j
  exact (pay6_apply _ j0 j1).trans (down_block c hO hr t j0 j1)

/-- The branches at a point, in words. -/
theorem c2 (t : Fin (cfgM m hO).N) :
    cond0_2 (grid0.coords t) (tbM0_1.view.readAt (Elt Ideal) (Rect.unit (s := S1) ![0] S1.size inb_S1_S1_0).toLoadRect (tbl m 1) (Shape.Idx.first (numel1_S1.symm ▸ Nat.one_pos)))
      ↔ (t.val : Int) < (usedW m).toInt := by
  rw [word_used, cond2_iff, coord_val]

@[inherit_doc c2] theorem c1 (t : Fin (cfgM m hO).N) :
    cond0_1 (grid0.coords t) (tbM0_0.view.readAt (Elt Ideal) (Rect.unit (s := S97) (k0_off2 (grid0.coords t)) S1.size (k0_off2_inb (grid0.coords t))).toLoadRect (tbl m 0) (Shape.Idx.first (numel1_S1.symm ▸ Nat.one_pos)))
        (tbM0_1.view.readAt (Elt Ideal) (Rect.unit (s := S1) ![0] S1.size inb_S1_S1_0).toLoadRect (tbl m 1) (Shape.Idx.first (numel1_S1.symm ▸ Nat.one_pos)))
        (tbM0_0.view.readAt (Elt Ideal) (Rect.unit (s := S97) (k0_off1 (grid0.coords t)) S1.size (k0_off1_inb (grid0.coords t))).toLoadRect (tbl m 0) (Shape.Idx.first (numel1_S1.symm ▸ Nat.one_pos)))
      ↔ (t.val : Int) < (usedW m).toInt ∧ (t.val = 0 ∨ expertW m (ptBlk hO t) ≠ expertW m ⟨t.val - 1, by have := (ptBlk hO t).isLt; have : t.val < 97 := this; omega⟩) := by
  rw [word_used, word_prev, word_here, cond1_iff]
  refine and_congr (by rw [coord_val]) (or_congr (by rw [coord_val]) (not_congr (Eq.congr (congrArg (expertW m) (coords_blk hO t)) (congrArg (expertW m) (Fin.ext ?_)))))
  show (grid0.coords t 0).val - 1 = t.val - 1
  rw [coord_val]

/-- What a point in use leaves: the rows of its expert, and that expert's weights in the scratch. -/
def Leaves (hr : InRange m) (t : Fin (cfgM m hO).N) : Prop :=
  outsAt0 m hO c t.val t.isLt
    = (k0_pay8 (iblk m hO c 0 t) (gateOf m c (expert hr (ptBlk hO t))) (upOf m c (expert hr (ptBlk hO t))) (downOf m c (expert hr (ptBlk hO t))),
      gateOf m c (expert hr (ptBlk hO t)), upOf m c (expert hr (ptBlk hO t)), downOf m c (expert hr (ptBlk hO t)))

theorem tuple_eq {α β γ δ : Type} {a a' : α} {b b' : β} {d d' : γ} {e e' : δ} (h1 : a = a') (h2 : b = b') (h3 : d = d') (h4 : e = e') :
    (a, b, d, e) = (a', b', d', e') := by rw [h1, h2, h3, h4]

theorem leaves (hr : InRange m) : ∀ (n : Nat) (hn : n < (cfgM m hO).N) (hu : (n : Int) < (usedW m).toInt), Leaves hO c hr ⟨n, hn⟩
  | 0, hn, hu => by
      have h1 := (c1 hO ⟨0, hn⟩).mpr ⟨hu, .inl rfl⟩
      have h2 := (c2 hO ⟨0, hn⟩).mpr hu
      have h0' := (hcond0_0 ⟨0, hn⟩).mpr rfl
      unfold Leaves
      rw [outsAt0_A m hO c ⟨0, hn⟩ rfl h1 h2]
      refine tuple_eq ?_ ?_ ?_ ?_
      · exact (Body.rows_A (c := c) (i := grid0.coords (⟨0, hn⟩ : Fin (cfgM m hO).N)) (arg3 := ms0_0 m hO (⟨0, hn⟩ : Fin (cfgM m hO).N)) (harg3 := hs0_0 m hO (⟨0, hn⟩ : Fin (cfgM m hO).N)) (arg4 := ms0_1 m hO (⟨0, hn⟩ : Fin (cfgM m hO).N)) (harg4 := hs0_1 m hO (⟨0, hn⟩ : Fin (cfgM m hO).N)) (arg5 := ms0_2 m hO (⟨0, hn⟩ : Fin (cfgM m hO).N)) (harg5 := hs0_2 m hO (⟨0, hn⟩ : Fin (cfgM m hO).N)) (arg6 := ms0_3 m hO (⟨0, hn⟩ : Fin (cfgM m hO).N)) (harg6 := hs0_3 m hO (⟨0, hn⟩ : Fin (cfgM m hO).N)) (arg7 := ms0_4 m hO (⟨0, hn⟩ : Fin (cfgM m hO).N)) (harg7 := hs0_4 m hO (⟨0, hn⟩ : Fin (cfgM m hO).N)) (arg8 := scM0_0) (harg8 := Memref.isWhole_whole _) (arg9 := scM0_1) (harg9 := Memref.isWhole_whole _) (arg10 := scM0_2) (harg10 := Memref.isWhole_whole _) (x0 := iblk m hO c 0 (⟨0, hn⟩ : Fin (cfgM m hO).N)) (x1 := iblk m hO c 1 (⟨0, hn⟩ : Fin (cfgM m hO).N)) (x2 := iblk m hO c 2 (⟨0, hn⟩ : Fin (cfgM m hO).N)) (x3 := iblk m hO c 3 (⟨0, hn⟩ : Fin (cfgM m hO).N)) (xt0 := tbl m 0) (xt1 := tbl m 1) h0' h1 h2).trans (by rw [gate_kept hO c hr, up_kept hO c hr, down_kept hO c hr])
      · exact (Body.scratch0_A (c := c) (i := grid0.coords (⟨0, hn⟩ : Fin (cfgM m hO).N)) (arg3 := ms0_0 m hO (⟨0, hn⟩ : Fin (cfgM m hO).N)) (harg3 := hs0_0 m hO (⟨0, hn⟩ : Fin (cfgM m hO).N)) (arg4 := ms0_1 m hO (⟨0, hn⟩ : Fin (cfgM m hO).N)) (harg4 := hs0_1 m hO (⟨0, hn⟩ : Fin (cfgM m hO).N)) (arg5 := ms0_2 m hO (⟨0, hn⟩ : Fin (cfgM m hO).N)) (harg5 := hs0_2 m hO (⟨0, hn⟩ : Fin (cfgM m hO).N)) (arg6 := ms0_3 m hO (⟨0, hn⟩ : Fin (cfgM m hO).N)) (harg6 := hs0_3 m hO (⟨0, hn⟩ : Fin (cfgM m hO).N)) (arg7 := ms0_4 m hO (⟨0, hn⟩ : Fin (cfgM m hO).N)) (harg7 := hs0_4 m hO (⟨0, hn⟩ : Fin (cfgM m hO).N)) (arg8 := scM0_0) (harg8 := Memref.isWhole_whole _) (arg9 := scM0_1) (harg9 := Memref.isWhole_whole _) (arg10 := scM0_2) (harg10 := Memref.isWhole_whole _) (x0 := iblk m hO c 0 (⟨0, hn⟩ : Fin (cfgM m hO).N)) (x1 := iblk m hO c 1 (⟨0, hn⟩ : Fin (cfgM m hO).N)) (x2 := iblk m hO c 2 (⟨0, hn⟩ : Fin (cfgM m hO).N)) (x3 := iblk m hO c 3 (⟨0, hn⟩ : Fin (cfgM m hO).N)) (xt0 := tbl m 0) (xt1 := tbl m 1) h0' h1 h2).trans (gate_kept hO c hr _)
      · exact (Body.scratch1_A (c := c) (i := grid0.coords (⟨0, hn⟩ : Fin (cfgM m hO).N)) (arg3 := ms0_0 m hO (⟨0, hn⟩ : Fin (cfgM m hO).N)) (harg3 := hs0_0 m hO (⟨0, hn⟩ : Fin (cfgM m hO).N)) (arg4 := ms0_1 m hO (⟨0, hn⟩ : Fin (cfgM m hO).N)) (harg4 := hs0_1 m hO (⟨0, hn⟩ : Fin (cfgM m hO).N)) (arg5 := ms0_2 m hO (⟨0, hn⟩ : Fin (cfgM m hO).N)) (harg5 := hs0_2 m hO (⟨0, hn⟩ : Fin (cfgM m hO).N)) (arg6 := ms0_3 m hO (⟨0, hn⟩ : Fin (cfgM m hO).N)) (harg6 := hs0_3 m hO (⟨0, hn⟩ : Fin (cfgM m hO).N)) (arg7 := ms0_4 m hO (⟨0, hn⟩ : Fin (cfgM m hO).N)) (harg7 := hs0_4 m hO (⟨0, hn⟩ : Fin (cfgM m hO).N)) (arg8 := scM0_0) (harg8 := Memref.isWhole_whole _) (arg9 := scM0_1) (harg9 := Memref.isWhole_whole _) (arg10 := scM0_2) (harg10 := Memref.isWhole_whole _) (x0 := iblk m hO c 0 (⟨0, hn⟩ : Fin (cfgM m hO).N)) (x1 := iblk m hO c 1 (⟨0, hn⟩ : Fin (cfgM m hO).N)) (x2 := iblk m hO c 2 (⟨0, hn⟩ : Fin (cfgM m hO).N)) (x3 := iblk m hO c 3 (⟨0, hn⟩ : Fin (cfgM m hO).N)) (xt0 := tbl m 0) (xt1 := tbl m 1) h0' h1 h2).trans (up_kept hO c hr _)
      · exact (Body.scratch2_A (c := c) (i := grid0.coords (⟨0, hn⟩ : Fin (cfgM m hO).N)) (arg3 := ms0_0 m hO (⟨0, hn⟩ : Fin (cfgM m hO).N)) (harg3 := hs0_0 m hO (⟨0, hn⟩ : Fin (cfgM m hO).N)) (arg4 := ms0_1 m hO (⟨0, hn⟩ : Fin (cfgM m hO).N)) (harg4 := hs0_1 m hO (⟨0, hn⟩ : Fin (cfgM m hO).N)) (arg5 := ms0_2 m hO (⟨0, hn⟩ : Fin (cfgM m hO).N)) (harg5 := hs0_2 m hO (⟨0, hn⟩ : Fin (cfgM m hO).N)) (arg6 := ms0_3 m hO (⟨0, hn⟩ : Fin (cfgM m hO).N)) (harg6 := hs0_3 m hO (⟨0, hn⟩ : Fin (cfgM m hO).N)) (arg7 := ms0_4 m hO (⟨0, hn⟩ : Fin (cfgM m hO).N)) (harg7 := hs0_4 m hO (⟨0, hn⟩ : Fin (cfgM m hO).N)) (arg8 := scM0_0) (harg8 := Memref.isWhole_whole _) (arg9 := scM0_1) (harg9 := Memref.isWhole_whole _) (arg10 := scM0_2) (harg10 := Memref.isWhole_whole _) (x0 := iblk m hO c 0 (⟨0, hn⟩ : Fin (cfgM m hO).N)) (x1 := iblk m hO c 1 (⟨0, hn⟩ : Fin (cfgM m hO).N)) (x2 := iblk m hO c 2 (⟨0, hn⟩ : Fin (cfgM m hO).N)) (x3 := iblk m hO c 3 (⟨0, hn⟩ : Fin (cfgM m hO).N)) (xt0 := tbl m 0) (xt1 := tbl m 1) h0' h1 h2).trans (down_kept hO c hr _)
  | n + 1, hn, hu => by
      have hlt : n + 1 < 97 := Nat.lt_of_lt_of_eq hn N_0
      have h0 : ¬ (n + 1) % 97 = 0 := by omega
      have h2 := (c2 hO ⟨n + 1, hn⟩).mpr hu
      have h0' : ¬ cond0_0 (grid0.coords ⟨n + 1, hn⟩) := fun h => h0 ((hcond0_0 ⟨n + 1, hn⟩).mp h)
      by_cases h1 : expertW m (ptBlk hO ⟨n + 1, hn⟩) = expertW m ⟨n, by omega⟩
      · have h1' := fun h => ((c1 hO ⟨n + 1, hn⟩).mp h).2.elim (fun h => absurd h (Nat.succ_ne_zero n)) (fun h => h h1)
        have ih := leaves hr n (Nat.lt_of_succ_lt hn) (by omega)
        have he : expert hr (ptBlk hO ⟨n + 1, hn⟩) = expert hr (ptBlk hO ⟨n, Nat.lt_of_succ_lt hn⟩) := Fin.ext (by
          show (expertW m (ptBlk hO ⟨n + 1, hn⟩)).toNat = (expertW m ⟨n, by omega⟩).toNat
          rw [h1])
        unfold Leaves at ih ⊢
        rw [outsAt0_G m hO c ⟨n + 1, hn⟩ h0 h1' h2]
        have ih' : outsAt0 m hO c ((⟨n + 1, hn⟩ : Fin (cfgM m hO).N).val - 1) (Nat.lt_of_le_of_lt (Nat.sub_le _ _) hn) = _ := ih
        rw [ih', he]
        refine tuple_eq ?_ rfl rfl rfl
        exact Body.rows_G (c := c) (i := grid0.coords (⟨n + 1, hn⟩ : Fin (cfgM m hO).N)) (arg3 := ms0_0 m hO (⟨n + 1, hn⟩ : Fin (cfgM m hO).N)) (harg3 := hs0_0 m hO (⟨n + 1, hn⟩ : Fin (cfgM m hO).N)) (arg4 := ms0_1 m hO (⟨n + 1, hn⟩ : Fin (cfgM m hO).N)) (harg4 := hs0_1 m hO (⟨n + 1, hn⟩ : Fin (cfgM m hO).N)) (arg5 := ms0_2 m hO (⟨n + 1, hn⟩ : Fin (cfgM m hO).N)) (harg5 := hs0_2 m hO (⟨n + 1, hn⟩ : Fin (cfgM m hO).N)) (arg6 := ms0_3 m hO (⟨n + 1, hn⟩ : Fin (cfgM m hO).N)) (harg6 := hs0_3 m hO (⟨n + 1, hn⟩ : Fin (cfgM m hO).N)) (arg7 := ms0_4 m hO (⟨n + 1, hn⟩ : Fin (cfgM m hO).N)) (harg7 := hs0_4 m hO (⟨n + 1, hn⟩ : Fin (cfgM m hO).N)) (arg8 := scM0_0) (harg8 := Memref.isWhole_whole _) (arg9 := scM0_1) (harg9 := Memref.isWhole_whole _) (arg10 := scM0_2) (harg10 := Memref.isWhole_whole _) (x0 := iblk m hO c 0 (⟨n + 1, hn⟩ : Fin (cfgM m hO).N)) (x1 := iblk m hO c 1 (⟨n + 1, hn⟩ : Fin (cfgM m hO).N)) (x2 := iblk m hO c 2 (⟨n + 1, hn⟩ : Fin (cfgM m hO).N)) (x3 := iblk m hO c 3 (⟨n + 1, hn⟩ : Fin (cfgM m hO).N)) (xt0 := tbl m 0) (xt1 := tbl m 1) (xs0 := gateOf m c (expert hr (ptBlk hO ⟨n, Nat.lt_of_succ_lt hn⟩))) (xs1 := upOf m c (expert hr (ptBlk hO ⟨n, Nat.lt_of_succ_lt hn⟩))) (xs2 := downOf m c (expert hr (ptBlk hO ⟨n, Nat.lt_of_succ_lt hn⟩))) h0' h1' h2
      · have h1' := (c1 hO ⟨n + 1, hn⟩).mpr ⟨hu, .inr h1⟩
        unfold Leaves
        rw [outsAt0_E m hO c ⟨n + 1, hn⟩ h0 h1' h2]
        refine tuple_eq ?_ ?_ ?_ ?_
        · exact (Body.rows_E (c := c) (i := grid0.coords (⟨n + 1, hn⟩ : Fin (cfgM m hO).N)) (arg3 := ms0_0 m hO (⟨n + 1, hn⟩ : Fin (cfgM m hO).N)) (harg3 := hs0_0 m hO (⟨n + 1, hn⟩ : Fin (cfgM m hO).N)) (arg4 := ms0_1 m hO (⟨n + 1, hn⟩ : Fin (cfgM m hO).N)) (harg4 := hs0_1 m hO (⟨n + 1, hn⟩ : Fin (cfgM m hO).N)) (arg5 := ms0_2 m hO (⟨n + 1, hn⟩ : Fin (cfgM m hO).N)) (harg5 := hs0_2 m hO (⟨n + 1, hn⟩ : Fin (cfgM m hO).N)) (arg6 := ms0_3 m hO (⟨n + 1, hn⟩ : Fin (cfgM m hO).N)) (harg6 := hs0_3 m hO (⟨n + 1, hn⟩ : Fin (cfgM m hO).N)) (arg7 := ms0_4 m hO (⟨n + 1, hn⟩ : Fin (cfgM m hO).N)) (harg7 := hs0_4 m hO (⟨n + 1, hn⟩ : Fin (cfgM m hO).N)) (arg8 := scM0_0) (harg8 := Memref.isWhole_whole _) (arg9 := scM0_1) (harg9 := Memref.isWhole_whole _) (arg10 := scM0_2) (harg10 := Memref.isWhole_whole _) (x0 := iblk m hO c 0 (⟨n + 1, hn⟩ : Fin (cfgM m hO).N)) (x1 := iblk m hO c 1 (⟨n + 1, hn⟩ : Fin (cfgM m hO).N)) (x2 := iblk m hO c 2 (⟨n + 1, hn⟩ : Fin (cfgM m hO).N)) (x3 := iblk m hO c 3 (⟨n + 1, hn⟩ : Fin (cfgM m hO).N)) (xt0 := tbl m 0) (xt1 := tbl m 1) h0' h1' h2).trans (by rw [gate_kept hO c hr, up_kept hO c hr, down_kept hO c hr])
        · exact (Body.scratch0_E (c := c) (i := grid0.coords (⟨n + 1, hn⟩ : Fin (cfgM m hO).N)) (arg3 := ms0_0 m hO (⟨n + 1, hn⟩ : Fin (cfgM m hO).N)) (harg3 := hs0_0 m hO (⟨n + 1, hn⟩ : Fin (cfgM m hO).N)) (arg4 := ms0_1 m hO (⟨n + 1, hn⟩ : Fin (cfgM m hO).N)) (harg4 := hs0_1 m hO (⟨n + 1, hn⟩ : Fin (cfgM m hO).N)) (arg5 := ms0_2 m hO (⟨n + 1, hn⟩ : Fin (cfgM m hO).N)) (harg5 := hs0_2 m hO (⟨n + 1, hn⟩ : Fin (cfgM m hO).N)) (arg6 := ms0_3 m hO (⟨n + 1, hn⟩ : Fin (cfgM m hO).N)) (harg6 := hs0_3 m hO (⟨n + 1, hn⟩ : Fin (cfgM m hO).N)) (arg7 := ms0_4 m hO (⟨n + 1, hn⟩ : Fin (cfgM m hO).N)) (harg7 := hs0_4 m hO (⟨n + 1, hn⟩ : Fin (cfgM m hO).N)) (arg8 := scM0_0) (harg8 := Memref.isWhole_whole _) (arg9 := scM0_1) (harg9 := Memref.isWhole_whole _) (arg10 := scM0_2) (harg10 := Memref.isWhole_whole _) (x0 := iblk m hO c 0 (⟨n + 1, hn⟩ : Fin (cfgM m hO).N)) (x1 := iblk m hO c 1 (⟨n + 1, hn⟩ : Fin (cfgM m hO).N)) (x2 := iblk m hO c 2 (⟨n + 1, hn⟩ : Fin (cfgM m hO).N)) (x3 := iblk m hO c 3 (⟨n + 1, hn⟩ : Fin (cfgM m hO).N)) (xt0 := tbl m 0) (xt1 := tbl m 1) h0' h1' h2).trans (gate_kept hO c hr _)
        · exact (Body.scratch1_E (c := c) (i := grid0.coords (⟨n + 1, hn⟩ : Fin (cfgM m hO).N)) (arg3 := ms0_0 m hO (⟨n + 1, hn⟩ : Fin (cfgM m hO).N)) (harg3 := hs0_0 m hO (⟨n + 1, hn⟩ : Fin (cfgM m hO).N)) (arg4 := ms0_1 m hO (⟨n + 1, hn⟩ : Fin (cfgM m hO).N)) (harg4 := hs0_1 m hO (⟨n + 1, hn⟩ : Fin (cfgM m hO).N)) (arg5 := ms0_2 m hO (⟨n + 1, hn⟩ : Fin (cfgM m hO).N)) (harg5 := hs0_2 m hO (⟨n + 1, hn⟩ : Fin (cfgM m hO).N)) (arg6 := ms0_3 m hO (⟨n + 1, hn⟩ : Fin (cfgM m hO).N)) (harg6 := hs0_3 m hO (⟨n + 1, hn⟩ : Fin (cfgM m hO).N)) (arg7 := ms0_4 m hO (⟨n + 1, hn⟩ : Fin (cfgM m hO).N)) (harg7 := hs0_4 m hO (⟨n + 1, hn⟩ : Fin (cfgM m hO).N)) (arg8 := scM0_0) (harg8 := Memref.isWhole_whole _) (arg9 := scM0_1) (harg9 := Memref.isWhole_whole _) (arg10 := scM0_2) (harg10 := Memref.isWhole_whole _) (x0 := iblk m hO c 0 (⟨n + 1, hn⟩ : Fin (cfgM m hO).N)) (x1 := iblk m hO c 1 (⟨n + 1, hn⟩ : Fin (cfgM m hO).N)) (x2 := iblk m hO c 2 (⟨n + 1, hn⟩ : Fin (cfgM m hO).N)) (x3 := iblk m hO c 3 (⟨n + 1, hn⟩ : Fin (cfgM m hO).N)) (xt0 := tbl m 0) (xt1 := tbl m 1) h0' h1' h2).trans (up_kept hO c hr _)
        · exact (Body.scratch2_E (c := c) (i := grid0.coords (⟨n + 1, hn⟩ : Fin (cfgM m hO).N)) (arg3 := ms0_0 m hO (⟨n + 1, hn⟩ : Fin (cfgM m hO).N)) (harg3 := hs0_0 m hO (⟨n + 1, hn⟩ : Fin (cfgM m hO).N)) (arg4 := ms0_1 m hO (⟨n + 1, hn⟩ : Fin (cfgM m hO).N)) (harg4 := hs0_1 m hO (⟨n + 1, hn⟩ : Fin (cfgM m hO).N)) (arg5 := ms0_2 m hO (⟨n + 1, hn⟩ : Fin (cfgM m hO).N)) (harg5 := hs0_2 m hO (⟨n + 1, hn⟩ : Fin (cfgM m hO).N)) (arg6 := ms0_3 m hO (⟨n + 1, hn⟩ : Fin (cfgM m hO).N)) (harg6 := hs0_3 m hO (⟨n + 1, hn⟩ : Fin (cfgM m hO).N)) (arg7 := ms0_4 m hO (⟨n + 1, hn⟩ : Fin (cfgM m hO).N)) (harg7 := hs0_4 m hO (⟨n + 1, hn⟩ : Fin (cfgM m hO).N)) (arg8 := scM0_0) (harg8 := Memref.isWhole_whole _) (arg9 := scM0_1) (harg9 := Memref.isWhole_whole _) (arg10 := scM0_2) (harg10 := Memref.isWhole_whole _) (x0 := iblk m hO c 0 (⟨n + 1, hn⟩ : Fin (cfgM m hO).N)) (x1 := iblk m hO c 1 (⟨n + 1, hn⟩ : Fin (cfgM m hO).N)) (x2 := iblk m hO c 2 (⟨n + 1, hn⟩ : Fin (cfgM m hO).N)) (x3 := iblk m hO c 3 (⟨n + 1, hn⟩ : Fin (cfgM m hO).N)) (xt0 := tbl m 0) (xt1 := tbl m 1) h0' h1' h2).trans (down_kept hO c hr _)

/-- What a point not in use leaves: zeros. -/
theorem leaves_zero (hr : InRange m) (t : Fin (cfgM m hO).N) (hu : ¬ (t.val : Int) < (usedW m).toInt) : (outsAt0 m hO c t.val t.isLt).1 = k0_pay7 (F := Ideal) := by
  have hlt : t.val < 97 := Nat.lt_of_lt_of_eq t.isLt N_0
  have hp := hr.2
  have h0 : ¬ t.val % 97 = 0 := by omega
  rw [outsAt0_H m hO c t h0 (fun h => hu ((c1 hO t).mp h).1) (fun h => hu ((c2 hO t).mp h))]
  exact Body.rows_H (c := c) (i := grid0.coords t) (arg3 := ms0_0 m hO t) (harg3 := hs0_0 m hO t) (arg4 := ms0_1 m hO t) (harg4 := hs0_1 m hO t) (arg5 := ms0_2 m hO t) (harg5 := hs0_2 m hO t) (arg6 := ms0_3 m hO t) (harg6 := hs0_3 m hO t) (arg7 := ms0_4 m hO t) (harg7 := hs0_4 m hO t) (arg8 := scM0_0) (harg8 := Memref.isWhole_whole _) (arg9 := scM0_1) (harg9 := Memref.isWhole_whole _) (arg10 := scM0_2) (harg10 := Memref.isWhole_whole _) (x0 := iblk m hO c 0 t) (x1 := iblk m hO c 1 t) (x2 := iblk m hO c 2 t) (x3 := iblk m hO c 3 t) (xt0 := tbl m 0) (xt1 := tbl m 1) (xs0 := (outsAt0 m hO c (t.val - 1) (Nat.lt_of_le_of_lt (Nat.sub_le _ _) t.isLt)).2.1) (xs1 := (outsAt0 m hO c (t.val - 1) (Nat.lt_of_le_of_lt (Nat.sub_le _ _) t.isLt)).2.2.1) (xs2 := (outsAt0 m hO c (t.val - 1) (Nat.lt_of_le_of_lt (Nat.sub_le _ _) t.isLt)).2.2.2) (fun h => h0 ((hcond0_0 t).mp h)) (fun h => hu ((c1 hO t).mp h).1) (fun h => hu ((c2 hO t).mp h))

end Cert.Moe
-- ==== Proof.Moe.Reference.lean ====
/-
  The reference read at an index: one row of a block through its expert's three matrices, or zero.
-/
module

public import proofs.«01_k».proof.Proof.Moe.Range
public import proofs.«01_k».proof.Proof.Gen.ExpertsReferenceIdeal.Run
public import Idealize.ShloMosaic.Lib.Tactic
public import Idealize.ShloMosaic.Lib.Pointwise

@[expose] public section

set_option maxRecDepth 16384

noncomputable section

open Idealize.ShloMosaic Idealize.ShloMosaic.TcCoe Idealize.SL.Sem
open Cert.ExpertsReferenceIdeal Cert.ExpertsReferenceIdeal.Gen

namespace Cert.Moe

/-- One matrix taken for a block, where the block's word names an expert. -/
theorem take_wide (w : FVec Ideal S32x1024x512 .f32) (idx : IVec S97x1 32) (b : Fin 97) (d : Fin 1024) (f : Fin 512) (e : Fin 32) (he : (idx (ix2 b 0)).toInt = e.val) :
    Host.gather gather_S32x1024x512_S97x1_S97x1024x512_12_0_n_n_0_1_11024512 w idx (ix3 b d f) = w (ix3 e d f) := by
  unfold Host.gather
  refine congrArg w (funext fun a => Fin.ext ?_)
  show GatherDims.start gather_S32x1024x512_S97x1_S97x1024x512_12_0_n_n_0_1_11024512 (ix3 b d f) idx a + GatherDims.batchCoord gather_S32x1024x512_S97x1_S97x1024x512_12_0_n_n_0_1_11024512 (ix3 b d f) a + GatherDims.offCoord gather_S32x1024x512_S97x1_S97x1024x512_12_0_n_n_0_1_11024512 (ix3 b d f) a = _
  rw [GatherDims.batchCoord_eq_zero _ _ _ List.not_mem_nil, Nat.add_zero]
  match a with
  | ⟨0, hk⟩ =>
      rw [GatherDims.offCoord_eq_zero _ _ _ (fun h => ((GatherDims.mem_sKept _ _).mp h).1 (List.mem_singleton.mpr rfl))]
      unfold GatherDims.start
      rw [dif_pos (show (⟨0, hk⟩ : Fin 3) ∈ gather_S32x1024x512_S97x1_S97x1024x512_12_0_n_n_0_1_11024512.startIndexMap from List.mem_singleton.mpr rfl)]
      have hi : GatherDims.siIdx gather_S32x1024x512_S97x1_S97x1024x512_12_0_n_n_0_1_11024512 (ix3 b d f) ⟨List.idxOf (0 : Fin 3) [0], List.idxOf_lt_length_iff.2 (List.mem_singleton.mpr rfl)⟩ = ix2 b 0 := by
        funext x; refine Fin.ext ?_
        match x with
        | ⟨0, _⟩ => rfl
        | ⟨1, _⟩ => rfl
      show min (idx (GatherDims.siIdx gather_S32x1024x512_S97x1_S97x1024x512_12_0_n_n_0_1_11024512 (ix3 b d f) ⟨List.idxOf (0 : Fin 3) [0], List.idxOf_lt_length_iff.2 (List.mem_singleton.mpr rfl)⟩)).toInt.toNat 31 + 0 = e.val
      rw [hi, he]
      have := e.isLt
      omega
  | ⟨1, hk⟩ =>
      unfold GatherDims.start
      rw [dif_neg (show ¬ (⟨1, hk⟩ : Fin 3) ∈ gather_S32x1024x512_S97x1_S97x1024x512_12_0_n_n_0_1_11024512.startIndexMap from fun h => Nat.noConfusion (congrArg Fin.val (List.mem_singleton.mp h))), Nat.zero_add]
      rfl
  | ⟨2, hk⟩ =>
      unfold GatherDims.start
      rw [dif_neg (show ¬ (⟨2, hk⟩ : Fin 3) ∈ gather_S32x1024x512_S97x1_S97x1024x512_12_0_n_n_0_1_11024512.startIndexMap from fun h => Nat.noConfusion (congrArg Fin.val (List.mem_singleton.mp h))), Nat.zero_add]
      rfl

/-- One matrix taken for a block, where the block's word names an expert. -/
theorem take_tall (w : FVec Ideal S32x512x1024 .f32) (idx : IVec S97x1 32) (b : Fin 97) (d : Fin 512) (f : Fin 1024) (e : Fin 32) (he : (idx (ix2 b 0)).toInt = e.val) :
    Host.gather gather_S32x512x1024_S97x1_S97x512x1024_12_0_n_n_0_1_15121024 w idx (ix3 b d f) = w (ix3 e d f) := by
  unfold Host.gather
  refine congrArg w (funext fun a => Fin.ext ?_)
  show GatherDims.start gather_S32x512x1024_S97x1_S97x512x1024_12_0_n_n_0_1_15121024 (ix3 b d f) idx a + GatherDims.batchCoord gather_S32x512x1024_S97x1_S97x512x1024_12_0_n_n_0_1_15121024 (ix3 b d f) a + GatherDims.offCoord gather_S32x512x1024_S97x1_S97x512x1024_12_0_n_n_0_1_15121024 (ix3 b d f) a = _
  rw [GatherDims.batchCoord_eq_zero _ _ _ List.not_mem_nil, Nat.add_zero]
  match a with
  | ⟨0, hk⟩ =>
      rw [GatherDims.offCoord_eq_zero _ _ _ (fun h => ((GatherDims.mem_sKept _ _).mp h).1 (List.mem_singleton.mpr rfl))]
      unfold GatherDims.start
      rw [dif_pos (show (⟨0, hk⟩ : Fin 3) ∈ gather_S32x512x1024_S97x1_S97x512x1024_12_0_n_n_0_1_15121024.startIndexMap from List.mem_singleton.mpr rfl)]
      have hi : GatherDims.siIdx gather_S32x512x1024_S97x1_S97x512x1024_12_0_n_n_0_1_15121024 (ix3 b d f) ⟨List.idxOf (0 : Fin 3) [0], List.idxOf_lt_length_iff.2 (List.mem_singleton.mpr rfl)⟩ = ix2 b 0 := by
        funext x; refine Fin.ext ?_
        match x with
        | ⟨0, _⟩ => rfl
        | ⟨1, _⟩ => rfl
      show min (idx (GatherDims.siIdx gather_S32x512x1024_S97x1_S97x512x1024_12_0_n_n_0_1_15121024 (ix3 b d f) ⟨List.idxOf (0 : Fin 3) [0], List.idxOf_lt_length_iff.2 (List.mem_singleton.mpr rfl)⟩)).toInt.toNat 31 + 0 = e.val
      rw [hi, he]
      have := e.isLt
      omega
  | ⟨1, hk⟩ =>
      unfold GatherDims.start
      rw [dif_neg (show ¬ (⟨1, hk⟩ : Fin 3) ∈ gather_S32x512x1024_S97x1_S97x512x1024_12_0_n_n_0_1_15121024.startIndexMap from fun h => Nat.noConfusion (congrArg Fin.val (List.mem_singleton.mp h))), Nat.zero_add]
      rfl
  | ⟨2, hk⟩ =>
      unfold GatherDims.start
      rw [dif_neg (show ¬ (⟨2, hk⟩ : Fin 3) ∈ gather_S32x512x1024_S97x1_S97x512x1024_12_0_n_n_0_1_15121024.startIndexMap from fun h => Nat.noConfusion (congrArg Fin.val (List.mem_singleton.mp h))), Nat.zero_add]
      rfl

/-- A value times its logistic weight is the value over one plus the exponential. -/
theorem silu_eq (g : EReal) : g * Ideal.div 1 (1 + Ideal.exp (-g)) = Ideal.div g (1 + Ideal.exp (0 - g)) := by
  have hp : 0 ≤ Ideal.exp (-g) := by
    induction (-g) with
    | bot => exact le_refl _
    | top => exact le_top
    | coe r => exact EReal.coe_nonneg.mpr (Real.exp_pos r).le
  have hne : 1 + Ideal.exp (-g) ≠ 0 := by
    have : (0 : EReal) < 1 + Ideal.exp (-g) := lt_of_lt_of_le zero_lt_one (le_add_of_nonneg_right hp)
    exact this.ne'
  rw [zero_sub]
  unfold Ideal.div
  rw [if_neg hne, if_neg hne, one_mul]

/-- The arguments of the reference on one device. -/
abbrev refBe (m : (ℓ : Loc nD τ sig) → Buf (Elt Ideal) ℓ) (c : Dev nD) : IVec S97 32 := m ((c : Thread nD τ).loc main_arg0)
@[inherit_doc refBe] abbrev refNa (m : (ℓ : Loc nD τ sig) → Buf (Elt Ideal) ℓ) (c : Dev nD) : IVec S1 32 := m ((c : Thread nD τ).loc main_arg1)
@[inherit_doc refBe] abbrev refX (m : (ℓ : Loc nD τ sig) → Buf (Elt Ideal) ℓ) (c : Dev nD) : FVec Ideal S49664x1024 .f32 := m ((c : Thread nD τ).loc main_arg2)
@[inherit_doc refBe] abbrev refG (m : (ℓ : Loc nD τ sig) → Buf (Elt Ideal) ℓ) (c : Dev nD) : FVec Ideal S32x1024x512 .f32 := m ((c : Thread nD τ).loc main_arg3)
@[inherit_doc refBe] abbrev refU (m : (ℓ : Loc nD τ sig) → Buf (Elt Ideal) ℓ) (c : Dev nD) : FVec Ideal S32x1024x512 .f32 := m ((c : Thread nD τ).loc main_arg4)
@[inherit_doc refBe] abbrev refD (m : (ℓ : Loc nD τ sig) → Buf (Elt Ideal) ℓ) (c : Dev nD) : FVec Ideal S32x512x1024 .f32 := m ((c : Thread nD τ).loc main_arg5)

/-- The blocks' experts as the reference indexes by them. -/
def idxArr (be : IVec S97 32) : IVec S97x1 32 :=
  broadcastInDim S97x1 ![0] bcast_S97_S97x1_0 (select (cmpi .slt be (broadcastInDim S97 ![] bcast_S_S97 (constantI S_ 32 0#32)))
    (addi be (broadcastInDim S97 ![] bcast_S_S97 (constantI S_ 32 32#32))) be)

/-- The reference's rows before the blocks not in use are cleared. -/
def rowsArr (be : IVec S97 32) (x : FVec Ideal S49664x1024 .f32) (wg wu : FVec Ideal S32x1024x512 .f32) (wd : FVec Ideal S32x512x1024 .f32) : FVec Ideal S97x512x1024 .f32 :=
  Host.dotGeneral dot_S97x512x512_S97x512x1024_S97x512x1024_2_1_1_2_0_0 none (mulf (mulf (Host.dotGeneral dot_S97x512x1024_S97x1024x512_S97x512x512_2_1_1_2_0_0 none (shapeCast _ x shapeCasts_S49664x1024_S97x512x1024) (Host.gather gather_S32x1024x512_S97x1_S97x1024x512_12_0_n_n_0_1_11024512 wg (idxArr be)))
    (Host.divf (broadcastInDim S97x512x512 ![] bcast_S_S97x512x512 (constant S_ .f32 0x3F800000#32)) (addf (broadcastInDim S97x512x512 ![] bcast_S_S97x512x512 (constant S_ .f32 0x3F800000#32)) (Host.exp (Host.negf (Host.dotGeneral dot_S97x512x1024_S97x1024x512_S97x512x512_2_1_1_2_0_0 none (shapeCast _ x shapeCasts_S49664x1024_S97x512x1024) (Host.gather gather_S32x1024x512_S97x1_S97x1024x512_12_0_n_n_0_1_11024512 wg (idxArr be))))))))
    (Host.dotGeneral dot_S97x512x1024_S97x1024x512_S97x512x512_2_1_1_2_0_0 none (shapeCast _ x shapeCasts_S49664x1024_S97x512x1024) (Host.gather gather_S32x1024x512_S97x1_S97x1024x512_12_0_n_n_0_1_11024512 wu (idxArr be))))
    (Host.gather gather_S32x512x1024_S97x1_S97x512x1024_12_0_n_n_0_1_15121024 wd (idxArr be))

/-- Which blocks are in use, at every entry. -/
def liveArr (na : IVec S1 32) : IVec S97x512x1024 1 :=
  broadcastInDim S97x512x1024 ![0, 1, 2] bcast_S97x1x1_S97x512x1024_0_1_2 (broadcastInDim S97x1x1 ![0] bcast_S97_S97x1x1_0 (cmpi .slt (iotaInDim S97 32 0) (broadcastInDim S97 ![] bcast_S_S97 (shapeCast _ na shapeCasts_S1_S_))))

/-- The reference's result. -/
def refArr (be : IVec S97 32) (na : IVec S1 32) (x : FVec Ideal S49664x1024 .f32) (wg wu : FVec Ideal S32x1024x512 .f32) (wd : FVec Ideal S32x512x1024 .f32) : FVec Ideal S49664x1024 .f32 :=
  shapeCast _ (select (liveArr na) (rowsArr be x wg wu wd) (broadcastInDim S97x512x1024 ![] bcast_S_S97x512x1024 (constant S_ .f32 0x00000000#32))) shapeCasts_S97x512x1024_S49664x1024

/-- One row of a block through one expert. -/
def mix (x : Fin 1024 → EReal) (g u : Fin 1024 → Fin 512 → EReal) (d : Fin 512 → Fin 1024 → EReal) (l : Fin 1024) : EReal :=
  ∑ f, Ideal.div (∑ j, x j * g j f) (1 + Ideal.exp (0 - ∑ j, x j * g j f)) * (∑ j, x j * u j f) * d f l

theorem idx_word (be : IVec S97 32) (b : Fin 97) (hb : 0 ≤ (be (ix1 b)).toInt) : idxArr be (ix2 b 0) = be (ix1 b) := by
  have e : idxArr be (ix2 b 0) = if Scalar.cmpi .slt (be (ix1 b)) 0#32 = 1#1 then be (ix1 b) + 32#32 else be (ix1 b) := by
    unfold idxArr
    pointwise
    rfl
  rw [e, if_neg]
  intro h
  have := lt_of_slt _ _ h
  have z : (0#32 : BitVec 32).toInt = 0 := by decide
  omega

theorem rows_apply (be : IVec S97 32) (x : FVec Ideal S49664x1024 .f32) (wg wu : FVec Ideal S32x1024x512 .f32) (wd : FVec Ideal S32x512x1024 .f32)
    (b : Fin 97) (e : Fin 32) (he : (be (ix1 b)).toInt = e.val) (r : Fin 512) (l : Fin 1024) :
    rowsArr be x wg wu wd (ix3 b r l)
      = mix (fun j => x (ix2 ⟨b.val * 512 + r.val, by omega⟩ j)) (fun j f => wg (ix3 e j f)) (fun j f => wu (ix3 e j f)) (fun f l => wd (ix3 e f l)) l := by
  have hi : (idxArr be (ix2 b 0)).toInt = e.val := by rw [idx_word be b (by omega), he]
  have hG : ∀ j f, Host.gather gather_S32x1024x512_S97x1_S97x1024x512_12_0_n_n_0_1_11024512 wg (idxArr be) (ix3 b j f) = wg (ix3 e j f) := fun j f => take_wide _ _ _ _ _ _ hi
  have hU : ∀ j f, Host.gather gather_S32x1024x512_S97x1_S97x1024x512_12_0_n_n_0_1_11024512 wu (idxArr be) (ix3 b j f) = wu (ix3 e j f) := fun j f => take_wide _ _ _ _ _ _ hi
  have hD : ∀ f l, Host.gather gather_S32x512x1024_S97x1_S97x512x1024_12_0_n_n_0_1_15121024 wd (idxArr be) (ix3 b f l) = wd (ix3 e f l) := fun f l => take_tall _ _ _ _ _ _ hi
  unfold rowsArr mix
  generalize Host.gather gather_S32x1024x512_S97x1_S97x1024x512_12_0_n_n_0_1_11024512 wg (idxArr be) = A at hG ⊢
  generalize Host.gather gather_S32x1024x512_S97x1_S97x1024x512_12_0_n_n_0_1_11024512 wu (idxArr be) = B at hU ⊢
  generalize Host.gather gather_S32x512x1024_S97x1_S97x512x1024_12_0_n_n_0_1_15121024 wd (idxArr be) = C at hD ⊢
  pointwise
  simp only [hG, hU, hD, ← silu_eq]

theorem live_apply (na : IVec S1 32) (b : Fin 97) (r : Fin 512) (l : Fin 1024) :
    liveArr na (ix3 b r l) = Scalar.cmpi .slt (BitVec.ofNat 32 b.val) (na (ix1 0)) := by
  unfold liveArr
  pointwise
  rfl

/-- The reference's result at a row of a block. -/
theorem ref_apply (be : IVec S97 32) (na : IVec S1 32) (x : FVec Ideal S49664x1024 .f32) (wg wu : FVec Ideal S32x1024x512 .f32) (wd : FVec Ideal S32x512x1024 .f32)
    (b : Fin 97) (e : Fin 32) (he : (be (ix1 b)).toInt = e.val) (r : Fin 512) (l : Fin 1024) :
    refArr be na x wg wu wd (ix2 ⟨b.val * 512 + r.val, by omega⟩ l)
      = if Scalar.cmpi .slt (BitVec.ofNat 32 b.val) (na (ix1 0)) = 1#1 then
          mix (fun j => x (ix2 ⟨b.val * 512 + r.val, by omega⟩ j)) (fun j f => wg (ix3 e j f)) (fun j f => wu (ix3 e j f)) (fun f l => wd (ix3 e f l)) l
        else 0 := by
  have hR := rows_apply be x wg wu wd b e he r l
  have hL := live_apply na b r l
  unfold refArr
  generalize rowsArr be x wg wu wd = R at hR ⊢
  generalize liveArr na = L at hL ⊢
  have hidx : ∀ z : FVec Ideal S97x512x1024 .f32, shapeCast S49664x1024 z shapeCasts_S97x512x1024_S49664x1024 (ix2 ⟨b.val * 512 + r.val, by omega⟩ l) = z (ix3 b r l) := by
    intro z
    pointwise
  rw [hidx, ← hR, ← hL]
  pointwise
  rfl

end Cert.Moe
-- ==== Proof.Moe.Results.lean ====
/-
  The entries of the kernel's result: a row of a block in use is that row through the block's expert, any other row is zero.
-/
module

public import proofs.«01_k».proof.Proof.Moe.Sweep
public import proofs.«01_k».proof.Proof.Moe.Reference
public import Idealize.ShloMosaic.Lib.Pipeline.Value

@[expose] public section

set_option maxRecDepth 16384

noncomputable section

open Idealize.ShloMosaic Idealize.ShloMosaic.TcCoe Idealize.SL.Sem
open Cert.ExpertsIdeal Cert.ExpertsIdeal.Gen

namespace Cert.Moe

variable {m : (ℓ : Loc nD τ sig) → Buf (Elt Ideal) ℓ} (hO : Ok m) (c : Dev nD)

theorem pay8_apply (x : Vec Ideal S512x1024 .f32) (g u : FVec Ideal S1024x512 .bf16) (w : FVec Ideal S512x1024 .bf16) (r : Fin 512) (l : Fin 1024) :
    k0_pay8 x g u w (ix2 r l) = mix (fun j => x (ix2 r j)) (fun j f => g (ix2 j f)) (fun j f => u (ix2 j f)) (fun f l => w (ix2 f l)) l := by
  unfold k0_pay8 mix
  pointwise

theorem pay7_apply (r : Fin 512) (l : Fin 1024) : k0_pay7 (F := Ideal) (ix2 r l) = 0 := by
  unfold k0_pay7
  pointwise

theorem mix_congr {x x' : Fin 1024 → EReal} (g u : Fin 1024 → Fin 512 → EReal) (d : Fin 512 → Fin 1024 → EReal) (hx : x = x') (l : Fin 1024) :
    mix x g u d l = mix x' g u d l := by subst hx; rfl

/-- The result's window sits at its own block of rows at every point. -/
theorem out_index (t : Fin grid0.N) : cc0_transform_4 (grid0.coords t) 0 = t.val := by
  show (BitVec.ofNat 32 (grid0.coords t 0).val).toNat = t.val
  rw [coord_val, BitVec.toNat_ofNat]
  have : t.val < 97 := Nat.lt_of_lt_of_eq t.isLt N_0
  omega

theorem out_apart (t t' : Fin (cfgM m hO).N) (_ : ((cfgM m hO).win 4).flush t = true) (_ : ((cfgM m hO).win 4).flush t' = true) (hne : t ≠ t') :
    Disjoint (((cfgM m hO).win 4).blk t).view.set (((cfgM m hO).win 4).blk t').view.set := by
  refine ((cfgM m hO).win 4).disjoint_blk fun h => hne (Fin.ext ?_)
  have e : cc0_transform_4 (grid0.coords t) 0 = cc0_transform_4 (grid0.coords t') 0 := congrFun (show cc0_transform_4 (grid0.coords t) = cc0_transform_4 (grid0.coords t') from h) 0
  rwa [out_index, out_index] at e

/-- The kernel's result after the run, and what one point leaves of it. -/
def outArr : FVec Ideal S49664x1024 .f32 := (dats m hO 0 c).arrAt 4 (cfgM m hO).N
@[inherit_doc outArr] def ptRows (t : Fin (cfgM m hO).N) : FVec Ideal S512x1024 .f32 := (outsAt0 m hO c t.val t.isLt).1

/-- Where a point's block of rows lies in the result. -/
theorem out_place (t : Fin (cfgM m hO).N) (r : Fin 512) (l : Fin 1024) :
    (((cfgM m hO).win 4).blk t).view.emb (ix2 r l) = ix2 (blkRow (ptBlk hO t) r) l := by
  refine funext fun a => Fin.ext ?_
  match a with
  | ⟨0, _⟩ =>
      show cc0_transform_4 (grid0.coords t) 0 * 512 + 1 * r.val = t.val * 512 + r.val
      rw [out_index]; omega
  | ⟨1, _⟩ => show 0 * 1024 + 1 * l.val = l.val; omega

theorem out_left (t : Fin (cfgM m hO).N) : (dats m hO 0 c).flushed 4 t = ((cfgM m hO).win 4).cut (grid0.coords t) ((outsAt0 m hO c t.val t.isLt).1) := by
  show ((cfgM m hO).win 4).cut (grid0.coords t) ((dats m hO 0 c).after 4 t) = _
  rw [after0_4]

theorem out_read (t : Fin (cfgM m hO).N) :
    (((cfgM m hO).win 4).blk t).view.read (Elt Ideal) ((dats m hO 0 c).arrAt 4 (cfgM m hO).N) = (dats m hO 0 c).flushed 4 t :=
  (dats m hO 0 c).read_blk_arrAt_eq_flushed 4 (out_apart hO) (cfgM m hO).N t t.isLt (flush0_4 (adm m hO) t)

/-- A whole block cut to what is written back is itself, and the array read through the block is read at its place. -/
theorem out_whole (t : Fin (cfgM m hO).N) (X : FVec Ideal S512x1024 .f32) (r : Fin 512) (l : Fin 1024) :
    ((cfgM m hO).win 4).cut (grid0.coords t) X (ix2 r l) = X (ix2 r l) := rfl
@[inherit_doc out_whole] theorem out_at (t : Fin (cfgM m hO).N) (z : FVec Ideal S49664x1024 .f32) (r : Fin 512) (l : Fin 1024) :
    (((cfgM m hO).win 4).blk t).view.read (Elt Ideal) z (ix2 r l) = z (ix2 (blkRow (ptBlk hO t) r) l) :=
  (show (((cfgM m hO).win 4).blk t).view.read (Elt Ideal) z (ix2 r l) = z ((((cfgM m hO).win 4).blk t).view.emb (ix2 r l)) from rfl).trans (congrArg z (out_place hO t r l))

/-- An entry of the final array is what its block's point left there. -/
theorem final_entry (t : Fin (cfgM m hO).N) (r : Fin 512) (l : Fin 1024) :
    outArr hO c (ix2 (blkRow (ptBlk hO t) r) l) = ptRows hO c t (ix2 r l) := by
  exact (out_at hO t (outArr hO c) r l).symm.trans ((congrFun ((out_read hO c t).trans (out_left hO c t)) (ix2 r l)).trans (out_whole hO t (ptRows hO c t) r l))

theorem used_entry (hr : InRange m) (t : Fin (cfgM m hO).N) (hu : (t.val : Int) < (usedW m).toInt) (r : Fin 512) (l : Fin 1024) :
    outArr hO c (ix2 (blkRow (ptBlk hO t) r) l)
      = mix (fun j => argX m c (ix2 (blkRow (ptBlk hO t) r) j)) (fun j f => argG m c (ix3 (expert hr (ptBlk hO t)) j f))
          (fun j f => argU m c (ix3 (expert hr (ptBlk hO t)) j f)) (fun f l => argD m c (ix3 (expert hr (ptBlk hO t)) f l)) l := by
  have e : ptRows hO c t = k0_pay8 (iblk m hO c 0 t) (gateOf m c (expert hr (ptBlk hO t))) (upOf m c (expert hr (ptBlk hO t))) (downOf m c (expert hr (ptBlk hO t))) :=
    congrArg Prod.fst (leaves hO c hr t.val t.isLt hu)
  rw [final_entry, e]
  refine (pay8_apply _ _ _ _ r l).trans ?_
  exact mix_congr _ _ _ (funext fun j => rows_block c hO hr t hu r j) l

theorem unused_entry (hr : InRange m) (t : Fin (cfgM m hO).N) (hu : ¬ (t.val : Int) < (usedW m).toInt) (r : Fin 512) (l : Fin 1024) :
    outArr hO c (ix2 (blkRow (ptBlk hO t) r) l) = 0 := by
  rw [final_entry, show ptRows hO c t = k0_pay7 from leaves_zero hO c hr t hu]
  exact pay7_apply r l

/-- The kernel's result is the reference's, of the same arguments. -/
theorem result_eq (hr : InRange m) :
    outArr hO c
      = refArr (m ((c : Thread nD τ).loc main_arg0)) (m ((c : Thread nD τ).loc main_arg1)) (argX m c) (argG m c) (argU m c) (argD m c) := by
  funext j; idx_vars j
  have hb : j0.val / 512 < 97 := by have := j0.isLt; omega
  have hN : j0.val / 512 < (cfgM m hO).N := Nat.lt_of_lt_of_eq hb N_0.symm
  have hw : ∀ b : Fin 97, (m ((c : Thread nD τ).loc main_arg0) : IVec S97 32) (ix1 b) = expertW m b := fun b => congrFun (V_pre m c 0) (ix1 b)
  have hn : (m ((c : Thread nD τ).loc main_arg1) : IVec S1 32) (ix1 0) = usedW m := congrFun (V_pre m c 1) (ix1 0)
  have he : ((m ((c : Thread nD τ).loc main_arg0) : IVec S97 32) (ix1 ⟨j0.val / 512, hb⟩)).toInt = (expert hr ⟨j0.val / 512, hb⟩).val := by
    rw [hw]
    have h := hr.1 ⟨j0.val / 512, hb⟩
    have := TablesIdeal.toNat_of_nonneg _ h.1
    show _ = ((expertW m ⟨j0.val / 512, hb⟩).toNat : Int)
    omega
  have hj : j0 = (⟨j0.val / 512 * 512 + (⟨j0.val % 512, Nat.mod_lt _ (by decide)⟩ : Fin 512).val, by have := j0.isLt; show j0.val / 512 * 512 + j0.val % 512 < 49664; omega⟩ : Fin 49664) :=
    Fin.ext (by show j0.val = j0.val / 512 * 512 + j0.val % 512; omega)
  have hR := ref_apply (m ((c : Thread nD τ).loc main_arg0)) (m ((c : Thread nD τ).loc main_arg1)) (argX m c) (argG m c) (argU m c) (argD m c)
    ⟨j0.val / 512, hb⟩ (expert hr ⟨j0.val / 512, hb⟩) he ⟨j0.val % 512, Nat.mod_lt _ (by decide)⟩ j1
  rw [hj]
  refine Eq.trans ?_ hR.symm
  have hl : (Scalar.cmpi .slt (BitVec.ofNat 32 (j0.val / 512)) ((m ((c : Thread nD τ).loc main_arg1) : IVec S1 32) (ix1 0)) = 1#1) ↔ ((j0.val / 512 : ℕ) : Int) < (usedW m).toInt := by
    rw [slt_bit, hn, TablesIdeal.toInt_small _ (by omega)]
  by_cases hu : ((j0.val / 512 : ℕ) : Int) < (usedW m).toInt
  · rw [if_pos (hl.mpr hu)]
    exact used_entry hO c hr ⟨j0.val / 512, hN⟩ hu ⟨j0.val % 512, Nat.mod_lt _ (by decide)⟩ j1
  · rw [if_neg (fun h => hu (hl.mp h))]
    exact unused_entry hO c hr ⟨j0.val / 512, hN⟩ hu ⟨j0.val % 512, Nat.mod_lt _ (by decide)⟩ j1

end Cert.Moe
-- ==== Proof.Moe.Claims.lean ====
/-
  The experts' claims: the frames of the kernel where the words are in range, the reference's frame, and the value claim.
-/
module

public import proofs.«01_k».proof.Proof.Moe.Results
public import proofs.«01_k».proof.Proof.Moe.Tables
public import proofs.«01_k».proof.Proof.Gen.Experts.Frame
public import proofs.«01_k».proof.Defs
public import Idealize.ShloMosaic.Adequacy
public import Idealize.ShloMosaic.Init

@[expose] public section

set_option maxRecDepth 16384

noncomputable section

open Idealize.ShloMosaic Idealize.ShloMosaic.TcCoe Idealize.SL.Sem Idealize.ShloMosaic.StableHlo

namespace Cert.Moe

/-- Where the precondition holds the words are in range. -/
theorem in_range [hPre : Cert.Pre_experts_in_range.Facts] (m : (ℓ : Loc Cert.ExpertsIdeal.nD Cert.ExpertsIdeal.τ Cert.ExpertsIdeal.sig) → Buf (Elt Ideal) ℓ) (h : Cert.Pre_ExpertsIdeal m) : InRange m :=
  have e := range_of_pre _ _ _ _ _ _ (h 0)
  ⟨fun b => e.1 (ix1 b), e.2⟩

/-- The kernel runs, keeps its arguments and leaves every semaphore at zero. -/
theorem frame [hPre : Cert.Pre_experts_in_range.Facts] : Cert.quiescent_Experts := fun m ρ h =>
  have e := range_of_pre _ _ _ _ _ _ (h 0)
  Cert.Experts.Gen.frame m ρ (Tables.ok_of_range (Cert.Experts.Gen.tbl m) (fun b => e.1 (ix1 b)) e.2)
@[inherit_doc frame] theorem frame_ideal [hPre : Cert.Pre_experts_in_range.Facts] : Cert.quiescent_ExpertsIdeal := fun m ρ h =>
  Cert.ExpertsIdeal.Gen.frame m ρ (ok (in_range m h))

/-- The reference's run leaves the array its operations compose to, and keeps its arguments. -/
theorem reference_result (m : (ℓ : Loc Cert.ExpertsReferenceIdeal.nD Cert.ExpertsReferenceIdeal.τ Cert.ExpertsReferenceIdeal.sig) → Buf (Elt Ideal) ℓ) (ρ : Dev Cert.ExpertsReferenceIdeal.nD → PrngReg) :
    θ_run (Cert.ExpertsReferenceIdeal.defs (F := Ideal)) (onTc (τ := Cert.ExpertsReferenceIdeal.τ) (Cert.ExpertsReferenceIdeal.main (F := Ideal))) ⟨m, fun _ => 0, ρ⟩ (fun r => ∀ c : Dev Cert.ExpertsReferenceIdeal.nD,
        r.2.mem ((c.tc : Thread Cert.ExpertsReferenceIdeal.nD Cert.ExpertsReferenceIdeal.τ).loc Cert.ExpertsReferenceIdeal.main_v33)
          = refArr (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1))
              (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3))
              (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))
        ∧ r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
        ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
        ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
        ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
        ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
        ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)) :=
  Cert.ExpertsReferenceIdeal.Value.run (F := Ideal) m ρ

/-- The reference runs, keeps its arguments and leaves every semaphore at zero: it has none. -/
theorem reference_frame (m : (ℓ : Loc Cert.ExpertsReferenceIdeal.nD Cert.ExpertsReferenceIdeal.τ Cert.ExpertsReferenceIdeal.sig) → Buf (Elt Ideal) ℓ) (ρ : Dev Cert.ExpertsReferenceIdeal.nD → PrngReg) :
    θ_run (Cert.ExpertsReferenceIdeal.defs (F := Ideal)) (onTc (τ := Cert.ExpertsReferenceIdeal.τ) (Cert.ExpertsReferenceIdeal.main (F := Ideal))) ⟨m, fun _ => 0, ρ⟩ (fun r => (∀ c : Dev Cert.ExpertsReferenceIdeal.nD,
        r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
        ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
        ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
        ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
        ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
        ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
        ∧ r.2.sem = fun _ => 0) :=
  (θ_run Cert.ExpertsReferenceIdeal.defs _ _).mono (fun r h => ⟨fun c => (h c).2, Idealize.ShloMosaic.sem_eq_zero_of_no_sems (by decide) r.2⟩)
    (reference_result m ρ)

/-- The kernel's run leaves its result's final array, and keeps its arguments. -/
theorem kernel_result (m : (ℓ : Loc Cert.ExpertsIdeal.nD Cert.ExpertsIdeal.τ Cert.ExpertsIdeal.sig) → Buf (Elt Ideal) ℓ) (ρ : Dev Cert.ExpertsIdeal.nD → PrngReg) (hO : Cert.ExpertsIdeal.Gen.Ok m) :
    θ_run (Cert.ExpertsIdeal.defs (F := Ideal)) (onTc (τ := Cert.ExpertsIdeal.τ) (Cert.ExpertsIdeal.main (F := Ideal))) ⟨m, fun _ => 0, ρ⟩ (fun r => ∀ c : Dev Cert.ExpertsIdeal.nD,
        r.2.mem ((c.tc : Thread Cert.ExpertsIdeal.nD Cert.ExpertsIdeal.τ).loc Cert.ExpertsIdeal.main_v0) = outArr hO c
        ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
        ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
        ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
        ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
        ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
        ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)) :=
  (θ_run Cert.ExpertsIdeal.defs _ _).mono (fun _ h c => ⟨(h.1 c).1 4, h.2 c⟩)
    (θ_run_and (Cert.ExpertsIdeal.Gen.run_main m ρ hO) (Cert.ExpertsIdeal.Gen.unchanged m ρ hO))

/-- Where the precondition holds the two programs leave the same array. -/
theorem algebraic [hPre : Cert.Pre_experts_in_range.Facts] : Cert.algebraic_ExpertsIdeal_ExpertsReferenceIdeal := by
  intro m g m' g' hpre hargs
  have hr := in_range m hpre
  refine ⟨fun c => outArr (ok hr) c, kernel_result m g (ok hr), ?_⟩
  refine (θ_run Cert.ExpertsReferenceIdeal.defs _ _).mono (fun r h c => ?_) (reference_result m' g')
  obtain ⟨h0, hk⟩ := h c
  obtain ⟨a0, a1, a2, a3, a4, a5⟩ := hargs c
  refine ⟨h0.trans ?_, hk⟩
  rw [a0, a1, a2, a3, a4, a5]
  exact (result_eq (ok hr) c hr).symm

end Cert.Moe
-- ==== Proof.lean ====
module

public import proofs.«01_k».proof.Proof.Gen.KernelIdeal.Value
public import proofs.«01_k».proof.Proof.Gen.ReferenceIdeal.Run
public import proofs.«01_k».proof.Defs
public import proofs.«01_k».proof.Proof.Gen.Projections
public import proofs.«01_k».proof.Proof.Gen.Projections.Skeleton
public import proofs.«01_k».proof.Proof.Gen.Projections.Launch
public import proofs.«01_k».proof.Proof.Gen.Projections.Points
public import proofs.«01_k».proof.Proof.Gen.Projections.Frame
public import proofs.«01_k».proof.Proof.Gen.ProjectionsIdeal
public import proofs.«01_k».proof.Proof.Gen.ProjectionsIdeal.Skeleton
public import proofs.«01_k».proof.Proof.Gen.ProjectionsIdeal.Launch
public import proofs.«01_k».proof.Proof.Gen.ProjectionsIdeal.Points
public import proofs.«01_k».proof.Proof.Gen.ProjectionsIdeal.Frame
public import proofs.«01_k».proof.Proof.Gen.ProjectionsIdeal.Value
public import proofs.«01_k».proof.Proof.Gen.ProjectionsReferenceIdeal
public import proofs.«01_k».proof.Proof.Gen.ProjectionsReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Experts
public import proofs.«01_k».proof.Proof.Gen.Experts.Skeleton
public import proofs.«01_k».proof.Proof.Gen.Experts.Launch
public import proofs.«01_k».proof.Proof.Gen.Experts.Points
public import proofs.«01_k».proof.Proof.Gen.Experts.Frame
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Points
public import proofs.«01_k».proof.Proof.Gen.ExpertsIdeal.Frame
public import proofs.«01_k».proof.Proof.Gen.ExpertsReferenceIdeal
public import proofs.«01_k».proof.Proof.Gen.ExpertsReferenceIdeal.Run
public import proofs.«01_k».proof.Proof.Moba.Claims
public import proofs.«01_k».proof.Proof.Proj.Claims
public import proofs.«01_k».proof.Proof.Moe.Claims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Projections.Gen.facts, Cert.ProjectionsIdeal.Gen.facts, Cert.ProjectionsReferenceIdeal.Gen.facts,
    Cert.Experts.Gen.facts, Cert.ExpertsIdeal.Gen.facts, Cert.ExpertsReferenceIdeal.Gen.facts,
    Cert.Moba.preFacts, Cert.Proj.preFacts, Cert.Moe.preFacts,
    fun m ρ _ => Cert.Kernel.Gen.frame m ρ,
    fun m ρ _ => Cert.KernelIdeal.Gen.frame m ρ,
    fun m ρ _ => Cert.KernelIdeal.Gen.frame m ρ,
    fun m ρ _ => Cert.Moba.reference_frame m ρ,
    fun m ρ _ => Cert.Moba.reference_frame m ρ,
    fun m ρ _ => Cert.Projections.Gen.frame m ρ,
    fun m ρ _ => Cert.ProjectionsIdeal.Gen.frame m ρ,
    fun m ρ _ => Cert.ProjectionsIdeal.Gen.frame m ρ,
    fun m ρ _ => Cert.Proj.reference_frame m ρ,
    fun m ρ _ => Cert.Proj.reference_frame m ρ,
    Cert.Moe.frame (hPre := Cert.Moe.preFacts),
    Cert.Moe.frame_ideal (hPre := Cert.Moe.preFacts),
    fun m ρ _ => Cert.Moe.reference_frame m ρ,
    fun m ρ _ => Cert.Moe.reference_frame m ρ,
    IdealRules.named_const.statement Cert.KernelIdeal.κ "mask" .f32 0xF149F2CA#32 ⊥ rfl,
    Cert.Moba.algebraic (hPre := Cert.Moba.preFacts),
    trivial,
    Cert.Proj.algebraic (hPre := Cert.Proj.preFacts),
    trivial,
    Cert.Moe.algebraic (hPre := Cert.Moe.preFacts)⟩

end Cert.Proof

end
